-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_sorted_in_range [hPre_sorted_in_range : Cert.Pre_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_in_range [hPre_sorted_in_range : Cert.Pre_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sorted_in_range [hKernelIdeal : Cert.KernelIdeal.Facts] [hPre_sorted_in_range : Cert.Pre_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_in_range [hReferenceIdeal : Cert.ReferenceIdeal.Facts] [hPre_sorted_in_range : Cert.Pre_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "ln_10" .f32 0x40135D8E#32 ((Real.log 10 : ℝ) : EReal)

def algebraic_KernelIdeal_ReferenceIdeal_pre_sorted_in_range [hKernelIdeal : Cert.KernelIdeal.Facts] [hReferenceIdeal : Cert.ReferenceIdeal.Facts] [hPre_sorted_in_range : Cert.Pre_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v42) = v4 c
          ∧ r.2.mem ((c.tc : Thread Cert.ReferenceIdeal.nD Cert.ReferenceIdeal.τ).loc Cert.ReferenceIdeal.main_v44) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_sorted_in_range : Cert.Pre_sorted_in_range.Facts),
    quiescent_Kernel (hKernel := hKernel) (hPre_in_range := hPre_in_range)
    ∧ quiescent_KernelIdeal (hKernelIdeal := hKernelIdeal) (hPre_in_range := hPre_in_range)
    ∧ quiescent_KernelIdeal_pre_sorted_in_range (hKernelIdeal := hKernelIdeal) (hPre_sorted_in_range := hPre_sorted_in_range)
    ∧ quiescent_ReferenceIdeal (hReferenceIdeal := hReferenceIdeal)
    ∧ quiescent_ReferenceIdeal_pre_sorted_in_range (hReferenceIdeal := hReferenceIdeal) (hPre_sorted_in_range := hPre_sorted_in_range)
    ∧ preserves_Kernel_KernelIdeal
    ∧ algebraic_KernelIdeal_ReferenceIdeal_pre_sorted_in_range (hKernelIdeal := hKernelIdeal) (hReferenceIdeal := hReferenceIdeal) (hPre_sorted_in_range := hPre_sorted_in_range)
-- ==== Pre_in_range.lean ====
abbrev S1024 : Shape := ⟨1, ![1024]⟩
abbrev S6400000 : Shape := ⟨1, ![6400000]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel

variable [Facts]

def fn {F : FTy → Type} [FloatOps F] (main_arg0 : FVec F S1024 .f32) (main_arg1 : FVec F S6400000 .f32) (main_arg2 : FVec F S6400000 .f32) (main_arg3 : FVec F S6400000 .f32) (main_arg4 : IVec S6400000 32) : IVec S_ 1 :=
  let main_c : IVec S_ 32 := constantI S_ 32 0#32
  let main_v0 : IVec S6400000 32 := broadcastInDim S6400000 ![] bcast_S_S6400000 main_c
  let main_v1 : IVec S6400000 1 := cmpi .sge main_arg4 main_v0
  let main_c_0 : IVec S_ 32 := constantI S_ 32 1024#32
  let main_v2 : IVec S6400000 32 := broadcastInDim S6400000 ![] bcast_S_S6400000 main_c_0
  let main_v3 : IVec S6400000 1 := cmpi .slt main_arg4 main_v2
  let main_v4 : IVec S6400000 1 := andi main_v1 main_v3
  let main_c_1 : IVec S_ 1 := constantI S_ 1 1#1
  let main_v5 : IVec S_ 1 := (fun x v => Host.reduce IntOp.andi x v reducesTo_S6400000_S_d0 h_S_) main_v4 main_c_1
  main_v5
-- ==== Pre_sorted_in_range.lean ====
abbrev S1024 : Shape := ⟨1, ![1024]⟩
abbrev S6400000 : Shape := ⟨1, ![6400000]⟩
abbrev S_ : Shape := ⟨0, ![]⟩
abbrev S6399999 : Shape := ⟨1, ![6399999]⟩

class Facts : Prop where
  bcast_S_S6400000 : S_.BroadcastsInDim S6400000 (![] : Fin 0 → Fin S6400000.rank)
  reducesTo_S6400000_S_d0 : S6400000.ReducesTo [0] S_
  h_S_ : 0 < S_.numel
  slices_S6400000_S6399999_0 : S6400000.Slices ![0] S6399999
  slices_S6400000_S6399999_1 : S6400000.Slices ![1] S6399999
  reducesTo_S6399999_S_d0 : S6399999.ReducesTo [0] S_

variable [Facts]

def fn {F : FTy → Type} [FloatOps F] (main_arg0 : FVec F S1024 .f32) (main_arg1 : FVec F S6400000 .f32) (main_arg2 : FVec F S6400000 .f32) (main_arg3 : FVec F S6400000 .f32) (main_arg4 : IVec S6400000 32) : IVec S_ 1 :=
  let main_c : IVec S_ 32 := constantI S_ 32 0#32
  let main_v0 : IVec S6400000 32 := broadcastInDim S6400000 ![] bcast_S_S6400000 main_c
  let main_v1 : IVec S6400000 1 := cmpi .sge main_arg4 main_v0
  let main_c_0 : IVec S_ 32 := constantI S_ 32 1024#32
  let main_v2 : IVec S6400000 32 := broadcastInDim S6400000 ![] bcast_S_S6400000 main_c_0
  let main_v3 : IVec S6400000 1 := cmpi .slt main_arg4 main_v2
  let main_v4 : IVec S6400000 1 := andi main_v1 main_v3
  let main_c_1 : IVec S_ 1 := constantI S_ 1 1#1
  let main_v5 : IVec S_ 1 := (fun x v => Host.reduce IntOp.andi x v reducesTo_S6400000_S_d0 h_S_) main_v4 main_c_1
  let main_v6 : IVec S6399999 32 := (extractStridedSlice S6399999 ![0] · slices_S6400000_S6399999_0) main_arg4
  let main_v7 : IVec S6399999 32 := (extractStridedSlice S6399999 ![1] · slices_S6400000_S6399999_1) main_arg4
  let main_v8 : IVec S6399999 1 := cmpi .sle main_v6 main_v7
  let main_c_2 : IVec S_ 1 := constantI S_ 1 1#1
  let main_v9 : IVec S_ 1 := (fun x v => Host.reduce IntOp.andi x v reducesTo_S6399999_S_d0 h_S_) main_v8 main_c_2
  let main_v10 : IVec S_ 1 := andi main_v5 main_v9
  main_v10
-- ==== Kernel.lean ====
abbrev S1024 : Shape := ⟨1, ![1024]⟩
abbrev S6400000 : Shape := ⟨1, ![6400000]⟩
abbrev S32x3072 : Shape := ⟨2, ![32, 3072]⟩
abbrev S8000 : Shape := ⟨1, ![8000]⟩
abbrev S49168 : Shape := ⟨1, ![49168]⟩
abbrev S3072 : Shape := ⟨1, ![3072]⟩
abbrev S_ : Shape := ⟨0, ![]⟩
abbrev S16 : Shape := ⟨1, ![16]⟩
abbrev S4000 : Shape := ⟨1, ![4000]⟩
abbrev S1 : Shape := ⟨1, ![1]⟩
abbrev S1x3072 : Shape := ⟨2, ![1, 3072]⟩
abbrev S1x1 : Shape := ⟨2, ![1, 1]⟩
abbrev S1x1024 : Shape := ⟨2, ![1, 1024]⟩

abbrev nBuf : Table → Nat
  | .hbm => 18
  | .local .tc .vmem => 2
  | .local .tc .smem => 6
  | .local .scVector .vmem => 6
  | _ => 0

abbrev bufTy : (tb : Table) → Fin (nBuf tb) → BufTy
  | .hbm, ⟨0, _⟩ => ⟨S1024, .f32⟩
  | .hbm, ⟨1, _⟩ => ⟨S6400000, .f32⟩
  | .hbm, ⟨2, _⟩ => ⟨S6400000, .f32⟩
  | .hbm, ⟨3, _⟩ => ⟨S6400000, .f32⟩
  | .hbm, ⟨4, _⟩ => ⟨S6400000, .i32⟩
  | .hbm, ⟨5, _⟩ => ⟨S32x3072, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local .tc .vmem, ⟨0, _⟩ => ⟨S1024, .f32⟩
  | .local .tc .vmem, ⟨1, _⟩ => ⟨S32x3072, .f32⟩
  | .local .tc .smem, ⟨0, _⟩ => ⟨S1x1, .f32⟩
  | .local .tc .smem, ⟨1, _⟩ => ⟨S1x1, .f32⟩
  | .local .tc .smem, ⟨2, _⟩ => ⟨S1x1, .f32⟩
  | .local .tc .smem, ⟨3, _⟩ => ⟨S1x1, .f32⟩
  | .local .tc .smem, ⟨4, _⟩ => ⟨S1x1, .f32⟩
  | .local .tc .smem, ⟨5, _⟩ => ⟨S1x1, .f32⟩
  | .local .scVector .vmem, ⟨0, _⟩ => ⟨S8000, .f32⟩
  | .local .scVector .vmem, ⟨1, _⟩ => ⟨S8000, .f32⟩
  | .local .scVector .vmem, ⟨2, _⟩ => ⟨S8000, .f32⟩
  | .local .scVector .vmem, ⟨3, _⟩ => ⟨S8000, .i32⟩
  | .local .scVector .vmem, ⟨4, _⟩ => ⟨S49168, .f32⟩
  | .local .scVector .vmem, ⟨5, _⟩ => ⟨S3072, .f32⟩
  | _, _ => ⟨S1024, .f32⟩

abbrev bufScoped : (cs : CoreSpace) → Fin (nBuf (.local .tc cs)) → Bool
  | .vmem, ⟨0, _⟩ => true
  | .vmem, ⟨1, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.smem, 0, rfl⟩
abbrev cc1_stg3_0 : Ref sig .tc := ⟨.smem, 1, rfl⟩
abbrev cc1_stg4_0 : Ref sig .tc := ⟨.smem, 2, rfl⟩
abbrev cc1_stg5_0 : Ref sig .tc := ⟨.smem, 3, rfl⟩
abbrev cc1_stg6_0 : Ref sig .tc := ⟨.smem, 4, rfl⟩
abbrev cc1_stg7_0 : Ref sig .tc := ⟨.smem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c3073_i32_2 : BitVec 32 := 3073#32
  let v8 : BitVec 32 := Scalar.addi c0_i32_1 c3073_i32_2
  let c1_i32 : BitVec 32 := 1#32
  ⟨c0_i32_1, v8, c1_i32⟩
def k0_off1 (k0_t1 : Fin k0_t1_loop.trips) : Fin 1 → Nat :=
  let c0_i32_1 : BitVec 32 := 0#32
  let c1_i32 : BitVec 32 := 1#32
  let arg15 : BitVec 32 := Scf.iv c0_i32_1 c1_i32 k0_t1
  let c16_i32 : BitVec 32 := 16#32
  let v43 : BitVec 32 := Scalar.muli arg15 c16_i32
  let v44 : Index := Scalar.indexCast v43
  ![v44.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c0_i32_4 : BitVec 32 := 0#32
  let v9 : BitVec 32 := Scalar.addi v2 c0_i32_4
  ![v9.toNat]
@[reducible] def k0_t2_loop : Scf.Loop 32 :=
  let c0_i32_18 : BitVec 32 := 0#32
  let c25_i32 : BitVec 32 := 25#32
  let v29 : BitVec 32 := Scalar.addi c0_i32_18 c25_i32
  let c1_i32_19 : BitVec 32 := 1#32
  ⟨c0_i32_18, v29, c1_i32_19⟩
def k0_off3 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c0_i32_18 : BitVec 32 := 0#32
  let c1_i32_19 : BitVec 32 := 1#32
  let arg15 : BitVec 32 := Scf.iv c0_i32_18 c1_i32_19 k0_t2
  let c2_i32_27 : BitVec 32 := 2#32
  let v43 : BitVec 32 := Scalar.muli arg15 c2_i32_27
  let c1_i32_28 : BitVec 32 := 1#32
  let v44 : BitVec 32 := Scalar.addi v43 c1_i32_28
  let c4000_i32 : BitVec 32 := 4000#32
  let v45 : BitVec 32 := Scalar.muli v44 c4000_i32
  let v46 : BitVec 32 := Scalar.addi v2 v45
  ![v46.toNat]
def k0_off4 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c0_i32_18 : BitVec 32 := 0#32
  let c1_i32_19 : BitVec 32 := 1#32
  let arg15 : BitVec 32 := Scf.iv c0_i32_18 c1_i32_19 k0_t2
  let c2_i32_27 : BitVec 32 := 2#32
  let v43 : BitVec 32 := Scalar.muli arg15 c2_i32_27
  let c4000_i32_40 : BitVec 32 := 4000#32
  let v69 : BitVec 32 := Scalar.muli v43 c4000_i32_40
  let v70 : BitVec 32 := Scalar.addi v2 v69
  ![v70.toNat]
@[reducible] def k0_t3_loop : Scf.Loop 32 :=
  let c0_i32_52 : BitVec 32 := 0#32
  let c5_i32 : BitVec 32 := 5#32
  let v93 : BitVec 32 := Scalar.addi c0_i32_52 c5_i32
  let c1_i32_53 : BitVec 32 := 1#32
  ⟨c0_i32_52, v93, c1_i32_53⟩
def k0_off5 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let v128 : Index := Scalar.indexCast v127
  ![v128.toNat]
def k0_off6 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c800_i32_76 : BitVec 32 := 800#32
  let v132 : BitVec 32 := Scalar.addi v127 c800_i32_76
  let c16_i32 : BitVec 32 := 16#32
  let v133 : BitVec 32 := Scalar.subi v132 c16_i32
  let v134 : Index := Scalar.indexCast v133
  ![v134.toNat]
def k0_cond1 (arg21 : BitVec 32) (v131 : BitVec 32) (v137 : BitVec 32) : BitVec 1 :=
  let v138 : BitVec 1 := Scalar.cmpi .eq v131 v137
  let v_true : BitVec 1 := 1#1
  let v139 : BitVec 1 := Scalar.xori v138 v_true
  let v140 : BitVec 1 := Scalar.cmpi .ne v131 arg21
  let v141 : BitVec 1 := Scalar.ori v139 v140
  let v142 : BitVec 32 := Scalar.extui v141
  let c0_i32_77 : BitVec 32 := 0#32
  let v143 : BitVec 1 := Scalar.cmpi .ne v142 c0_i32_77
  v143

def k0_chk1 (arg21 : BitVec 32) (v131 : BitVec 32) (v137 : BitVec 32) (v153 : IVec S16 32) : Prop :=
  (∀ (k0_h1 : k0_cond1 arg21 v131 v137 = 1#1), ∀ a x, ((![v153] : Fin 1 → IVec S16 32) a x).toNat < S49168.size a)
theorem k0_idx1_inb : ∀ (arg21 : BitVec 32) (v131 : BitVec 32) (v137 : BitVec 32) (v153 : IVec S16 32) (k0_hw1 : k0_chk1 arg21 v131 v137 v153), ∀ (k0_h1 : k0_cond1 arg21 v131 v137 = 1#1), ∀ a x, ((![v153] : Fin 1 → IVec S16 32) a x).toNat < S49168.size a := fun arg21 v131 v137 v153 k0_hw1 k0_h1 => k0_hw1 k0_h1

def k0_chk2 (arg21 : BitVec 32) (v131 : BitVec 32) (v137 : BitVec 32) (v155 : IVec S16 32) : Prop :=
  (∀ (k0_h1 : k0_cond1 arg21 v131 v137 = 1#1), ∀ a x, ((![v155] : Fin 1 → IVec S16 32) a x).toNat < S49168.size a)
theorem k0_idx2_inb : ∀ (arg21 : BitVec 32) (v131 : BitVec 32) (v137 : BitVec 32) (v155 : IVec S16 32) (k0_hw2 : k0_chk2 arg21 v131 v137 v155), ∀ (k0_h1 : k0_cond1 arg21 v131 v137 = 1#1), ∀ a x, ((![v155] : Fin 1 → IVec S16 32) a x).toNat < S49168.size a := fun arg21 v131 v137 v155 k0_hw2 k0_h1 => k0_hw2 k0_h1

def k0_chk3 (arg21 : BitVec 32) (v131 : BitVec 32) (v137 : BitVec 32) (v157 : IVec S16 32) : Prop :=
  (∀ (k0_h1 : k0_cond1 arg21 v131 v137 = 1#1), ∀ a x, ((![v157] : Fin 1 → IVec S16 32) a x).toNat < S49168.size a)
theorem k0_idx3_inb : ∀ (arg21 : BitVec 32) (v131 : BitVec 32) (v137 : BitVec 32) (v157 : IVec S16 32) (k0_hw3 : k0_chk3 arg21 v131 v137 v157), ∀ (k0_h1 : k0_cond1 arg21 v131 v137 = 1#1), ∀ a x, ((![v157] : Fin 1 → IVec S16 32) a x).toNat < S49168.size a := fun arg21 v131 v137 v157 k0_hw3 k0_h1 => k0_hw3 k0_h1
def k0_off7 (k0_t3 : Fin k0_t3_loop.trips) (c0_i32_80 : BitVec 32) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let v152 : BitVec 32 := Scalar.addi v127 c0_i32_80
  let v153 : Index := Scalar.indexCast v152
  ![v153.toNat]
def k0_off8 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c0_i32_80 : BitVec 32 := 0#32
  let v152 : BitVec 32 := Scalar.addi v127 c0_i32_80
  let v153 : Index := Scalar.indexCast v152
  ![v153.toNat]
def k0_cond2 (v131 : BitVec 32) (v137 : BitVec 32) : BitVec 1 :=
  let v138 : BitVec 1 := Scalar.cmpi .eq v131 v137
  let v149 : BitVec 32 := Scalar.extui v138
  let c0_i32_79 : BitVec 32 := 0#32
  let v150 : BitVec 1 := Scalar.cmpi .ne v149 c0_i32_79
  v150

def k0_chk4 (v131 : BitVec 32) (v137 : BitVec 32) (v165 : IVec S16 32) : Prop :=
  (∀ (k0_h2 : ¬(k0_cond2 v131 v137 = 1#1)), ∀ a x, ((![v165] : Fin 1 → IVec S16 32) a x).toNat < S49168.size a)
theorem k0_idx4_inb : ∀ (v131 : BitVec 32) (v137 : BitVec 32) (v165 : IVec S16 32) (k0_hw4 : k0_chk4 v131 v137 v165), ∀ (k0_h2 : ¬(k0_cond2 v131 v137 = 1#1)), ∀ a x, ((![v165] : Fin 1 → IVec S16 32) a x).toNat < S49168.size a := fun v131 v137 v165 k0_hw4 k0_h2 => k0_hw4 k0_h2

def k0_chk5 (v131 : BitVec 32) (v137 : BitVec 32) (v167 : IVec S16 32) : Prop :=
  (∀ (k0_h2 : ¬(k0_cond2 v131 v137 = 1#1)), ∀ a x, ((![v167] : Fin 1 → IVec S16 32) a x).toNat < S49168.size a)
theorem k0_idx5_inb : ∀ (v131 : BitVec 32) (v137 : BitVec 32) (v167 : IVec S16 32) (k0_hw5 : k0_chk5 v131 v137 v167), ∀ (k0_h2 : ¬(k0_cond2 v131 v137 = 1#1)), ∀ a x, ((![v167] : Fin 1 → IVec S16 32) a x).toNat < S49168.size a := fun v131 v137 v167 k0_hw5 k0_h2 => k0_hw5 k0_h2

def k0_chk6 (v131 : BitVec 32) (v137 : BitVec 32) (v169 : IVec S16 32) : Prop :=
  (∀ (k0_h2 : ¬(k0_cond2 v131 v137 = 1#1)), ∀ a x, ((![v169] : Fin 1 → IVec S16 32) a x).toNat < S49168.size a)
theorem k0_idx6_inb : ∀ (v131 : BitVec 32) (v137 : BitVec 32) (v169 : IVec S16 32) (k0_hw6 : k0_chk6 v131 v137 v169), ∀ (k0_h2 : ¬(k0_cond2 v131 v137 = 1#1)), ∀ a x, ((![v169] : Fin 1 → IVec S16 32) a x).toNat < S49168.size a := fun v131 v137 v169 k0_hw6 k0_h2 => k0_hw6 k0_h2
def k0_off9 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c16_i32_84 : BitVec 32 := 16#32
  let v170 : BitVec 32 := Scalar.addi v127 c16_i32_84
  let v171 : Index := Scalar.indexCast v170
  ![v171.toNat]

def k0_chk7 (v131 : BitVec 32) (v137 : BitVec 32) (v183 : IVec S16 32) : Prop :=
  (∀ (k0_h2 : ¬(k0_cond2 v131 v137 = 1#1)), ∀ a x, ((![v183] : Fin 1 → IVec S16 32) a x).toNat < S49168.size a)
theorem k0_idx7_inb : ∀ (v131 : BitVec 32) (v137 : BitVec 32) (v183 : IVec S16 32) (k0_hw7 : k0_chk7 v131 v137 v183), ∀ (k0_h2 : ¬(k0_cond2 v131 v137 = 1#1)), ∀ a x, ((![v183] : Fin 1 → IVec S16 32) a x).toNat < S49168.size a := fun v131 v137 v183 k0_hw7 k0_h2 => k0_hw7 k0_h2

def k0_chk8 (v131 : BitVec 32) (v137 : BitVec 32) (v185 : IVec S16 32) : Prop :=
  (∀ (k0_h2 : ¬(k0_cond2 v131 v137 = 1#1)), ∀ a x, ((![v185] : Fin 1 → IVec S16 32) a x).toNat < S49168.size a)
theorem k0_idx8_inb : ∀ (v131 : BitVec 32) (v137 : BitVec 32) (v185 : IVec S16 32) (k0_hw8 : k0_chk8 v131 v137 v185), ∀ (k0_h2 : ¬(k0_cond2 v131 v137 = 1#1)), ∀ a x, ((![v185] : Fin 1 → IVec S16 32) a x).toNat < S49168.size a := fun v131 v137 v185 k0_hw8 k0_h2 => k0_hw8 k0_h2

def k0_chk9 (v131 : BitVec 32) (v137 : BitVec 32) (v187 : IVec S16 32) : Prop :=
  (∀ (k0_h2 : ¬(k0_cond2 v131 v137 = 1#1)), ∀ a x, ((![v187] : Fin 1 → IVec S16 32) a x).toNat < S49168.size a)
theorem k0_idx9_inb : ∀ (v131 : BitVec 32) (v137 : BitVec 32) (v187 : IVec S16 32) (k0_hw9 : k0_chk9 v131 v137 v187), ∀ (k0_h2 : ¬(k0_cond2 v131 v137 = 1#1)), ∀ a x, ((![v187] : Fin 1 → IVec S16 32) a x).toNat < S49168.size a := fun v131 v137 v187 k0_hw9 k0_h2 => k0_hw9 k0_h2
def k0_off10 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c32_i32 : BitVec 32 := 32#32
  let v188 : BitVec 32 := Scalar.addi v127 c32_i32
  let v189 : Index := Scalar.indexCast v188
  ![v189.toNat]

def k0_chk10 (v131 : BitVec 32) (v137 : BitVec 32) (v201 : IVec S16 32) : Prop :=
  (∀ (k0_h2 : ¬(k0_cond2 v131 v137 = 1#1)), ∀ a x, ((![v201] : Fin 1 → IVec S16 32) a x).toNat < S49168.size a)
theorem k0_idx10_inb : ∀ (v131 : BitVec 32) (v137 : BitVec 32) (v201 : IVec S16 32) (k0_hw10 : k0_chk10 v131 v137 v201), ∀ (k0_h2 : ¬(k0_cond2 v131 v137 = 1#1)), ∀ a x, ((![v201] : Fin 1 → IVec S16 32) a x).toNat < S49168.size a := fun v131 v137 v201 k0_hw10 k0_h2 => k0_hw10 k0_h2

def k0_chk11 (v131 : BitVec 32) (v137 : BitVec 32) (v203 : IVec S16 32) : Prop :=
  (∀ (k0_h2 : ¬(k0_cond2 v131 v137 = 1#1)), ∀ a x, ((![v203] : Fin 1 → IVec S16 32) a x).toNat < S49168.size a)
theorem k0_idx11_inb : ∀ (v131 : BitVec 32) (v137 : BitVec 32) (v203 : IVec S16 32) (k0_hw11 : k0_chk11 v131 v137 v203), ∀ (k0_h2 : ¬(k0_cond2 v131 v137 = 1#1)), ∀ a x, ((![v203] : Fin 1 → IVec S16 32) a x).toNat < S49168.size a := fun v131 v137 v203 k0_hw11 k0_h2 => k0_hw11 k0_h2

def k0_chk12 (v131 : BitVec 32) (v137 : BitVec 32) (v205 : IVec S16 32) : Prop :=
  (∀ (k0_h2 : ¬(k0_cond2 v131 v137 = 1#1)), ∀ a x, ((![v205] : Fin 1 → IVec S16 32) a x).toNat < S49168.size a)
theorem k0_idx12_inb : ∀ (v131 : BitVec 32) (v137 : BitVec 32) (v205 : IVec S16 32) (k0_hw12 : k0_chk12 v131 v137 v205), ∀ (k0_h2 : ¬(k0_cond2 v131 v137 = 1#1)), ∀ a x, ((![v205] : Fin 1 → IVec S16 32) a x).toNat < S49168.size a := fun v131 v137 v205 k0_hw12 k0_h2 => k0_hw12 k0_h2
def k0_off11 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c48_i32 : BitVec 32 := 48#32
  let v206 : BitVec 32 := Scalar.addi v127 c48_i32
  let v207 : Index := Scalar.indexCast v206
  ![v207.toNat]

def k0_chk13 (v131 : BitVec 32) (v137 : BitVec 32) (v219 : IVec S16 32) : Prop :=
  (∀ (k0_h2 : ¬(k0_cond2 v131 v137 = 1#1)), ∀ a x, ((![v219] : Fin 1 → IVec S16 32) a x).toNat < S49168.size a)
theorem k0_idx13_inb : ∀ (v131 : BitVec 32) (v137 : BitVec 32) (v219 : IVec S16 32) (k0_hw13 : k0_chk13 v131 v137 v219), ∀ (k0_h2 : ¬(k0_cond2 v131 v137 = 1#1)), ∀ a x, ((![v219] : Fin 1 → IVec S16 32) a x).toNat < S49168.size a := fun v131 v137 v219 k0_hw13 k0_h2 => k0_hw13 k0_h2

def k0_chk14 (v131 : BitVec 32) (v137 : BitVec 32) (v221 : IVec S16 32) : Prop :=
  (∀ (k0_h2 : ¬(k0_cond2 v131 v137 = 1#1)), ∀ a x, ((![v221] : Fin 1 → IVec S16 32) a x).toNat < S49168.size a)
theorem k0_idx14_inb : ∀ (v131 : BitVec 32) (v137 : BitVec 32) (v221 : IVec S16 32) (k0_hw14 : k0_chk14 v131 v137 v221), ∀ (k0_h2 : ¬(k0_cond2 v131 v137 = 1#1)), ∀ a x, ((![v221] : Fin 1 → IVec S16 32) a x).toNat < S49168.size a := fun v131 v137 v221 k0_hw14 k0_h2 => k0_hw14 k0_h2

def k0_chk15 (v131 : BitVec 32) (v137 : BitVec 32) (v223 : IVec S16 32) : Prop :=
  (∀ (k0_h2 : ¬(k0_cond2 v131 v137 = 1#1)), ∀ a x, ((![v223] : Fin 1 → IVec S16 32) a x).toNat < S49168.size a)
theorem k0_idx15_inb : ∀ (v131 : BitVec 32) (v137 : BitVec 32) (v223 : IVec S16 32) (k0_hw15 : k0_chk15 v131 v137 v223), ∀ (k0_h2 : ¬(k0_cond2 v131 v137 = 1#1)), ∀ a x, ((![v223] : Fin 1 → IVec S16 32) a x).toNat < S49168.size a := fun v131 v137 v223 k0_hw15 k0_h2 => k0_hw15 k0_h2
def k0_off12 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c64_i32 : BitVec 32 := 64#32
  let v224 : BitVec 32 := Scalar.addi v127 c64_i32
  let v225 : Index := Scalar.indexCast v224
  ![v225.toNat]

def k0_chk16 (v131 : BitVec 32) (v137 : BitVec 32) (v237 : IVec S16 32) : Prop :=
  (∀ (k0_h2 : ¬(k0_cond2 v131 v137 = 1#1)), ∀ a x, ((![v237] : Fin 1 → IVec S16 32) a x).toNat < S49168.size a)
theorem k0_idx16_inb : ∀ (v131 : BitVec 32) (v137 : BitVec 32) (v237 : IVec S16 32) (k0_hw16 : k0_chk16 v131 v137 v237), ∀ (k0_h2 : ¬(k0_cond2 v131 v137 = 1#1)), ∀ a x, ((![v237] : Fin 1 → IVec S16 32) a x).toNat < S49168.size a := fun v131 v137 v237 k0_hw16 k0_h2 => k0_hw16 k0_h2

def k0_chk17 (v131 : BitVec 32) (v137 : BitVec 32) (v239 : IVec S16 32) : Prop :=
  (∀ (k0_h2 : ¬(k0_cond2 v131 v137 = 1#1)), ∀ a x, ((![v239] : Fin 1 → IVec S16 32) a x).toNat < S49168.size a)
theorem k0_idx17_inb : ∀ (v131 : BitVec 32) (v137 : BitVec 32) (v239 : IVec S16 32) (k0_hw17 : k0_chk17 v131 v137 v239), ∀ (k0_h2 : ¬(k0_cond2 v131 v137 = 1#1)), ∀ a x, ((![v239] : Fin 1 → IVec S16 32) a x).toNat < S49168.size a := fun v131 v137 v239 k0_hw17 k0_h2 => k0_hw17 k0_h2

def k0_chk18 (v131 : BitVec 32) (v137 : BitVec 32) (v241 : IVec S16 32) : Prop :=
  (∀ (k0_h2 : ¬(k0_cond2 v131 v137 = 1#1)), ∀ a x, ((![v241] : Fin 1 → IVec S16 32) a x).toNat < S49168.size a)
theorem k0_idx18_inb : ∀ (v131 : BitVec 32) (v137 : BitVec 32) (v241 : IVec S16 32) (k0_hw18 : k0_chk18 v131 v137 v241), ∀ (k0_h2 : ¬(k0_cond2 v131 v137 = 1#1)), ∀ a x, ((![v241] : Fin 1 → IVec S16 32) a x).toNat < S49168.size a := fun v131 v137 v241 k0_hw18 k0_h2 => k0_hw18 k0_h2
def k0_off13 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c80_i32 : BitVec 32 := 80#32
  let v242 : BitVec 32 := Scalar.addi v127 c80_i32
  let v243 : Index := Scalar.indexCast v242
  ![v243.toNat]

def k0_chk19 (v131 : BitVec 32) (v137 : BitVec 32) (v255 : IVec S16 32) : Prop :=
  (∀ (k0_h2 : ¬(k0_cond2 v131 v137 = 1#1)), ∀ a x, ((![v255] : Fin 1 → IVec S16 32) a x).toNat < S49168.size a)
theorem k0_idx19_inb : ∀ (v131 : BitVec 32) (v137 : BitVec 32) (v255 : IVec S16 32) (k0_hw19 : k0_chk19 v131 v137 v255), ∀ (k0_h2 : ¬(k0_cond2 v131 v137 = 1#1)), ∀ a x, ((![v255] : Fin 1 → IVec S16 32) a x).toNat < S49168.size a := fun v131 v137 v255 k0_hw19 k0_h2 => k0_hw19 k0_h2

def k0_chk20 (v131 : BitVec 32) (v137 : BitVec 32) (v257 : IVec S16 32) : Prop :=
  (∀ (k0_h2 : ¬(k0_cond2 v131 v137 = 1#1)), ∀ a x, ((![v257] : Fin 1 → IVec S16 32) a x).toNat < S49168.size a)
theorem k0_idx20_inb : ∀ (v131 : BitVec 32) (v137 : BitVec 32) (v257 : IVec S16 32) (k0_hw20 : k0_chk20 v131 v137 v257), ∀ (k0_h2 : ¬(k0_cond2 v131 v137 = 1#1)), ∀ a x, ((![v257] : Fin 1 → IVec S16 32) a x).toNat < S49168.size a := fun v131 v137 v257 k0_hw20 k0_h2 => k0_hw20 k0_h2

def k0_chk21 (v131 : BitVec 32) (v137 : BitVec 32) (v259 : IVec S16 32) : Prop :=
  (∀ (k0_h2 : ¬(k0_cond2 v131 v137 = 1#1)), ∀ a x, ((![v259] : Fin 1 → IVec S16 32) a x).toNat < S49168.size a)
theorem k0_idx21_inb : ∀ (v131 : BitVec 32) (v137 : BitVec 32) (v259 : IVec S16 32) (k0_hw21 : k0_chk21 v131 v137 v259), ∀ (k0_h2 : ¬(k0_cond2 v131 v137 = 1#1)), ∀ a x, ((![v259] : Fin 1 → IVec S16 32) a x).toNat < S49168.size a := fun v131 v137 v259 k0_hw21 k0_h2 => k0_hw21 k0_h2
def k0_off14 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c96_i32 : BitVec 32 := 96#32
  let v260 : BitVec 32 := Scalar.addi v127 c96_i32
  let v261 : Index := Scalar.indexCast v260
  ![v261.toNat]

def k0_chk22 (v131 : BitVec 32) (v137 : BitVec 32) (v273 : IVec S16 32) : Prop :=
  (∀ (k0_h2 : ¬(k0_cond2 v131 v137 = 1#1)), ∀ a x, ((![v273] : Fin 1 → IVec S16 32) a x).toNat < S49168.size a)
theorem k0_idx22_inb : ∀ (v131 : BitVec 32) (v137 : BitVec 32) (v273 : IVec S16 32) (k0_hw22 : k0_chk22 v131 v137 v273), ∀ (k0_h2 : ¬(k0_cond2 v131 v137 = 1#1)), ∀ a x, ((![v273] : Fin 1 → IVec S16 32) a x).toNat < S49168.size a := fun v131 v137 v273 k0_hw22 k0_h2 => k0_hw22 k0_h2

def k0_chk23 (v131 : BitVec 32) (v137 : BitVec 32) (v275 : IVec S16 32) : Prop :=
  (∀ (k0_h2 : ¬(k0_cond2 v131 v137 = 1#1)), ∀ a x, ((![v275] : Fin 1 → IVec S16 32) a x).toNat < S49168.size a)
theorem k0_idx23_inb : ∀ (v131 : BitVec 32) (v137 : BitVec 32) (v275 : IVec S16 32) (k0_hw23 : k0_chk23 v131 v137 v275), ∀ (k0_h2 : ¬(k0_cond2 v131 v137 = 1#1)), ∀ a x, ((![v275] : Fin 1 → IVec S16 32) a x).toNat < S49168.size a := fun v131 v137 v275 k0_hw23 k0_h2 => k0_hw23 k0_h2

def k0_chk24 (v131 : BitVec 32) (v137 : BitVec 32) (v277 : IVec S16 32) : Prop :=
  (∀ (k0_h2 : ¬(k0_cond2 v131 v137 = 1#1)), ∀ a x, ((![v277] : Fin 1 → IVec S16 32) a x).toNat < S49168.size a)
theorem k0_idx24_inb : ∀ (v131 : BitVec 32) (v137 : BitVec 32) (v277 : IVec S16 32) (k0_hw24 : k0_chk24 v131 v137 v277), ∀ (k0_h2 : ¬(k0_cond2 v131 v137 = 1#1)), ∀ a x, ((![v277] : Fin 1 → IVec S16 32) a x).toNat < S49168.size a := fun v131 v137 v277 k0_hw24 k0_h2 => k0_hw24 k0_h2
def k0_off15 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c112_i32 : BitVec 32 := 112#32
  let v278 : BitVec 32 := Scalar.addi v127 c112_i32
  let v279 : Index := Scalar.indexCast v278
  ![v279.toNat]

def k0_chk25 (v131 : BitVec 32) (v137 : BitVec 32) (v291 : IVec S16 32) : Prop :=
  (∀ (k0_h2 : ¬(k0_cond2 v131 v137 = 1#1)), ∀ a x, ((![v291] : Fin 1 → IVec S16 32) a x).toNat < S49168.size a)
theorem k0_idx25_inb : ∀ (v131 : BitVec 32) (v137 : BitVec 32) (v291 : IVec S16 32) (k0_hw25 : k0_chk25 v131 v137 v291), ∀ (k0_h2 : ¬(k0_cond2 v131 v137 = 1#1)), ∀ a x, ((![v291] : Fin 1 → IVec S16 32) a x).toNat < S49168.size a := fun v131 v137 v291 k0_hw25 k0_h2 => k0_hw25 k0_h2

def k0_chk26 (v131 : BitVec 32) (v137 : BitVec 32) (v293 : IVec S16 32) : Prop :=
  (∀ (k0_h2 : ¬(k0_cond2 v131 v137 = 1#1)), ∀ a x, ((![v293] : Fin 1 → IVec S16 32) a x).toNat < S49168.size a)
theorem k0_idx26_inb : ∀ (v131 : BitVec 32) (v137 : BitVec 32) (v293 : IVec S16 32) (k0_hw26 : k0_chk26 v131 v137 v293), ∀ (k0_h2 : ¬(k0_cond2 v131 v137 = 1#1)), ∀ a x, ((![v293] : Fin 1 → IVec S16 32) a x).toNat < S49168.size a := fun v131 v137 v293 k0_hw26 k0_h2 => k0_hw26 k0_h2

def k0_chk27 (v131 : BitVec 32) (v137 : BitVec 32) (v295 : IVec S16 32) : Prop :=
  (∀ (k0_h2 : ¬(k0_cond2 v131 v137 = 1#1)), ∀ a x, ((![v295] : Fin 1 → IVec S16 32) a x).toNat < S49168.size a)
theorem k0_idx27_inb : ∀ (v131 : BitVec 32) (v137 : BitVec 32) (v295 : IVec S16 32) (k0_hw27 : k0_chk27 v131 v137 v295), ∀ (k0_h2 : ¬(k0_cond2 v131 v137 = 1#1)), ∀ a x, ((![v295] : Fin 1 → IVec S16 32) a x).toNat < S49168.size a := fun v131 v137 v295 k0_hw27 k0_h2 => k0_hw27 k0_h2
def k0_off16 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c128_i32 : BitVec 32 := 128#32
  let v296 : BitVec 32 := Scalar.addi v127 c128_i32
  let v297 : Index := Scalar.indexCast v296
  ![v297.toNat]

def k0_chk28 (v131 : BitVec 32) (v137 : BitVec 32) (v309 : IVec S16 32) : Prop :=
  (∀ (k0_h2 : ¬(k0_cond2 v131 v137 = 1#1)), ∀ a x, ((![v309] : Fin 1 → IVec S16 32) a x).toNat < S49168.size a)
theorem k0_idx28_inb : ∀ (v131 : BitVec 32) (v137 : BitVec 32) (v309 : IVec S16 32) (k0_hw28 : k0_chk28 v131 v137 v309), ∀ (k0_h2 : ¬(k0_cond2 v131 v137 = 1#1)), ∀ a x, ((![v309] : Fin 1 → IVec S16 32) a x).toNat < S49168.size a := fun v131 v137 v309 k0_hw28 k0_h2 => k0_hw28 k0_h2

def k0_chk29 (v131 : BitVec 32) (v137 : BitVec 32) (v311 : IVec S16 32) : Prop :=
  (∀ (k0_h2 : ¬(k0_cond2 v131 v137 = 1#1)), ∀ a x, ((![v311] : Fin 1 → IVec S16 32) a x).toNat < S49168.size a)
theorem k0_idx29_inb : ∀ (v131 : BitVec 32) (v137 : BitVec 32) (v311 : IVec S16 32) (k0_hw29 : k0_chk29 v131 v137 v311), ∀ (k0_h2 : ¬(k0_cond2 v131 v137 = 1#1)), ∀ a x, ((![v311] : Fin 1 → IVec S16 32) a x).toNat < S49168.size a := fun v131 v137 v311 k0_hw29 k0_h2 => k0_hw29 k0_h2

def k0_chk30 (v131 : BitVec 32) (v137 : BitVec 32) (v313 : IVec S16 32) : Prop :=
  (∀ (k0_h2 : ¬(k0_cond2 v131 v137 = 1#1)), ∀ a x, ((![v313] : Fin 1 → IVec S16 32) a x).toNat < S49168.size a)
theorem k0_idx30_inb : ∀ (v131 : BitVec 32) (v137 : BitVec 32) (v313 : IVec S16 32) (k0_hw30 : k0_chk30 v131 v137 v313), ∀ (k0_h2 : ¬(k0_cond2 v131 v137 = 1#1)), ∀ a x, ((![v313] : Fin 1 → IVec S16 32) a x).toNat < S49168.size a := fun v131 v137 v313 k0_hw30 k0_h2 => k0_hw30 k0_h2
def k0_off17 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c144_i32 : BitVec 32 := 144#32
  let v314 : BitVec 32 := Scalar.addi v127 c144_i32
  let v315 : Index := Scalar.indexCast v314
  ![v315.toNat]

def k0_chk31 (v131 : BitVec 32) (v137 : BitVec 32) (v327 : IVec S16 32) : Prop :=
  (∀ (k0_h2 : ¬(k0_cond2 v131 v137 = 1#1)), ∀ a x, ((![v327] : Fin 1 → IVec S16 32) a x).toNat < S49168.size a)
theorem k0_idx31_inb : ∀ (v131 : BitVec 32) (v137 : BitVec 32) (v327 : IVec S16 32) (k0_hw31 : k0_chk31 v131 v137 v327), ∀ (k0_h2 : ¬(k0_cond2 v131 v137 = 1#1)), ∀ a x, ((![v327] : Fin 1 → IVec S16 32) a x).toNat < S49168.size a := fun v131 v137 v327 k0_hw31 k0_h2 => k0_hw31 k0_h2

def k0_chk32 (v131 : BitVec 32) (v137 : BitVec 32) (v329 : IVec S16 32) : Prop :=
  (∀ (k0_h2 : ¬(k0_cond2 v131 v137 = 1#1)), ∀ a x, ((![v329] : Fin 1 → IVec S16 32) a x).toNat < S49168.size a)
theorem k0_idx32_inb : ∀ (v131 : BitVec 32) (v137 : BitVec 32) (v329 : IVec S16 32) (k0_hw32 : k0_chk32 v131 v137 v329), ∀ (k0_h2 : ¬(k0_cond2 v131 v137 = 1#1)), ∀ a x, ((![v329] : Fin 1 → IVec S16 32) a x).toNat < S49168.size a := fun v131 v137 v329 k0_hw32 k0_h2 => k0_hw32 k0_h2

def k0_chk33 (v131 : BitVec 32) (v137 : BitVec 32) (v331 : IVec S16 32) : Prop :=
  (∀ (k0_h2 : ¬(k0_cond2 v131 v137 = 1#1)), ∀ a x, ((![v331] : Fin 1 → IVec S16 32) a x).toNat < S49168.size a)
theorem k0_idx33_inb : ∀ (v131 : BitVec 32) (v137 : BitVec 32) (v331 : IVec S16 32) (k0_hw33 : k0_chk33 v131 v137 v331), ∀ (k0_h2 : ¬(k0_cond2 v131 v137 = 1#1)), ∀ a x, ((![v331] : Fin 1 → IVec S16 32) a x).toNat < S49168.size a := fun v131 v137 v331 k0_hw33 k0_h2 => k0_hw33 k0_h2
def k0_off18 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c160_i32 : BitVec 32 := 160#32
  let v332 : BitVec 32 := Scalar.addi v127 c160_i32
  let v333 : Index := Scalar.indexCast v332
  ![v333.toNat]

def k0_chk34 (v131 : BitVec 32) (v137 : BitVec 32) (v345 : IVec S16 32) : Prop :=
  (∀ (k0_h2 : ¬(k0_cond2 v131 v137 = 1#1)), ∀ a x, ((![v345] : Fin 1 → IVec S16 32) a x).toNat < S49168.size a)
theorem k0_idx34_inb : ∀ (v131 : BitVec 32) (v137 : BitVec 32) (v345 : IVec S16 32) (k0_hw34 : k0_chk34 v131 v137 v345), ∀ (k0_h2 : ¬(k0_cond2 v131 v137 = 1#1)), ∀ a x, ((![v345] : Fin 1 → IVec S16 32) a x).toNat < S49168.size a := fun v131 v137 v345 k0_hw34 k0_h2 => k0_hw34 k0_h2

def k0_chk35 (v131 : BitVec 32) (v137 : BitVec 32) (v347 : IVec S16 32) : Prop :=
  (∀ (k0_h2 : ¬(k0_cond2 v131 v137 = 1#1)), ∀ a x, ((![v347] : Fin 1 → IVec S16 32) a x).toNat < S49168.size a)
theorem k0_idx35_inb : ∀ (v131 : BitVec 32) (v137 : BitVec 32) (v347 : IVec S16 32) (k0_hw35 : k0_chk35 v131 v137 v347), ∀ (k0_h2 : ¬(k0_cond2 v131 v137 = 1#1)), ∀ a x, ((![v347] : Fin 1 → IVec S16 32) a x).toNat < S49168.size a := fun v131 v137 v347 k0_hw35 k0_h2 => k0_hw35 k0_h2

def k0_chk36 (v131 : BitVec 32) (v137 : BitVec 32) (v349 : IVec S16 32) : Prop :=
  (∀ (k0_h2 : ¬(k0_cond2 v131 v137 = 1#1)), ∀ a x, ((![v349] : Fin 1 → IVec S16 32) a x).toNat < S49168.size a)
theorem k0_idx36_inb : ∀ (v131 : BitVec 32) (v137 : BitVec 32) (v349 : IVec S16 32) (k0_hw36 : k0_chk36 v131 v137 v349), ∀ (k0_h2 : ¬(k0_cond2 v131 v137 = 1#1)), ∀ a x, ((![v349] : Fin 1 → IVec S16 32) a x).toNat < S49168.size a := fun v131 v137 v349 k0_hw36 k0_h2 => k0_hw36 k0_h2
def k0_off19 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c176_i32 : BitVec 32 := 176#32
  let v350 : BitVec 32 := Scalar.addi v127 c176_i32
  let v351 : Index := Scalar.indexCast v350
  ![v351.toNat]

def k0_chk37 (v131 : BitVec 32) (v137 : BitVec 32) (v363 : IVec S16 32) : Prop :=
  (∀ (k0_h2 : ¬(k0_cond2 v131 v137 = 1#1)), ∀ a x, ((![v363] : Fin 1 → IVec S16 32) a x).toNat < S49168.size a)
theorem k0_idx37_inb : ∀ (v131 : BitVec 32) (v137 : BitVec 32) (v363 : IVec S16 32) (k0_hw37 : k0_chk37 v131 v137 v363), ∀ (k0_h2 : ¬(k0_cond2 v131 v137 = 1#1)), ∀ a x, ((![v363] : Fin 1 → IVec S16 32) a x).toNat < S49168.size a := fun v131 v137 v363 k0_hw37 k0_h2 => k0_hw37 k0_h2

def k0_chk38 (v131 : BitVec 32) (v137 : BitVec 32) (v365 : IVec S16 32) : Prop :=
  (∀ (k0_h2 : ¬(k0_cond2 v131 v137 = 1#1)), ∀ a x, ((![v365] : Fin 1 → IVec S16 32) a x).toNat < S49168.size a)
theorem k0_idx38_inb : ∀ (v131 : BitVec 32) (v137 : BitVec 32) (v365 : IVec S16 32) (k0_hw38 : k0_chk38 v131 v137 v365), ∀ (k0_h2 : ¬(k0_cond2 v131 v137 = 1#1)), ∀ a x, ((![v365] : Fin 1 → IVec S16 32) a x).toNat < S49168.size a := fun v131 v137 v365 k0_hw38 k0_h2 => k0_hw38 k0_h2

def k0_chk39 (v131 : BitVec 32) (v137 : BitVec 32) (v367 : IVec S16 32) : Prop :=
  (∀ (k0_h2 : ¬(k0_cond2 v131 v137 = 1#1)), ∀ a x, ((![v367] : Fin 1 → IVec S16 32) a x).toNat < S49168.size a)
theorem k0_idx39_inb : ∀ (v131 : BitVec 32) (v137 : BitVec 32) (v367 : IVec S16 32) (k0_hw39 : k0_chk39 v131 v137 v367), ∀ (k0_h2 : ¬(k0_cond2 v131 v137 = 1#1)), ∀ a x, ((![v367] : Fin 1 → IVec S16 32) a x).toNat < S49168.size a := fun v131 v137 v367 k0_hw39 k0_h2 => k0_hw39 k0_h2
def k0_off20 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c192_i32_118 : BitVec 32 := 192#32
  let v368 : BitVec 32 := Scalar.addi v127 c192_i32_118
  let v369 : Index := Scalar.indexCast v368
  ![v369.toNat]

def k0_chk40 (v131 : BitVec 32) (v137 : BitVec 32) (v381 : IVec S16 32) : Prop :=
  (∀ (k0_h2 : ¬(k0_cond2 v131 v137 = 1#1)), ∀ a x, ((![v381] : Fin 1 → IVec S16 32) a x).toNat < S49168.size a)
theorem k0_idx40_inb : ∀ (v131 : BitVec 32) (v137 : BitVec 32) (v381 : IVec S16 32) (k0_hw40 : k0_chk40 v131 v137 v381), ∀ (k0_h2 : ¬(k0_cond2 v131 v137 = 1#1)), ∀ a x, ((![v381] : Fin 1 → IVec S16 32) a x).toNat < S49168.size a := fun v131 v137 v381 k0_hw40 k0_h2 => k0_hw40 k0_h2

def k0_chk41 (v131 : BitVec 32) (v137 : BitVec 32) (v383 : IVec S16 32) : Prop :=
  (∀ (k0_h2 : ¬(k0_cond2 v131 v137 = 1#1)), ∀ a x, ((![v383] : Fin 1 → IVec S16 32) a x).toNat < S49168.size a)
theorem k0_idx41_inb : ∀ (v131 : BitVec 32) (v137 : BitVec 32) (v383 : IVec S16 32) (k0_hw41 : k0_chk41 v131 v137 v383), ∀ (k0_h2 : ¬(k0_cond2 v131 v137 = 1#1)), ∀ a x, ((![v383] : Fin 1 → IVec S16 32) a x).toNat < S49168.size a := fun v131 v137 v383 k0_hw41 k0_h2 => k0_hw41 k0_h2

def k0_chk42 (v131 : BitVec 32) (v137 : BitVec 32) (v385 : IVec S16 32) : Prop :=
  (∀ (k0_h2 : ¬(k0_cond2 v131 v137 = 1#1)), ∀ a x, ((![v385] : Fin 1 → IVec S16 32) a x).toNat < S49168.size a)
theorem k0_idx42_inb : ∀ (v131 : BitVec 32) (v137 : BitVec 32) (v385 : IVec S16 32) (k0_hw42 : k0_chk42 v131 v137 v385), ∀ (k0_h2 : ¬(k0_cond2 v131 v137 = 1#1)), ∀ a x, ((![v385] : Fin 1 → IVec S16 32) a x).toNat < S49168.size a := fun v131 v137 v385 k0_hw42 k0_h2 => k0_hw42 k0_h2
def k0_off21 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c208_i32 : BitVec 32 := 208#32
  let v386 : BitVec 32 := Scalar.addi v127 c208_i32
  let v387 : Index := Scalar.indexCast v386
  ![v387.toNat]

def k0_chk43 (v131 : BitVec 32) (v137 : BitVec 32) (v399 : IVec S16 32) : Prop :=
  (∀ (k0_h2 : ¬(k0_cond2 v131 v137 = 1#1)), ∀ a x, ((![v399] : Fin 1 → IVec S16 32) a x).toNat < S49168.size a)
theorem k0_idx43_inb : ∀ (v131 : BitVec 32) (v137 : BitVec 32) (v399 : IVec S16 32) (k0_hw43 : k0_chk43 v131 v137 v399), ∀ (k0_h2 : ¬(k0_cond2 v131 v137 = 1#1)), ∀ a x, ((![v399] : Fin 1 → IVec S16 32) a x).toNat < S49168.size a := fun v131 v137 v399 k0_hw43 k0_h2 => k0_hw43 k0_h2

def k0_chk44 (v131 : BitVec 32) (v137 : BitVec 32) (v401 : IVec S16 32) : Prop :=
  (∀ (k0_h2 : ¬(k0_cond2 v131 v137 = 1#1)), ∀ a x, ((![v401] : Fin 1 → IVec S16 32) a x).toNat < S49168.size a)
theorem k0_idx44_inb : ∀ (v131 : BitVec 32) (v137 : BitVec 32) (v401 : IVec S16 32) (k0_hw44 : k0_chk44 v131 v137 v401), ∀ (k0_h2 : ¬(k0_cond2 v131 v137 = 1#1)), ∀ a x, ((![v401] : Fin 1 → IVec S16 32) a x).toNat < S49168.size a := fun v131 v137 v401 k0_hw44 k0_h2 => k0_hw44 k0_h2

def k0_chk45 (v131 : BitVec 32) (v137 : BitVec 32) (v403 : IVec S16 32) : Prop :=
  (∀ (k0_h2 : ¬(k0_cond2 v131 v137 = 1#1)), ∀ a x, ((![v403] : Fin 1 → IVec S16 32) a x).toNat < S49168.size a)
theorem k0_idx45_inb : ∀ (v131 : BitVec 32) (v137 : BitVec 32) (v403 : IVec S16 32) (k0_hw45 : k0_chk45 v131 v137 v403), ∀ (k0_h2 : ¬(k0_cond2 v131 v137 = 1#1)), ∀ a x, ((![v403] : Fin 1 → IVec S16 32) a x).toNat < S49168.size a := fun v131 v137 v403 k0_hw45 k0_h2 => k0_hw45 k0_h2
def k0_off22 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c224_i32 : BitVec 32 := 224#32
  let v404 : BitVec 32 := Scalar.addi v127 c224_i32
  let v405 : Index := Scalar.indexCast v404
  ![v405.toNat]

def k0_chk46 (v131 : BitVec 32) (v137 : BitVec 32) (v417 : IVec S16 32) : Prop :=
  (∀ (k0_h2 : ¬(k0_cond2 v131 v137 = 1#1)), ∀ a x, ((![v417] : Fin 1 → IVec S16 32) a x).toNat < S49168.size a)
theorem k0_idx46_inb : ∀ (v131 : BitVec 32) (v137 : BitVec 32) (v417 : IVec S16 32) (k0_hw46 : k0_chk46 v131 v137 v417), ∀ (k0_h2 : ¬(k0_cond2 v131 v137 = 1#1)), ∀ a x, ((![v417] : Fin 1 → IVec S16 32) a x).toNat < S49168.size a := fun v131 v137 v417 k0_hw46 k0_h2 => k0_hw46 k0_h2

def k0_chk47 (v131 : BitVec 32) (v137 : BitVec 32) (v419 : IVec S16 32) : Prop :=
  (∀ (k0_h2 : ¬(k0_cond2 v131 v137 = 1#1)), ∀ a x, ((![v419] : Fin 1 → IVec S16 32) a x).toNat < S49168.size a)
theorem k0_idx47_inb : ∀ (v131 : BitVec 32) (v137 : BitVec 32) (v419 : IVec S16 32) (k0_hw47 : k0_chk47 v131 v137 v419), ∀ (k0_h2 : ¬(k0_cond2 v131 v137 = 1#1)), ∀ a x, ((![v419] : Fin 1 → IVec S16 32) a x).toNat < S49168.size a := fun v131 v137 v419 k0_hw47 k0_h2 => k0_hw47 k0_h2

def k0_chk48 (v131 : BitVec 32) (v137 : BitVec 32) (v421 : IVec S16 32) : Prop :=
  (∀ (k0_h2 : ¬(k0_cond2 v131 v137 = 1#1)), ∀ a x, ((![v421] : Fin 1 → IVec S16 32) a x).toNat < S49168.size a)
theorem k0_idx48_inb : ∀ (v131 : BitVec 32) (v137 : BitVec 32) (v421 : IVec S16 32) (k0_hw48 : k0_chk48 v131 v137 v421), ∀ (k0_h2 : ¬(k0_cond2 v131 v137 = 1#1)), ∀ a x, ((![v421] : Fin 1 → IVec S16 32) a x).toNat < S49168.size a := fun v131 v137 v421 k0_hw48 k0_h2 => k0_hw48 k0_h2
def k0_off23 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c240_i32 : BitVec 32 := 240#32
  let v422 : BitVec 32 := Scalar.addi v127 c240_i32
  let v423 : Index := Scalar.indexCast v422
  ![v423.toNat]

def k0_chk49 (v131 : BitVec 32) (v137 : BitVec 32) (v435 : IVec S16 32) : Prop :=
  (∀ (k0_h2 : ¬(k0_cond2 v131 v137 = 1#1)), ∀ a x, ((![v435] : Fin 1 → IVec S16 32) a x).toNat < S49168.size a)
theorem k0_idx49_inb : ∀ (v131 : BitVec 32) (v137 : BitVec 32) (v435 : IVec S16 32) (k0_hw49 : k0_chk49 v131 v137 v435), ∀ (k0_h2 : ¬(k0_cond2 v131 v137 = 1#1)), ∀ a x, ((![v435] : Fin 1 → IVec S16 32) a x).toNat < S49168.size a := fun v131 v137 v435 k0_hw49 k0_h2 => k0_hw49 k0_h2

def k0_chk50 (v131 : BitVec 32) (v137 : BitVec 32) (v437 : IVec S16 32) : Prop :=
  (∀ (k0_h2 : ¬(k0_cond2 v131 v137 = 1#1)), ∀ a x, ((![v437] : Fin 1 → IVec S16 32) a x).toNat < S49168.size a)
theorem k0_idx50_inb : ∀ (v131 : BitVec 32) (v137 : BitVec 32) (v437 : IVec S16 32) (k0_hw50 : k0_chk50 v131 v137 v437), ∀ (k0_h2 : ¬(k0_cond2 v131 v137 = 1#1)), ∀ a x, ((![v437] : Fin 1 → IVec S16 32) a x).toNat < S49168.size a := fun v131 v137 v437 k0_hw50 k0_h2 => k0_hw50 k0_h2

def k0_chk51 (v131 : BitVec 32) (v137 : BitVec 32) (v439 : IVec S16 32) : Prop :=
  (∀ (k0_h2 : ¬(k0_cond2 v131 v137 = 1#1)), ∀ a x, ((![v439] : Fin 1 → IVec S16 32) a x).toNat < S49168.size a)
theorem k0_idx51_inb : ∀ (v131 : BitVec 32) (v137 : BitVec 32) (v439 : IVec S16 32) (k0_hw51 : k0_chk51 v131 v137 v439), ∀ (k0_h2 : ¬(k0_cond2 v131 v137 = 1#1)), ∀ a x, ((![v439] : Fin 1 → IVec S16 32) a x).toNat < S49168.size a := fun v131 v137 v439 k0_hw51 k0_h2 => k0_hw51 k0_h2
def k0_off24 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c256_i32 : BitVec 32 := 256#32
  let v440 : BitVec 32 := Scalar.addi v127 c256_i32
  let v441 : Index := Scalar.indexCast v440
  ![v441.toNat]

def k0_chk52 (v131 : BitVec 32) (v137 : BitVec 32) (v453 : IVec S16 32) : Prop :=
  (∀ (k0_h2 : ¬(k0_cond2 v131 v137 = 1#1)), ∀ a x, ((![v453] : Fin 1 → IVec S16 32) a x).toNat < S49168.size a)
theorem k0_idx52_inb : ∀ (v131 : BitVec 32) (v137 : BitVec 32) (v453 : IVec S16 32) (k0_hw52 : k0_chk52 v131 v137 v453), ∀ (k0_h2 : ¬(k0_cond2 v131 v137 = 1#1)), ∀ a x, ((![v453] : Fin 1 → IVec S16 32) a x).toNat < S49168.size a := fun v131 v137 v453 k0_hw52 k0_h2 => k0_hw52 k0_h2

def k0_chk53 (v131 : BitVec 32) (v137 : BitVec 32) (v455 : IVec S16 32) : Prop :=
  (∀ (k0_h2 : ¬(k0_cond2 v131 v137 = 1#1)), ∀ a x, ((![v455] : Fin 1 → IVec S16 32) a x).toNat < S49168.size a)
theorem k0_idx53_inb : ∀ (v131 : BitVec 32) (v137 : BitVec 32) (v455 : IVec S16 32) (k0_hw53 : k0_chk53 v131 v137 v455), ∀ (k0_h2 : ¬(k0_cond2 v131 v137 = 1#1)), ∀ a x, ((![v455] : Fin 1 → IVec S16 32) a x).toNat < S49168.size a := fun v131 v137 v455 k0_hw53 k0_h2 => k0_hw53 k0_h2

def k0_chk54 (v131 : BitVec 32) (v137 : BitVec 32) (v457 : IVec S16 32) : Prop :=
  (∀ (k0_h2 : ¬(k0_cond2 v131 v137 = 1#1)), ∀ a x, ((![v457] : Fin 1 → IVec S16 32) a x).toNat < S49168.size a)
theorem k0_idx54_inb : ∀ (v131 : BitVec 32) (v137 : BitVec 32) (v457 : IVec S16 32) (k0_hw54 : k0_chk54 v131 v137 v457), ∀ (k0_h2 : ¬(k0_cond2 v131 v137 = 1#1)), ∀ a x, ((![v457] : Fin 1 → IVec S16 32) a x).toNat < S49168.size a := fun v131 v137 v457 k0_hw54 k0_h2 => k0_hw54 k0_h2
def k0_off25 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c272_i32 : BitVec 32 := 272#32
  let v458 : BitVec 32 := Scalar.addi v127 c272_i32
  let v459 : Index := Scalar.indexCast v458
  ![v459.toNat]

def k0_chk55 (v131 : BitVec 32) (v137 : BitVec 32) (v471 : IVec S16 32) : Prop :=
  (∀ (k0_h2 : ¬(k0_cond2 v131 v137 = 1#1)), ∀ a x, ((![v471] : Fin 1 → IVec S16 32) a x).toNat < S49168.size a)
theorem k0_idx55_inb : ∀ (v131 : BitVec 32) (v137 : BitVec 32) (v471 : IVec S16 32) (k0_hw55 : k0_chk55 v131 v137 v471), ∀ (k0_h2 : ¬(k0_cond2 v131 v137 = 1#1)), ∀ a x, ((![v471] : Fin 1 → IVec S16 32) a x).toNat < S49168.size a := fun v131 v137 v471 k0_hw55 k0_h2 => k0_hw55 k0_h2

def k0_chk56 (v131 : BitVec 32) (v137 : BitVec 32) (v473 : IVec S16 32) : Prop :=
  (∀ (k0_h2 : ¬(k0_cond2 v131 v137 = 1#1)), ∀ a x, ((![v473] : Fin 1 → IVec S16 32) a x).toNat < S49168.size a)
theorem k0_idx56_inb : ∀ (v131 : BitVec 32) (v137 : BitVec 32) (v473 : IVec S16 32) (k0_hw56 : k0_chk56 v131 v137 v473), ∀ (k0_h2 : ¬(k0_cond2 v131 v137 = 1#1)), ∀ a x, ((![v473] : Fin 1 → IVec S16 32) a x).toNat < S49168.size a := fun v131 v137 v473 k0_hw56 k0_h2 => k0_hw56 k0_h2

def k0_chk57 (v131 : BitVec 32) (v137 : BitVec 32) (v475 : IVec S16 32) : Prop :=
  (∀ (k0_h2 : ¬(k0_cond2 v131 v137 = 1#1)), ∀ a x, ((![v475] : Fin 1 → IVec S16 32) a x).toNat < S49168.size a)
theorem k0_idx57_inb : ∀ (v131 : BitVec 32) (v137 : BitVec 32) (v475 : IVec S16 32) (k0_hw57 : k0_chk57 v131 v137 v475), ∀ (k0_h2 : ¬(k0_cond2 v131 v137 = 1#1)), ∀ a x, ((![v475] : Fin 1 → IVec S16 32) a x).toNat < S49168.size a := fun v131 v137 v475 k0_hw57 k0_h2 => k0_hw57 k0_h2
def k0_off26 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c288_i32 : BitVec 32 := 288#32
  let v476 : BitVec 32 := Scalar.addi v127 c288_i32
  let v477 : Index := Scalar.indexCast v476
  ![v477.toNat]

def k0_chk58 (v131 : BitVec 32) (v137 : BitVec 32) (v489 : IVec S16 32) : Prop :=
  (∀ (k0_h2 : ¬(k0_cond2 v131 v137 = 1#1)), ∀ a x, ((![v489] : Fin 1 → IVec S16 32) a x).toNat < S49168.size a)
theorem k0_idx58_inb : ∀ (v131 : BitVec 32) (v137 : BitVec 32) (v489 : IVec S16 32) (k0_hw58 : k0_chk58 v131 v137 v489), ∀ (k0_h2 : ¬(k0_cond2 v131 v137 = 1#1)), ∀ a x, ((![v489] : Fin 1 → IVec S16 32) a x).toNat < S49168.size a := fun v131 v137 v489 k0_hw58 k0_h2 => k0_hw58 k0_h2

def k0_chk59 (v131 : BitVec 32) (v137 : BitVec 32) (v491 : IVec S16 32) : Prop :=
  (∀ (k0_h2 : ¬(k0_cond2 v131 v137 = 1#1)), ∀ a x, ((![v491] : Fin 1 → IVec S16 32) a x).toNat < S49168.size a)
theorem k0_idx59_inb : ∀ (v131 : BitVec 32) (v137 : BitVec 32) (v491 : IVec S16 32) (k0_hw59 : k0_chk59 v131 v137 v491), ∀ (k0_h2 : ¬(k0_cond2 v131 v137 = 1#1)), ∀ a x, ((![v491] : Fin 1 → IVec S16 32) a x).toNat < S49168.size a := fun v131 v137 v491 k0_hw59 k0_h2 => k0_hw59 k0_h2

def k0_chk60 (v131 : BitVec 32) (v137 : BitVec 32) (v493 : IVec S16 32) : Prop :=
  (∀ (k0_h2 : ¬(k0_cond2 v131 v137 = 1#1)), ∀ a x, ((![v493] : Fin 1 → IVec S16 32) a x).toNat < S49168.size a)
theorem k0_idx60_inb : ∀ (v131 : BitVec 32) (v137 : BitVec 32) (v493 : IVec S16 32) (k0_hw60 : k0_chk60 v131 v137 v493), ∀ (k0_h2 : ¬(k0_cond2 v131 v137 = 1#1)), ∀ a x, ((![v493] : Fin 1 → IVec S16 32) a x).toNat < S49168.size a := fun v131 v137 v493 k0_hw60 k0_h2 => k0_hw60 k0_h2
def k0_off27 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c304_i32 : BitVec 32 := 304#32
  let v494 : BitVec 32 := Scalar.addi v127 c304_i32
  let v495 : Index := Scalar.indexCast v494
  ![v495.toNat]

def k0_chk61 (v131 : BitVec 32) (v137 : BitVec 32) (v507 : IVec S16 32) : Prop :=
  (∀ (k0_h2 : ¬(k0_cond2 v131 v137 = 1#1)), ∀ a x, ((![v507] : Fin 1 → IVec S16 32) a x).toNat < S49168.size a)
theorem k0_idx61_inb : ∀ (v131 : BitVec 32) (v137 : BitVec 32) (v507 : IVec S16 32) (k0_hw61 : k0_chk61 v131 v137 v507), ∀ (k0_h2 : ¬(k0_cond2 v131 v137 = 1#1)), ∀ a x, ((![v507] : Fin 1 → IVec S16 32) a x).toNat < S49168.size a := fun v131 v137 v507 k0_hw61 k0_h2 => k0_hw61 k0_h2

def k0_chk62 (v131 : BitVec 32) (v137 : BitVec 32) (v509 : IVec S16 32) : Prop :=
  (∀ (k0_h2 : ¬(k0_cond2 v131 v137 = 1#1)), ∀ a x, ((![v509] : Fin 1 → IVec S16 32) a x).toNat < S49168.size a)
theorem k0_idx62_inb : ∀ (v131 : BitVec 32) (v137 : BitVec 32) (v509 : IVec S16 32) (k0_hw62 : k0_chk62 v131 v137 v509), ∀ (k0_h2 : ¬(k0_cond2 v131 v137 = 1#1)), ∀ a x, ((![v509] : Fin 1 → IVec S16 32) a x).toNat < S49168.size a := fun v131 v137 v509 k0_hw62 k0_h2 => k0_hw62 k0_h2

def k0_chk63 (v131 : BitVec 32) (v137 : BitVec 32) (v511 : IVec S16 32) : Prop :=
  (∀ (k0_h2 : ¬(k0_cond2 v131 v137 = 1#1)), ∀ a x, ((![v511] : Fin 1 → IVec S16 32) a x).toNat < S49168.size a)
theorem k0_idx63_inb : ∀ (v131 : BitVec 32) (v137 : BitVec 32) (v511 : IVec S16 32) (k0_hw63 : k0_chk63 v131 v137 v511), ∀ (k0_h2 : ¬(k0_cond2 v131 v137 = 1#1)), ∀ a x, ((![v511] : Fin 1 → IVec S16 32) a x).toNat < S49168.size a := fun v131 v137 v511 k0_hw63 k0_h2 => k0_hw63 k0_h2
def k0_off28 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c320_i32 : BitVec 32 := 320#32
  let v512 : BitVec 32 := Scalar.addi v127 c320_i32
  let v513 : Index := Scalar.indexCast v512
  ![v513.toNat]

def k0_chk64 (v131 : BitVec 32) (v137 : BitVec 32) (v525 : IVec S16 32) : Prop :=
  (∀ (k0_h2 : ¬(k0_cond2 v131 v137 = 1#1)), ∀ a x, ((![v525] : Fin 1 → IVec S16 32) a x).toNat < S49168.size a)
theorem k0_idx64_inb : ∀ (v131 : BitVec 32) (v137 : BitVec 32) (v525 : IVec S16 32) (k0_hw64 : k0_chk64 v131 v137 v525), ∀ (k0_h2 : ¬(k0_cond2 v131 v137 = 1#1)), ∀ a x, ((![v525] : Fin 1 → IVec S16 32) a x).toNat < S49168.size a := fun v131 v137 v525 k0_hw64 k0_h2 => k0_hw64 k0_h2

def k0_chk65 (v131 : BitVec 32) (v137 : BitVec 32) (v527 : IVec S16 32) : Prop :=
  (∀ (k0_h2 : ¬(k0_cond2 v131 v137 = 1#1)), ∀ a x, ((![v527] : Fin 1 → IVec S16 32) a x).toNat < S49168.size a)
theorem k0_idx65_inb : ∀ (v131 : BitVec 32) (v137 : BitVec 32) (v527 : IVec S16 32) (k0_hw65 : k0_chk65 v131 v137 v527), ∀ (k0_h2 : ¬(k0_cond2 v131 v137 = 1#1)), ∀ a x, ((![v527] : Fin 1 → IVec S16 32) a x).toNat < S49168.size a := fun v131 v137 v527 k0_hw65 k0_h2 => k0_hw65 k0_h2

def k0_chk66 (v131 : BitVec 32) (v137 : BitVec 32) (v529 : IVec S16 32) : Prop :=
  (∀ (k0_h2 : ¬(k0_cond2 v131 v137 = 1#1)), ∀ a x, ((![v529] : Fin 1 → IVec S16 32) a x).toNat < S49168.size a)
theorem k0_idx66_inb : ∀ (v131 : BitVec 32) (v137 : BitVec 32) (v529 : IVec S16 32) (k0_hw66 : k0_chk66 v131 v137 v529), ∀ (k0_h2 : ¬(k0_cond2 v131 v137 = 1#1)), ∀ a x, ((![v529] : Fin 1 → IVec S16 32) a x).toNat < S49168.size a := fun v131 v137 v529 k0_hw66 k0_h2 => k0_hw66 k0_h2
def k0_off29 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c336_i32 : BitVec 32 := 336#32
  let v530 : BitVec 32 := Scalar.addi v127 c336_i32
  let v531 : Index := Scalar.indexCast v530
  ![v531.toNat]

def k0_chk67 (v131 : BitVec 32) (v137 : BitVec 32) (v543 : IVec S16 32) : Prop :=
  (∀ (k0_h2 : ¬(k0_cond2 v131 v137 = 1#1)), ∀ a x, ((![v543] : Fin 1 → IVec S16 32) a x).toNat < S49168.size a)
theorem k0_idx67_inb : ∀ (v131 : BitVec 32) (v137 : BitVec 32) (v543 : IVec S16 32) (k0_hw67 : k0_chk67 v131 v137 v543), ∀ (k0_h2 : ¬(k0_cond2 v131 v137 = 1#1)), ∀ a x, ((![v543] : Fin 1 → IVec S16 32) a x).toNat < S49168.size a := fun v131 v137 v543 k0_hw67 k0_h2 => k0_hw67 k0_h2

def k0_chk68 (v131 : BitVec 32) (v137 : BitVec 32) (v545 : IVec S16 32) : Prop :=
  (∀ (k0_h2 : ¬(k0_cond2 v131 v137 = 1#1)), ∀ a x, ((![v545] : Fin 1 → IVec S16 32) a x).toNat < S49168.size a)
theorem k0_idx68_inb : ∀ (v131 : BitVec 32) (v137 : BitVec 32) (v545 : IVec S16 32) (k0_hw68 : k0_chk68 v131 v137 v545), ∀ (k0_h2 : ¬(k0_cond2 v131 v137 = 1#1)), ∀ a x, ((![v545] : Fin 1 → IVec S16 32) a x).toNat < S49168.size a := fun v131 v137 v545 k0_hw68 k0_h2 => k0_hw68 k0_h2

def k0_chk69 (v131 : BitVec 32) (v137 : BitVec 32) (v547 : IVec S16 32) : Prop :=
  (∀ (k0_h2 : ¬(k0_cond2 v131 v137 = 1#1)), ∀ a x, ((![v547] : Fin 1 → IVec S16 32) a x).toNat < S49168.size a)
theorem k0_idx69_inb : ∀ (v131 : BitVec 32) (v137 : BitVec 32) (v547 : IVec S16 32) (k0_hw69 : k0_chk69 v131 v137 v547), ∀ (k0_h2 : ¬(k0_cond2 v131 v137 = 1#1)), ∀ a x, ((![v547] : Fin 1 → IVec S16 32) a x).toNat < S49168.size a := fun v131 v137 v547 k0_hw69 k0_h2 => k0_hw69 k0_h2
def k0_off30 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c352_i32 : BitVec 32 := 352#32
  let v548 : BitVec 32 := Scalar.addi v127 c352_i32
  let v549 : Index := Scalar.indexCast v548
  ![v549.toNat]

def k0_chk70 (v131 : BitVec 32) (v137 : BitVec 32) (v561 : IVec S16 32) : Prop :=
  (∀ (k0_h2 : ¬(k0_cond2 v131 v137 = 1#1)), ∀ a x, ((![v561] : Fin 1 → IVec S16 32) a x).toNat < S49168.size a)
theorem k0_idx70_inb : ∀ (v131 : BitVec 32) (v137 : BitVec 32) (v561 : IVec S16 32) (k0_hw70 : k0_chk70 v131 v137 v561), ∀ (k0_h2 : ¬(k0_cond2 v131 v137 = 1#1)), ∀ a x, ((![v561] : Fin 1 → IVec S16 32) a x).toNat < S49168.size a := fun v131 v137 v561 k0_hw70 k0_h2 => k0_hw70 k0_h2

def k0_chk71 (v131 : BitVec 32) (v137 : BitVec 32) (v563 : IVec S16 32) : Prop :=
  (∀ (k0_h2 : ¬(k0_cond2 v131 v137 = 1#1)), ∀ a x, ((![v563] : Fin 1 → IVec S16 32) a x).toNat < S49168.size a)
theorem k0_idx71_inb : ∀ (v131 : BitVec 32) (v137 : BitVec 32) (v563 : IVec S16 32) (k0_hw71 : k0_chk71 v131 v137 v563), ∀ (k0_h2 : ¬(k0_cond2 v131 v137 = 1#1)), ∀ a x, ((![v563] : Fin 1 → IVec S16 32) a x).toNat < S49168.size a := fun v131 v137 v563 k0_hw71 k0_h2 => k0_hw71 k0_h2

def k0_chk72 (v131 : BitVec 32) (v137 : BitVec 32) (v565 : IVec S16 32) : Prop :=
  (∀ (k0_h2 : ¬(k0_cond2 v131 v137 = 1#1)), ∀ a x, ((![v565] : Fin 1 → IVec S16 32) a x).toNat < S49168.size a)
theorem k0_idx72_inb : ∀ (v131 : BitVec 32) (v137 : BitVec 32) (v565 : IVec S16 32) (k0_hw72 : k0_chk72 v131 v137 v565), ∀ (k0_h2 : ¬(k0_cond2 v131 v137 = 1#1)), ∀ a x, ((![v565] : Fin 1 → IVec S16 32) a x).toNat < S49168.size a := fun v131 v137 v565 k0_hw72 k0_h2 => k0_hw72 k0_h2
def k0_off31 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c368_i32 : BitVec 32 := 368#32
  let v566 : BitVec 32 := Scalar.addi v127 c368_i32
  let v567 : Index := Scalar.indexCast v566
  ![v567.toNat]

def k0_chk73 (v131 : BitVec 32) (v137 : BitVec 32) (v579 : IVec S16 32) : Prop :=
  (∀ (k0_h2 : ¬(k0_cond2 v131 v137 = 1#1)), ∀ a x, ((![v579] : Fin 1 → IVec S16 32) a x).toNat < S49168.size a)
theorem k0_idx73_inb : ∀ (v131 : BitVec 32) (v137 : BitVec 32) (v579 : IVec S16 32) (k0_hw73 : k0_chk73 v131 v137 v579), ∀ (k0_h2 : ¬(k0_cond2 v131 v137 = 1#1)), ∀ a x, ((![v579] : Fin 1 → IVec S16 32) a x).toNat < S49168.size a := fun v131 v137 v579 k0_hw73 k0_h2 => k0_hw73 k0_h2

def k0_chk74 (v131 : BitVec 32) (v137 : BitVec 32) (v581 : IVec S16 32) : Prop :=
  (∀ (k0_h2 : ¬(k0_cond2 v131 v137 = 1#1)), ∀ a x, ((![v581] : Fin 1 → IVec S16 32) a x).toNat < S49168.size a)
theorem k0_idx74_inb : ∀ (v131 : BitVec 32) (v137 : BitVec 32) (v581 : IVec S16 32) (k0_hw74 : k0_chk74 v131 v137 v581), ∀ (k0_h2 : ¬(k0_cond2 v131 v137 = 1#1)), ∀ a x, ((![v581] : Fin 1 → IVec S16 32) a x).toNat < S49168.size a := fun v131 v137 v581 k0_hw74 k0_h2 => k0_hw74 k0_h2

def k0_chk75 (v131 : BitVec 32) (v137 : BitVec 32) (v583 : IVec S16 32) : Prop :=
  (∀ (k0_h2 : ¬(k0_cond2 v131 v137 = 1#1)), ∀ a x, ((![v583] : Fin 1 → IVec S16 32) a x).toNat < S49168.size a)
theorem k0_idx75_inb : ∀ (v131 : BitVec 32) (v137 : BitVec 32) (v583 : IVec S16 32) (k0_hw75 : k0_chk75 v131 v137 v583), ∀ (k0_h2 : ¬(k0_cond2 v131 v137 = 1#1)), ∀ a x, ((![v583] : Fin 1 → IVec S16 32) a x).toNat < S49168.size a := fun v131 v137 v583 k0_hw75 k0_h2 => k0_hw75 k0_h2
def k0_off32 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c384_i32 : BitVec 32 := 384#32
  let v584 : BitVec 32 := Scalar.addi v127 c384_i32
  let v585 : Index := Scalar.indexCast v584
  ![v585.toNat]

def k0_chk76 (v131 : BitVec 32) (v137 : BitVec 32) (v597 : IVec S16 32) : Prop :=
  (∀ (k0_h2 : ¬(k0_cond2 v131 v137 = 1#1)), ∀ a x, ((![v597] : Fin 1 → IVec S16 32) a x).toNat < S49168.size a)
theorem k0_idx76_inb : ∀ (v131 : BitVec 32) (v137 : BitVec 32) (v597 : IVec S16 32) (k0_hw76 : k0_chk76 v131 v137 v597), ∀ (k0_h2 : ¬(k0_cond2 v131 v137 = 1#1)), ∀ a x, ((![v597] : Fin 1 → IVec S16 32) a x).toNat < S49168.size a := fun v131 v137 v597 k0_hw76 k0_h2 => k0_hw76 k0_h2

def k0_chk77 (v131 : BitVec 32) (v137 : BitVec 32) (v599 : IVec S16 32) : Prop :=
  (∀ (k0_h2 : ¬(k0_cond2 v131 v137 = 1#1)), ∀ a x, ((![v599] : Fin 1 → IVec S16 32) a x).toNat < S49168.size a)
theorem k0_idx77_inb : ∀ (v131 : BitVec 32) (v137 : BitVec 32) (v599 : IVec S16 32) (k0_hw77 : k0_chk77 v131 v137 v599), ∀ (k0_h2 : ¬(k0_cond2 v131 v137 = 1#1)), ∀ a x, ((![v599] : Fin 1 → IVec S16 32) a x).toNat < S49168.size a := fun v131 v137 v599 k0_hw77 k0_h2 => k0_hw77 k0_h2

def k0_chk78 (v131 : BitVec 32) (v137 : BitVec 32) (v601 : IVec S16 32) : Prop :=
  (∀ (k0_h2 : ¬(k0_cond2 v131 v137 = 1#1)), ∀ a x, ((![v601] : Fin 1 → IVec S16 32) a x).toNat < S49168.size a)
theorem k0_idx78_inb : ∀ (v131 : BitVec 32) (v137 : BitVec 32) (v601 : IVec S16 32) (k0_hw78 : k0_chk78 v131 v137 v601), ∀ (k0_h2 : ¬(k0_cond2 v131 v137 = 1#1)), ∀ a x, ((![v601] : Fin 1 → IVec S16 32) a x).toNat < S49168.size a := fun v131 v137 v601 k0_hw78 k0_h2 => k0_hw78 k0_h2
def k0_off33 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c400_i32 : BitVec 32 := 400#32
  let v602 : BitVec 32 := Scalar.addi v127 c400_i32
  let v603 : Index := Scalar.indexCast v602
  ![v603.toNat]

def k0_chk79 (v131 : BitVec 32) (v137 : BitVec 32) (v615 : IVec S16 32) : Prop :=
  (∀ (k0_h2 : ¬(k0_cond2 v131 v137 = 1#1)), ∀ a x, ((![v615] : Fin 1 → IVec S16 32) a x).toNat < S49168.size a)
theorem k0_idx79_inb : ∀ (v131 : BitVec 32) (v137 : BitVec 32) (v615 : IVec S16 32) (k0_hw79 : k0_chk79 v131 v137 v615), ∀ (k0_h2 : ¬(k0_cond2 v131 v137 = 1#1)), ∀ a x, ((![v615] : Fin 1 → IVec S16 32) a x).toNat < S49168.size a := fun v131 v137 v615 k0_hw79 k0_h2 => k0_hw79 k0_h2

def k0_chk80 (v131 : BitVec 32) (v137 : BitVec 32) (v617 : IVec S16 32) : Prop :=
  (∀ (k0_h2 : ¬(k0_cond2 v131 v137 = 1#1)), ∀ a x, ((![v617] : Fin 1 → IVec S16 32) a x).toNat < S49168.size a)
theorem k0_idx80_inb : ∀ (v131 : BitVec 32) (v137 : BitVec 32) (v617 : IVec S16 32) (k0_hw80 : k0_chk80 v131 v137 v617), ∀ (k0_h2 : ¬(k0_cond2 v131 v137 = 1#1)), ∀ a x, ((![v617] : Fin 1 → IVec S16 32) a x).toNat < S49168.size a := fun v131 v137 v617 k0_hw80 k0_h2 => k0_hw80 k0_h2

def k0_chk81 (v131 : BitVec 32) (v137 : BitVec 32) (v619 : IVec S16 32) : Prop :=
  (∀ (k0_h2 : ¬(k0_cond2 v131 v137 = 1#1)), ∀ a x, ((![v619] : Fin 1 → IVec S16 32) a x).toNat < S49168.size a)
theorem k0_idx81_inb : ∀ (v131 : BitVec 32) (v137 : BitVec 32) (v619 : IVec S16 32) (k0_hw81 : k0_chk81 v131 v137 v619), ∀ (k0_h2 : ¬(k0_cond2 v131 v137 = 1#1)), ∀ a x, ((![v619] : Fin 1 → IVec S16 32) a x).toNat < S49168.size a := fun v131 v137 v619 k0_hw81 k0_h2 => k0_hw81 k0_h2
def k0_off34 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c416_i32 : BitVec 32 := 416#32
  let v620 : BitVec 32 := Scalar.addi v127 c416_i32
  let v621 : Index := Scalar.indexCast v620
  ![v621.toNat]

def k0_chk82 (v131 : BitVec 32) (v137 : BitVec 32) (v633 : IVec S16 32) : Prop :=
  (∀ (k0_h2 : ¬(k0_cond2 v131 v137 = 1#1)), ∀ a x, ((![v633] : Fin 1 → IVec S16 32) a x).toNat < S49168.size a)
theorem k0_idx82_inb : ∀ (v131 : BitVec 32) (v137 : BitVec 32) (v633 : IVec S16 32) (k0_hw82 : k0_chk82 v131 v137 v633), ∀ (k0_h2 : ¬(k0_cond2 v131 v137 = 1#1)), ∀ a x, ((![v633] : Fin 1 → IVec S16 32) a x).toNat < S49168.size a := fun v131 v137 v633 k0_hw82 k0_h2 => k0_hw82 k0_h2

def k0_chk83 (v131 : BitVec 32) (v137 : BitVec 32) (v635 : IVec S16 32) : Prop :=
  (∀ (k0_h2 : ¬(k0_cond2 v131 v137 = 1#1)), ∀ a x, ((![v635] : Fin 1 → IVec S16 32) a x).toNat < S49168.size a)
theorem k0_idx83_inb : ∀ (v131 : BitVec 32) (v137 : BitVec 32) (v635 : IVec S16 32) (k0_hw83 : k0_chk83 v131 v137 v635), ∀ (k0_h2 : ¬(k0_cond2 v131 v137 = 1#1)), ∀ a x, ((![v635] : Fin 1 → IVec S16 32) a x).toNat < S49168.size a := fun v131 v137 v635 k0_hw83 k0_h2 => k0_hw83 k0_h2

def k0_chk84 (v131 : BitVec 32) (v137 : BitVec 32) (v637 : IVec S16 32) : Prop :=
  (∀ (k0_h2 : ¬(k0_cond2 v131 v137 = 1#1)), ∀ a x, ((![v637] : Fin 1 → IVec S16 32) a x).toNat < S49168.size a)
theorem k0_idx84_inb : ∀ (v131 : BitVec 32) (v137 : BitVec 32) (v637 : IVec S16 32) (k0_hw84 : k0_chk84 v131 v137 v637), ∀ (k0_h2 : ¬(k0_cond2 v131 v137 = 1#1)), ∀ a x, ((![v637] : Fin 1 → IVec S16 32) a x).toNat < S49168.size a := fun v131 v137 v637 k0_hw84 k0_h2 => k0_hw84 k0_h2
def k0_off35 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c432_i32 : BitVec 32 := 432#32
  let v638 : BitVec 32 := Scalar.addi v127 c432_i32
  let v639 : Index := Scalar.indexCast v638
  ![v639.toNat]

def k0_chk85 (v131 : BitVec 32) (v137 : BitVec 32) (v651 : IVec S16 32) : Prop :=
  (∀ (k0_h2 : ¬(k0_cond2 v131 v137 = 1#1)), ∀ a x, ((![v651] : Fin 1 → IVec S16 32) a x).toNat < S49168.size a)
theorem k0_idx85_inb : ∀ (v131 : BitVec 32) (v137 : BitVec 32) (v651 : IVec S16 32) (k0_hw85 : k0_chk85 v131 v137 v651), ∀ (k0_h2 : ¬(k0_cond2 v131 v137 = 1#1)), ∀ a x, ((![v651] : Fin 1 → IVec S16 32) a x).toNat < S49168.size a := fun v131 v137 v651 k0_hw85 k0_h2 => k0_hw85 k0_h2

def k0_chk86 (v131 : BitVec 32) (v137 : BitVec 32) (v653 : IVec S16 32) : Prop :=
  (∀ (k0_h2 : ¬(k0_cond2 v131 v137 = 1#1)), ∀ a x, ((![v653] : Fin 1 → IVec S16 32) a x).toNat < S49168.size a)
theorem k0_idx86_inb : ∀ (v131 : BitVec 32) (v137 : BitVec 32) (v653 : IVec S16 32) (k0_hw86 : k0_chk86 v131 v137 v653), ∀ (k0_h2 : ¬(k0_cond2 v131 v137 = 1#1)), ∀ a x, ((![v653] : Fin 1 → IVec S16 32) a x).toNat < S49168.size a := fun v131 v137 v653 k0_hw86 k0_h2 => k0_hw86 k0_h2

def k0_chk87 (v131 : BitVec 32) (v137 : BitVec 32) (v655 : IVec S16 32) : Prop :=
  (∀ (k0_h2 : ¬(k0_cond2 v131 v137 = 1#1)), ∀ a x, ((![v655] : Fin 1 → IVec S16 32) a x).toNat < S49168.size a)
theorem k0_idx87_inb : ∀ (v131 : BitVec 32) (v137 : BitVec 32) (v655 : IVec S16 32) (k0_hw87 : k0_chk87 v131 v137 v655), ∀ (k0_h2 : ¬(k0_cond2 v131 v137 = 1#1)), ∀ a x, ((![v655] : Fin 1 → IVec S16 32) a x).toNat < S49168.size a := fun v131 v137 v655 k0_hw87 k0_h2 => k0_hw87 k0_h2
def k0_off36 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c448_i32 : BitVec 32 := 448#32
  let v656 : BitVec 32 := Scalar.addi v127 c448_i32
  let v657 : Index := Scalar.indexCast v656
  ![v657.toNat]

def k0_chk88 (v131 : BitVec 32) (v137 : BitVec 32) (v669 : IVec S16 32) : Prop :=
  (∀ (k0_h2 : ¬(k0_cond2 v131 v137 = 1#1)), ∀ a x, ((![v669] : Fin 1 → IVec S16 32) a x).toNat < S49168.size a)
theorem k0_idx88_inb : ∀ (v131 : BitVec 32) (v137 : BitVec 32) (v669 : IVec S16 32) (k0_hw88 : k0_chk88 v131 v137 v669), ∀ (k0_h2 : ¬(k0_cond2 v131 v137 = 1#1)), ∀ a x, ((![v669] : Fin 1 → IVec S16 32) a x).toNat < S49168.size a := fun v131 v137 v669 k0_hw88 k0_h2 => k0_hw88 k0_h2

def k0_chk89 (v131 : BitVec 32) (v137 : BitVec 32) (v671 : IVec S16 32) : Prop :=
  (∀ (k0_h2 : ¬(k0_cond2 v131 v137 = 1#1)), ∀ a x, ((![v671] : Fin 1 → IVec S16 32) a x).toNat < S49168.size a)
theorem k0_idx89_inb : ∀ (v131 : BitVec 32) (v137 : BitVec 32) (v671 : IVec S16 32) (k0_hw89 : k0_chk89 v131 v137 v671), ∀ (k0_h2 : ¬(k0_cond2 v131 v137 = 1#1)), ∀ a x, ((![v671] : Fin 1 → IVec S16 32) a x).toNat < S49168.size a := fun v131 v137 v671 k0_hw89 k0_h2 => k0_hw89 k0_h2

def k0_chk90 (v131 : BitVec 32) (v137 : BitVec 32) (v673 : IVec S16 32) : Prop :=
  (∀ (k0_h2 : ¬(k0_cond2 v131 v137 = 1#1)), ∀ a x, ((![v673] : Fin 1 → IVec S16 32) a x).toNat < S49168.size a)
theorem k0_idx90_inb : ∀ (v131 : BitVec 32) (v137 : BitVec 32) (v673 : IVec S16 32) (k0_hw90 : k0_chk90 v131 v137 v673), ∀ (k0_h2 : ¬(k0_cond2 v131 v137 = 1#1)), ∀ a x, ((![v673] : Fin 1 → IVec S16 32) a x).toNat < S49168.size a := fun v131 v137 v673 k0_hw90 k0_h2 => k0_hw90 k0_h2
def k0_off37 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c464_i32 : BitVec 32 := 464#32
  let v674 : BitVec 32 := Scalar.addi v127 c464_i32
  let v675 : Index := Scalar.indexCast v674
  ![v675.toNat]

def k0_chk91 (v131 : BitVec 32) (v137 : BitVec 32) (v687 : IVec S16 32) : Prop :=
  (∀ (k0_h2 : ¬(k0_cond2 v131 v137 = 1#1)), ∀ a x, ((![v687] : Fin 1 → IVec S16 32) a x).toNat < S49168.size a)
theorem k0_idx91_inb : ∀ (v131 : BitVec 32) (v137 : BitVec 32) (v687 : IVec S16 32) (k0_hw91 : k0_chk91 v131 v137 v687), ∀ (k0_h2 : ¬(k0_cond2 v131 v137 = 1#1)), ∀ a x, ((![v687] : Fin 1 → IVec S16 32) a x).toNat < S49168.size a := fun v131 v137 v687 k0_hw91 k0_h2 => k0_hw91 k0_h2

def k0_chk92 (v131 : BitVec 32) (v137 : BitVec 32) (v689 : IVec S16 32) : Prop :=
  (∀ (k0_h2 : ¬(k0_cond2 v131 v137 = 1#1)), ∀ a x, ((![v689] : Fin 1 → IVec S16 32) a x).toNat < S49168.size a)
theorem k0_idx92_inb : ∀ (v131 : BitVec 32) (v137 : BitVec 32) (v689 : IVec S16 32) (k0_hw92 : k0_chk92 v131 v137 v689), ∀ (k0_h2 : ¬(k0_cond2 v131 v137 = 1#1)), ∀ a x, ((![v689] : Fin 1 → IVec S16 32) a x).toNat < S49168.size a := fun v131 v137 v689 k0_hw92 k0_h2 => k0_hw92 k0_h2

def k0_chk93 (v131 : BitVec 32) (v137 : BitVec 32) (v691 : IVec S16 32) : Prop :=
  (∀ (k0_h2 : ¬(k0_cond2 v131 v137 = 1#1)), ∀ a x, ((![v691] : Fin 1 → IVec S16 32) a x).toNat < S49168.size a)
theorem k0_idx93_inb : ∀ (v131 : BitVec 32) (v137 : BitVec 32) (v691 : IVec S16 32) (k0_hw93 : k0_chk93 v131 v137 v691), ∀ (k0_h2 : ¬(k0_cond2 v131 v137 = 1#1)), ∀ a x, ((![v691] : Fin 1 → IVec S16 32) a x).toNat < S49168.size a := fun v131 v137 v691 k0_hw93 k0_h2 => k0_hw93 k0_h2
def k0_off38 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c480_i32 : BitVec 32 := 480#32
  let v692 : BitVec 32 := Scalar.addi v127 c480_i32
  let v693 : Index := Scalar.indexCast v692
  ![v693.toNat]

def k0_chk94 (v131 : BitVec 32) (v137 : BitVec 32) (v705 : IVec S16 32) : Prop :=
  (∀ (k0_h2 : ¬(k0_cond2 v131 v137 = 1#1)), ∀ a x, ((![v705] : Fin 1 → IVec S16 32) a x).toNat < S49168.size a)
theorem k0_idx94_inb : ∀ (v131 : BitVec 32) (v137 : BitVec 32) (v705 : IVec S16 32) (k0_hw94 : k0_chk94 v131 v137 v705), ∀ (k0_h2 : ¬(k0_cond2 v131 v137 = 1#1)), ∀ a x, ((![v705] : Fin 1 → IVec S16 32) a x).toNat < S49168.size a := fun v131 v137 v705 k0_hw94 k0_h2 => k0_hw94 k0_h2

def k0_chk95 (v131 : BitVec 32) (v137 : BitVec 32) (v707 : IVec S16 32) : Prop :=
  (∀ (k0_h2 : ¬(k0_cond2 v131 v137 = 1#1)), ∀ a x, ((![v707] : Fin 1 → IVec S16 32) a x).toNat < S49168.size a)
theorem k0_idx95_inb : ∀ (v131 : BitVec 32) (v137 : BitVec 32) (v707 : IVec S16 32) (k0_hw95 : k0_chk95 v131 v137 v707), ∀ (k0_h2 : ¬(k0_cond2 v131 v137 = 1#1)), ∀ a x, ((![v707] : Fin 1 → IVec S16 32) a x).toNat < S49168.size a := fun v131 v137 v707 k0_hw95 k0_h2 => k0_hw95 k0_h2

def k0_chk96 (v131 : BitVec 32) (v137 : BitVec 32) (v709 : IVec S16 32) : Prop :=
  (∀ (k0_h2 : ¬(k0_cond2 v131 v137 = 1#1)), ∀ a x, ((![v709] : Fin 1 → IVec S16 32) a x).toNat < S49168.size a)
theorem k0_idx96_inb : ∀ (v131 : BitVec 32) (v137 : BitVec 32) (v709 : IVec S16 32) (k0_hw96 : k0_chk96 v131 v137 v709), ∀ (k0_h2 : ¬(k0_cond2 v131 v137 = 1#1)), ∀ a x, ((![v709] : Fin 1 → IVec S16 32) a x).toNat < S49168.size a := fun v131 v137 v709 k0_hw96 k0_h2 => k0_hw96 k0_h2
def k0_off39 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c496_i32 : BitVec 32 := 496#32
  let v710 : BitVec 32 := Scalar.addi v127 c496_i32
  let v711 : Index := Scalar.indexCast v710
  ![v711.toNat]

def k0_chk97 (v131 : BitVec 32) (v137 : BitVec 32) (v723 : IVec S16 32) : Prop :=
  (∀ (k0_h2 : ¬(k0_cond2 v131 v137 = 1#1)), ∀ a x, ((![v723] : Fin 1 → IVec S16 32) a x).toNat < S49168.size a)
theorem k0_idx97_inb : ∀ (v131 : BitVec 32) (v137 : BitVec 32) (v723 : IVec S16 32) (k0_hw97 : k0_chk97 v131 v137 v723), ∀ (k0_h2 : ¬(k0_cond2 v131 v137 = 1#1)), ∀ a x, ((![v723] : Fin 1 → IVec S16 32) a x).toNat < S49168.size a := fun v131 v137 v723 k0_hw97 k0_h2 => k0_hw97 k0_h2

def k0_chk98 (v131 : BitVec 32) (v137 : BitVec 32) (v725 : IVec S16 32) : Prop :=
  (∀ (k0_h2 : ¬(k0_cond2 v131 v137 = 1#1)), ∀ a x, ((![v725] : Fin 1 → IVec S16 32) a x).toNat < S49168.size a)
theorem k0_idx98_inb : ∀ (v131 : BitVec 32) (v137 : BitVec 32) (v725 : IVec S16 32) (k0_hw98 : k0_chk98 v131 v137 v725), ∀ (k0_h2 : ¬(k0_cond2 v131 v137 = 1#1)), ∀ a x, ((![v725] : Fin 1 → IVec S16 32) a x).toNat < S49168.size a := fun v131 v137 v725 k0_hw98 k0_h2 => k0_hw98 k0_h2

def k0_chk99 (v131 : BitVec 32) (v137 : BitVec 32) (v727 : IVec S16 32) : Prop :=
  (∀ (k0_h2 : ¬(k0_cond2 v131 v137 = 1#1)), ∀ a x, ((![v727] : Fin 1 → IVec S16 32) a x).toNat < S49168.size a)
theorem k0_idx99_inb : ∀ (v131 : BitVec 32) (v137 : BitVec 32) (v727 : IVec S16 32) (k0_hw99 : k0_chk99 v131 v137 v727), ∀ (k0_h2 : ¬(k0_cond2 v131 v137 = 1#1)), ∀ a x, ((![v727] : Fin 1 → IVec S16 32) a x).toNat < S49168.size a := fun v131 v137 v727 k0_hw99 k0_h2 => k0_hw99 k0_h2
def k0_off40 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c512_i32 : BitVec 32 := 512#32
  let v728 : BitVec 32 := Scalar.addi v127 c512_i32
  let v729 : Index := Scalar.indexCast v728
  ![v729.toNat]

def k0_chk100 (v131 : BitVec 32) (v137 : BitVec 32) (v741 : IVec S16 32) : Prop :=
  (∀ (k0_h2 : ¬(k0_cond2 v131 v137 = 1#1)), ∀ a x, ((![v741] : Fin 1 → IVec S16 32) a x).toNat < S49168.size a)
theorem k0_idx100_inb : ∀ (v131 : BitVec 32) (v137 : BitVec 32) (v741 : IVec S16 32) (k0_hw100 : k0_chk100 v131 v137 v741), ∀ (k0_h2 : ¬(k0_cond2 v131 v137 = 1#1)), ∀ a x, ((![v741] : Fin 1 → IVec S16 32) a x).toNat < S49168.size a := fun v131 v137 v741 k0_hw100 k0_h2 => k0_hw100 k0_h2

def k0_chk101 (v131 : BitVec 32) (v137 : BitVec 32) (v743 : IVec S16 32) : Prop :=
  (∀ (k0_h2 : ¬(k0_cond2 v131 v137 = 1#1)), ∀ a x, ((![v743] : Fin 1 → IVec S16 32) a x).toNat < S49168.size a)
theorem k0_idx101_inb : ∀ (v131 : BitVec 32) (v137 : BitVec 32) (v743 : IVec S16 32) (k0_hw101 : k0_chk101 v131 v137 v743), ∀ (k0_h2 : ¬(k0_cond2 v131 v137 = 1#1)), ∀ a x, ((![v743] : Fin 1 → IVec S16 32) a x).toNat < S49168.size a := fun v131 v137 v743 k0_hw101 k0_h2 => k0_hw101 k0_h2

def k0_chk102 (v131 : BitVec 32) (v137 : BitVec 32) (v745 : IVec S16 32) : Prop :=
  (∀ (k0_h2 : ¬(k0_cond2 v131 v137 = 1#1)), ∀ a x, ((![v745] : Fin 1 → IVec S16 32) a x).toNat < S49168.size a)
theorem k0_idx102_inb : ∀ (v131 : BitVec 32) (v137 : BitVec 32) (v745 : IVec S16 32) (k0_hw102 : k0_chk102 v131 v137 v745), ∀ (k0_h2 : ¬(k0_cond2 v131 v137 = 1#1)), ∀ a x, ((![v745] : Fin 1 → IVec S16 32) a x).toNat < S49168.size a := fun v131 v137 v745 k0_hw102 k0_h2 => k0_hw102 k0_h2
def k0_off41 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c528_i32 : BitVec 32 := 528#32
  let v746 : BitVec 32 := Scalar.addi v127 c528_i32
  let v747 : Index := Scalar.indexCast v746
  ![v747.toNat]

def k0_chk103 (v131 : BitVec 32) (v137 : BitVec 32) (v759 : IVec S16 32) : Prop :=
  (∀ (k0_h2 : ¬(k0_cond2 v131 v137 = 1#1)), ∀ a x, ((![v759] : Fin 1 → IVec S16 32) a x).toNat < S49168.size a)
theorem k0_idx103_inb : ∀ (v131 : BitVec 32) (v137 : BitVec 32) (v759 : IVec S16 32) (k0_hw103 : k0_chk103 v131 v137 v759), ∀ (k0_h2 : ¬(k0_cond2 v131 v137 = 1#1)), ∀ a x, ((![v759] : Fin 1 → IVec S16 32) a x).toNat < S49168.size a := fun v131 v137 v759 k0_hw103 k0_h2 => k0_hw103 k0_h2

def k0_chk104 (v131 : BitVec 32) (v137 : BitVec 32) (v761 : IVec S16 32) : Prop :=
  (∀ (k0_h2 : ¬(k0_cond2 v131 v137 = 1#1)), ∀ a x, ((![v761] : Fin 1 → IVec S16 32) a x).toNat < S49168.size a)
theorem k0_idx104_inb : ∀ (v131 : BitVec 32) (v137 : BitVec 32) (v761 : IVec S16 32) (k0_hw104 : k0_chk104 v131 v137 v761), ∀ (k0_h2 : ¬(k0_cond2 v131 v137 = 1#1)), ∀ a x, ((![v761] : Fin 1 → IVec S16 32) a x).toNat < S49168.size a := fun v131 v137 v761 k0_hw104 k0_h2 => k0_hw104 k0_h2

def k0_chk105 (v131 : BitVec 32) (v137 : BitVec 32) (v763 : IVec S16 32) : Prop :=
  (∀ (k0_h2 : ¬(k0_cond2 v131 v137 = 1#1)), ∀ a x, ((![v763] : Fin 1 → IVec S16 32) a x).toNat < S49168.size a)
theorem k0_idx105_inb : ∀ (v131 : BitVec 32) (v137 : BitVec 32) (v763 : IVec S16 32) (k0_hw105 : k0_chk105 v131 v137 v763), ∀ (k0_h2 : ¬(k0_cond2 v131 v137 = 1#1)), ∀ a x, ((![v763] : Fin 1 → IVec S16 32) a x).toNat < S49168.size a := fun v131 v137 v763 k0_hw105 k0_h2 => k0_hw105 k0_h2
def k0_off42 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c544_i32 : BitVec 32 := 544#32
  let v764 : BitVec 32 := Scalar.addi v127 c544_i32
  let v765 : Index := Scalar.indexCast v764
  ![v765.toNat]

def k0_chk106 (v131 : BitVec 32) (v137 : BitVec 32) (v777 : IVec S16 32) : Prop :=
  (∀ (k0_h2 : ¬(k0_cond2 v131 v137 = 1#1)), ∀ a x, ((![v777] : Fin 1 → IVec S16 32) a x).toNat < S49168.size a)
theorem k0_idx106_inb : ∀ (v131 : BitVec 32) (v137 : BitVec 32) (v777 : IVec S16 32) (k0_hw106 : k0_chk106 v131 v137 v777), ∀ (k0_h2 : ¬(k0_cond2 v131 v137 = 1#1)), ∀ a x, ((![v777] : Fin 1 → IVec S16 32) a x).toNat < S49168.size a := fun v131 v137 v777 k0_hw106 k0_h2 => k0_hw106 k0_h2

def k0_chk107 (v131 : BitVec 32) (v137 : BitVec 32) (v779 : IVec S16 32) : Prop :=
  (∀ (k0_h2 : ¬(k0_cond2 v131 v137 = 1#1)), ∀ a x, ((![v779] : Fin 1 → IVec S16 32) a x).toNat < S49168.size a)
theorem k0_idx107_inb : ∀ (v131 : BitVec 32) (v137 : BitVec 32) (v779 : IVec S16 32) (k0_hw107 : k0_chk107 v131 v137 v779), ∀ (k0_h2 : ¬(k0_cond2 v131 v137 = 1#1)), ∀ a x, ((![v779] : Fin 1 → IVec S16 32) a x).toNat < S49168.size a := fun v131 v137 v779 k0_hw107 k0_h2 => k0_hw107 k0_h2

def k0_chk108 (v131 : BitVec 32) (v137 : BitVec 32) (v781 : IVec S16 32) : Prop :=
  (∀ (k0_h2 : ¬(k0_cond2 v131 v137 = 1#1)), ∀ a x, ((![v781] : Fin 1 → IVec S16 32) a x).toNat < S49168.size a)
theorem k0_idx108_inb : ∀ (v131 : BitVec 32) (v137 : BitVec 32) (v781 : IVec S16 32) (k0_hw108 : k0_chk108 v131 v137 v781), ∀ (k0_h2 : ¬(k0_cond2 v131 v137 = 1#1)), ∀ a x, ((![v781] : Fin 1 → IVec S16 32) a x).toNat < S49168.size a := fun v131 v137 v781 k0_hw108 k0_h2 => k0_hw108 k0_h2
def k0_off43 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c560_i32 : BitVec 32 := 560#32
  let v782 : BitVec 32 := Scalar.addi v127 c560_i32
  let v783 : Index := Scalar.indexCast v782
  ![v783.toNat]

def k0_chk109 (v131 : BitVec 32) (v137 : BitVec 32) (v795 : IVec S16 32) : Prop :=
  (∀ (k0_h2 : ¬(k0_cond2 v131 v137 = 1#1)), ∀ a x, ((![v795] : Fin 1 → IVec S16 32) a x).toNat < S49168.size a)
theorem k0_idx109_inb : ∀ (v131 : BitVec 32) (v137 : BitVec 32) (v795 : IVec S16 32) (k0_hw109 : k0_chk109 v131 v137 v795), ∀ (k0_h2 : ¬(k0_cond2 v131 v137 = 1#1)), ∀ a x, ((![v795] : Fin 1 → IVec S16 32) a x).toNat < S49168.size a := fun v131 v137 v795 k0_hw109 k0_h2 => k0_hw109 k0_h2

def k0_chk110 (v131 : BitVec 32) (v137 : BitVec 32) (v797 : IVec S16 32) : Prop :=
  (∀ (k0_h2 : ¬(k0_cond2 v131 v137 = 1#1)), ∀ a x, ((![v797] : Fin 1 → IVec S16 32) a x).toNat < S49168.size a)
theorem k0_idx110_inb : ∀ (v131 : BitVec 32) (v137 : BitVec 32) (v797 : IVec S16 32) (k0_hw110 : k0_chk110 v131 v137 v797), ∀ (k0_h2 : ¬(k0_cond2 v131 v137 = 1#1)), ∀ a x, ((![v797] : Fin 1 → IVec S16 32) a x).toNat < S49168.size a := fun v131 v137 v797 k0_hw110 k0_h2 => k0_hw110 k0_h2

def k0_chk111 (v131 : BitVec 32) (v137 : BitVec 32) (v799 : IVec S16 32) : Prop :=
  (∀ (k0_h2 : ¬(k0_cond2 v131 v137 = 1#1)), ∀ a x, ((![v799] : Fin 1 → IVec S16 32) a x).toNat < S49168.size a)
theorem k0_idx111_inb : ∀ (v131 : BitVec 32) (v137 : BitVec 32) (v799 : IVec S16 32) (k0_hw111 : k0_chk111 v131 v137 v799), ∀ (k0_h2 : ¬(k0_cond2 v131 v137 = 1#1)), ∀ a x, ((![v799] : Fin 1 → IVec S16 32) a x).toNat < S49168.size a := fun v131 v137 v799 k0_hw111 k0_h2 => k0_hw111 k0_h2
def k0_off44 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c576_i32 : BitVec 32 := 576#32
  let v800 : BitVec 32 := Scalar.addi v127 c576_i32
  let v801 : Index := Scalar.indexCast v800
  ![v801.toNat]

def k0_chk112 (v131 : BitVec 32) (v137 : BitVec 32) (v813 : IVec S16 32) : Prop :=
  (∀ (k0_h2 : ¬(k0_cond2 v131 v137 = 1#1)), ∀ a x, ((![v813] : Fin 1 → IVec S16 32) a x).toNat < S49168.size a)
theorem k0_idx112_inb : ∀ (v131 : BitVec 32) (v137 : BitVec 32) (v813 : IVec S16 32) (k0_hw112 : k0_chk112 v131 v137 v813), ∀ (k0_h2 : ¬(k0_cond2 v131 v137 = 1#1)), ∀ a x, ((![v813] : Fin 1 → IVec S16 32) a x).toNat < S49168.size a := fun v131 v137 v813 k0_hw112 k0_h2 => k0_hw112 k0_h2

def k0_chk113 (v131 : BitVec 32) (v137 : BitVec 32) (v815 : IVec S16 32) : Prop :=
  (∀ (k0_h2 : ¬(k0_cond2 v131 v137 = 1#1)), ∀ a x, ((![v815] : Fin 1 → IVec S16 32) a x).toNat < S49168.size a)
theorem k0_idx113_inb : ∀ (v131 : BitVec 32) (v137 : BitVec 32) (v815 : IVec S16 32) (k0_hw113 : k0_chk113 v131 v137 v815), ∀ (k0_h2 : ¬(k0_cond2 v131 v137 = 1#1)), ∀ a x, ((![v815] : Fin 1 → IVec S16 32) a x).toNat < S49168.size a := fun v131 v137 v815 k0_hw113 k0_h2 => k0_hw113 k0_h2

def k0_chk114 (v131 : BitVec 32) (v137 : BitVec 32) (v817 : IVec S16 32) : Prop :=
  (∀ (k0_h2 : ¬(k0_cond2 v131 v137 = 1#1)), ∀ a x, ((![v817] : Fin 1 → IVec S16 32) a x).toNat < S49168.size a)
theorem k0_idx114_inb : ∀ (v131 : BitVec 32) (v137 : BitVec 32) (v817 : IVec S16 32) (k0_hw114 : k0_chk114 v131 v137 v817), ∀ (k0_h2 : ¬(k0_cond2 v131 v137 = 1#1)), ∀ a x, ((![v817] : Fin 1 → IVec S16 32) a x).toNat < S49168.size a := fun v131 v137 v817 k0_hw114 k0_h2 => k0_hw114 k0_h2
def k0_off45 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c592_i32 : BitVec 32 := 592#32
  let v818 : BitVec 32 := Scalar.addi v127 c592_i32
  let v819 : Index := Scalar.indexCast v818
  ![v819.toNat]

def k0_chk115 (v131 : BitVec 32) (v137 : BitVec 32) (v831 : IVec S16 32) : Prop :=
  (∀ (k0_h2 : ¬(k0_cond2 v131 v137 = 1#1)), ∀ a x, ((![v831] : Fin 1 → IVec S16 32) a x).toNat < S49168.size a)
theorem k0_idx115_inb : ∀ (v131 : BitVec 32) (v137 : BitVec 32) (v831 : IVec S16 32) (k0_hw115 : k0_chk115 v131 v137 v831), ∀ (k0_h2 : ¬(k0_cond2 v131 v137 = 1#1)), ∀ a x, ((![v831] : Fin 1 → IVec S16 32) a x).toNat < S49168.size a := fun v131 v137 v831 k0_hw115 k0_h2 => k0_hw115 k0_h2

def k0_chk116 (v131 : BitVec 32) (v137 : BitVec 32) (v833 : IVec S16 32) : Prop :=
  (∀ (k0_h2 : ¬(k0_cond2 v131 v137 = 1#1)), ∀ a x, ((![v833] : Fin 1 → IVec S16 32) a x).toNat < S49168.size a)
theorem k0_idx116_inb : ∀ (v131 : BitVec 32) (v137 : BitVec 32) (v833 : IVec S16 32) (k0_hw116 : k0_chk116 v131 v137 v833), ∀ (k0_h2 : ¬(k0_cond2 v131 v137 = 1#1)), ∀ a x, ((![v833] : Fin 1 → IVec S16 32) a x).toNat < S49168.size a := fun v131 v137 v833 k0_hw116 k0_h2 => k0_hw116 k0_h2

def k0_chk117 (v131 : BitVec 32) (v137 : BitVec 32) (v835 : IVec S16 32) : Prop :=
  (∀ (k0_h2 : ¬(k0_cond2 v131 v137 = 1#1)), ∀ a x, ((![v835] : Fin 1 → IVec S16 32) a x).toNat < S49168.size a)
theorem k0_idx117_inb : ∀ (v131 : BitVec 32) (v137 : BitVec 32) (v835 : IVec S16 32) (k0_hw117 : k0_chk117 v131 v137 v835), ∀ (k0_h2 : ¬(k0_cond2 v131 v137 = 1#1)), ∀ a x, ((![v835] : Fin 1 → IVec S16 32) a x).toNat < S49168.size a := fun v131 v137 v835 k0_hw117 k0_h2 => k0_hw117 k0_h2
def k0_off46 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c608_i32 : BitVec 32 := 608#32
  let v836 : BitVec 32 := Scalar.addi v127 c608_i32
  let v837 : Index := Scalar.indexCast v836
  ![v837.toNat]

def k0_chk118 (v131 : BitVec 32) (v137 : BitVec 32) (v849 : IVec S16 32) : Prop :=
  (∀ (k0_h2 : ¬(k0_cond2 v131 v137 = 1#1)), ∀ a x, ((![v849] : Fin 1 → IVec S16 32) a x).toNat < S49168.size a)
theorem k0_idx118_inb : ∀ (v131 : BitVec 32) (v137 : BitVec 32) (v849 : IVec S16 32) (k0_hw118 : k0_chk118 v131 v137 v849), ∀ (k0_h2 : ¬(k0_cond2 v131 v137 = 1#1)), ∀ a x, ((![v849] : Fin 1 → IVec S16 32) a x).toNat < S49168.size a := fun v131 v137 v849 k0_hw118 k0_h2 => k0_hw118 k0_h2

def k0_chk119 (v131 : BitVec 32) (v137 : BitVec 32) (v851 : IVec S16 32) : Prop :=
  (∀ (k0_h2 : ¬(k0_cond2 v131 v137 = 1#1)), ∀ a x, ((![v851] : Fin 1 → IVec S16 32) a x).toNat < S49168.size a)
theorem k0_idx119_inb : ∀ (v131 : BitVec 32) (v137 : BitVec 32) (v851 : IVec S16 32) (k0_hw119 : k0_chk119 v131 v137 v851), ∀ (k0_h2 : ¬(k0_cond2 v131 v137 = 1#1)), ∀ a x, ((![v851] : Fin 1 → IVec S16 32) a x).toNat < S49168.size a := fun v131 v137 v851 k0_hw119 k0_h2 => k0_hw119 k0_h2

def k0_chk120 (v131 : BitVec 32) (v137 : BitVec 32) (v853 : IVec S16 32) : Prop :=
  (∀ (k0_h2 : ¬(k0_cond2 v131 v137 = 1#1)), ∀ a x, ((![v853] : Fin 1 → IVec S16 32) a x).toNat < S49168.size a)
theorem k0_idx120_inb : ∀ (v131 : BitVec 32) (v137 : BitVec 32) (v853 : IVec S16 32) (k0_hw120 : k0_chk120 v131 v137 v853), ∀ (k0_h2 : ¬(k0_cond2 v131 v137 = 1#1)), ∀ a x, ((![v853] : Fin 1 → IVec S16 32) a x).toNat < S49168.size a := fun v131 v137 v853 k0_hw120 k0_h2 => k0_hw120 k0_h2
def k0_off47 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c624_i32 : BitVec 32 := 624#32
  let v854 : BitVec 32 := Scalar.addi v127 c624_i32
  let v855 : Index := Scalar.indexCast v854
  ![v855.toNat]

def k0_chk121 (v131 : BitVec 32) (v137 : BitVec 32) (v867 : IVec S16 32) : Prop :=
  (∀ (k0_h2 : ¬(k0_cond2 v131 v137 = 1#1)), ∀ a x, ((![v867] : Fin 1 → IVec S16 32) a x).toNat < S49168.size a)
theorem k0_idx121_inb : ∀ (v131 : BitVec 32) (v137 : BitVec 32) (v867 : IVec S16 32) (k0_hw121 : k0_chk121 v131 v137 v867), ∀ (k0_h2 : ¬(k0_cond2 v131 v137 = 1#1)), ∀ a x, ((![v867] : Fin 1 → IVec S16 32) a x).toNat < S49168.size a := fun v131 v137 v867 k0_hw121 k0_h2 => k0_hw121 k0_h2

def k0_chk122 (v131 : BitVec 32) (v137 : BitVec 32) (v869 : IVec S16 32) : Prop :=
  (∀ (k0_h2 : ¬(k0_cond2 v131 v137 = 1#1)), ∀ a x, ((![v869] : Fin 1 → IVec S16 32) a x).toNat < S49168.size a)
theorem k0_idx122_inb : ∀ (v131 : BitVec 32) (v137 : BitVec 32) (v869 : IVec S16 32) (k0_hw122 : k0_chk122 v131 v137 v869), ∀ (k0_h2 : ¬(k0_cond2 v131 v137 = 1#1)), ∀ a x, ((![v869] : Fin 1 → IVec S16 32) a x).toNat < S49168.size a := fun v131 v137 v869 k0_hw122 k0_h2 => k0_hw122 k0_h2

def k0_chk123 (v131 : BitVec 32) (v137 : BitVec 32) (v871 : IVec S16 32) : Prop :=
  (∀ (k0_h2 : ¬(k0_cond2 v131 v137 = 1#1)), ∀ a x, ((![v871] : Fin 1 → IVec S16 32) a x).toNat < S49168.size a)
theorem k0_idx123_inb : ∀ (v131 : BitVec 32) (v137 : BitVec 32) (v871 : IVec S16 32) (k0_hw123 : k0_chk123 v131 v137 v871), ∀ (k0_h2 : ¬(k0_cond2 v131 v137 = 1#1)), ∀ a x, ((![v871] : Fin 1 → IVec S16 32) a x).toNat < S49168.size a := fun v131 v137 v871 k0_hw123 k0_h2 => k0_hw123 k0_h2
def k0_off48 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c640_i32 : BitVec 32 := 640#32
  let v872 : BitVec 32 := Scalar.addi v127 c640_i32
  let v873 : Index := Scalar.indexCast v872
  ![v873.toNat]

def k0_chk124 (v131 : BitVec 32) (v137 : BitVec 32) (v885 : IVec S16 32) : Prop :=
  (∀ (k0_h2 : ¬(k0_cond2 v131 v137 = 1#1)), ∀ a x, ((![v885] : Fin 1 → IVec S16 32) a x).toNat < S49168.size a)
theorem k0_idx124_inb : ∀ (v131 : BitVec 32) (v137 : BitVec 32) (v885 : IVec S16 32) (k0_hw124 : k0_chk124 v131 v137 v885), ∀ (k0_h2 : ¬(k0_cond2 v131 v137 = 1#1)), ∀ a x, ((![v885] : Fin 1 → IVec S16 32) a x).toNat < S49168.size a := fun v131 v137 v885 k0_hw124 k0_h2 => k0_hw124 k0_h2

def k0_chk125 (v131 : BitVec 32) (v137 : BitVec 32) (v887 : IVec S16 32) : Prop :=
  (∀ (k0_h2 : ¬(k0_cond2 v131 v137 = 1#1)), ∀ a x, ((![v887] : Fin 1 → IVec S16 32) a x).toNat < S49168.size a)
theorem k0_idx125_inb : ∀ (v131 : BitVec 32) (v137 : BitVec 32) (v887 : IVec S16 32) (k0_hw125 : k0_chk125 v131 v137 v887), ∀ (k0_h2 : ¬(k0_cond2 v131 v137 = 1#1)), ∀ a x, ((![v887] : Fin 1 → IVec S16 32) a x).toNat < S49168.size a := fun v131 v137 v887 k0_hw125 k0_h2 => k0_hw125 k0_h2

def k0_chk126 (v131 : BitVec 32) (v137 : BitVec 32) (v889 : IVec S16 32) : Prop :=
  (∀ (k0_h2 : ¬(k0_cond2 v131 v137 = 1#1)), ∀ a x, ((![v889] : Fin 1 → IVec S16 32) a x).toNat < S49168.size a)
theorem k0_idx126_inb : ∀ (v131 : BitVec 32) (v137 : BitVec 32) (v889 : IVec S16 32) (k0_hw126 : k0_chk126 v131 v137 v889), ∀ (k0_h2 : ¬(k0_cond2 v131 v137 = 1#1)), ∀ a x, ((![v889] : Fin 1 → IVec S16 32) a x).toNat < S49168.size a := fun v131 v137 v889 k0_hw126 k0_h2 => k0_hw126 k0_h2
def k0_off49 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c656_i32 : BitVec 32 := 656#32
  let v890 : BitVec 32 := Scalar.addi v127 c656_i32
  let v891 : Index := Scalar.indexCast v890
  ![v891.toNat]

def k0_chk127 (v131 : BitVec 32) (v137 : BitVec 32) (v903 : IVec S16 32) : Prop :=
  (∀ (k0_h2 : ¬(k0_cond2 v131 v137 = 1#1)), ∀ a x, ((![v903] : Fin 1 → IVec S16 32) a x).toNat < S49168.size a)
theorem k0_idx127_inb : ∀ (v131 : BitVec 32) (v137 : BitVec 32) (v903 : IVec S16 32) (k0_hw127 : k0_chk127 v131 v137 v903), ∀ (k0_h2 : ¬(k0_cond2 v131 v137 = 1#1)), ∀ a x, ((![v903] : Fin 1 → IVec S16 32) a x).toNat < S49168.size a := fun v131 v137 v903 k0_hw127 k0_h2 => k0_hw127 k0_h2

def k0_chk128 (v131 : BitVec 32) (v137 : BitVec 32) (v905 : IVec S16 32) : Prop :=
  (∀ (k0_h2 : ¬(k0_cond2 v131 v137 = 1#1)), ∀ a x, ((![v905] : Fin 1 → IVec S16 32) a x).toNat < S49168.size a)
theorem k0_idx128_inb : ∀ (v131 : BitVec 32) (v137 : BitVec 32) (v905 : IVec S16 32) (k0_hw128 : k0_chk128 v131 v137 v905), ∀ (k0_h2 : ¬(k0_cond2 v131 v137 = 1#1)), ∀ a x, ((![v905] : Fin 1 → IVec S16 32) a x).toNat < S49168.size a := fun v131 v137 v905 k0_hw128 k0_h2 => k0_hw128 k0_h2

def k0_chk129 (v131 : BitVec 32) (v137 : BitVec 32) (v907 : IVec S16 32) : Prop :=
  (∀ (k0_h2 : ¬(k0_cond2 v131 v137 = 1#1)), ∀ a x, ((![v907] : Fin 1 → IVec S16 32) a x).toNat < S49168.size a)
theorem k0_idx129_inb : ∀ (v131 : BitVec 32) (v137 : BitVec 32) (v907 : IVec S16 32) (k0_hw129 : k0_chk129 v131 v137 v907), ∀ (k0_h2 : ¬(k0_cond2 v131 v137 = 1#1)), ∀ a x, ((![v907] : Fin 1 → IVec S16 32) a x).toNat < S49168.size a := fun v131 v137 v907 k0_hw129 k0_h2 => k0_hw129 k0_h2
def k0_off50 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c672_i32 : BitVec 32 := 672#32
  let v908 : BitVec 32 := Scalar.addi v127 c672_i32
  let v909 : Index := Scalar.indexCast v908
  ![v909.toNat]

def k0_chk130 (v131 : BitVec 32) (v137 : BitVec 32) (v921 : IVec S16 32) : Prop :=
  (∀ (k0_h2 : ¬(k0_cond2 v131 v137 = 1#1)), ∀ a x, ((![v921] : Fin 1 → IVec S16 32) a x).toNat < S49168.size a)
theorem k0_idx130_inb : ∀ (v131 : BitVec 32) (v137 : BitVec 32) (v921 : IVec S16 32) (k0_hw130 : k0_chk130 v131 v137 v921), ∀ (k0_h2 : ¬(k0_cond2 v131 v137 = 1#1)), ∀ a x, ((![v921] : Fin 1 → IVec S16 32) a x).toNat < S49168.size a := fun v131 v137 v921 k0_hw130 k0_h2 => k0_hw130 k0_h2

def k0_chk131 (v131 : BitVec 32) (v137 : BitVec 32) (v923 : IVec S16 32) : Prop :=
  (∀ (k0_h2 : ¬(k0_cond2 v131 v137 = 1#1)), ∀ a x, ((![v923] : Fin 1 → IVec S16 32) a x).toNat < S49168.size a)
theorem k0_idx131_inb : ∀ (v131 : BitVec 32) (v137 : BitVec 32) (v923 : IVec S16 32) (k0_hw131 : k0_chk131 v131 v137 v923), ∀ (k0_h2 : ¬(k0_cond2 v131 v137 = 1#1)), ∀ a x, ((![v923] : Fin 1 → IVec S16 32) a x).toNat < S49168.size a := fun v131 v137 v923 k0_hw131 k0_h2 => k0_hw131 k0_h2

def k0_chk132 (v131 : BitVec 32) (v137 : BitVec 32) (v925 : IVec S16 32) : Prop :=
  (∀ (k0_h2 : ¬(k0_cond2 v131 v137 = 1#1)), ∀ a x, ((![v925] : Fin 1 → IVec S16 32) a x).toNat < S49168.size a)
theorem k0_idx132_inb : ∀ (v131 : BitVec 32) (v137 : BitVec 32) (v925 : IVec S16 32) (k0_hw132 : k0_chk132 v131 v137 v925), ∀ (k0_h2 : ¬(k0_cond2 v131 v137 = 1#1)), ∀ a x, ((![v925] : Fin 1 → IVec S16 32) a x).toNat < S49168.size a := fun v131 v137 v925 k0_hw132 k0_h2 => k0_hw132 k0_h2
def k0_off51 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c688_i32 : BitVec 32 := 688#32
  let v926 : BitVec 32 := Scalar.addi v127 c688_i32
  let v927 : Index := Scalar.indexCast v926
  ![v927.toNat]

def k0_chk133 (v131 : BitVec 32) (v137 : BitVec 32) (v939 : IVec S16 32) : Prop :=
  (∀ (k0_h2 : ¬(k0_cond2 v131 v137 = 1#1)), ∀ a x, ((![v939] : Fin 1 → IVec S16 32) a x).toNat < S49168.size a)
theorem k0_idx133_inb : ∀ (v131 : BitVec 32) (v137 : BitVec 32) (v939 : IVec S16 32) (k0_hw133 : k0_chk133 v131 v137 v939), ∀ (k0_h2 : ¬(k0_cond2 v131 v137 = 1#1)), ∀ a x, ((![v939] : Fin 1 → IVec S16 32) a x).toNat < S49168.size a := fun v131 v137 v939 k0_hw133 k0_h2 => k0_hw133 k0_h2

def k0_chk134 (v131 : BitVec 32) (v137 : BitVec 32) (v941 : IVec S16 32) : Prop :=
  (∀ (k0_h2 : ¬(k0_cond2 v131 v137 = 1#1)), ∀ a x, ((![v941] : Fin 1 → IVec S16 32) a x).toNat < S49168.size a)
theorem k0_idx134_inb : ∀ (v131 : BitVec 32) (v137 : BitVec 32) (v941 : IVec S16 32) (k0_hw134 : k0_chk134 v131 v137 v941), ∀ (k0_h2 : ¬(k0_cond2 v131 v137 = 1#1)), ∀ a x, ((![v941] : Fin 1 → IVec S16 32) a x).toNat < S49168.size a := fun v131 v137 v941 k0_hw134 k0_h2 => k0_hw134 k0_h2

def k0_chk135 (v131 : BitVec 32) (v137 : BitVec 32) (v943 : IVec S16 32) : Prop :=
  (∀ (k0_h2 : ¬(k0_cond2 v131 v137 = 1#1)), ∀ a x, ((![v943] : Fin 1 → IVec S16 32) a x).toNat < S49168.size a)
theorem k0_idx135_inb : ∀ (v131 : BitVec 32) (v137 : BitVec 32) (v943 : IVec S16 32) (k0_hw135 : k0_chk135 v131 v137 v943), ∀ (k0_h2 : ¬(k0_cond2 v131 v137 = 1#1)), ∀ a x, ((![v943] : Fin 1 → IVec S16 32) a x).toNat < S49168.size a := fun v131 v137 v943 k0_hw135 k0_h2 => k0_hw135 k0_h2
def k0_off52 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c704_i32 : BitVec 32 := 704#32
  let v944 : BitVec 32 := Scalar.addi v127 c704_i32
  let v945 : Index := Scalar.indexCast v944
  ![v945.toNat]

def k0_chk136 (v131 : BitVec 32) (v137 : BitVec 32) (v957 : IVec S16 32) : Prop :=
  (∀ (k0_h2 : ¬(k0_cond2 v131 v137 = 1#1)), ∀ a x, ((![v957] : Fin 1 → IVec S16 32) a x).toNat < S49168.size a)
theorem k0_idx136_inb : ∀ (v131 : BitVec 32) (v137 : BitVec 32) (v957 : IVec S16 32) (k0_hw136 : k0_chk136 v131 v137 v957), ∀ (k0_h2 : ¬(k0_cond2 v131 v137 = 1#1)), ∀ a x, ((![v957] : Fin 1 → IVec S16 32) a x).toNat < S49168.size a := fun v131 v137 v957 k0_hw136 k0_h2 => k0_hw136 k0_h2

def k0_chk137 (v131 : BitVec 32) (v137 : BitVec 32) (v959 : IVec S16 32) : Prop :=
  (∀ (k0_h2 : ¬(k0_cond2 v131 v137 = 1#1)), ∀ a x, ((![v959] : Fin 1 → IVec S16 32) a x).toNat < S49168.size a)
theorem k0_idx137_inb : ∀ (v131 : BitVec 32) (v137 : BitVec 32) (v959 : IVec S16 32) (k0_hw137 : k0_chk137 v131 v137 v959), ∀ (k0_h2 : ¬(k0_cond2 v131 v137 = 1#1)), ∀ a x, ((![v959] : Fin 1 → IVec S16 32) a x).toNat < S49168.size a := fun v131 v137 v959 k0_hw137 k0_h2 => k0_hw137 k0_h2

def k0_chk138 (v131 : BitVec 32) (v137 : BitVec 32) (v961 : IVec S16 32) : Prop :=
  (∀ (k0_h2 : ¬(k0_cond2 v131 v137 = 1#1)), ∀ a x, ((![v961] : Fin 1 → IVec S16 32) a x).toNat < S49168.size a)
theorem k0_idx138_inb : ∀ (v131 : BitVec 32) (v137 : BitVec 32) (v961 : IVec S16 32) (k0_hw138 : k0_chk138 v131 v137 v961), ∀ (k0_h2 : ¬(k0_cond2 v131 v137 = 1#1)), ∀ a x, ((![v961] : Fin 1 → IVec S16 32) a x).toNat < S49168.size a := fun v131 v137 v961 k0_hw138 k0_h2 => k0_hw138 k0_h2
def k0_off53 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c720_i32 : BitVec 32 := 720#32
  let v962 : BitVec 32 := Scalar.addi v127 c720_i32
  let v963 : Index := Scalar.indexCast v962
  ![v963.toNat]

def k0_chk139 (v131 : BitVec 32) (v137 : BitVec 32) (v975 : IVec S16 32) : Prop :=
  (∀ (k0_h2 : ¬(k0_cond2 v131 v137 = 1#1)), ∀ a x, ((![v975] : Fin 1 → IVec S16 32) a x).toNat < S49168.size a)
theorem k0_idx139_inb : ∀ (v131 : BitVec 32) (v137 : BitVec 32) (v975 : IVec S16 32) (k0_hw139 : k0_chk139 v131 v137 v975), ∀ (k0_h2 : ¬(k0_cond2 v131 v137 = 1#1)), ∀ a x, ((![v975] : Fin 1 → IVec S16 32) a x).toNat < S49168.size a := fun v131 v137 v975 k0_hw139 k0_h2 => k0_hw139 k0_h2

def k0_chk140 (v131 : BitVec 32) (v137 : BitVec 32) (v977 : IVec S16 32) : Prop :=
  (∀ (k0_h2 : ¬(k0_cond2 v131 v137 = 1#1)), ∀ a x, ((![v977] : Fin 1 → IVec S16 32) a x).toNat < S49168.size a)
theorem k0_idx140_inb : ∀ (v131 : BitVec 32) (v137 : BitVec 32) (v977 : IVec S16 32) (k0_hw140 : k0_chk140 v131 v137 v977), ∀ (k0_h2 : ¬(k0_cond2 v131 v137 = 1#1)), ∀ a x, ((![v977] : Fin 1 → IVec S16 32) a x).toNat < S49168.size a := fun v131 v137 v977 k0_hw140 k0_h2 => k0_hw140 k0_h2

def k0_chk141 (v131 : BitVec 32) (v137 : BitVec 32) (v979 : IVec S16 32) : Prop :=
  (∀ (k0_h2 : ¬(k0_cond2 v131 v137 = 1#1)), ∀ a x, ((![v979] : Fin 1 → IVec S16 32) a x).toNat < S49168.size a)
theorem k0_idx141_inb : ∀ (v131 : BitVec 32) (v137 : BitVec 32) (v979 : IVec S16 32) (k0_hw141 : k0_chk141 v131 v137 v979), ∀ (k0_h2 : ¬(k0_cond2 v131 v137 = 1#1)), ∀ a x, ((![v979] : Fin 1 → IVec S16 32) a x).toNat < S49168.size a := fun v131 v137 v979 k0_hw141 k0_h2 => k0_hw141 k0_h2
def k0_off54 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c736_i32 : BitVec 32 := 736#32
  let v980 : BitVec 32 := Scalar.addi v127 c736_i32
  let v981 : Index := Scalar.indexCast v980
  ![v981.toNat]

def k0_chk142 (v131 : BitVec 32) (v137 : BitVec 32) (v993 : IVec S16 32) : Prop :=
  (∀ (k0_h2 : ¬(k0_cond2 v131 v137 = 1#1)), ∀ a x, ((![v993] : Fin 1 → IVec S16 32) a x).toNat < S49168.size a)
theorem k0_idx142_inb : ∀ (v131 : BitVec 32) (v137 : BitVec 32) (v993 : IVec S16 32) (k0_hw142 : k0_chk142 v131 v137 v993), ∀ (k0_h2 : ¬(k0_cond2 v131 v137 = 1#1)), ∀ a x, ((![v993] : Fin 1 → IVec S16 32) a x).toNat < S49168.size a := fun v131 v137 v993 k0_hw142 k0_h2 => k0_hw142 k0_h2

def k0_chk143 (v131 : BitVec 32) (v137 : BitVec 32) (v995 : IVec S16 32) : Prop :=
  (∀ (k0_h2 : ¬(k0_cond2 v131 v137 = 1#1)), ∀ a x, ((![v995] : Fin 1 → IVec S16 32) a x).toNat < S49168.size a)
theorem k0_idx143_inb : ∀ (v131 : BitVec 32) (v137 : BitVec 32) (v995 : IVec S16 32) (k0_hw143 : k0_chk143 v131 v137 v995), ∀ (k0_h2 : ¬(k0_cond2 v131 v137 = 1#1)), ∀ a x, ((![v995] : Fin 1 → IVec S16 32) a x).toNat < S49168.size a := fun v131 v137 v995 k0_hw143 k0_h2 => k0_hw143 k0_h2

def k0_chk144 (v131 : BitVec 32) (v137 : BitVec 32) (v997 : IVec S16 32) : Prop :=
  (∀ (k0_h2 : ¬(k0_cond2 v131 v137 = 1#1)), ∀ a x, ((![v997] : Fin 1 → IVec S16 32) a x).toNat < S49168.size a)
theorem k0_idx144_inb : ∀ (v131 : BitVec 32) (v137 : BitVec 32) (v997 : IVec S16 32) (k0_hw144 : k0_chk144 v131 v137 v997), ∀ (k0_h2 : ¬(k0_cond2 v131 v137 = 1#1)), ∀ a x, ((![v997] : Fin 1 → IVec S16 32) a x).toNat < S49168.size a := fun v131 v137 v997 k0_hw144 k0_h2 => k0_hw144 k0_h2
def k0_off55 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c752_i32 : BitVec 32 := 752#32
  let v998 : BitVec 32 := Scalar.addi v127 c752_i32
  let v999 : Index := Scalar.indexCast v998
  ![v999.toNat]

def k0_chk145 (v131 : BitVec 32) (v137 : BitVec 32) (v1011 : IVec S16 32) : Prop :=
  (∀ (k0_h2 : ¬(k0_cond2 v131 v137 = 1#1)), ∀ a x, ((![v1011] : Fin 1 → IVec S16 32) a x).toNat < S49168.size a)
theorem k0_idx145_inb : ∀ (v131 : BitVec 32) (v137 : BitVec 32) (v1011 : IVec S16 32) (k0_hw145 : k0_chk145 v131 v137 v1011), ∀ (k0_h2 : ¬(k0_cond2 v131 v137 = 1#1)), ∀ a x, ((![v1011] : Fin 1 → IVec S16 32) a x).toNat < S49168.size a := fun v131 v137 v1011 k0_hw145 k0_h2 => k0_hw145 k0_h2

def k0_chk146 (v131 : BitVec 32) (v137 : BitVec 32) (v1013 : IVec S16 32) : Prop :=
  (∀ (k0_h2 : ¬(k0_cond2 v131 v137 = 1#1)), ∀ a x, ((![v1013] : Fin 1 → IVec S16 32) a x).toNat < S49168.size a)
theorem k0_idx146_inb : ∀ (v131 : BitVec 32) (v137 : BitVec 32) (v1013 : IVec S16 32) (k0_hw146 : k0_chk146 v131 v137 v1013), ∀ (k0_h2 : ¬(k0_cond2 v131 v137 = 1#1)), ∀ a x, ((![v1013] : Fin 1 → IVec S16 32) a x).toNat < S49168.size a := fun v131 v137 v1013 k0_hw146 k0_h2 => k0_hw146 k0_h2

def k0_chk147 (v131 : BitVec 32) (v137 : BitVec 32) (v1015 : IVec S16 32) : Prop :=
  (∀ (k0_h2 : ¬(k0_cond2 v131 v137 = 1#1)), ∀ a x, ((![v1015] : Fin 1 → IVec S16 32) a x).toNat < S49168.size a)
theorem k0_idx147_inb : ∀ (v131 : BitVec 32) (v137 : BitVec 32) (v1015 : IVec S16 32) (k0_hw147 : k0_chk147 v131 v137 v1015), ∀ (k0_h2 : ¬(k0_cond2 v131 v137 = 1#1)), ∀ a x, ((![v1015] : Fin 1 → IVec S16 32) a x).toNat < S49168.size a := fun v131 v137 v1015 k0_hw147 k0_h2 => k0_hw147 k0_h2
def k0_off56 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c768_i32 : BitVec 32 := 768#32
  let v1016 : BitVec 32 := Scalar.addi v127 c768_i32
  let v1017 : Index := Scalar.indexCast v1016
  ![v1017.toNat]

def k0_chk148 (v131 : BitVec 32) (v137 : BitVec 32) (v1029 : IVec S16 32) : Prop :=
  (∀ (k0_h2 : ¬(k0_cond2 v131 v137 = 1#1)), ∀ a x, ((![v1029] : Fin 1 → IVec S16 32) a x).toNat < S49168.size a)
theorem k0_idx148_inb : ∀ (v131 : BitVec 32) (v137 : BitVec 32) (v1029 : IVec S16 32) (k0_hw148 : k0_chk148 v131 v137 v1029), ∀ (k0_h2 : ¬(k0_cond2 v131 v137 = 1#1)), ∀ a x, ((![v1029] : Fin 1 → IVec S16 32) a x).toNat < S49168.size a := fun v131 v137 v1029 k0_hw148 k0_h2 => k0_hw148 k0_h2

def k0_chk149 (v131 : BitVec 32) (v137 : BitVec 32) (v1031 : IVec S16 32) : Prop :=
  (∀ (k0_h2 : ¬(k0_cond2 v131 v137 = 1#1)), ∀ a x, ((![v1031] : Fin 1 → IVec S16 32) a x).toNat < S49168.size a)
theorem k0_idx149_inb : ∀ (v131 : BitVec 32) (v137 : BitVec 32) (v1031 : IVec S16 32) (k0_hw149 : k0_chk149 v131 v137 v1031), ∀ (k0_h2 : ¬(k0_cond2 v131 v137 = 1#1)), ∀ a x, ((![v1031] : Fin 1 → IVec S16 32) a x).toNat < S49168.size a := fun v131 v137 v1031 k0_hw149 k0_h2 => k0_hw149 k0_h2

def k0_chk150 (v131 : BitVec 32) (v137 : BitVec 32) (v1033 : IVec S16 32) : Prop :=
  (∀ (k0_h2 : ¬(k0_cond2 v131 v137 = 1#1)), ∀ a x, ((![v1033] : Fin 1 → IVec S16 32) a x).toNat < S49168.size a)
theorem k0_idx150_inb : ∀ (v131 : BitVec 32) (v137 : BitVec 32) (v1033 : IVec S16 32) (k0_hw150 : k0_chk150 v131 v137 v1033), ∀ (k0_h2 : ¬(k0_cond2 v131 v137 = 1#1)), ∀ a x, ((![v1033] : Fin 1 → IVec S16 32) a x).toNat < S49168.size a := fun v131 v137 v1033 k0_hw150 k0_h2 => k0_hw150 k0_h2
def k0_off57 (k0_t3 : Fin k0_t3_loop.trips) : Fin 1 → Nat :=
  let c0_i32_75 : BitVec 32 := 0#32
  let c0_i32_52 : BitVec 32 := 0#32
  let c1_i32_53 : BitVec 32 := 1#32
  let arg20 : BitVec 32 := Scf.iv c0_i32_52 c1_i32_53 k0_t3
  let c800_i32 : BitVec 32 := 800#32
  let v126 : BitVec 32 := Scalar.muli arg20 c800_i32
  let v127 : BitVec 32 := Scalar.addi c0_i32_75 v126
  let c784_i32 : BitVec 32 := 784#32
  let v1034 : BitVec 32 := Scalar.addi v127 c784_i32
  let v1035 : Index := Scalar.indexCast v1034
  ![v1035.toNat]

def k0_chk151 (v131 : BitVec 32) (v137 : BitVec 32) (v1047 : IVec S16 32) : Prop :=
  (∀ (k0_h2 : ¬(k0_cond2 v131 v137 = 1#1)), ∀ a x, ((![v1047] : Fin 1 → IVec S16 32) a x).toNat < S49168.size a)
theorem k0_idx151_inb : ∀ (v131 : BitVec 32) (v137 : BitVec 32) (v1047 : IVec S16 32) (k0_hw151 : k0_chk151 v131 v137 v1047), ∀ (k0_h2 : ¬(k0_cond2 v131 v137 = 1#1)), ∀ a x, ((![v1047] : Fin 1 → IVec S16 32) a x).toNat < S49168.size a := fun v131 v137 v1047 k0_hw151 k0_h2 => k0_hw151 k0_h2

def k0_chk152 (v131 : BitVec 32) (v137 : BitVec 32) (v1049 : IVec S16 32) : Prop :=
  (∀ (k0_h2 : ¬(k0_cond2 v131 v137 = 1#1)), ∀ a x, ((![v1049] : Fin 1 → IVec S16 32) a x).toNat < S49168.size a)
theorem k0_idx152_inb : ∀ (v131 : BitVec 32) (v137 : BitVec 32) (v1049 : IVec S16 32) (k0_hw152 : k0_chk152 v131 v137 v1049), ∀ (k0_h2 : ¬(k0_cond2 v131 v137 = 1#1)), ∀ a x, ((![v1049] : Fin 1 → IVec S16 32) a x).toNat < S49168.size a := fun v131 v137 v1049 k0_hw152 k0_h2 => k0_hw152 k0_h2

def k0_chk153 (v131 : BitVec 32) (v137 : BitVec 32) (v1051 : IVec S16 32) : Prop :=
  (∀ (k0_h2 : ¬(k0_cond2 v131 v137 = 1#1)), ∀ a x, ((![v1051] : Fin 1 → IVec S16 32) a x).toNat < S49168.size a)
theorem k0_idx153_inb : ∀ (v131 : BitVec 32) (v137 : BitVec 32) (v1051 : IVec S16 32) (k0_hw153 : k0_chk153 v131 v137 v1051), ∀ (k0_h2 : ¬(k0_cond2 v131 v137 = 1#1)), ∀ a x, ((![v1051] : Fin 1 → IVec S16 32) a x).toNat < S49168.size a := fun v131 v137 v1051 k0_hw153 k0_h2 => k0_hw153 k0_h2
def k0_cond3 (k0_t2 : Fin k0_t2_loop.trips) : BitVec 1 :=
  let c0_i32_18 : BitVec 32 := 0#32
  let c1_i32_19 : BitVec 32 := 1#32
  let arg15 : BitVec 32 := Scf.iv c0_i32_18 c1_i32_19 k0_t2
  let c1_i32_55 : BitVec 32 := 1#32
  let v95 : BitVec 32 := Scalar.addi arg15 c1_i32_55
  let c25_i32_56 : BitVec 32 := 25#32
  let v96 : BitVec 1 := Scalar.cmpi .slt v95 c25_i32_56
  let v97 : BitVec 32 := Scalar.extui v96
  let c0_i32_57 : BitVec 32 := 0#32
  let v98 : BitVec 1 := Scalar.cmpi .ne v97 c0_i32_57
  v98

def k0_off58 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c0_i32_18 : BitVec 32 := 0#32
  let c1_i32_19 : BitVec 32 := 1#32
  let arg15 : BitVec 32 := Scf.iv c0_i32_18 c1_i32_19 k0_t2
  let c2_i32_27 : BitVec 32 := 2#32
  let v43 : BitVec 32 := Scalar.muli arg15 c2_i32_27
  let c2_i32_75 : BitVec 32 := 2#32
  let v126 : BitVec 32 := Scalar.addi v43 c2_i32_75
  let c4000_i32_76 : BitVec 32 := 4000#32
  let v127 : BitVec 32 := Scalar.muli v126 c4000_i32_76
  let v128 : BitVec 32 := Scalar.addi v2 v127
  ![v128.toNat]
@[reducible] def k0_t4_loop : Scf.Loop 32 :=
  let c0_i32_71 : BitVec 32 := 0#32
  let c5_i32_72 : BitVec 32 := 5#32
  let v124 : BitVec 32 := Scalar.addi c0_i32_71 c5_i32_72
  let c1_i32_73 : BitVec 32 := 1#32
  ⟨c0_i32_71, v124, c1_i32_73⟩
def k0_off59 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let v128 : Index := Scalar.indexCast v127
  ![v128.toNat]
def k0_off60 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c800_i32_76 : BitVec 32 := 800#32
  let v132 : BitVec 32 := Scalar.addi v127 c800_i32_76
  let c16_i32 : BitVec 32 := 16#32
  let v133 : BitVec 32 := Scalar.subi v132 c16_i32
  let v134 : Index := Scalar.indexCast v133
  ![v134.toNat]
def k0_cond4 (arg21 : BitVec 32) (v131 : BitVec 32) (v137 : BitVec 32) : BitVec 1 :=
  let v138 : BitVec 1 := Scalar.cmpi .eq v131 v137
  let v_true : BitVec 1 := 1#1
  let v139 : BitVec 1 := Scalar.xori v138 v_true
  let v140 : BitVec 1 := Scalar.cmpi .ne v131 arg21
  let v141 : BitVec 1 := Scalar.ori v139 v140
  let v142 : BitVec 32 := Scalar.extui v141
  let c0_i32_77 : BitVec 32 := 0#32
  let v143 : BitVec 1 := Scalar.cmpi .ne v142 c0_i32_77
  v143

def k0_chk154 (arg21 : BitVec 32) (v131 : BitVec 32) (v137 : BitVec 32) (v153 : IVec S16 32) : Prop :=
  (∀ (k0_h4 : k0_cond4 arg21 v131 v137 = 1#1), ∀ a x, ((![v153] : Fin 1 → IVec S16 32) a x).toNat < S49168.size a)
theorem k0_idx154_inb : ∀ (arg21 : BitVec 32) (v131 : BitVec 32) (v137 : BitVec 32) (v153 : IVec S16 32) (k0_hw154 : k0_chk154 arg21 v131 v137 v153), ∀ (k0_h4 : k0_cond4 arg21 v131 v137 = 1#1), ∀ a x, ((![v153] : Fin 1 → IVec S16 32) a x).toNat < S49168.size a := fun arg21 v131 v137 v153 k0_hw154 k0_h4 => k0_hw154 k0_h4

def k0_chk155 (arg21 : BitVec 32) (v131 : BitVec 32) (v137 : BitVec 32) (v155 : IVec S16 32) : Prop :=
  (∀ (k0_h4 : k0_cond4 arg21 v131 v137 = 1#1), ∀ a x, ((![v155] : Fin 1 → IVec S16 32) a x).toNat < S49168.size a)
theorem k0_idx155_inb : ∀ (arg21 : BitVec 32) (v131 : BitVec 32) (v137 : BitVec 32) (v155 : IVec S16 32) (k0_hw155 : k0_chk155 arg21 v131 v137 v155), ∀ (k0_h4 : k0_cond4 arg21 v131 v137 = 1#1), ∀ a x, ((![v155] : Fin 1 → IVec S16 32) a x).toNat < S49168.size a := fun arg21 v131 v137 v155 k0_hw155 k0_h4 => k0_hw155 k0_h4

def k0_chk156 (arg21 : BitVec 32) (v131 : BitVec 32) (v137 : BitVec 32) (v157 : IVec S16 32) : Prop :=
  (∀ (k0_h4 : k0_cond4 arg21 v131 v137 = 1#1), ∀ a x, ((![v157] : Fin 1 → IVec S16 32) a x).toNat < S49168.size a)
theorem k0_idx156_inb : ∀ (arg21 : BitVec 32) (v131 : BitVec 32) (v137 : BitVec 32) (v157 : IVec S16 32) (k0_hw156 : k0_chk156 arg21 v131 v137 v157), ∀ (k0_h4 : k0_cond4 arg21 v131 v137 = 1#1), ∀ a x, ((![v157] : Fin 1 → IVec S16 32) a x).toNat < S49168.size a := fun arg21 v131 v137 v157 k0_hw156 k0_h4 => k0_hw156 k0_h4
def k0_off61 (k0_t4 : Fin k0_t4_loop.trips) (c0_i32_80 : BitVec 32) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let v152 : BitVec 32 := Scalar.addi v127 c0_i32_80
  let v153 : Index := Scalar.indexCast v152
  ![v153.toNat]
def k0_off62 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c0_i32_80 : BitVec 32 := 0#32
  let v152 : BitVec 32 := Scalar.addi v127 c0_i32_80
  let v153 : Index := Scalar.indexCast v152
  ![v153.toNat]
def k0_cond5 (v131 : BitVec 32) (v137 : BitVec 32) : BitVec 1 :=
  let v138 : BitVec 1 := Scalar.cmpi .eq v131 v137
  let v149 : BitVec 32 := Scalar.extui v138
  let c0_i32_79 : BitVec 32 := 0#32
  let v150 : BitVec 1 := Scalar.cmpi .ne v149 c0_i32_79
  v150

def k0_chk157 (v131 : BitVec 32) (v137 : BitVec 32) (v165 : IVec S16 32) : Prop :=
  (∀ (k0_h5 : ¬(k0_cond5 v131 v137 = 1#1)), ∀ a x, ((![v165] : Fin 1 → IVec S16 32) a x).toNat < S49168.size a)
theorem k0_idx157_inb : ∀ (v131 : BitVec 32) (v137 : BitVec 32) (v165 : IVec S16 32) (k0_hw157 : k0_chk157 v131 v137 v165), ∀ (k0_h5 : ¬(k0_cond5 v131 v137 = 1#1)), ∀ a x, ((![v165] : Fin 1 → IVec S16 32) a x).toNat < S49168.size a := fun v131 v137 v165 k0_hw157 k0_h5 => k0_hw157 k0_h5

def k0_chk158 (v131 : BitVec 32) (v137 : BitVec 32) (v167 : IVec S16 32) : Prop :=
  (∀ (k0_h5 : ¬(k0_cond5 v131 v137 = 1#1)), ∀ a x, ((![v167] : Fin 1 → IVec S16 32) a x).toNat < S49168.size a)
theorem k0_idx158_inb : ∀ (v131 : BitVec 32) (v137 : BitVec 32) (v167 : IVec S16 32) (k0_hw158 : k0_chk158 v131 v137 v167), ∀ (k0_h5 : ¬(k0_cond5 v131 v137 = 1#1)), ∀ a x, ((![v167] : Fin 1 → IVec S16 32) a x).toNat < S49168.size a := fun v131 v137 v167 k0_hw158 k0_h5 => k0_hw158 k0_h5

def k0_chk159 (v131 : BitVec 32) (v137 : BitVec 32) (v169 : IVec S16 32) : Prop :=
  (∀ (k0_h5 : ¬(k0_cond5 v131 v137 = 1#1)), ∀ a x, ((![v169] : Fin 1 → IVec S16 32) a x).toNat < S49168.size a)
theorem k0_idx159_inb : ∀ (v131 : BitVec 32) (v137 : BitVec 32) (v169 : IVec S16 32) (k0_hw159 : k0_chk159 v131 v137 v169), ∀ (k0_h5 : ¬(k0_cond5 v131 v137 = 1#1)), ∀ a x, ((![v169] : Fin 1 → IVec S16 32) a x).toNat < S49168.size a := fun v131 v137 v169 k0_hw159 k0_h5 => k0_hw159 k0_h5
def k0_off63 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c16_i32_84 : BitVec 32 := 16#32
  let v170 : BitVec 32 := Scalar.addi v127 c16_i32_84
  let v171 : Index := Scalar.indexCast v170
  ![v171.toNat]

def k0_chk160 (v131 : BitVec 32) (v137 : BitVec 32) (v183 : IVec S16 32) : Prop :=
  (∀ (k0_h5 : ¬(k0_cond5 v131 v137 = 1#1)), ∀ a x, ((![v183] : Fin 1 → IVec S16 32) a x).toNat < S49168.size a)
theorem k0_idx160_inb : ∀ (v131 : BitVec 32) (v137 : BitVec 32) (v183 : IVec S16 32) (k0_hw160 : k0_chk160 v131 v137 v183), ∀ (k0_h5 : ¬(k0_cond5 v131 v137 = 1#1)), ∀ a x, ((![v183] : Fin 1 → IVec S16 32) a x).toNat < S49168.size a := fun v131 v137 v183 k0_hw160 k0_h5 => k0_hw160 k0_h5

def k0_chk161 (v131 : BitVec 32) (v137 : BitVec 32) (v185 : IVec S16 32) : Prop :=
  (∀ (k0_h5 : ¬(k0_cond5 v131 v137 = 1#1)), ∀ a x, ((![v185] : Fin 1 → IVec S16 32) a x).toNat < S49168.size a)
theorem k0_idx161_inb : ∀ (v131 : BitVec 32) (v137 : BitVec 32) (v185 : IVec S16 32) (k0_hw161 : k0_chk161 v131 v137 v185), ∀ (k0_h5 : ¬(k0_cond5 v131 v137 = 1#1)), ∀ a x, ((![v185] : Fin 1 → IVec S16 32) a x).toNat < S49168.size a := fun v131 v137 v185 k0_hw161 k0_h5 => k0_hw161 k0_h5

def k0_chk162 (v131 : BitVec 32) (v137 : BitVec 32) (v187 : IVec S16 32) : Prop :=
  (∀ (k0_h5 : ¬(k0_cond5 v131 v137 = 1#1)), ∀ a x, ((![v187] : Fin 1 → IVec S16 32) a x).toNat < S49168.size a)
theorem k0_idx162_inb : ∀ (v131 : BitVec 32) (v137 : BitVec 32) (v187 : IVec S16 32) (k0_hw162 : k0_chk162 v131 v137 v187), ∀ (k0_h5 : ¬(k0_cond5 v131 v137 = 1#1)), ∀ a x, ((![v187] : Fin 1 → IVec S16 32) a x).toNat < S49168.size a := fun v131 v137 v187 k0_hw162 k0_h5 => k0_hw162 k0_h5
def k0_off64 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c32_i32 : BitVec 32 := 32#32
  let v188 : BitVec 32 := Scalar.addi v127 c32_i32
  let v189 : Index := Scalar.indexCast v188
  ![v189.toNat]

def k0_chk163 (v131 : BitVec 32) (v137 : BitVec 32) (v201 : IVec S16 32) : Prop :=
  (∀ (k0_h5 : ¬(k0_cond5 v131 v137 = 1#1)), ∀ a x, ((![v201] : Fin 1 → IVec S16 32) a x).toNat < S49168.size a)
theorem k0_idx163_inb : ∀ (v131 : BitVec 32) (v137 : BitVec 32) (v201 : IVec S16 32) (k0_hw163 : k0_chk163 v131 v137 v201), ∀ (k0_h5 : ¬(k0_cond5 v131 v137 = 1#1)), ∀ a x, ((![v201] : Fin 1 → IVec S16 32) a x).toNat < S49168.size a := fun v131 v137 v201 k0_hw163 k0_h5 => k0_hw163 k0_h5

def k0_chk164 (v131 : BitVec 32) (v137 : BitVec 32) (v203 : IVec S16 32) : Prop :=
  (∀ (k0_h5 : ¬(k0_cond5 v131 v137 = 1#1)), ∀ a x, ((![v203] : Fin 1 → IVec S16 32) a x).toNat < S49168.size a)
theorem k0_idx164_inb : ∀ (v131 : BitVec 32) (v137 : BitVec 32) (v203 : IVec S16 32) (k0_hw164 : k0_chk164 v131 v137 v203), ∀ (k0_h5 : ¬(k0_cond5 v131 v137 = 1#1)), ∀ a x, ((![v203] : Fin 1 → IVec S16 32) a x).toNat < S49168.size a := fun v131 v137 v203 k0_hw164 k0_h5 => k0_hw164 k0_h5

def k0_chk165 (v131 : BitVec 32) (v137 : BitVec 32) (v205 : IVec S16 32) : Prop :=
  (∀ (k0_h5 : ¬(k0_cond5 v131 v137 = 1#1)), ∀ a x, ((![v205] : Fin 1 → IVec S16 32) a x).toNat < S49168.size a)
theorem k0_idx165_inb : ∀ (v131 : BitVec 32) (v137 : BitVec 32) (v205 : IVec S16 32) (k0_hw165 : k0_chk165 v131 v137 v205), ∀ (k0_h5 : ¬(k0_cond5 v131 v137 = 1#1)), ∀ a x, ((![v205] : Fin 1 → IVec S16 32) a x).toNat < S49168.size a := fun v131 v137 v205 k0_hw165 k0_h5 => k0_hw165 k0_h5
def k0_off65 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c48_i32 : BitVec 32 := 48#32
  let v206 : BitVec 32 := Scalar.addi v127 c48_i32
  let v207 : Index := Scalar.indexCast v206
  ![v207.toNat]

def k0_chk166 (v131 : BitVec 32) (v137 : BitVec 32) (v219 : IVec S16 32) : Prop :=
  (∀ (k0_h5 : ¬(k0_cond5 v131 v137 = 1#1)), ∀ a x, ((![v219] : Fin 1 → IVec S16 32) a x).toNat < S49168.size a)
theorem k0_idx166_inb : ∀ (v131 : BitVec 32) (v137 : BitVec 32) (v219 : IVec S16 32) (k0_hw166 : k0_chk166 v131 v137 v219), ∀ (k0_h5 : ¬(k0_cond5 v131 v137 = 1#1)), ∀ a x, ((![v219] : Fin 1 → IVec S16 32) a x).toNat < S49168.size a := fun v131 v137 v219 k0_hw166 k0_h5 => k0_hw166 k0_h5

def k0_chk167 (v131 : BitVec 32) (v137 : BitVec 32) (v221 : IVec S16 32) : Prop :=
  (∀ (k0_h5 : ¬(k0_cond5 v131 v137 = 1#1)), ∀ a x, ((![v221] : Fin 1 → IVec S16 32) a x).toNat < S49168.size a)
theorem k0_idx167_inb : ∀ (v131 : BitVec 32) (v137 : BitVec 32) (v221 : IVec S16 32) (k0_hw167 : k0_chk167 v131 v137 v221), ∀ (k0_h5 : ¬(k0_cond5 v131 v137 = 1#1)), ∀ a x, ((![v221] : Fin 1 → IVec S16 32) a x).toNat < S49168.size a := fun v131 v137 v221 k0_hw167 k0_h5 => k0_hw167 k0_h5

def k0_chk168 (v131 : BitVec 32) (v137 : BitVec 32) (v223 : IVec S16 32) : Prop :=
  (∀ (k0_h5 : ¬(k0_cond5 v131 v137 = 1#1)), ∀ a x, ((![v223] : Fin 1 → IVec S16 32) a x).toNat < S49168.size a)
theorem k0_idx168_inb : ∀ (v131 : BitVec 32) (v137 : BitVec 32) (v223 : IVec S16 32) (k0_hw168 : k0_chk168 v131 v137 v223), ∀ (k0_h5 : ¬(k0_cond5 v131 v137 = 1#1)), ∀ a x, ((![v223] : Fin 1 → IVec S16 32) a x).toNat < S49168.size a := fun v131 v137 v223 k0_hw168 k0_h5 => k0_hw168 k0_h5
def k0_off66 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c64_i32 : BitVec 32 := 64#32
  let v224 : BitVec 32 := Scalar.addi v127 c64_i32
  let v225 : Index := Scalar.indexCast v224
  ![v225.toNat]

def k0_chk169 (v131 : BitVec 32) (v137 : BitVec 32) (v237 : IVec S16 32) : Prop :=
  (∀ (k0_h5 : ¬(k0_cond5 v131 v137 = 1#1)), ∀ a x, ((![v237] : Fin 1 → IVec S16 32) a x).toNat < S49168.size a)
theorem k0_idx169_inb : ∀ (v131 : BitVec 32) (v137 : BitVec 32) (v237 : IVec S16 32) (k0_hw169 : k0_chk169 v131 v137 v237), ∀ (k0_h5 : ¬(k0_cond5 v131 v137 = 1#1)), ∀ a x, ((![v237] : Fin 1 → IVec S16 32) a x).toNat < S49168.size a := fun v131 v137 v237 k0_hw169 k0_h5 => k0_hw169 k0_h5

def k0_chk170 (v131 : BitVec 32) (v137 : BitVec 32) (v239 : IVec S16 32) : Prop :=
  (∀ (k0_h5 : ¬(k0_cond5 v131 v137 = 1#1)), ∀ a x, ((![v239] : Fin 1 → IVec S16 32) a x).toNat < S49168.size a)
theorem k0_idx170_inb : ∀ (v131 : BitVec 32) (v137 : BitVec 32) (v239 : IVec S16 32) (k0_hw170 : k0_chk170 v131 v137 v239), ∀ (k0_h5 : ¬(k0_cond5 v131 v137 = 1#1)), ∀ a x, ((![v239] : Fin 1 → IVec S16 32) a x).toNat < S49168.size a := fun v131 v137 v239 k0_hw170 k0_h5 => k0_hw170 k0_h5

def k0_chk171 (v131 : BitVec 32) (v137 : BitVec 32) (v241 : IVec S16 32) : Prop :=
  (∀ (k0_h5 : ¬(k0_cond5 v131 v137 = 1#1)), ∀ a x, ((![v241] : Fin 1 → IVec S16 32) a x).toNat < S49168.size a)
theorem k0_idx171_inb : ∀ (v131 : BitVec 32) (v137 : BitVec 32) (v241 : IVec S16 32) (k0_hw171 : k0_chk171 v131 v137 v241), ∀ (k0_h5 : ¬(k0_cond5 v131 v137 = 1#1)), ∀ a x, ((![v241] : Fin 1 → IVec S16 32) a x).toNat < S49168.size a := fun v131 v137 v241 k0_hw171 k0_h5 => k0_hw171 k0_h5
def k0_off67 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c80_i32 : BitVec 32 := 80#32
  let v242 : BitVec 32 := Scalar.addi v127 c80_i32
  let v243 : Index := Scalar.indexCast v242
  ![v243.toNat]

def k0_chk172 (v131 : BitVec 32) (v137 : BitVec 32) (v255 : IVec S16 32) : Prop :=
  (∀ (k0_h5 : ¬(k0_cond5 v131 v137 = 1#1)), ∀ a x, ((![v255] : Fin 1 → IVec S16 32) a x).toNat < S49168.size a)
theorem k0_idx172_inb : ∀ (v131 : BitVec 32) (v137 : BitVec 32) (v255 : IVec S16 32) (k0_hw172 : k0_chk172 v131 v137 v255), ∀ (k0_h5 : ¬(k0_cond5 v131 v137 = 1#1)), ∀ a x, ((![v255] : Fin 1 → IVec S16 32) a x).toNat < S49168.size a := fun v131 v137 v255 k0_hw172 k0_h5 => k0_hw172 k0_h5

def k0_chk173 (v131 : BitVec 32) (v137 : BitVec 32) (v257 : IVec S16 32) : Prop :=
  (∀ (k0_h5 : ¬(k0_cond5 v131 v137 = 1#1)), ∀ a x, ((![v257] : Fin 1 → IVec S16 32) a x).toNat < S49168.size a)
theorem k0_idx173_inb : ∀ (v131 : BitVec 32) (v137 : BitVec 32) (v257 : IVec S16 32) (k0_hw173 : k0_chk173 v131 v137 v257), ∀ (k0_h5 : ¬(k0_cond5 v131 v137 = 1#1)), ∀ a x, ((![v257] : Fin 1 → IVec S16 32) a x).toNat < S49168.size a := fun v131 v137 v257 k0_hw173 k0_h5 => k0_hw173 k0_h5

def k0_chk174 (v131 : BitVec 32) (v137 : BitVec 32) (v259 : IVec S16 32) : Prop :=
  (∀ (k0_h5 : ¬(k0_cond5 v131 v137 = 1#1)), ∀ a x, ((![v259] : Fin 1 → IVec S16 32) a x).toNat < S49168.size a)
theorem k0_idx174_inb : ∀ (v131 : BitVec 32) (v137 : BitVec 32) (v259 : IVec S16 32) (k0_hw174 : k0_chk174 v131 v137 v259), ∀ (k0_h5 : ¬(k0_cond5 v131 v137 = 1#1)), ∀ a x, ((![v259] : Fin 1 → IVec S16 32) a x).toNat < S49168.size a := fun v131 v137 v259 k0_hw174 k0_h5 => k0_hw174 k0_h5
def k0_off68 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c96_i32 : BitVec 32 := 96#32
  let v260 : BitVec 32 := Scalar.addi v127 c96_i32
  let v261 : Index := Scalar.indexCast v260
  ![v261.toNat]

def k0_chk175 (v131 : BitVec 32) (v137 : BitVec 32) (v273 : IVec S16 32) : Prop :=
  (∀ (k0_h5 : ¬(k0_cond5 v131 v137 = 1#1)), ∀ a x, ((![v273] : Fin 1 → IVec S16 32) a x).toNat < S49168.size a)
theorem k0_idx175_inb : ∀ (v131 : BitVec 32) (v137 : BitVec 32) (v273 : IVec S16 32) (k0_hw175 : k0_chk175 v131 v137 v273), ∀ (k0_h5 : ¬(k0_cond5 v131 v137 = 1#1)), ∀ a x, ((![v273] : Fin 1 → IVec S16 32) a x).toNat < S49168.size a := fun v131 v137 v273 k0_hw175 k0_h5 => k0_hw175 k0_h5

def k0_chk176 (v131 : BitVec 32) (v137 : BitVec 32) (v275 : IVec S16 32) : Prop :=
  (∀ (k0_h5 : ¬(k0_cond5 v131 v137 = 1#1)), ∀ a x, ((![v275] : Fin 1 → IVec S16 32) a x).toNat < S49168.size a)
theorem k0_idx176_inb : ∀ (v131 : BitVec 32) (v137 : BitVec 32) (v275 : IVec S16 32) (k0_hw176 : k0_chk176 v131 v137 v275), ∀ (k0_h5 : ¬(k0_cond5 v131 v137 = 1#1)), ∀ a x, ((![v275] : Fin 1 → IVec S16 32) a x).toNat < S49168.size a := fun v131 v137 v275 k0_hw176 k0_h5 => k0_hw176 k0_h5

def k0_chk177 (v131 : BitVec 32) (v137 : BitVec 32) (v277 : IVec S16 32) : Prop :=
  (∀ (k0_h5 : ¬(k0_cond5 v131 v137 = 1#1)), ∀ a x, ((![v277] : Fin 1 → IVec S16 32) a x).toNat < S49168.size a)
theorem k0_idx177_inb : ∀ (v131 : BitVec 32) (v137 : BitVec 32) (v277 : IVec S16 32) (k0_hw177 : k0_chk177 v131 v137 v277), ∀ (k0_h5 : ¬(k0_cond5 v131 v137 = 1#1)), ∀ a x, ((![v277] : Fin 1 → IVec S16 32) a x).toNat < S49168.size a := fun v131 v137 v277 k0_hw177 k0_h5 => k0_hw177 k0_h5
def k0_off69 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c112_i32 : BitVec 32 := 112#32
  let v278 : BitVec 32 := Scalar.addi v127 c112_i32
  let v279 : Index := Scalar.indexCast v278
  ![v279.toNat]

def k0_chk178 (v131 : BitVec 32) (v137 : BitVec 32) (v291 : IVec S16 32) : Prop :=
  (∀ (k0_h5 : ¬(k0_cond5 v131 v137 = 1#1)), ∀ a x, ((![v291] : Fin 1 → IVec S16 32) a x).toNat < S49168.size a)
theorem k0_idx178_inb : ∀ (v131 : BitVec 32) (v137 : BitVec 32) (v291 : IVec S16 32) (k0_hw178 : k0_chk178 v131 v137 v291), ∀ (k0_h5 : ¬(k0_cond5 v131 v137 = 1#1)), ∀ a x, ((![v291] : Fin 1 → IVec S16 32) a x).toNat < S49168.size a := fun v131 v137 v291 k0_hw178 k0_h5 => k0_hw178 k0_h5

def k0_chk179 (v131 : BitVec 32) (v137 : BitVec 32) (v293 : IVec S16 32) : Prop :=
  (∀ (k0_h5 : ¬(k0_cond5 v131 v137 = 1#1)), ∀ a x, ((![v293] : Fin 1 → IVec S16 32) a x).toNat < S49168.size a)
theorem k0_idx179_inb : ∀ (v131 : BitVec 32) (v137 : BitVec 32) (v293 : IVec S16 32) (k0_hw179 : k0_chk179 v131 v137 v293), ∀ (k0_h5 : ¬(k0_cond5 v131 v137 = 1#1)), ∀ a x, ((![v293] : Fin 1 → IVec S16 32) a x).toNat < S49168.size a := fun v131 v137 v293 k0_hw179 k0_h5 => k0_hw179 k0_h5

def k0_chk180 (v131 : BitVec 32) (v137 : BitVec 32) (v295 : IVec S16 32) : Prop :=
  (∀ (k0_h5 : ¬(k0_cond5 v131 v137 = 1#1)), ∀ a x, ((![v295] : Fin 1 → IVec S16 32) a x).toNat < S49168.size a)
theorem k0_idx180_inb : ∀ (v131 : BitVec 32) (v137 : BitVec 32) (v295 : IVec S16 32) (k0_hw180 : k0_chk180 v131 v137 v295), ∀ (k0_h5 : ¬(k0_cond5 v131 v137 = 1#1)), ∀ a x, ((![v295] : Fin 1 → IVec S16 32) a x).toNat < S49168.size a := fun v131 v137 v295 k0_hw180 k0_h5 => k0_hw180 k0_h5
def k0_off70 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c128_i32 : BitVec 32 := 128#32
  let v296 : BitVec 32 := Scalar.addi v127 c128_i32
  let v297 : Index := Scalar.indexCast v296
  ![v297.toNat]

def k0_chk181 (v131 : BitVec 32) (v137 : BitVec 32) (v309 : IVec S16 32) : Prop :=
  (∀ (k0_h5 : ¬(k0_cond5 v131 v137 = 1#1)), ∀ a x, ((![v309] : Fin 1 → IVec S16 32) a x).toNat < S49168.size a)
theorem k0_idx181_inb : ∀ (v131 : BitVec 32) (v137 : BitVec 32) (v309 : IVec S16 32) (k0_hw181 : k0_chk181 v131 v137 v309), ∀ (k0_h5 : ¬(k0_cond5 v131 v137 = 1#1)), ∀ a x, ((![v309] : Fin 1 → IVec S16 32) a x).toNat < S49168.size a := fun v131 v137 v309 k0_hw181 k0_h5 => k0_hw181 k0_h5

def k0_chk182 (v131 : BitVec 32) (v137 : BitVec 32) (v311 : IVec S16 32) : Prop :=
  (∀ (k0_h5 : ¬(k0_cond5 v131 v137 = 1#1)), ∀ a x, ((![v311] : Fin 1 → IVec S16 32) a x).toNat < S49168.size a)
theorem k0_idx182_inb : ∀ (v131 : BitVec 32) (v137 : BitVec 32) (v311 : IVec S16 32) (k0_hw182 : k0_chk182 v131 v137 v311), ∀ (k0_h5 : ¬(k0_cond5 v131 v137 = 1#1)), ∀ a x, ((![v311] : Fin 1 → IVec S16 32) a x).toNat < S49168.size a := fun v131 v137 v311 k0_hw182 k0_h5 => k0_hw182 k0_h5

def k0_chk183 (v131 : BitVec 32) (v137 : BitVec 32) (v313 : IVec S16 32) : Prop :=
  (∀ (k0_h5 : ¬(k0_cond5 v131 v137 = 1#1)), ∀ a x, ((![v313] : Fin 1 → IVec S16 32) a x).toNat < S49168.size a)
theorem k0_idx183_inb : ∀ (v131 : BitVec 32) (v137 : BitVec 32) (v313 : IVec S16 32) (k0_hw183 : k0_chk183 v131 v137 v313), ∀ (k0_h5 : ¬(k0_cond5 v131 v137 = 1#1)), ∀ a x, ((![v313] : Fin 1 → IVec S16 32) a x).toNat < S49168.size a := fun v131 v137 v313 k0_hw183 k0_h5 => k0_hw183 k0_h5
def k0_off71 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c144_i32 : BitVec 32 := 144#32
  let v314 : BitVec 32 := Scalar.addi v127 c144_i32
  let v315 : Index := Scalar.indexCast v314
  ![v315.toNat]

def k0_chk184 (v131 : BitVec 32) (v137 : BitVec 32) (v327 : IVec S16 32) : Prop :=
  (∀ (k0_h5 : ¬(k0_cond5 v131 v137 = 1#1)), ∀ a x, ((![v327] : Fin 1 → IVec S16 32) a x).toNat < S49168.size a)
theorem k0_idx184_inb : ∀ (v131 : BitVec 32) (v137 : BitVec 32) (v327 : IVec S16 32) (k0_hw184 : k0_chk184 v131 v137 v327), ∀ (k0_h5 : ¬(k0_cond5 v131 v137 = 1#1)), ∀ a x, ((![v327] : Fin 1 → IVec S16 32) a x).toNat < S49168.size a := fun v131 v137 v327 k0_hw184 k0_h5 => k0_hw184 k0_h5

def k0_chk185 (v131 : BitVec 32) (v137 : BitVec 32) (v329 : IVec S16 32) : Prop :=
  (∀ (k0_h5 : ¬(k0_cond5 v131 v137 = 1#1)), ∀ a x, ((![v329] : Fin 1 → IVec S16 32) a x).toNat < S49168.size a)
theorem k0_idx185_inb : ∀ (v131 : BitVec 32) (v137 : BitVec 32) (v329 : IVec S16 32) (k0_hw185 : k0_chk185 v131 v137 v329), ∀ (k0_h5 : ¬(k0_cond5 v131 v137 = 1#1)), ∀ a x, ((![v329] : Fin 1 → IVec S16 32) a x).toNat < S49168.size a := fun v131 v137 v329 k0_hw185 k0_h5 => k0_hw185 k0_h5

def k0_chk186 (v131 : BitVec 32) (v137 : BitVec 32) (v331 : IVec S16 32) : Prop :=
  (∀ (k0_h5 : ¬(k0_cond5 v131 v137 = 1#1)), ∀ a x, ((![v331] : Fin 1 → IVec S16 32) a x).toNat < S49168.size a)
theorem k0_idx186_inb : ∀ (v131 : BitVec 32) (v137 : BitVec 32) (v331 : IVec S16 32) (k0_hw186 : k0_chk186 v131 v137 v331), ∀ (k0_h5 : ¬(k0_cond5 v131 v137 = 1#1)), ∀ a x, ((![v331] : Fin 1 → IVec S16 32) a x).toNat < S49168.size a := fun v131 v137 v331 k0_hw186 k0_h5 => k0_hw186 k0_h5
def k0_off72 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c160_i32 : BitVec 32 := 160#32
  let v332 : BitVec 32 := Scalar.addi v127 c160_i32
  let v333 : Index := Scalar.indexCast v332
  ![v333.toNat]

def k0_chk187 (v131 : BitVec 32) (v137 : BitVec 32) (v345 : IVec S16 32) : Prop :=
  (∀ (k0_h5 : ¬(k0_cond5 v131 v137 = 1#1)), ∀ a x, ((![v345] : Fin 1 → IVec S16 32) a x).toNat < S49168.size a)
theorem k0_idx187_inb : ∀ (v131 : BitVec 32) (v137 : BitVec 32) (v345 : IVec S16 32) (k0_hw187 : k0_chk187 v131 v137 v345), ∀ (k0_h5 : ¬(k0_cond5 v131 v137 = 1#1)), ∀ a x, ((![v345] : Fin 1 → IVec S16 32) a x).toNat < S49168.size a := fun v131 v137 v345 k0_hw187 k0_h5 => k0_hw187 k0_h5

def k0_chk188 (v131 : BitVec 32) (v137 : BitVec 32) (v347 : IVec S16 32) : Prop :=
  (∀ (k0_h5 : ¬(k0_cond5 v131 v137 = 1#1)), ∀ a x, ((![v347] : Fin 1 → IVec S16 32) a x).toNat < S49168.size a)
theorem k0_idx188_inb : ∀ (v131 : BitVec 32) (v137 : BitVec 32) (v347 : IVec S16 32) (k0_hw188 : k0_chk188 v131 v137 v347), ∀ (k0_h5 : ¬(k0_cond5 v131 v137 = 1#1)), ∀ a x, ((![v347] : Fin 1 → IVec S16 32) a x).toNat < S49168.size a := fun v131 v137 v347 k0_hw188 k0_h5 => k0_hw188 k0_h5

def k0_chk189 (v131 : BitVec 32) (v137 : BitVec 32) (v349 : IVec S16 32) : Prop :=
  (∀ (k0_h5 : ¬(k0_cond5 v131 v137 = 1#1)), ∀ a x, ((![v349] : Fin 1 → IVec S16 32) a x).toNat < S49168.size a)
theorem k0_idx189_inb : ∀ (v131 : BitVec 32) (v137 : BitVec 32) (v349 : IVec S16 32) (k0_hw189 : k0_chk189 v131 v137 v349), ∀ (k0_h5 : ¬(k0_cond5 v131 v137 = 1#1)), ∀ a x, ((![v349] : Fin 1 → IVec S16 32) a x).toNat < S49168.size a := fun v131 v137 v349 k0_hw189 k0_h5 => k0_hw189 k0_h5
def k0_off73 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c176_i32 : BitVec 32 := 176#32
  let v350 : BitVec 32 := Scalar.addi v127 c176_i32
  let v351 : Index := Scalar.indexCast v350
  ![v351.toNat]

def k0_chk190 (v131 : BitVec 32) (v137 : BitVec 32) (v363 : IVec S16 32) : Prop :=
  (∀ (k0_h5 : ¬(k0_cond5 v131 v137 = 1#1)), ∀ a x, ((![v363] : Fin 1 → IVec S16 32) a x).toNat < S49168.size a)
theorem k0_idx190_inb : ∀ (v131 : BitVec 32) (v137 : BitVec 32) (v363 : IVec S16 32) (k0_hw190 : k0_chk190 v131 v137 v363), ∀ (k0_h5 : ¬(k0_cond5 v131 v137 = 1#1)), ∀ a x, ((![v363] : Fin 1 → IVec S16 32) a x).toNat < S49168.size a := fun v131 v137 v363 k0_hw190 k0_h5 => k0_hw190 k0_h5

def k0_chk191 (v131 : BitVec 32) (v137 : BitVec 32) (v365 : IVec S16 32) : Prop :=
  (∀ (k0_h5 : ¬(k0_cond5 v131 v137 = 1#1)), ∀ a x, ((![v365] : Fin 1 → IVec S16 32) a x).toNat < S49168.size a)
theorem k0_idx191_inb : ∀ (v131 : BitVec 32) (v137 : BitVec 32) (v365 : IVec S16 32) (k0_hw191 : k0_chk191 v131 v137 v365), ∀ (k0_h5 : ¬(k0_cond5 v131 v137 = 1#1)), ∀ a x, ((![v365] : Fin 1 → IVec S16 32) a x).toNat < S49168.size a := fun v131 v137 v365 k0_hw191 k0_h5 => k0_hw191 k0_h5

def k0_chk192 (v131 : BitVec 32) (v137 : BitVec 32) (v367 : IVec S16 32) : Prop :=
  (∀ (k0_h5 : ¬(k0_cond5 v131 v137 = 1#1)), ∀ a x, ((![v367] : Fin 1 → IVec S16 32) a x).toNat < S49168.size a)
theorem k0_idx192_inb : ∀ (v131 : BitVec 32) (v137 : BitVec 32) (v367 : IVec S16 32) (k0_hw192 : k0_chk192 v131 v137 v367), ∀ (k0_h5 : ¬(k0_cond5 v131 v137 = 1#1)), ∀ a x, ((![v367] : Fin 1 → IVec S16 32) a x).toNat < S49168.size a := fun v131 v137 v367 k0_hw192 k0_h5 => k0_hw192 k0_h5
def k0_off74 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c192_i32_118 : BitVec 32 := 192#32
  let v368 : BitVec 32 := Scalar.addi v127 c192_i32_118
  let v369 : Index := Scalar.indexCast v368
  ![v369.toNat]

def k0_chk193 (v131 : BitVec 32) (v137 : BitVec 32) (v381 : IVec S16 32) : Prop :=
  (∀ (k0_h5 : ¬(k0_cond5 v131 v137 = 1#1)), ∀ a x, ((![v381] : Fin 1 → IVec S16 32) a x).toNat < S49168.size a)
theorem k0_idx193_inb : ∀ (v131 : BitVec 32) (v137 : BitVec 32) (v381 : IVec S16 32) (k0_hw193 : k0_chk193 v131 v137 v381), ∀ (k0_h5 : ¬(k0_cond5 v131 v137 = 1#1)), ∀ a x, ((![v381] : Fin 1 → IVec S16 32) a x).toNat < S49168.size a := fun v131 v137 v381 k0_hw193 k0_h5 => k0_hw193 k0_h5

def k0_chk194 (v131 : BitVec 32) (v137 : BitVec 32) (v383 : IVec S16 32) : Prop :=
  (∀ (k0_h5 : ¬(k0_cond5 v131 v137 = 1#1)), ∀ a x, ((![v383] : Fin 1 → IVec S16 32) a x).toNat < S49168.size a)
theorem k0_idx194_inb : ∀ (v131 : BitVec 32) (v137 : BitVec 32) (v383 : IVec S16 32) (k0_hw194 : k0_chk194 v131 v137 v383), ∀ (k0_h5 : ¬(k0_cond5 v131 v137 = 1#1)), ∀ a x, ((![v383] : Fin 1 → IVec S16 32) a x).toNat < S49168.size a := fun v131 v137 v383 k0_hw194 k0_h5 => k0_hw194 k0_h5

def k0_chk195 (v131 : BitVec 32) (v137 : BitVec 32) (v385 : IVec S16 32) : Prop :=
  (∀ (k0_h5 : ¬(k0_cond5 v131 v137 = 1#1)), ∀ a x, ((![v385] : Fin 1 → IVec S16 32) a x).toNat < S49168.size a)
theorem k0_idx195_inb : ∀ (v131 : BitVec 32) (v137 : BitVec 32) (v385 : IVec S16 32) (k0_hw195 : k0_chk195 v131 v137 v385), ∀ (k0_h5 : ¬(k0_cond5 v131 v137 = 1#1)), ∀ a x, ((![v385] : Fin 1 → IVec S16 32) a x).toNat < S49168.size a := fun v131 v137 v385 k0_hw195 k0_h5 => k0_hw195 k0_h5
def k0_off75 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c208_i32 : BitVec 32 := 208#32
  let v386 : BitVec 32 := Scalar.addi v127 c208_i32
  let v387 : Index := Scalar.indexCast v386
  ![v387.toNat]

def k0_chk196 (v131 : BitVec 32) (v137 : BitVec 32) (v399 : IVec S16 32) : Prop :=
  (∀ (k0_h5 : ¬(k0_cond5 v131 v137 = 1#1)), ∀ a x, ((![v399] : Fin 1 → IVec S16 32) a x).toNat < S49168.size a)
theorem k0_idx196_inb : ∀ (v131 : BitVec 32) (v137 : BitVec 32) (v399 : IVec S16 32) (k0_hw196 : k0_chk196 v131 v137 v399), ∀ (k0_h5 : ¬(k0_cond5 v131 v137 = 1#1)), ∀ a x, ((![v399] : Fin 1 → IVec S16 32) a x).toNat < S49168.size a := fun v131 v137 v399 k0_hw196 k0_h5 => k0_hw196 k0_h5

def k0_chk197 (v131 : BitVec 32) (v137 : BitVec 32) (v401 : IVec S16 32) : Prop :=
  (∀ (k0_h5 : ¬(k0_cond5 v131 v137 = 1#1)), ∀ a x, ((![v401] : Fin 1 → IVec S16 32) a x).toNat < S49168.size a)
theorem k0_idx197_inb : ∀ (v131 : BitVec 32) (v137 : BitVec 32) (v401 : IVec S16 32) (k0_hw197 : k0_chk197 v131 v137 v401), ∀ (k0_h5 : ¬(k0_cond5 v131 v137 = 1#1)), ∀ a x, ((![v401] : Fin 1 → IVec S16 32) a x).toNat < S49168.size a := fun v131 v137 v401 k0_hw197 k0_h5 => k0_hw197 k0_h5

def k0_chk198 (v131 : BitVec 32) (v137 : BitVec 32) (v403 : IVec S16 32) : Prop :=
  (∀ (k0_h5 : ¬(k0_cond5 v131 v137 = 1#1)), ∀ a x, ((![v403] : Fin 1 → IVec S16 32) a x).toNat < S49168.size a)
theorem k0_idx198_inb : ∀ (v131 : BitVec 32) (v137 : BitVec 32) (v403 : IVec S16 32) (k0_hw198 : k0_chk198 v131 v137 v403), ∀ (k0_h5 : ¬(k0_cond5 v131 v137 = 1#1)), ∀ a x, ((![v403] : Fin 1 → IVec S16 32) a x).toNat < S49168.size a := fun v131 v137 v403 k0_hw198 k0_h5 => k0_hw198 k0_h5
def k0_off76 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c224_i32 : BitVec 32 := 224#32
  let v404 : BitVec 32 := Scalar.addi v127 c224_i32
  let v405 : Index := Scalar.indexCast v404
  ![v405.toNat]

def k0_chk199 (v131 : BitVec 32) (v137 : BitVec 32) (v417 : IVec S16 32) : Prop :=
  (∀ (k0_h5 : ¬(k0_cond5 v131 v137 = 1#1)), ∀ a x, ((![v417] : Fin 1 → IVec S16 32) a x).toNat < S49168.size a)
theorem k0_idx199_inb : ∀ (v131 : BitVec 32) (v137 : BitVec 32) (v417 : IVec S16 32) (k0_hw199 : k0_chk199 v131 v137 v417), ∀ (k0_h5 : ¬(k0_cond5 v131 v137 = 1#1)), ∀ a x, ((![v417] : Fin 1 → IVec S16 32) a x).toNat < S49168.size a := fun v131 v137 v417 k0_hw199 k0_h5 => k0_hw199 k0_h5

def k0_chk200 (v131 : BitVec 32) (v137 : BitVec 32) (v419 : IVec S16 32) : Prop :=
  (∀ (k0_h5 : ¬(k0_cond5 v131 v137 = 1#1)), ∀ a x, ((![v419] : Fin 1 → IVec S16 32) a x).toNat < S49168.size a)
theorem k0_idx200_inb : ∀ (v131 : BitVec 32) (v137 : BitVec 32) (v419 : IVec S16 32) (k0_hw200 : k0_chk200 v131 v137 v419), ∀ (k0_h5 : ¬(k0_cond5 v131 v137 = 1#1)), ∀ a x, ((![v419] : Fin 1 → IVec S16 32) a x).toNat < S49168.size a := fun v131 v137 v419 k0_hw200 k0_h5 => k0_hw200 k0_h5

def k0_chk201 (v131 : BitVec 32) (v137 : BitVec 32) (v421 : IVec S16 32) : Prop :=
  (∀ (k0_h5 : ¬(k0_cond5 v131 v137 = 1#1)), ∀ a x, ((![v421] : Fin 1 → IVec S16 32) a x).toNat < S49168.size a)
theorem k0_idx201_inb : ∀ (v131 : BitVec 32) (v137 : BitVec 32) (v421 : IVec S16 32) (k0_hw201 : k0_chk201 v131 v137 v421), ∀ (k0_h5 : ¬(k0_cond5 v131 v137 = 1#1)), ∀ a x, ((![v421] : Fin 1 → IVec S16 32) a x).toNat < S49168.size a := fun v131 v137 v421 k0_hw201 k0_h5 => k0_hw201 k0_h5
def k0_off77 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c240_i32 : BitVec 32 := 240#32
  let v422 : BitVec 32 := Scalar.addi v127 c240_i32
  let v423 : Index := Scalar.indexCast v422
  ![v423.toNat]

def k0_chk202 (v131 : BitVec 32) (v137 : BitVec 32) (v435 : IVec S16 32) : Prop :=
  (∀ (k0_h5 : ¬(k0_cond5 v131 v137 = 1#1)), ∀ a x, ((![v435] : Fin 1 → IVec S16 32) a x).toNat < S49168.size a)
theorem k0_idx202_inb : ∀ (v131 : BitVec 32) (v137 : BitVec 32) (v435 : IVec S16 32) (k0_hw202 : k0_chk202 v131 v137 v435), ∀ (k0_h5 : ¬(k0_cond5 v131 v137 = 1#1)), ∀ a x, ((![v435] : Fin 1 → IVec S16 32) a x).toNat < S49168.size a := fun v131 v137 v435 k0_hw202 k0_h5 => k0_hw202 k0_h5

def k0_chk203 (v131 : BitVec 32) (v137 : BitVec 32) (v437 : IVec S16 32) : Prop :=
  (∀ (k0_h5 : ¬(k0_cond5 v131 v137 = 1#1)), ∀ a x, ((![v437] : Fin 1 → IVec S16 32) a x).toNat < S49168.size a)
theorem k0_idx203_inb : ∀ (v131 : BitVec 32) (v137 : BitVec 32) (v437 : IVec S16 32) (k0_hw203 : k0_chk203 v131 v137 v437), ∀ (k0_h5 : ¬(k0_cond5 v131 v137 = 1#1)), ∀ a x, ((![v437] : Fin 1 → IVec S16 32) a x).toNat < S49168.size a := fun v131 v137 v437 k0_hw203 k0_h5 => k0_hw203 k0_h5

def k0_chk204 (v131 : BitVec 32) (v137 : BitVec 32) (v439 : IVec S16 32) : Prop :=
  (∀ (k0_h5 : ¬(k0_cond5 v131 v137 = 1#1)), ∀ a x, ((![v439] : Fin 1 → IVec S16 32) a x).toNat < S49168.size a)
theorem k0_idx204_inb : ∀ (v131 : BitVec 32) (v137 : BitVec 32) (v439 : IVec S16 32) (k0_hw204 : k0_chk204 v131 v137 v439), ∀ (k0_h5 : ¬(k0_cond5 v131 v137 = 1#1)), ∀ a x, ((![v439] : Fin 1 → IVec S16 32) a x).toNat < S49168.size a := fun v131 v137 v439 k0_hw204 k0_h5 => k0_hw204 k0_h5
def k0_off78 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c256_i32 : BitVec 32 := 256#32
  let v440 : BitVec 32 := Scalar.addi v127 c256_i32
  let v441 : Index := Scalar.indexCast v440
  ![v441.toNat]

def k0_chk205 (v131 : BitVec 32) (v137 : BitVec 32) (v453 : IVec S16 32) : Prop :=
  (∀ (k0_h5 : ¬(k0_cond5 v131 v137 = 1#1)), ∀ a x, ((![v453] : Fin 1 → IVec S16 32) a x).toNat < S49168.size a)
theorem k0_idx205_inb : ∀ (v131 : BitVec 32) (v137 : BitVec 32) (v453 : IVec S16 32) (k0_hw205 : k0_chk205 v131 v137 v453), ∀ (k0_h5 : ¬(k0_cond5 v131 v137 = 1#1)), ∀ a x, ((![v453] : Fin 1 → IVec S16 32) a x).toNat < S49168.size a := fun v131 v137 v453 k0_hw205 k0_h5 => k0_hw205 k0_h5

def k0_chk206 (v131 : BitVec 32) (v137 : BitVec 32) (v455 : IVec S16 32) : Prop :=
  (∀ (k0_h5 : ¬(k0_cond5 v131 v137 = 1#1)), ∀ a x, ((![v455] : Fin 1 → IVec S16 32) a x).toNat < S49168.size a)
theorem k0_idx206_inb : ∀ (v131 : BitVec 32) (v137 : BitVec 32) (v455 : IVec S16 32) (k0_hw206 : k0_chk206 v131 v137 v455), ∀ (k0_h5 : ¬(k0_cond5 v131 v137 = 1#1)), ∀ a x, ((![v455] : Fin 1 → IVec S16 32) a x).toNat < S49168.size a := fun v131 v137 v455 k0_hw206 k0_h5 => k0_hw206 k0_h5

def k0_chk207 (v131 : BitVec 32) (v137 : BitVec 32) (v457 : IVec S16 32) : Prop :=
  (∀ (k0_h5 : ¬(k0_cond5 v131 v137 = 1#1)), ∀ a x, ((![v457] : Fin 1 → IVec S16 32) a x).toNat < S49168.size a)
theorem k0_idx207_inb : ∀ (v131 : BitVec 32) (v137 : BitVec 32) (v457 : IVec S16 32) (k0_hw207 : k0_chk207 v131 v137 v457), ∀ (k0_h5 : ¬(k0_cond5 v131 v137 = 1#1)), ∀ a x, ((![v457] : Fin 1 → IVec S16 32) a x).toNat < S49168.size a := fun v131 v137 v457 k0_hw207 k0_h5 => k0_hw207 k0_h5
def k0_off79 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c272_i32 : BitVec 32 := 272#32
  let v458 : BitVec 32 := Scalar.addi v127 c272_i32
  let v459 : Index := Scalar.indexCast v458
  ![v459.toNat]

def k0_chk208 (v131 : BitVec 32) (v137 : BitVec 32) (v471 : IVec S16 32) : Prop :=
  (∀ (k0_h5 : ¬(k0_cond5 v131 v137 = 1#1)), ∀ a x, ((![v471] : Fin 1 → IVec S16 32) a x).toNat < S49168.size a)
theorem k0_idx208_inb : ∀ (v131 : BitVec 32) (v137 : BitVec 32) (v471 : IVec S16 32) (k0_hw208 : k0_chk208 v131 v137 v471), ∀ (k0_h5 : ¬(k0_cond5 v131 v137 = 1#1)), ∀ a x, ((![v471] : Fin 1 → IVec S16 32) a x).toNat < S49168.size a := fun v131 v137 v471 k0_hw208 k0_h5 => k0_hw208 k0_h5

def k0_chk209 (v131 : BitVec 32) (v137 : BitVec 32) (v473 : IVec S16 32) : Prop :=
  (∀ (k0_h5 : ¬(k0_cond5 v131 v137 = 1#1)), ∀ a x, ((![v473] : Fin 1 → IVec S16 32) a x).toNat < S49168.size a)
theorem k0_idx209_inb : ∀ (v131 : BitVec 32) (v137 : BitVec 32) (v473 : IVec S16 32) (k0_hw209 : k0_chk209 v131 v137 v473), ∀ (k0_h5 : ¬(k0_cond5 v131 v137 = 1#1)), ∀ a x, ((![v473] : Fin 1 → IVec S16 32) a x).toNat < S49168.size a := fun v131 v137 v473 k0_hw209 k0_h5 => k0_hw209 k0_h5

def k0_chk210 (v131 : BitVec 32) (v137 : BitVec 32) (v475 : IVec S16 32) : Prop :=
  (∀ (k0_h5 : ¬(k0_cond5 v131 v137 = 1#1)), ∀ a x, ((![v475] : Fin 1 → IVec S16 32) a x).toNat < S49168.size a)
theorem k0_idx210_inb : ∀ (v131 : BitVec 32) (v137 : BitVec 32) (v475 : IVec S16 32) (k0_hw210 : k0_chk210 v131 v137 v475), ∀ (k0_h5 : ¬(k0_cond5 v131 v137 = 1#1)), ∀ a x, ((![v475] : Fin 1 → IVec S16 32) a x).toNat < S49168.size a := fun v131 v137 v475 k0_hw210 k0_h5 => k0_hw210 k0_h5
def k0_off80 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c288_i32 : BitVec 32 := 288#32
  let v476 : BitVec 32 := Scalar.addi v127 c288_i32
  let v477 : Index := Scalar.indexCast v476
  ![v477.toNat]

def k0_chk211 (v131 : BitVec 32) (v137 : BitVec 32) (v489 : IVec S16 32) : Prop :=
  (∀ (k0_h5 : ¬(k0_cond5 v131 v137 = 1#1)), ∀ a x, ((![v489] : Fin 1 → IVec S16 32) a x).toNat < S49168.size a)
theorem k0_idx211_inb : ∀ (v131 : BitVec 32) (v137 : BitVec 32) (v489 : IVec S16 32) (k0_hw211 : k0_chk211 v131 v137 v489), ∀ (k0_h5 : ¬(k0_cond5 v131 v137 = 1#1)), ∀ a x, ((![v489] : Fin 1 → IVec S16 32) a x).toNat < S49168.size a := fun v131 v137 v489 k0_hw211 k0_h5 => k0_hw211 k0_h5

def k0_chk212 (v131 : BitVec 32) (v137 : BitVec 32) (v491 : IVec S16 32) : Prop :=
  (∀ (k0_h5 : ¬(k0_cond5 v131 v137 = 1#1)), ∀ a x, ((![v491] : Fin 1 → IVec S16 32) a x).toNat < S49168.size a)
theorem k0_idx212_inb : ∀ (v131 : BitVec 32) (v137 : BitVec 32) (v491 : IVec S16 32) (k0_hw212 : k0_chk212 v131 v137 v491), ∀ (k0_h5 : ¬(k0_cond5 v131 v137 = 1#1)), ∀ a x, ((![v491] : Fin 1 → IVec S16 32) a x).toNat < S49168.size a := fun v131 v137 v491 k0_hw212 k0_h5 => k0_hw212 k0_h5

def k0_chk213 (v131 : BitVec 32) (v137 : BitVec 32) (v493 : IVec S16 32) : Prop :=
  (∀ (k0_h5 : ¬(k0_cond5 v131 v137 = 1#1)), ∀ a x, ((![v493] : Fin 1 → IVec S16 32) a x).toNat < S49168.size a)
theorem k0_idx213_inb : ∀ (v131 : BitVec 32) (v137 : BitVec 32) (v493 : IVec S16 32) (k0_hw213 : k0_chk213 v131 v137 v493), ∀ (k0_h5 : ¬(k0_cond5 v131 v137 = 1#1)), ∀ a x, ((![v493] : Fin 1 → IVec S16 32) a x).toNat < S49168.size a := fun v131 v137 v493 k0_hw213 k0_h5 => k0_hw213 k0_h5
def k0_off81 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c304_i32 : BitVec 32 := 304#32
  let v494 : BitVec 32 := Scalar.addi v127 c304_i32
  let v495 : Index := Scalar.indexCast v494
  ![v495.toNat]

def k0_chk214 (v131 : BitVec 32) (v137 : BitVec 32) (v507 : IVec S16 32) : Prop :=
  (∀ (k0_h5 : ¬(k0_cond5 v131 v137 = 1#1)), ∀ a x, ((![v507] : Fin 1 → IVec S16 32) a x).toNat < S49168.size a)
theorem k0_idx214_inb : ∀ (v131 : BitVec 32) (v137 : BitVec 32) (v507 : IVec S16 32) (k0_hw214 : k0_chk214 v131 v137 v507), ∀ (k0_h5 : ¬(k0_cond5 v131 v137 = 1#1)), ∀ a x, ((![v507] : Fin 1 → IVec S16 32) a x).toNat < S49168.size a := fun v131 v137 v507 k0_hw214 k0_h5 => k0_hw214 k0_h5

def k0_chk215 (v131 : BitVec 32) (v137 : BitVec 32) (v509 : IVec S16 32) : Prop :=
  (∀ (k0_h5 : ¬(k0_cond5 v131 v137 = 1#1)), ∀ a x, ((![v509] : Fin 1 → IVec S16 32) a x).toNat < S49168.size a)
theorem k0_idx215_inb : ∀ (v131 : BitVec 32) (v137 : BitVec 32) (v509 : IVec S16 32) (k0_hw215 : k0_chk215 v131 v137 v509), ∀ (k0_h5 : ¬(k0_cond5 v131 v137 = 1#1)), ∀ a x, ((![v509] : Fin 1 → IVec S16 32) a x).toNat < S49168.size a := fun v131 v137 v509 k0_hw215 k0_h5 => k0_hw215 k0_h5

def k0_chk216 (v131 : BitVec 32) (v137 : BitVec 32) (v511 : IVec S16 32) : Prop :=
  (∀ (k0_h5 : ¬(k0_cond5 v131 v137 = 1#1)), ∀ a x, ((![v511] : Fin 1 → IVec S16 32) a x).toNat < S49168.size a)
theorem k0_idx216_inb : ∀ (v131 : BitVec 32) (v137 : BitVec 32) (v511 : IVec S16 32) (k0_hw216 : k0_chk216 v131 v137 v511), ∀ (k0_h5 : ¬(k0_cond5 v131 v137 = 1#1)), ∀ a x, ((![v511] : Fin 1 → IVec S16 32) a x).toNat < S49168.size a := fun v131 v137 v511 k0_hw216 k0_h5 => k0_hw216 k0_h5
def k0_off82 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c320_i32 : BitVec 32 := 320#32
  let v512 : BitVec 32 := Scalar.addi v127 c320_i32
  let v513 : Index := Scalar.indexCast v512
  ![v513.toNat]

def k0_chk217 (v131 : BitVec 32) (v137 : BitVec 32) (v525 : IVec S16 32) : Prop :=
  (∀ (k0_h5 : ¬(k0_cond5 v131 v137 = 1#1)), ∀ a x, ((![v525] : Fin 1 → IVec S16 32) a x).toNat < S49168.size a)
theorem k0_idx217_inb : ∀ (v131 : BitVec 32) (v137 : BitVec 32) (v525 : IVec S16 32) (k0_hw217 : k0_chk217 v131 v137 v525), ∀ (k0_h5 : ¬(k0_cond5 v131 v137 = 1#1)), ∀ a x, ((![v525] : Fin 1 → IVec S16 32) a x).toNat < S49168.size a := fun v131 v137 v525 k0_hw217 k0_h5 => k0_hw217 k0_h5

def k0_chk218 (v131 : BitVec 32) (v137 : BitVec 32) (v527 : IVec S16 32) : Prop :=
  (∀ (k0_h5 : ¬(k0_cond5 v131 v137 = 1#1)), ∀ a x, ((![v527] : Fin 1 → IVec S16 32) a x).toNat < S49168.size a)
theorem k0_idx218_inb : ∀ (v131 : BitVec 32) (v137 : BitVec 32) (v527 : IVec S16 32) (k0_hw218 : k0_chk218 v131 v137 v527), ∀ (k0_h5 : ¬(k0_cond5 v131 v137 = 1#1)), ∀ a x, ((![v527] : Fin 1 → IVec S16 32) a x).toNat < S49168.size a := fun v131 v137 v527 k0_hw218 k0_h5 => k0_hw218 k0_h5

def k0_chk219 (v131 : BitVec 32) (v137 : BitVec 32) (v529 : IVec S16 32) : Prop :=
  (∀ (k0_h5 : ¬(k0_cond5 v131 v137 = 1#1)), ∀ a x, ((![v529] : Fin 1 → IVec S16 32) a x).toNat < S49168.size a)
theorem k0_idx219_inb : ∀ (v131 : BitVec 32) (v137 : BitVec 32) (v529 : IVec S16 32) (k0_hw219 : k0_chk219 v131 v137 v529), ∀ (k0_h5 : ¬(k0_cond5 v131 v137 = 1#1)), ∀ a x, ((![v529] : Fin 1 → IVec S16 32) a x).toNat < S49168.size a := fun v131 v137 v529 k0_hw219 k0_h5 => k0_hw219 k0_h5
def k0_off83 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c336_i32 : BitVec 32 := 336#32
  let v530 : BitVec 32 := Scalar.addi v127 c336_i32
  let v531 : Index := Scalar.indexCast v530
  ![v531.toNat]

def k0_chk220 (v131 : BitVec 32) (v137 : BitVec 32) (v543 : IVec S16 32) : Prop :=
  (∀ (k0_h5 : ¬(k0_cond5 v131 v137 = 1#1)), ∀ a x, ((![v543] : Fin 1 → IVec S16 32) a x).toNat < S49168.size a)
theorem k0_idx220_inb : ∀ (v131 : BitVec 32) (v137 : BitVec 32) (v543 : IVec S16 32) (k0_hw220 : k0_chk220 v131 v137 v543), ∀ (k0_h5 : ¬(k0_cond5 v131 v137 = 1#1)), ∀ a x, ((![v543] : Fin 1 → IVec S16 32) a x).toNat < S49168.size a := fun v131 v137 v543 k0_hw220 k0_h5 => k0_hw220 k0_h5

def k0_chk221 (v131 : BitVec 32) (v137 : BitVec 32) (v545 : IVec S16 32) : Prop :=
  (∀ (k0_h5 : ¬(k0_cond5 v131 v137 = 1#1)), ∀ a x, ((![v545] : Fin 1 → IVec S16 32) a x).toNat < S49168.size a)
theorem k0_idx221_inb : ∀ (v131 : BitVec 32) (v137 : BitVec 32) (v545 : IVec S16 32) (k0_hw221 : k0_chk221 v131 v137 v545), ∀ (k0_h5 : ¬(k0_cond5 v131 v137 = 1#1)), ∀ a x, ((![v545] : Fin 1 → IVec S16 32) a x).toNat < S49168.size a := fun v131 v137 v545 k0_hw221 k0_h5 => k0_hw221 k0_h5

def k0_chk222 (v131 : BitVec 32) (v137 : BitVec 32) (v547 : IVec S16 32) : Prop :=
  (∀ (k0_h5 : ¬(k0_cond5 v131 v137 = 1#1)), ∀ a x, ((![v547] : Fin 1 → IVec S16 32) a x).toNat < S49168.size a)
theorem k0_idx222_inb : ∀ (v131 : BitVec 32) (v137 : BitVec 32) (v547 : IVec S16 32) (k0_hw222 : k0_chk222 v131 v137 v547), ∀ (k0_h5 : ¬(k0_cond5 v131 v137 = 1#1)), ∀ a x, ((![v547] : Fin 1 → IVec S16 32) a x).toNat < S49168.size a := fun v131 v137 v547 k0_hw222 k0_h5 => k0_hw222 k0_h5
def k0_off84 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c352_i32 : BitVec 32 := 352#32
  let v548 : BitVec 32 := Scalar.addi v127 c352_i32
  let v549 : Index := Scalar.indexCast v548
  ![v549.toNat]

def k0_chk223 (v131 : BitVec 32) (v137 : BitVec 32) (v561 : IVec S16 32) : Prop :=
  (∀ (k0_h5 : ¬(k0_cond5 v131 v137 = 1#1)), ∀ a x, ((![v561] : Fin 1 → IVec S16 32) a x).toNat < S49168.size a)
theorem k0_idx223_inb : ∀ (v131 : BitVec 32) (v137 : BitVec 32) (v561 : IVec S16 32) (k0_hw223 : k0_chk223 v131 v137 v561), ∀ (k0_h5 : ¬(k0_cond5 v131 v137 = 1#1)), ∀ a x, ((![v561] : Fin 1 → IVec S16 32) a x).toNat < S49168.size a := fun v131 v137 v561 k0_hw223 k0_h5 => k0_hw223 k0_h5

def k0_chk224 (v131 : BitVec 32) (v137 : BitVec 32) (v563 : IVec S16 32) : Prop :=
  (∀ (k0_h5 : ¬(k0_cond5 v131 v137 = 1#1)), ∀ a x, ((![v563] : Fin 1 → IVec S16 32) a x).toNat < S49168.size a)
theorem k0_idx224_inb : ∀ (v131 : BitVec 32) (v137 : BitVec 32) (v563 : IVec S16 32) (k0_hw224 : k0_chk224 v131 v137 v563), ∀ (k0_h5 : ¬(k0_cond5 v131 v137 = 1#1)), ∀ a x, ((![v563] : Fin 1 → IVec S16 32) a x).toNat < S49168.size a := fun v131 v137 v563 k0_hw224 k0_h5 => k0_hw224 k0_h5

def k0_chk225 (v131 : BitVec 32) (v137 : BitVec 32) (v565 : IVec S16 32) : Prop :=
  (∀ (k0_h5 : ¬(k0_cond5 v131 v137 = 1#1)), ∀ a x, ((![v565] : Fin 1 → IVec S16 32) a x).toNat < S49168.size a)
theorem k0_idx225_inb : ∀ (v131 : BitVec 32) (v137 : BitVec 32) (v565 : IVec S16 32) (k0_hw225 : k0_chk225 v131 v137 v565), ∀ (k0_h5 : ¬(k0_cond5 v131 v137 = 1#1)), ∀ a x, ((![v565] : Fin 1 → IVec S16 32) a x).toNat < S49168.size a := fun v131 v137 v565 k0_hw225 k0_h5 => k0_hw225 k0_h5
def k0_off85 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c368_i32 : BitVec 32 := 368#32
  let v566 : BitVec 32 := Scalar.addi v127 c368_i32
  let v567 : Index := Scalar.indexCast v566
  ![v567.toNat]

def k0_chk226 (v131 : BitVec 32) (v137 : BitVec 32) (v579 : IVec S16 32) : Prop :=
  (∀ (k0_h5 : ¬(k0_cond5 v131 v137 = 1#1)), ∀ a x, ((![v579] : Fin 1 → IVec S16 32) a x).toNat < S49168.size a)
theorem k0_idx226_inb : ∀ (v131 : BitVec 32) (v137 : BitVec 32) (v579 : IVec S16 32) (k0_hw226 : k0_chk226 v131 v137 v579), ∀ (k0_h5 : ¬(k0_cond5 v131 v137 = 1#1)), ∀ a x, ((![v579] : Fin 1 → IVec S16 32) a x).toNat < S49168.size a := fun v131 v137 v579 k0_hw226 k0_h5 => k0_hw226 k0_h5

def k0_chk227 (v131 : BitVec 32) (v137 : BitVec 32) (v581 : IVec S16 32) : Prop :=
  (∀ (k0_h5 : ¬(k0_cond5 v131 v137 = 1#1)), ∀ a x, ((![v581] : Fin 1 → IVec S16 32) a x).toNat < S49168.size a)
theorem k0_idx227_inb : ∀ (v131 : BitVec 32) (v137 : BitVec 32) (v581 : IVec S16 32) (k0_hw227 : k0_chk227 v131 v137 v581), ∀ (k0_h5 : ¬(k0_cond5 v131 v137 = 1#1)), ∀ a x, ((![v581] : Fin 1 → IVec S16 32) a x).toNat < S49168.size a := fun v131 v137 v581 k0_hw227 k0_h5 => k0_hw227 k0_h5

def k0_chk228 (v131 : BitVec 32) (v137 : BitVec 32) (v583 : IVec S16 32) : Prop :=
  (∀ (k0_h5 : ¬(k0_cond5 v131 v137 = 1#1)), ∀ a x, ((![v583] : Fin 1 → IVec S16 32) a x).toNat < S49168.size a)
theorem k0_idx228_inb : ∀ (v131 : BitVec 32) (v137 : BitVec 32) (v583 : IVec S16 32) (k0_hw228 : k0_chk228 v131 v137 v583), ∀ (k0_h5 : ¬(k0_cond5 v131 v137 = 1#1)), ∀ a x, ((![v583] : Fin 1 → IVec S16 32) a x).toNat < S49168.size a := fun v131 v137 v583 k0_hw228 k0_h5 => k0_hw228 k0_h5
def k0_off86 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c384_i32 : BitVec 32 := 384#32
  let v584 : BitVec 32 := Scalar.addi v127 c384_i32
  let v585 : Index := Scalar.indexCast v584
  ![v585.toNat]

def k0_chk229 (v131 : BitVec 32) (v137 : BitVec 32) (v597 : IVec S16 32) : Prop :=
  (∀ (k0_h5 : ¬(k0_cond5 v131 v137 = 1#1)), ∀ a x, ((![v597] : Fin 1 → IVec S16 32) a x).toNat < S49168.size a)
theorem k0_idx229_inb : ∀ (v131 : BitVec 32) (v137 : BitVec 32) (v597 : IVec S16 32) (k0_hw229 : k0_chk229 v131 v137 v597), ∀ (k0_h5 : ¬(k0_cond5 v131 v137 = 1#1)), ∀ a x, ((![v597] : Fin 1 → IVec S16 32) a x).toNat < S49168.size a := fun v131 v137 v597 k0_hw229 k0_h5 => k0_hw229 k0_h5

def k0_chk230 (v131 : BitVec 32) (v137 : BitVec 32) (v599 : IVec S16 32) : Prop :=
  (∀ (k0_h5 : ¬(k0_cond5 v131 v137 = 1#1)), ∀ a x, ((![v599] : Fin 1 → IVec S16 32) a x).toNat < S49168.size a)
theorem k0_idx230_inb : ∀ (v131 : BitVec 32) (v137 : BitVec 32) (v599 : IVec S16 32) (k0_hw230 : k0_chk230 v131 v137 v599), ∀ (k0_h5 : ¬(k0_cond5 v131 v137 = 1#1)), ∀ a x, ((![v599] : Fin 1 → IVec S16 32) a x).toNat < S49168.size a := fun v131 v137 v599 k0_hw230 k0_h5 => k0_hw230 k0_h5

def k0_chk231 (v131 : BitVec 32) (v137 : BitVec 32) (v601 : IVec S16 32) : Prop :=
  (∀ (k0_h5 : ¬(k0_cond5 v131 v137 = 1#1)), ∀ a x, ((![v601] : Fin 1 → IVec S16 32) a x).toNat < S49168.size a)
theorem k0_idx231_inb : ∀ (v131 : BitVec 32) (v137 : BitVec 32) (v601 : IVec S16 32) (k0_hw231 : k0_chk231 v131 v137 v601), ∀ (k0_h5 : ¬(k0_cond5 v131 v137 = 1#1)), ∀ a x, ((![v601] : Fin 1 → IVec S16 32) a x).toNat < S49168.size a := fun v131 v137 v601 k0_hw231 k0_h5 => k0_hw231 k0_h5
def k0_off87 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c400_i32 : BitVec 32 := 400#32
  let v602 : BitVec 32 := Scalar.addi v127 c400_i32
  let v603 : Index := Scalar.indexCast v602
  ![v603.toNat]

def k0_chk232 (v131 : BitVec 32) (v137 : BitVec 32) (v615 : IVec S16 32) : Prop :=
  (∀ (k0_h5 : ¬(k0_cond5 v131 v137 = 1#1)), ∀ a x, ((![v615] : Fin 1 → IVec S16 32) a x).toNat < S49168.size a)
theorem k0_idx232_inb : ∀ (v131 : BitVec 32) (v137 : BitVec 32) (v615 : IVec S16 32) (k0_hw232 : k0_chk232 v131 v137 v615), ∀ (k0_h5 : ¬(k0_cond5 v131 v137 = 1#1)), ∀ a x, ((![v615] : Fin 1 → IVec S16 32) a x).toNat < S49168.size a := fun v131 v137 v615 k0_hw232 k0_h5 => k0_hw232 k0_h5

def k0_chk233 (v131 : BitVec 32) (v137 : BitVec 32) (v617 : IVec S16 32) : Prop :=
  (∀ (k0_h5 : ¬(k0_cond5 v131 v137 = 1#1)), ∀ a x, ((![v617] : Fin 1 → IVec S16 32) a x).toNat < S49168.size a)
theorem k0_idx233_inb : ∀ (v131 : BitVec 32) (v137 : BitVec 32) (v617 : IVec S16 32) (k0_hw233 : k0_chk233 v131 v137 v617), ∀ (k0_h5 : ¬(k0_cond5 v131 v137 = 1#1)), ∀ a x, ((![v617] : Fin 1 → IVec S16 32) a x).toNat < S49168.size a := fun v131 v137 v617 k0_hw233 k0_h5 => k0_hw233 k0_h5

def k0_chk234 (v131 : BitVec 32) (v137 : BitVec 32) (v619 : IVec S16 32) : Prop :=
  (∀ (k0_h5 : ¬(k0_cond5 v131 v137 = 1#1)), ∀ a x, ((![v619] : Fin 1 → IVec S16 32) a x).toNat < S49168.size a)
theorem k0_idx234_inb : ∀ (v131 : BitVec 32) (v137 : BitVec 32) (v619 : IVec S16 32) (k0_hw234 : k0_chk234 v131 v137 v619), ∀ (k0_h5 : ¬(k0_cond5 v131 v137 = 1#1)), ∀ a x, ((![v619] : Fin 1 → IVec S16 32) a x).toNat < S49168.size a := fun v131 v137 v619 k0_hw234 k0_h5 => k0_hw234 k0_h5
def k0_off88 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c416_i32 : BitVec 32 := 416#32
  let v620 : BitVec 32 := Scalar.addi v127 c416_i32
  let v621 : Index := Scalar.indexCast v620
  ![v621.toNat]

def k0_chk235 (v131 : BitVec 32) (v137 : BitVec 32) (v633 : IVec S16 32) : Prop :=
  (∀ (k0_h5 : ¬(k0_cond5 v131 v137 = 1#1)), ∀ a x, ((![v633] : Fin 1 → IVec S16 32) a x).toNat < S49168.size a)
theorem k0_idx235_inb : ∀ (v131 : BitVec 32) (v137 : BitVec 32) (v633 : IVec S16 32) (k0_hw235 : k0_chk235 v131 v137 v633), ∀ (k0_h5 : ¬(k0_cond5 v131 v137 = 1#1)), ∀ a x, ((![v633] : Fin 1 → IVec S16 32) a x).toNat < S49168.size a := fun v131 v137 v633 k0_hw235 k0_h5 => k0_hw235 k0_h5

def k0_chk236 (v131 : BitVec 32) (v137 : BitVec 32) (v635 : IVec S16 32) : Prop :=
  (∀ (k0_h5 : ¬(k0_cond5 v131 v137 = 1#1)), ∀ a x, ((![v635] : Fin 1 → IVec S16 32) a x).toNat < S49168.size a)
theorem k0_idx236_inb : ∀ (v131 : BitVec 32) (v137 : BitVec 32) (v635 : IVec S16 32) (k0_hw236 : k0_chk236 v131 v137 v635), ∀ (k0_h5 : ¬(k0_cond5 v131 v137 = 1#1)), ∀ a x, ((![v635] : Fin 1 → IVec S16 32) a x).toNat < S49168.size a := fun v131 v137 v635 k0_hw236 k0_h5 => k0_hw236 k0_h5

def k0_chk237 (v131 : BitVec 32) (v137 : BitVec 32) (v637 : IVec S16 32) : Prop :=
  (∀ (k0_h5 : ¬(k0_cond5 v131 v137 = 1#1)), ∀ a x, ((![v637] : Fin 1 → IVec S16 32) a x).toNat < S49168.size a)
theorem k0_idx237_inb : ∀ (v131 : BitVec 32) (v137 : BitVec 32) (v637 : IVec S16 32) (k0_hw237 : k0_chk237 v131 v137 v637), ∀ (k0_h5 : ¬(k0_cond5 v131 v137 = 1#1)), ∀ a x, ((![v637] : Fin 1 → IVec S16 32) a x).toNat < S49168.size a := fun v131 v137 v637 k0_hw237 k0_h5 => k0_hw237 k0_h5
def k0_off89 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c432_i32 : BitVec 32 := 432#32
  let v638 : BitVec 32 := Scalar.addi v127 c432_i32
  let v639 : Index := Scalar.indexCast v638
  ![v639.toNat]

def k0_chk238 (v131 : BitVec 32) (v137 : BitVec 32) (v651 : IVec S16 32) : Prop :=
  (∀ (k0_h5 : ¬(k0_cond5 v131 v137 = 1#1)), ∀ a x, ((![v651] : Fin 1 → IVec S16 32) a x).toNat < S49168.size a)
theorem k0_idx238_inb : ∀ (v131 : BitVec 32) (v137 : BitVec 32) (v651 : IVec S16 32) (k0_hw238 : k0_chk238 v131 v137 v651), ∀ (k0_h5 : ¬(k0_cond5 v131 v137 = 1#1)), ∀ a x, ((![v651] : Fin 1 → IVec S16 32) a x).toNat < S49168.size a := fun v131 v137 v651 k0_hw238 k0_h5 => k0_hw238 k0_h5

def k0_chk239 (v131 : BitVec 32) (v137 : BitVec 32) (v653 : IVec S16 32) : Prop :=
  (∀ (k0_h5 : ¬(k0_cond5 v131 v137 = 1#1)), ∀ a x, ((![v653] : Fin 1 → IVec S16 32) a x).toNat < S49168.size a)
theorem k0_idx239_inb : ∀ (v131 : BitVec 32) (v137 : BitVec 32) (v653 : IVec S16 32) (k0_hw239 : k0_chk239 v131 v137 v653), ∀ (k0_h5 : ¬(k0_cond5 v131 v137 = 1#1)), ∀ a x, ((![v653] : Fin 1 → IVec S16 32) a x).toNat < S49168.size a := fun v131 v137 v653 k0_hw239 k0_h5 => k0_hw239 k0_h5

def k0_chk240 (v131 : BitVec 32) (v137 : BitVec 32) (v655 : IVec S16 32) : Prop :=
  (∀ (k0_h5 : ¬(k0_cond5 v131 v137 = 1#1)), ∀ a x, ((![v655] : Fin 1 → IVec S16 32) a x).toNat < S49168.size a)
theorem k0_idx240_inb : ∀ (v131 : BitVec 32) (v137 : BitVec 32) (v655 : IVec S16 32) (k0_hw240 : k0_chk240 v131 v137 v655), ∀ (k0_h5 : ¬(k0_cond5 v131 v137 = 1#1)), ∀ a x, ((![v655] : Fin 1 → IVec S16 32) a x).toNat < S49168.size a := fun v131 v137 v655 k0_hw240 k0_h5 => k0_hw240 k0_h5
def k0_off90 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c448_i32 : BitVec 32 := 448#32
  let v656 : BitVec 32 := Scalar.addi v127 c448_i32
  let v657 : Index := Scalar.indexCast v656
  ![v657.toNat]

def k0_chk241 (v131 : BitVec 32) (v137 : BitVec 32) (v669 : IVec S16 32) : Prop :=
  (∀ (k0_h5 : ¬(k0_cond5 v131 v137 = 1#1)), ∀ a x, ((![v669] : Fin 1 → IVec S16 32) a x).toNat < S49168.size a)
theorem k0_idx241_inb : ∀ (v131 : BitVec 32) (v137 : BitVec 32) (v669 : IVec S16 32) (k0_hw241 : k0_chk241 v131 v137 v669), ∀ (k0_h5 : ¬(k0_cond5 v131 v137 = 1#1)), ∀ a x, ((![v669] : Fin 1 → IVec S16 32) a x).toNat < S49168.size a := fun v131 v137 v669 k0_hw241 k0_h5 => k0_hw241 k0_h5

def k0_chk242 (v131 : BitVec 32) (v137 : BitVec 32) (v671 : IVec S16 32) : Prop :=
  (∀ (k0_h5 : ¬(k0_cond5 v131 v137 = 1#1)), ∀ a x, ((![v671] : Fin 1 → IVec S16 32) a x).toNat < S49168.size a)
theorem k0_idx242_inb : ∀ (v131 : BitVec 32) (v137 : BitVec 32) (v671 : IVec S16 32) (k0_hw242 : k0_chk242 v131 v137 v671), ∀ (k0_h5 : ¬(k0_cond5 v131 v137 = 1#1)), ∀ a x, ((![v671] : Fin 1 → IVec S16 32) a x).toNat < S49168.size a := fun v131 v137 v671 k0_hw242 k0_h5 => k0_hw242 k0_h5

def k0_chk243 (v131 : BitVec 32) (v137 : BitVec 32) (v673 : IVec S16 32) : Prop :=
  (∀ (k0_h5 : ¬(k0_cond5 v131 v137 = 1#1)), ∀ a x, ((![v673] : Fin 1 → IVec S16 32) a x).toNat < S49168.size a)
theorem k0_idx243_inb : ∀ (v131 : BitVec 32) (v137 : BitVec 32) (v673 : IVec S16 32) (k0_hw243 : k0_chk243 v131 v137 v673), ∀ (k0_h5 : ¬(k0_cond5 v131 v137 = 1#1)), ∀ a x, ((![v673] : Fin 1 → IVec S16 32) a x).toNat < S49168.size a := fun v131 v137 v673 k0_hw243 k0_h5 => k0_hw243 k0_h5
def k0_off91 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c464_i32 : BitVec 32 := 464#32
  let v674 : BitVec 32 := Scalar.addi v127 c464_i32
  let v675 : Index := Scalar.indexCast v674
  ![v675.toNat]

def k0_chk244 (v131 : BitVec 32) (v137 : BitVec 32) (v687 : IVec S16 32) : Prop :=
  (∀ (k0_h5 : ¬(k0_cond5 v131 v137 = 1#1)), ∀ a x, ((![v687] : Fin 1 → IVec S16 32) a x).toNat < S49168.size a)
theorem k0_idx244_inb : ∀ (v131 : BitVec 32) (v137 : BitVec 32) (v687 : IVec S16 32) (k0_hw244 : k0_chk244 v131 v137 v687), ∀ (k0_h5 : ¬(k0_cond5 v131 v137 = 1#1)), ∀ a x, ((![v687] : Fin 1 → IVec S16 32) a x).toNat < S49168.size a := fun v131 v137 v687 k0_hw244 k0_h5 => k0_hw244 k0_h5

def k0_chk245 (v131 : BitVec 32) (v137 : BitVec 32) (v689 : IVec S16 32) : Prop :=
  (∀ (k0_h5 : ¬(k0_cond5 v131 v137 = 1#1)), ∀ a x, ((![v689] : Fin 1 → IVec S16 32) a x).toNat < S49168.size a)
theorem k0_idx245_inb : ∀ (v131 : BitVec 32) (v137 : BitVec 32) (v689 : IVec S16 32) (k0_hw245 : k0_chk245 v131 v137 v689), ∀ (k0_h5 : ¬(k0_cond5 v131 v137 = 1#1)), ∀ a x, ((![v689] : Fin 1 → IVec S16 32) a x).toNat < S49168.size a := fun v131 v137 v689 k0_hw245 k0_h5 => k0_hw245 k0_h5

def k0_chk246 (v131 : BitVec 32) (v137 : BitVec 32) (v691 : IVec S16 32) : Prop :=
  (∀ (k0_h5 : ¬(k0_cond5 v131 v137 = 1#1)), ∀ a x, ((![v691] : Fin 1 → IVec S16 32) a x).toNat < S49168.size a)
theorem k0_idx246_inb : ∀ (v131 : BitVec 32) (v137 : BitVec 32) (v691 : IVec S16 32) (k0_hw246 : k0_chk246 v131 v137 v691), ∀ (k0_h5 : ¬(k0_cond5 v131 v137 = 1#1)), ∀ a x, ((![v691] : Fin 1 → IVec S16 32) a x).toNat < S49168.size a := fun v131 v137 v691 k0_hw246 k0_h5 => k0_hw246 k0_h5
def k0_off92 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c480_i32 : BitVec 32 := 480#32
  let v692 : BitVec 32 := Scalar.addi v127 c480_i32
  let v693 : Index := Scalar.indexCast v692
  ![v693.toNat]

def k0_chk247 (v131 : BitVec 32) (v137 : BitVec 32) (v705 : IVec S16 32) : Prop :=
  (∀ (k0_h5 : ¬(k0_cond5 v131 v137 = 1#1)), ∀ a x, ((![v705] : Fin 1 → IVec S16 32) a x).toNat < S49168.size a)
theorem k0_idx247_inb : ∀ (v131 : BitVec 32) (v137 : BitVec 32) (v705 : IVec S16 32) (k0_hw247 : k0_chk247 v131 v137 v705), ∀ (k0_h5 : ¬(k0_cond5 v131 v137 = 1#1)), ∀ a x, ((![v705] : Fin 1 → IVec S16 32) a x).toNat < S49168.size a := fun v131 v137 v705 k0_hw247 k0_h5 => k0_hw247 k0_h5

def k0_chk248 (v131 : BitVec 32) (v137 : BitVec 32) (v707 : IVec S16 32) : Prop :=
  (∀ (k0_h5 : ¬(k0_cond5 v131 v137 = 1#1)), ∀ a x, ((![v707] : Fin 1 → IVec S16 32) a x).toNat < S49168.size a)
theorem k0_idx248_inb : ∀ (v131 : BitVec 32) (v137 : BitVec 32) (v707 : IVec S16 32) (k0_hw248 : k0_chk248 v131 v137 v707), ∀ (k0_h5 : ¬(k0_cond5 v131 v137 = 1#1)), ∀ a x, ((![v707] : Fin 1 → IVec S16 32) a x).toNat < S49168.size a := fun v131 v137 v707 k0_hw248 k0_h5 => k0_hw248 k0_h5

def k0_chk249 (v131 : BitVec 32) (v137 : BitVec 32) (v709 : IVec S16 32) : Prop :=
  (∀ (k0_h5 : ¬(k0_cond5 v131 v137 = 1#1)), ∀ a x, ((![v709] : Fin 1 → IVec S16 32) a x).toNat < S49168.size a)
theorem k0_idx249_inb : ∀ (v131 : BitVec 32) (v137 : BitVec 32) (v709 : IVec S16 32) (k0_hw249 : k0_chk249 v131 v137 v709), ∀ (k0_h5 : ¬(k0_cond5 v131 v137 = 1#1)), ∀ a x, ((![v709] : Fin 1 → IVec S16 32) a x).toNat < S49168.size a := fun v131 v137 v709 k0_hw249 k0_h5 => k0_hw249 k0_h5
def k0_off93 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c496_i32 : BitVec 32 := 496#32
  let v710 : BitVec 32 := Scalar.addi v127 c496_i32
  let v711 : Index := Scalar.indexCast v710
  ![v711.toNat]

def k0_chk250 (v131 : BitVec 32) (v137 : BitVec 32) (v723 : IVec S16 32) : Prop :=
  (∀ (k0_h5 : ¬(k0_cond5 v131 v137 = 1#1)), ∀ a x, ((![v723] : Fin 1 → IVec S16 32) a x).toNat < S49168.size a)
theorem k0_idx250_inb : ∀ (v131 : BitVec 32) (v137 : BitVec 32) (v723 : IVec S16 32) (k0_hw250 : k0_chk250 v131 v137 v723), ∀ (k0_h5 : ¬(k0_cond5 v131 v137 = 1#1)), ∀ a x, ((![v723] : Fin 1 → IVec S16 32) a x).toNat < S49168.size a := fun v131 v137 v723 k0_hw250 k0_h5 => k0_hw250 k0_h5

def k0_chk251 (v131 : BitVec 32) (v137 : BitVec 32) (v725 : IVec S16 32) : Prop :=
  (∀ (k0_h5 : ¬(k0_cond5 v131 v137 = 1#1)), ∀ a x, ((![v725] : Fin 1 → IVec S16 32) a x).toNat < S49168.size a)
theorem k0_idx251_inb : ∀ (v131 : BitVec 32) (v137 : BitVec 32) (v725 : IVec S16 32) (k0_hw251 : k0_chk251 v131 v137 v725), ∀ (k0_h5 : ¬(k0_cond5 v131 v137 = 1#1)), ∀ a x, ((![v725] : Fin 1 → IVec S16 32) a x).toNat < S49168.size a := fun v131 v137 v725 k0_hw251 k0_h5 => k0_hw251 k0_h5

def k0_chk252 (v131 : BitVec 32) (v137 : BitVec 32) (v727 : IVec S16 32) : Prop :=
  (∀ (k0_h5 : ¬(k0_cond5 v131 v137 = 1#1)), ∀ a x, ((![v727] : Fin 1 → IVec S16 32) a x).toNat < S49168.size a)
theorem k0_idx252_inb : ∀ (v131 : BitVec 32) (v137 : BitVec 32) (v727 : IVec S16 32) (k0_hw252 : k0_chk252 v131 v137 v727), ∀ (k0_h5 : ¬(k0_cond5 v131 v137 = 1#1)), ∀ a x, ((![v727] : Fin 1 → IVec S16 32) a x).toNat < S49168.size a := fun v131 v137 v727 k0_hw252 k0_h5 => k0_hw252 k0_h5
def k0_off94 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c512_i32 : BitVec 32 := 512#32
  let v728 : BitVec 32 := Scalar.addi v127 c512_i32
  let v729 : Index := Scalar.indexCast v728
  ![v729.toNat]

def k0_chk253 (v131 : BitVec 32) (v137 : BitVec 32) (v741 : IVec S16 32) : Prop :=
  (∀ (k0_h5 : ¬(k0_cond5 v131 v137 = 1#1)), ∀ a x, ((![v741] : Fin 1 → IVec S16 32) a x).toNat < S49168.size a)
theorem k0_idx253_inb : ∀ (v131 : BitVec 32) (v137 : BitVec 32) (v741 : IVec S16 32) (k0_hw253 : k0_chk253 v131 v137 v741), ∀ (k0_h5 : ¬(k0_cond5 v131 v137 = 1#1)), ∀ a x, ((![v741] : Fin 1 → IVec S16 32) a x).toNat < S49168.size a := fun v131 v137 v741 k0_hw253 k0_h5 => k0_hw253 k0_h5

def k0_chk254 (v131 : BitVec 32) (v137 : BitVec 32) (v743 : IVec S16 32) : Prop :=
  (∀ (k0_h5 : ¬(k0_cond5 v131 v137 = 1#1)), ∀ a x, ((![v743] : Fin 1 → IVec S16 32) a x).toNat < S49168.size a)
theorem k0_idx254_inb : ∀ (v131 : BitVec 32) (v137 : BitVec 32) (v743 : IVec S16 32) (k0_hw254 : k0_chk254 v131 v137 v743), ∀ (k0_h5 : ¬(k0_cond5 v131 v137 = 1#1)), ∀ a x, ((![v743] : Fin 1 → IVec S16 32) a x).toNat < S49168.size a := fun v131 v137 v743 k0_hw254 k0_h5 => k0_hw254 k0_h5

def k0_chk255 (v131 : BitVec 32) (v137 : BitVec 32) (v745 : IVec S16 32) : Prop :=
  (∀ (k0_h5 : ¬(k0_cond5 v131 v137 = 1#1)), ∀ a x, ((![v745] : Fin 1 → IVec S16 32) a x).toNat < S49168.size a)
theorem k0_idx255_inb : ∀ (v131 : BitVec 32) (v137 : BitVec 32) (v745 : IVec S16 32) (k0_hw255 : k0_chk255 v131 v137 v745), ∀ (k0_h5 : ¬(k0_cond5 v131 v137 = 1#1)), ∀ a x, ((![v745] : Fin 1 → IVec S16 32) a x).toNat < S49168.size a := fun v131 v137 v745 k0_hw255 k0_h5 => k0_hw255 k0_h5
def k0_off95 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c528_i32 : BitVec 32 := 528#32
  let v746 : BitVec 32 := Scalar.addi v127 c528_i32
  let v747 : Index := Scalar.indexCast v746
  ![v747.toNat]

def k0_chk256 (v131 : BitVec 32) (v137 : BitVec 32) (v759 : IVec S16 32) : Prop :=
  (∀ (k0_h5 : ¬(k0_cond5 v131 v137 = 1#1)), ∀ a x, ((![v759] : Fin 1 → IVec S16 32) a x).toNat < S49168.size a)
theorem k0_idx256_inb : ∀ (v131 : BitVec 32) (v137 : BitVec 32) (v759 : IVec S16 32) (k0_hw256 : k0_chk256 v131 v137 v759), ∀ (k0_h5 : ¬(k0_cond5 v131 v137 = 1#1)), ∀ a x, ((![v759] : Fin 1 → IVec S16 32) a x).toNat < S49168.size a := fun v131 v137 v759 k0_hw256 k0_h5 => k0_hw256 k0_h5

def k0_chk257 (v131 : BitVec 32) (v137 : BitVec 32) (v761 : IVec S16 32) : Prop :=
  (∀ (k0_h5 : ¬(k0_cond5 v131 v137 = 1#1)), ∀ a x, ((![v761] : Fin 1 → IVec S16 32) a x).toNat < S49168.size a)
theorem k0_idx257_inb : ∀ (v131 : BitVec 32) (v137 : BitVec 32) (v761 : IVec S16 32) (k0_hw257 : k0_chk257 v131 v137 v761), ∀ (k0_h5 : ¬(k0_cond5 v131 v137 = 1#1)), ∀ a x, ((![v761] : Fin 1 → IVec S16 32) a x).toNat < S49168.size a := fun v131 v137 v761 k0_hw257 k0_h5 => k0_hw257 k0_h5

def k0_chk258 (v131 : BitVec 32) (v137 : BitVec 32) (v763 : IVec S16 32) : Prop :=
  (∀ (k0_h5 : ¬(k0_cond5 v131 v137 = 1#1)), ∀ a x, ((![v763] : Fin 1 → IVec S16 32) a x).toNat < S49168.size a)
theorem k0_idx258_inb : ∀ (v131 : BitVec 32) (v137 : BitVec 32) (v763 : IVec S16 32) (k0_hw258 : k0_chk258 v131 v137 v763), ∀ (k0_h5 : ¬(k0_cond5 v131 v137 = 1#1)), ∀ a x, ((![v763] : Fin 1 → IVec S16 32) a x).toNat < S49168.size a := fun v131 v137 v763 k0_hw258 k0_h5 => k0_hw258 k0_h5
def k0_off96 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c544_i32 : BitVec 32 := 544#32
  let v764 : BitVec 32 := Scalar.addi v127 c544_i32
  let v765 : Index := Scalar.indexCast v764
  ![v765.toNat]

def k0_chk259 (v131 : BitVec 32) (v137 : BitVec 32) (v777 : IVec S16 32) : Prop :=
  (∀ (k0_h5 : ¬(k0_cond5 v131 v137 = 1#1)), ∀ a x, ((![v777] : Fin 1 → IVec S16 32) a x).toNat < S49168.size a)
theorem k0_idx259_inb : ∀ (v131 : BitVec 32) (v137 : BitVec 32) (v777 : IVec S16 32) (k0_hw259 : k0_chk259 v131 v137 v777), ∀ (k0_h5 : ¬(k0_cond5 v131 v137 = 1#1)), ∀ a x, ((![v777] : Fin 1 → IVec S16 32) a x).toNat < S49168.size a := fun v131 v137 v777 k0_hw259 k0_h5 => k0_hw259 k0_h5

def k0_chk260 (v131 : BitVec 32) (v137 : BitVec 32) (v779 : IVec S16 32) : Prop :=
  (∀ (k0_h5 : ¬(k0_cond5 v131 v137 = 1#1)), ∀ a x, ((![v779] : Fin 1 → IVec S16 32) a x).toNat < S49168.size a)
theorem k0_idx260_inb : ∀ (v131 : BitVec 32) (v137 : BitVec 32) (v779 : IVec S16 32) (k0_hw260 : k0_chk260 v131 v137 v779), ∀ (k0_h5 : ¬(k0_cond5 v131 v137 = 1#1)), ∀ a x, ((![v779] : Fin 1 → IVec S16 32) a x).toNat < S49168.size a := fun v131 v137 v779 k0_hw260 k0_h5 => k0_hw260 k0_h5

def k0_chk261 (v131 : BitVec 32) (v137 : BitVec 32) (v781 : IVec S16 32) : Prop :=
  (∀ (k0_h5 : ¬(k0_cond5 v131 v137 = 1#1)), ∀ a x, ((![v781] : Fin 1 → IVec S16 32) a x).toNat < S49168.size a)
theorem k0_idx261_inb : ∀ (v131 : BitVec 32) (v137 : BitVec 32) (v781 : IVec S16 32) (k0_hw261 : k0_chk261 v131 v137 v781), ∀ (k0_h5 : ¬(k0_cond5 v131 v137 = 1#1)), ∀ a x, ((![v781] : Fin 1 → IVec S16 32) a x).toNat < S49168.size a := fun v131 v137 v781 k0_hw261 k0_h5 => k0_hw261 k0_h5
def k0_off97 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c560_i32 : BitVec 32 := 560#32
  let v782 : BitVec 32 := Scalar.addi v127 c560_i32
  let v783 : Index := Scalar.indexCast v782
  ![v783.toNat]

def k0_chk262 (v131 : BitVec 32) (v137 : BitVec 32) (v795 : IVec S16 32) : Prop :=
  (∀ (k0_h5 : ¬(k0_cond5 v131 v137 = 1#1)), ∀ a x, ((![v795] : Fin 1 → IVec S16 32) a x).toNat < S49168.size a)
theorem k0_idx262_inb : ∀ (v131 : BitVec 32) (v137 : BitVec 32) (v795 : IVec S16 32) (k0_hw262 : k0_chk262 v131 v137 v795), ∀ (k0_h5 : ¬(k0_cond5 v131 v137 = 1#1)), ∀ a x, ((![v795] : Fin 1 → IVec S16 32) a x).toNat < S49168.size a := fun v131 v137 v795 k0_hw262 k0_h5 => k0_hw262 k0_h5

def k0_chk263 (v131 : BitVec 32) (v137 : BitVec 32) (v797 : IVec S16 32) : Prop :=
  (∀ (k0_h5 : ¬(k0_cond5 v131 v137 = 1#1)), ∀ a x, ((![v797] : Fin 1 → IVec S16 32) a x).toNat < S49168.size a)
theorem k0_idx263_inb : ∀ (v131 : BitVec 32) (v137 : BitVec 32) (v797 : IVec S16 32) (k0_hw263 : k0_chk263 v131 v137 v797), ∀ (k0_h5 : ¬(k0_cond5 v131 v137 = 1#1)), ∀ a x, ((![v797] : Fin 1 → IVec S16 32) a x).toNat < S49168.size a := fun v131 v137 v797 k0_hw263 k0_h5 => k0_hw263 k0_h5

def k0_chk264 (v131 : BitVec 32) (v137 : BitVec 32) (v799 : IVec S16 32) : Prop :=
  (∀ (k0_h5 : ¬(k0_cond5 v131 v137 = 1#1)), ∀ a x, ((![v799] : Fin 1 → IVec S16 32) a x).toNat < S49168.size a)
theorem k0_idx264_inb : ∀ (v131 : BitVec 32) (v137 : BitVec 32) (v799 : IVec S16 32) (k0_hw264 : k0_chk264 v131 v137 v799), ∀ (k0_h5 : ¬(k0_cond5 v131 v137 = 1#1)), ∀ a x, ((![v799] : Fin 1 → IVec S16 32) a x).toNat < S49168.size a := fun v131 v137 v799 k0_hw264 k0_h5 => k0_hw264 k0_h5
def k0_off98 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c576_i32 : BitVec 32 := 576#32
  let v800 : BitVec 32 := Scalar.addi v127 c576_i32
  let v801 : Index := Scalar.indexCast v800
  ![v801.toNat]

def k0_chk265 (v131 : BitVec 32) (v137 : BitVec 32) (v813 : IVec S16 32) : Prop :=
  (∀ (k0_h5 : ¬(k0_cond5 v131 v137 = 1#1)), ∀ a x, ((![v813] : Fin 1 → IVec S16 32) a x).toNat < S49168.size a)
theorem k0_idx265_inb : ∀ (v131 : BitVec 32) (v137 : BitVec 32) (v813 : IVec S16 32) (k0_hw265 : k0_chk265 v131 v137 v813), ∀ (k0_h5 : ¬(k0_cond5 v131 v137 = 1#1)), ∀ a x, ((![v813] : Fin 1 → IVec S16 32) a x).toNat < S49168.size a := fun v131 v137 v813 k0_hw265 k0_h5 => k0_hw265 k0_h5

def k0_chk266 (v131 : BitVec 32) (v137 : BitVec 32) (v815 : IVec S16 32) : Prop :=
  (∀ (k0_h5 : ¬(k0_cond5 v131 v137 = 1#1)), ∀ a x, ((![v815] : Fin 1 → IVec S16 32) a x).toNat < S49168.size a)
theorem k0_idx266_inb : ∀ (v131 : BitVec 32) (v137 : BitVec 32) (v815 : IVec S16 32) (k0_hw266 : k0_chk266 v131 v137 v815), ∀ (k0_h5 : ¬(k0_cond5 v131 v137 = 1#1)), ∀ a x, ((![v815] : Fin 1 → IVec S16 32) a x).toNat < S49168.size a := fun v131 v137 v815 k0_hw266 k0_h5 => k0_hw266 k0_h5

def k0_chk267 (v131 : BitVec 32) (v137 : BitVec 32) (v817 : IVec S16 32) : Prop :=
  (∀ (k0_h5 : ¬(k0_cond5 v131 v137 = 1#1)), ∀ a x, ((![v817] : Fin 1 → IVec S16 32) a x).toNat < S49168.size a)
theorem k0_idx267_inb : ∀ (v131 : BitVec 32) (v137 : BitVec 32) (v817 : IVec S16 32) (k0_hw267 : k0_chk267 v131 v137 v817), ∀ (k0_h5 : ¬(k0_cond5 v131 v137 = 1#1)), ∀ a x, ((![v817] : Fin 1 → IVec S16 32) a x).toNat < S49168.size a := fun v131 v137 v817 k0_hw267 k0_h5 => k0_hw267 k0_h5
def k0_off99 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c592_i32 : BitVec 32 := 592#32
  let v818 : BitVec 32 := Scalar.addi v127 c592_i32
  let v819 : Index := Scalar.indexCast v818
  ![v819.toNat]

def k0_chk268 (v131 : BitVec 32) (v137 : BitVec 32) (v831 : IVec S16 32) : Prop :=
  (∀ (k0_h5 : ¬(k0_cond5 v131 v137 = 1#1)), ∀ a x, ((![v831] : Fin 1 → IVec S16 32) a x).toNat < S49168.size a)
theorem k0_idx268_inb : ∀ (v131 : BitVec 32) (v137 : BitVec 32) (v831 : IVec S16 32) (k0_hw268 : k0_chk268 v131 v137 v831), ∀ (k0_h5 : ¬(k0_cond5 v131 v137 = 1#1)), ∀ a x, ((![v831] : Fin 1 → IVec S16 32) a x).toNat < S49168.size a := fun v131 v137 v831 k0_hw268 k0_h5 => k0_hw268 k0_h5

def k0_chk269 (v131 : BitVec 32) (v137 : BitVec 32) (v833 : IVec S16 32) : Prop :=
  (∀ (k0_h5 : ¬(k0_cond5 v131 v137 = 1#1)), ∀ a x, ((![v833] : Fin 1 → IVec S16 32) a x).toNat < S49168.size a)
theorem k0_idx269_inb : ∀ (v131 : BitVec 32) (v137 : BitVec 32) (v833 : IVec S16 32) (k0_hw269 : k0_chk269 v131 v137 v833), ∀ (k0_h5 : ¬(k0_cond5 v131 v137 = 1#1)), ∀ a x, ((![v833] : Fin 1 → IVec S16 32) a x).toNat < S49168.size a := fun v131 v137 v833 k0_hw269 k0_h5 => k0_hw269 k0_h5

def k0_chk270 (v131 : BitVec 32) (v137 : BitVec 32) (v835 : IVec S16 32) : Prop :=
  (∀ (k0_h5 : ¬(k0_cond5 v131 v137 = 1#1)), ∀ a x, ((![v835] : Fin 1 → IVec S16 32) a x).toNat < S49168.size a)
theorem k0_idx270_inb : ∀ (v131 : BitVec 32) (v137 : BitVec 32) (v835 : IVec S16 32) (k0_hw270 : k0_chk270 v131 v137 v835), ∀ (k0_h5 : ¬(k0_cond5 v131 v137 = 1#1)), ∀ a x, ((![v835] : Fin 1 → IVec S16 32) a x).toNat < S49168.size a := fun v131 v137 v835 k0_hw270 k0_h5 => k0_hw270 k0_h5
def k0_off100 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c608_i32 : BitVec 32 := 608#32
  let v836 : BitVec 32 := Scalar.addi v127 c608_i32
  let v837 : Index := Scalar.indexCast v836
  ![v837.toNat]

def k0_chk271 (v131 : BitVec 32) (v137 : BitVec 32) (v849 : IVec S16 32) : Prop :=
  (∀ (k0_h5 : ¬(k0_cond5 v131 v137 = 1#1)), ∀ a x, ((![v849] : Fin 1 → IVec S16 32) a x).toNat < S49168.size a)
theorem k0_idx271_inb : ∀ (v131 : BitVec 32) (v137 : BitVec 32) (v849 : IVec S16 32) (k0_hw271 : k0_chk271 v131 v137 v849), ∀ (k0_h5 : ¬(k0_cond5 v131 v137 = 1#1)), ∀ a x, ((![v849] : Fin 1 → IVec S16 32) a x).toNat < S49168.size a := fun v131 v137 v849 k0_hw271 k0_h5 => k0_hw271 k0_h5

def k0_chk272 (v131 : BitVec 32) (v137 : BitVec 32) (v851 : IVec S16 32) : Prop :=
  (∀ (k0_h5 : ¬(k0_cond5 v131 v137 = 1#1)), ∀ a x, ((![v851] : Fin 1 → IVec S16 32) a x).toNat < S49168.size a)
theorem k0_idx272_inb : ∀ (v131 : BitVec 32) (v137 : BitVec 32) (v851 : IVec S16 32) (k0_hw272 : k0_chk272 v131 v137 v851), ∀ (k0_h5 : ¬(k0_cond5 v131 v137 = 1#1)), ∀ a x, ((![v851] : Fin 1 → IVec S16 32) a x).toNat < S49168.size a := fun v131 v137 v851 k0_hw272 k0_h5 => k0_hw272 k0_h5

def k0_chk273 (v131 : BitVec 32) (v137 : BitVec 32) (v853 : IVec S16 32) : Prop :=
  (∀ (k0_h5 : ¬(k0_cond5 v131 v137 = 1#1)), ∀ a x, ((![v853] : Fin 1 → IVec S16 32) a x).toNat < S49168.size a)
theorem k0_idx273_inb : ∀ (v131 : BitVec 32) (v137 : BitVec 32) (v853 : IVec S16 32) (k0_hw273 : k0_chk273 v131 v137 v853), ∀ (k0_h5 : ¬(k0_cond5 v131 v137 = 1#1)), ∀ a x, ((![v853] : Fin 1 → IVec S16 32) a x).toNat < S49168.size a := fun v131 v137 v853 k0_hw273 k0_h5 => k0_hw273 k0_h5
def k0_off101 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c624_i32 : BitVec 32 := 624#32
  let v854 : BitVec 32 := Scalar.addi v127 c624_i32
  let v855 : Index := Scalar.indexCast v854
  ![v855.toNat]

def k0_chk274 (v131 : BitVec 32) (v137 : BitVec 32) (v867 : IVec S16 32) : Prop :=
  (∀ (k0_h5 : ¬(k0_cond5 v131 v137 = 1#1)), ∀ a x, ((![v867] : Fin 1 → IVec S16 32) a x).toNat < S49168.size a)
theorem k0_idx274_inb : ∀ (v131 : BitVec 32) (v137 : BitVec 32) (v867 : IVec S16 32) (k0_hw274 : k0_chk274 v131 v137 v867), ∀ (k0_h5 : ¬(k0_cond5 v131 v137 = 1#1)), ∀ a x, ((![v867] : Fin 1 → IVec S16 32) a x).toNat < S49168.size a := fun v131 v137 v867 k0_hw274 k0_h5 => k0_hw274 k0_h5

def k0_chk275 (v131 : BitVec 32) (v137 : BitVec 32) (v869 : IVec S16 32) : Prop :=
  (∀ (k0_h5 : ¬(k0_cond5 v131 v137 = 1#1)), ∀ a x, ((![v869] : Fin 1 → IVec S16 32) a x).toNat < S49168.size a)
theorem k0_idx275_inb : ∀ (v131 : BitVec 32) (v137 : BitVec 32) (v869 : IVec S16 32) (k0_hw275 : k0_chk275 v131 v137 v869), ∀ (k0_h5 : ¬(k0_cond5 v131 v137 = 1#1)), ∀ a x, ((![v869] : Fin 1 → IVec S16 32) a x).toNat < S49168.size a := fun v131 v137 v869 k0_hw275 k0_h5 => k0_hw275 k0_h5

def k0_chk276 (v131 : BitVec 32) (v137 : BitVec 32) (v871 : IVec S16 32) : Prop :=
  (∀ (k0_h5 : ¬(k0_cond5 v131 v137 = 1#1)), ∀ a x, ((![v871] : Fin 1 → IVec S16 32) a x).toNat < S49168.size a)
theorem k0_idx276_inb : ∀ (v131 : BitVec 32) (v137 : BitVec 32) (v871 : IVec S16 32) (k0_hw276 : k0_chk276 v131 v137 v871), ∀ (k0_h5 : ¬(k0_cond5 v131 v137 = 1#1)), ∀ a x, ((![v871] : Fin 1 → IVec S16 32) a x).toNat < S49168.size a := fun v131 v137 v871 k0_hw276 k0_h5 => k0_hw276 k0_h5
def k0_off102 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c640_i32 : BitVec 32 := 640#32
  let v872 : BitVec 32 := Scalar.addi v127 c640_i32
  let v873 : Index := Scalar.indexCast v872
  ![v873.toNat]

def k0_chk277 (v131 : BitVec 32) (v137 : BitVec 32) (v885 : IVec S16 32) : Prop :=
  (∀ (k0_h5 : ¬(k0_cond5 v131 v137 = 1#1)), ∀ a x, ((![v885] : Fin 1 → IVec S16 32) a x).toNat < S49168.size a)
theorem k0_idx277_inb : ∀ (v131 : BitVec 32) (v137 : BitVec 32) (v885 : IVec S16 32) (k0_hw277 : k0_chk277 v131 v137 v885), ∀ (k0_h5 : ¬(k0_cond5 v131 v137 = 1#1)), ∀ a x, ((![v885] : Fin 1 → IVec S16 32) a x).toNat < S49168.size a := fun v131 v137 v885 k0_hw277 k0_h5 => k0_hw277 k0_h5

def k0_chk278 (v131 : BitVec 32) (v137 : BitVec 32) (v887 : IVec S16 32) : Prop :=
  (∀ (k0_h5 : ¬(k0_cond5 v131 v137 = 1#1)), ∀ a x, ((![v887] : Fin 1 → IVec S16 32) a x).toNat < S49168.size a)
theorem k0_idx278_inb : ∀ (v131 : BitVec 32) (v137 : BitVec 32) (v887 : IVec S16 32) (k0_hw278 : k0_chk278 v131 v137 v887), ∀ (k0_h5 : ¬(k0_cond5 v131 v137 = 1#1)), ∀ a x, ((![v887] : Fin 1 → IVec S16 32) a x).toNat < S49168.size a := fun v131 v137 v887 k0_hw278 k0_h5 => k0_hw278 k0_h5

def k0_chk279 (v131 : BitVec 32) (v137 : BitVec 32) (v889 : IVec S16 32) : Prop :=
  (∀ (k0_h5 : ¬(k0_cond5 v131 v137 = 1#1)), ∀ a x, ((![v889] : Fin 1 → IVec S16 32) a x).toNat < S49168.size a)
theorem k0_idx279_inb : ∀ (v131 : BitVec 32) (v137 : BitVec 32) (v889 : IVec S16 32) (k0_hw279 : k0_chk279 v131 v137 v889), ∀ (k0_h5 : ¬(k0_cond5 v131 v137 = 1#1)), ∀ a x, ((![v889] : Fin 1 → IVec S16 32) a x).toNat < S49168.size a := fun v131 v137 v889 k0_hw279 k0_h5 => k0_hw279 k0_h5
def k0_off103 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c656_i32 : BitVec 32 := 656#32
  let v890 : BitVec 32 := Scalar.addi v127 c656_i32
  let v891 : Index := Scalar.indexCast v890
  ![v891.toNat]

def k0_chk280 (v131 : BitVec 32) (v137 : BitVec 32) (v903 : IVec S16 32) : Prop :=
  (∀ (k0_h5 : ¬(k0_cond5 v131 v137 = 1#1)), ∀ a x, ((![v903] : Fin 1 → IVec S16 32) a x).toNat < S49168.size a)
theorem k0_idx280_inb : ∀ (v131 : BitVec 32) (v137 : BitVec 32) (v903 : IVec S16 32) (k0_hw280 : k0_chk280 v131 v137 v903), ∀ (k0_h5 : ¬(k0_cond5 v131 v137 = 1#1)), ∀ a x, ((![v903] : Fin 1 → IVec S16 32) a x).toNat < S49168.size a := fun v131 v137 v903 k0_hw280 k0_h5 => k0_hw280 k0_h5

def k0_chk281 (v131 : BitVec 32) (v137 : BitVec 32) (v905 : IVec S16 32) : Prop :=
  (∀ (k0_h5 : ¬(k0_cond5 v131 v137 = 1#1)), ∀ a x, ((![v905] : Fin 1 → IVec S16 32) a x).toNat < S49168.size a)
theorem k0_idx281_inb : ∀ (v131 : BitVec 32) (v137 : BitVec 32) (v905 : IVec S16 32) (k0_hw281 : k0_chk281 v131 v137 v905), ∀ (k0_h5 : ¬(k0_cond5 v131 v137 = 1#1)), ∀ a x, ((![v905] : Fin 1 → IVec S16 32) a x).toNat < S49168.size a := fun v131 v137 v905 k0_hw281 k0_h5 => k0_hw281 k0_h5

def k0_chk282 (v131 : BitVec 32) (v137 : BitVec 32) (v907 : IVec S16 32) : Prop :=
  (∀ (k0_h5 : ¬(k0_cond5 v131 v137 = 1#1)), ∀ a x, ((![v907] : Fin 1 → IVec S16 32) a x).toNat < S49168.size a)
theorem k0_idx282_inb : ∀ (v131 : BitVec 32) (v137 : BitVec 32) (v907 : IVec S16 32) (k0_hw282 : k0_chk282 v131 v137 v907), ∀ (k0_h5 : ¬(k0_cond5 v131 v137 = 1#1)), ∀ a x, ((![v907] : Fin 1 → IVec S16 32) a x).toNat < S49168.size a := fun v131 v137 v907 k0_hw282 k0_h5 => k0_hw282 k0_h5
def k0_off104 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c672_i32 : BitVec 32 := 672#32
  let v908 : BitVec 32 := Scalar.addi v127 c672_i32
  let v909 : Index := Scalar.indexCast v908
  ![v909.toNat]

def k0_chk283 (v131 : BitVec 32) (v137 : BitVec 32) (v921 : IVec S16 32) : Prop :=
  (∀ (k0_h5 : ¬(k0_cond5 v131 v137 = 1#1)), ∀ a x, ((![v921] : Fin 1 → IVec S16 32) a x).toNat < S49168.size a)
theorem k0_idx283_inb : ∀ (v131 : BitVec 32) (v137 : BitVec 32) (v921 : IVec S16 32) (k0_hw283 : k0_chk283 v131 v137 v921), ∀ (k0_h5 : ¬(k0_cond5 v131 v137 = 1#1)), ∀ a x, ((![v921] : Fin 1 → IVec S16 32) a x).toNat < S49168.size a := fun v131 v137 v921 k0_hw283 k0_h5 => k0_hw283 k0_h5

def k0_chk284 (v131 : BitVec 32) (v137 : BitVec 32) (v923 : IVec S16 32) : Prop :=
  (∀ (k0_h5 : ¬(k0_cond5 v131 v137 = 1#1)), ∀ a x, ((![v923] : Fin 1 → IVec S16 32) a x).toNat < S49168.size a)
theorem k0_idx284_inb : ∀ (v131 : BitVec 32) (v137 : BitVec 32) (v923 : IVec S16 32) (k0_hw284 : k0_chk284 v131 v137 v923), ∀ (k0_h5 : ¬(k0_cond5 v131 v137 = 1#1)), ∀ a x, ((![v923] : Fin 1 → IVec S16 32) a x).toNat < S49168.size a := fun v131 v137 v923 k0_hw284 k0_h5 => k0_hw284 k0_h5

def k0_chk285 (v131 : BitVec 32) (v137 : BitVec 32) (v925 : IVec S16 32) : Prop :=
  (∀ (k0_h5 : ¬(k0_cond5 v131 v137 = 1#1)), ∀ a x, ((![v925] : Fin 1 → IVec S16 32) a x).toNat < S49168.size a)
theorem k0_idx285_inb : ∀ (v131 : BitVec 32) (v137 : BitVec 32) (v925 : IVec S16 32) (k0_hw285 : k0_chk285 v131 v137 v925), ∀ (k0_h5 : ¬(k0_cond5 v131 v137 = 1#1)), ∀ a x, ((![v925] : Fin 1 → IVec S16 32) a x).toNat < S49168.size a := fun v131 v137 v925 k0_hw285 k0_h5 => k0_hw285 k0_h5
def k0_off105 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c688_i32 : BitVec 32 := 688#32
  let v926 : BitVec 32 := Scalar.addi v127 c688_i32
  let v927 : Index := Scalar.indexCast v926
  ![v927.toNat]

def k0_chk286 (v131 : BitVec 32) (v137 : BitVec 32) (v939 : IVec S16 32) : Prop :=
  (∀ (k0_h5 : ¬(k0_cond5 v131 v137 = 1#1)), ∀ a x, ((![v939] : Fin 1 → IVec S16 32) a x).toNat < S49168.size a)
theorem k0_idx286_inb : ∀ (v131 : BitVec 32) (v137 : BitVec 32) (v939 : IVec S16 32) (k0_hw286 : k0_chk286 v131 v137 v939), ∀ (k0_h5 : ¬(k0_cond5 v131 v137 = 1#1)), ∀ a x, ((![v939] : Fin 1 → IVec S16 32) a x).toNat < S49168.size a := fun v131 v137 v939 k0_hw286 k0_h5 => k0_hw286 k0_h5

def k0_chk287 (v131 : BitVec 32) (v137 : BitVec 32) (v941 : IVec S16 32) : Prop :=
  (∀ (k0_h5 : ¬(k0_cond5 v131 v137 = 1#1)), ∀ a x, ((![v941] : Fin 1 → IVec S16 32) a x).toNat < S49168.size a)
theorem k0_idx287_inb : ∀ (v131 : BitVec 32) (v137 : BitVec 32) (v941 : IVec S16 32) (k0_hw287 : k0_chk287 v131 v137 v941), ∀ (k0_h5 : ¬(k0_cond5 v131 v137 = 1#1)), ∀ a x, ((![v941] : Fin 1 → IVec S16 32) a x).toNat < S49168.size a := fun v131 v137 v941 k0_hw287 k0_h5 => k0_hw287 k0_h5

def k0_chk288 (v131 : BitVec 32) (v137 : BitVec 32) (v943 : IVec S16 32) : Prop :=
  (∀ (k0_h5 : ¬(k0_cond5 v131 v137 = 1#1)), ∀ a x, ((![v943] : Fin 1 → IVec S16 32) a x).toNat < S49168.size a)
theorem k0_idx288_inb : ∀ (v131 : BitVec 32) (v137 : BitVec 32) (v943 : IVec S16 32) (k0_hw288 : k0_chk288 v131 v137 v943), ∀ (k0_h5 : ¬(k0_cond5 v131 v137 = 1#1)), ∀ a x, ((![v943] : Fin 1 → IVec S16 32) a x).toNat < S49168.size a := fun v131 v137 v943 k0_hw288 k0_h5 => k0_hw288 k0_h5
def k0_off106 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c704_i32 : BitVec 32 := 704#32
  let v944 : BitVec 32 := Scalar.addi v127 c704_i32
  let v945 : Index := Scalar.indexCast v944
  ![v945.toNat]

def k0_chk289 (v131 : BitVec 32) (v137 : BitVec 32) (v957 : IVec S16 32) : Prop :=
  (∀ (k0_h5 : ¬(k0_cond5 v131 v137 = 1#1)), ∀ a x, ((![v957] : Fin 1 → IVec S16 32) a x).toNat < S49168.size a)
theorem k0_idx289_inb : ∀ (v131 : BitVec 32) (v137 : BitVec 32) (v957 : IVec S16 32) (k0_hw289 : k0_chk289 v131 v137 v957), ∀ (k0_h5 : ¬(k0_cond5 v131 v137 = 1#1)), ∀ a x, ((![v957] : Fin 1 → IVec S16 32) a x).toNat < S49168.size a := fun v131 v137 v957 k0_hw289 k0_h5 => k0_hw289 k0_h5

def k0_chk290 (v131 : BitVec 32) (v137 : BitVec 32) (v959 : IVec S16 32) : Prop :=
  (∀ (k0_h5 : ¬(k0_cond5 v131 v137 = 1#1)), ∀ a x, ((![v959] : Fin 1 → IVec S16 32) a x).toNat < S49168.size a)
theorem k0_idx290_inb : ∀ (v131 : BitVec 32) (v137 : BitVec 32) (v959 : IVec S16 32) (k0_hw290 : k0_chk290 v131 v137 v959), ∀ (k0_h5 : ¬(k0_cond5 v131 v137 = 1#1)), ∀ a x, ((![v959] : Fin 1 → IVec S16 32) a x).toNat < S49168.size a := fun v131 v137 v959 k0_hw290 k0_h5 => k0_hw290 k0_h5

def k0_chk291 (v131 : BitVec 32) (v137 : BitVec 32) (v961 : IVec S16 32) : Prop :=
  (∀ (k0_h5 : ¬(k0_cond5 v131 v137 = 1#1)), ∀ a x, ((![v961] : Fin 1 → IVec S16 32) a x).toNat < S49168.size a)
theorem k0_idx291_inb : ∀ (v131 : BitVec 32) (v137 : BitVec 32) (v961 : IVec S16 32) (k0_hw291 : k0_chk291 v131 v137 v961), ∀ (k0_h5 : ¬(k0_cond5 v131 v137 = 1#1)), ∀ a x, ((![v961] : Fin 1 → IVec S16 32) a x).toNat < S49168.size a := fun v131 v137 v961 k0_hw291 k0_h5 => k0_hw291 k0_h5
def k0_off107 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c720_i32 : BitVec 32 := 720#32
  let v962 : BitVec 32 := Scalar.addi v127 c720_i32
  let v963 : Index := Scalar.indexCast v962
  ![v963.toNat]

def k0_chk292 (v131 : BitVec 32) (v137 : BitVec 32) (v975 : IVec S16 32) : Prop :=
  (∀ (k0_h5 : ¬(k0_cond5 v131 v137 = 1#1)), ∀ a x, ((![v975] : Fin 1 → IVec S16 32) a x).toNat < S49168.size a)
theorem k0_idx292_inb : ∀ (v131 : BitVec 32) (v137 : BitVec 32) (v975 : IVec S16 32) (k0_hw292 : k0_chk292 v131 v137 v975), ∀ (k0_h5 : ¬(k0_cond5 v131 v137 = 1#1)), ∀ a x, ((![v975] : Fin 1 → IVec S16 32) a x).toNat < S49168.size a := fun v131 v137 v975 k0_hw292 k0_h5 => k0_hw292 k0_h5

def k0_chk293 (v131 : BitVec 32) (v137 : BitVec 32) (v977 : IVec S16 32) : Prop :=
  (∀ (k0_h5 : ¬(k0_cond5 v131 v137 = 1#1)), ∀ a x, ((![v977] : Fin 1 → IVec S16 32) a x).toNat < S49168.size a)
theorem k0_idx293_inb : ∀ (v131 : BitVec 32) (v137 : BitVec 32) (v977 : IVec S16 32) (k0_hw293 : k0_chk293 v131 v137 v977), ∀ (k0_h5 : ¬(k0_cond5 v131 v137 = 1#1)), ∀ a x, ((![v977] : Fin 1 → IVec S16 32) a x).toNat < S49168.size a := fun v131 v137 v977 k0_hw293 k0_h5 => k0_hw293 k0_h5

def k0_chk294 (v131 : BitVec 32) (v137 : BitVec 32) (v979 : IVec S16 32) : Prop :=
  (∀ (k0_h5 : ¬(k0_cond5 v131 v137 = 1#1)), ∀ a x, ((![v979] : Fin 1 → IVec S16 32) a x).toNat < S49168.size a)
theorem k0_idx294_inb : ∀ (v131 : BitVec 32) (v137 : BitVec 32) (v979 : IVec S16 32) (k0_hw294 : k0_chk294 v131 v137 v979), ∀ (k0_h5 : ¬(k0_cond5 v131 v137 = 1#1)), ∀ a x, ((![v979] : Fin 1 → IVec S16 32) a x).toNat < S49168.size a := fun v131 v137 v979 k0_hw294 k0_h5 => k0_hw294 k0_h5
def k0_off108 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c736_i32 : BitVec 32 := 736#32
  let v980 : BitVec 32 := Scalar.addi v127 c736_i32
  let v981 : Index := Scalar.indexCast v980
  ![v981.toNat]

def k0_chk295 (v131 : BitVec 32) (v137 : BitVec 32) (v993 : IVec S16 32) : Prop :=
  (∀ (k0_h5 : ¬(k0_cond5 v131 v137 = 1#1)), ∀ a x, ((![v993] : Fin 1 → IVec S16 32) a x).toNat < S49168.size a)
theorem k0_idx295_inb : ∀ (v131 : BitVec 32) (v137 : BitVec 32) (v993 : IVec S16 32) (k0_hw295 : k0_chk295 v131 v137 v993), ∀ (k0_h5 : ¬(k0_cond5 v131 v137 = 1#1)), ∀ a x, ((![v993] : Fin 1 → IVec S16 32) a x).toNat < S49168.size a := fun v131 v137 v993 k0_hw295 k0_h5 => k0_hw295 k0_h5

def k0_chk296 (v131 : BitVec 32) (v137 : BitVec 32) (v995 : IVec S16 32) : Prop :=
  (∀ (k0_h5 : ¬(k0_cond5 v131 v137 = 1#1)), ∀ a x, ((![v995] : Fin 1 → IVec S16 32) a x).toNat < S49168.size a)
theorem k0_idx296_inb : ∀ (v131 : BitVec 32) (v137 : BitVec 32) (v995 : IVec S16 32) (k0_hw296 : k0_chk296 v131 v137 v995), ∀ (k0_h5 : ¬(k0_cond5 v131 v137 = 1#1)), ∀ a x, ((![v995] : Fin 1 → IVec S16 32) a x).toNat < S49168.size a := fun v131 v137 v995 k0_hw296 k0_h5 => k0_hw296 k0_h5

def k0_chk297 (v131 : BitVec 32) (v137 : BitVec 32) (v997 : IVec S16 32) : Prop :=
  (∀ (k0_h5 : ¬(k0_cond5 v131 v137 = 1#1)), ∀ a x, ((![v997] : Fin 1 → IVec S16 32) a x).toNat < S49168.size a)
theorem k0_idx297_inb : ∀ (v131 : BitVec 32) (v137 : BitVec 32) (v997 : IVec S16 32) (k0_hw297 : k0_chk297 v131 v137 v997), ∀ (k0_h5 : ¬(k0_cond5 v131 v137 = 1#1)), ∀ a x, ((![v997] : Fin 1 → IVec S16 32) a x).toNat < S49168.size a := fun v131 v137 v997 k0_hw297 k0_h5 => k0_hw297 k0_h5
def k0_off109 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c752_i32 : BitVec 32 := 752#32
  let v998 : BitVec 32 := Scalar.addi v127 c752_i32
  let v999 : Index := Scalar.indexCast v998
  ![v999.toNat]

def k0_chk298 (v131 : BitVec 32) (v137 : BitVec 32) (v1011 : IVec S16 32) : Prop :=
  (∀ (k0_h5 : ¬(k0_cond5 v131 v137 = 1#1)), ∀ a x, ((![v1011] : Fin 1 → IVec S16 32) a x).toNat < S49168.size a)
theorem k0_idx298_inb : ∀ (v131 : BitVec 32) (v137 : BitVec 32) (v1011 : IVec S16 32) (k0_hw298 : k0_chk298 v131 v137 v1011), ∀ (k0_h5 : ¬(k0_cond5 v131 v137 = 1#1)), ∀ a x, ((![v1011] : Fin 1 → IVec S16 32) a x).toNat < S49168.size a := fun v131 v137 v1011 k0_hw298 k0_h5 => k0_hw298 k0_h5

def k0_chk299 (v131 : BitVec 32) (v137 : BitVec 32) (v1013 : IVec S16 32) : Prop :=
  (∀ (k0_h5 : ¬(k0_cond5 v131 v137 = 1#1)), ∀ a x, ((![v1013] : Fin 1 → IVec S16 32) a x).toNat < S49168.size a)
theorem k0_idx299_inb : ∀ (v131 : BitVec 32) (v137 : BitVec 32) (v1013 : IVec S16 32) (k0_hw299 : k0_chk299 v131 v137 v1013), ∀ (k0_h5 : ¬(k0_cond5 v131 v137 = 1#1)), ∀ a x, ((![v1013] : Fin 1 → IVec S16 32) a x).toNat < S49168.size a := fun v131 v137 v1013 k0_hw299 k0_h5 => k0_hw299 k0_h5

def k0_chk300 (v131 : BitVec 32) (v137 : BitVec 32) (v1015 : IVec S16 32) : Prop :=
  (∀ (k0_h5 : ¬(k0_cond5 v131 v137 = 1#1)), ∀ a x, ((![v1015] : Fin 1 → IVec S16 32) a x).toNat < S49168.size a)
theorem k0_idx300_inb : ∀ (v131 : BitVec 32) (v137 : BitVec 32) (v1015 : IVec S16 32) (k0_hw300 : k0_chk300 v131 v137 v1015), ∀ (k0_h5 : ¬(k0_cond5 v131 v137 = 1#1)), ∀ a x, ((![v1015] : Fin 1 → IVec S16 32) a x).toNat < S49168.size a := fun v131 v137 v1015 k0_hw300 k0_h5 => k0_hw300 k0_h5
def k0_off110 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c768_i32 : BitVec 32 := 768#32
  let v1016 : BitVec 32 := Scalar.addi v127 c768_i32
  let v1017 : Index := Scalar.indexCast v1016
  ![v1017.toNat]

def k0_chk301 (v131 : BitVec 32) (v137 : BitVec 32) (v1029 : IVec S16 32) : Prop :=
  (∀ (k0_h5 : ¬(k0_cond5 v131 v137 = 1#1)), ∀ a x, ((![v1029] : Fin 1 → IVec S16 32) a x).toNat < S49168.size a)
theorem k0_idx301_inb : ∀ (v131 : BitVec 32) (v137 : BitVec 32) (v1029 : IVec S16 32) (k0_hw301 : k0_chk301 v131 v137 v1029), ∀ (k0_h5 : ¬(k0_cond5 v131 v137 = 1#1)), ∀ a x, ((![v1029] : Fin 1 → IVec S16 32) a x).toNat < S49168.size a := fun v131 v137 v1029 k0_hw301 k0_h5 => k0_hw301 k0_h5

def k0_chk302 (v131 : BitVec 32) (v137 : BitVec 32) (v1031 : IVec S16 32) : Prop :=
  (∀ (k0_h5 : ¬(k0_cond5 v131 v137 = 1#1)), ∀ a x, ((![v1031] : Fin 1 → IVec S16 32) a x).toNat < S49168.size a)
theorem k0_idx302_inb : ∀ (v131 : BitVec 32) (v137 : BitVec 32) (v1031 : IVec S16 32) (k0_hw302 : k0_chk302 v131 v137 v1031), ∀ (k0_h5 : ¬(k0_cond5 v131 v137 = 1#1)), ∀ a x, ((![v1031] : Fin 1 → IVec S16 32) a x).toNat < S49168.size a := fun v131 v137 v1031 k0_hw302 k0_h5 => k0_hw302 k0_h5

def k0_chk303 (v131 : BitVec 32) (v137 : BitVec 32) (v1033 : IVec S16 32) : Prop :=
  (∀ (k0_h5 : ¬(k0_cond5 v131 v137 = 1#1)), ∀ a x, ((![v1033] : Fin 1 → IVec S16 32) a x).toNat < S49168.size a)
theorem k0_idx303_inb : ∀ (v131 : BitVec 32) (v137 : BitVec 32) (v1033 : IVec S16 32) (k0_hw303 : k0_chk303 v131 v137 v1033), ∀ (k0_h5 : ¬(k0_cond5 v131 v137 = 1#1)), ∀ a x, ((![v1033] : Fin 1 → IVec S16 32) a x).toNat < S49168.size a := fun v131 v137 v1033 k0_hw303 k0_h5 => k0_hw303 k0_h5
def k0_off111 (k0_t4 : Fin k0_t4_loop.trips) : Fin 1 → Nat :=
  let c4000_i32_75 : BitVec 32 := 4000#32
  let c0_i32_71 : BitVec 32 := 0#32
  let c1_i32_73 : BitVec 32 := 1#32
  let arg20 : BitVec 32 := Scf.iv c0_i32_71 c1_i32_73 k0_t4
  let c800_i32 : BitVec 32 := 800#32
  let v126 : BitVec 32 := Scalar.muli arg20 c800_i32
  let v127 : BitVec 32 := Scalar.addi c4000_i32_75 v126
  let c784_i32 : BitVec 32 := 784#32
  let v1034 : BitVec 32 := Scalar.addi v127 c784_i32
  let v1035 : Index := Scalar.indexCast v1034
  ![v1035.toNat]

def k0_chk304 (v131 : BitVec 32) (v137 : BitVec 32) (v1047 : IVec S16 32) : Prop :=
  (∀ (k0_h5 : ¬(k0_cond5 v131 v137 = 1#1)), ∀ a x, ((![v1047] : Fin 1 → IVec S16 32) a x).toNat < S49168.size a)
theorem k0_idx304_inb : ∀ (v131 : BitVec 32) (v137 : BitVec 32) (v1047 : IVec S16 32) (k0_hw304 : k0_chk304 v131 v137 v1047), ∀ (k0_h5 : ¬(k0_cond5 v131 v137 = 1#1)), ∀ a x, ((![v1047] : Fin 1 → IVec S16 32) a x).toNat < S49168.size a := fun v131 v137 v1047 k0_hw304 k0_h5 => k0_hw304 k0_h5

def k0_chk305 (v131 : BitVec 32) (v137 : BitVec 32) (v1049 : IVec S16 32) : Prop :=
  (∀ (k0_h5 : ¬(k0_cond5 v131 v137 = 1#1)), ∀ a x, ((![v1049] : Fin 1 → IVec S16 32) a x).toNat < S49168.size a)
theorem k0_idx305_inb : ∀ (v131 : BitVec 32) (v137 : BitVec 32) (v1049 : IVec S16 32) (k0_hw305 : k0_chk305 v131 v137 v1049), ∀ (k0_h5 : ¬(k0_cond5 v131 v137 = 1#1)), ∀ a x, ((![v1049] : Fin 1 → IVec S16 32) a x).toNat < S49168.size a := fun v131 v137 v1049 k0_hw305 k0_h5 => k0_hw305 k0_h5

def k0_chk306 (v131 : BitVec 32) (v137 : BitVec 32) (v1051 : IVec S16 32) : Prop :=
  (∀ (k0_h5 : ¬(k0_cond5 v131 v137 = 1#1)), ∀ a x, ((![v1051] : Fin 1 → IVec S16 32) a x).toNat < S49168.size a)
theorem k0_idx306_inb : ∀ (v131 : BitVec 32) (v137 : BitVec 32) (v1051 : IVec S16 32) (k0_hw306 : k0_chk306 v131 v137 v1051), ∀ (k0_h5 : ¬(k0_cond5 v131 v137 = 1#1)), ∀ a x, ((![v1051] : Fin 1 → IVec S16 32) a x).toNat < S49168.size a := fun v131 v137 v1051 k0_hw306 k0_h5 => k0_hw306 k0_h5

def k0_chk307 (v32 : IVec S16 32) : Prop :=
  (∀ a x, ((![v32] : Fin 1 → IVec S16 32) a x).toNat < S49168.size a)
theorem k0_idx307_inb : ∀ (v32 : IVec S16 32) (k0_hw307 : k0_chk307 v32), ∀ a x, ((![v32] : Fin 1 → IVec S16 32) a x).toNat < S49168.size a := fun v32 k0_hw307 => k0_hw307

def k0_chk308 (v34 : IVec S16 32) : Prop :=
  (∀ a x, ((![v34] : Fin 1 → IVec S16 32) a x).toNat < S49168.size a)
theorem k0_idx308_inb : ∀ (v34 : IVec S16 32) (k0_hw308 : k0_chk308 v34), ∀ a x, ((![v34] : Fin 1 → IVec S16 32) a x).toNat < S49168.size a := fun v34 k0_hw308 => k0_hw308

def k0_chk309 (v36 : IVec S16 32) : Prop :=
  (∀ a x, ((![v36] : Fin 1 → IVec S16 32) a x).toNat < S49168.size a)
theorem k0_idx309_inb : ∀ (v36 : IVec S16 32) (k0_hw309 : k0_chk309 v36), ∀ a x, ((![v36] : Fin 1 → IVec S16 32) a x).toNat < S49168.size a := fun v36 k0_hw309 => k0_hw309
@[reducible] def k0_t5_loop : Scf.Loop 32 :=
  let c0_i32_24 : BitVec 32 := 0#32
  let c192_i32 : BitVec 32 := 192#32
  let v42 : BitVec 32 := Scalar.addi c0_i32_24 c192_i32
  let c1_i32_25 : BitVec 32 := 1#32
  ⟨c0_i32_24, v42, c1_i32_25⟩
def k0_off112 (k0_t5 : Fin k0_t5_loop.trips) : Fin 1 → Nat :=
  let c0_i32_24 : BitVec 32 := 0#32
  let c1_i32_25 : BitVec 32 := 1#32
  let arg15 : BitVec 32 := Scf.iv c0_i32_24 c1_i32_25 k0_t5
  let c16_i32 : BitVec 32 := 16#32
  let v43 : BitVec 32 := Scalar.muli arg15 c16_i32
  let v44 : Index := Scalar.indexCast v43
  ![v44.toNat]
def k0_off113 (k0_t5 : Fin k0_t5_loop.trips) (c3073_i32_27 : BitVec 32) : Fin 1 → Nat :=
  let c0_i32_24 : BitVec 32 := 0#32
  let c1_i32_25 : BitVec 32 := 1#32
  let arg15 : BitVec 32 := Scf.iv c0_i32_24 c1_i32_25 k0_t5
  let c16_i32 : BitVec 32 := 16#32
  let v43 : BitVec 32 := Scalar.muli arg15 c16_i32
  let v46 : BitVec 32 := Scalar.addi c3073_i32_27 v43
  let v47 : Index := Scalar.indexCast v46
  ![v47.toNat]
def k0_off114 (k0_t5 : Fin k0_t5_loop.trips) : Fin 1 → Nat :=
  let c0_i32_24 : BitVec 32 := 0#32
  let c1_i32_25 : BitVec 32 := 1#32
  let arg15 : BitVec 32 := Scf.iv c0_i32_24 c1_i32_25 k0_t5
  let c16_i32 : BitVec 32 := 16#32
  let v43 : BitVec 32 := Scalar.muli arg15 c16_i32
  let v106 : Index := Scalar.indexCast v43
  ![v106.toNat]
def k0_off115 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_27_r0 : BitVec 32 := 0#32
  ![v1.toNat, 0]
abbrev grid1 : Pipeline.Grid := .none

abbrev stage1_0 : Fin 1 → Memref sig .tc .vmem S1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .smem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .smem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .smem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "ln_10" => some ((Real.log 10 : ℝ) : EReal)
  | _ => none
-- ==== ReferenceIdeal.lean ====
abbrev S1024 : Shape := ⟨1, ![1024]⟩
abbrev S6400000 : Shape := ⟨1, ![6400000]⟩
abbrev S_ : Shape := ⟨0, ![]⟩
abbrev S6400000x1 : Shape := ⟨2, ![6400000, 1]⟩
abbrev S1 : Shape := ⟨1, ![1]⟩

abbrev nBuf : Space → Nat
  | .hbm => 97
  | .vmem => 0
  | .smem => 0
  | _ => 0

abbrev bufTy : (tb : Table) → Fin (tcTables nBuf tb) → BufTy
  | .hbm, ⟨0, _⟩ => ⟨S1024, .f32⟩
  | .hbm, ⟨1, _⟩ => ⟨S6400000, .f32⟩
  | .hbm, ⟨2, _⟩ => ⟨S6400000, .f32⟩
  | .hbm, ⟨3, _⟩ => ⟨S6400000, .f32⟩
  | .hbm, ⟨4, _⟩ => ⟨S6400000, .i32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S6400000, .f32⟩
  | .hbm, ⟨10, _⟩ => ⟨S6400000, .f32⟩
  | .hbm, ⟨11, _⟩ => ⟨S6400000, .f32⟩
  | .hbm, ⟨12, _⟩ => ⟨S6400000, .f32⟩
  | .hbm, ⟨13, _⟩ => ⟨S_, .f32⟩
  | .hbm, ⟨14, _⟩ => ⟨S1024, .f32⟩
  | .hbm, ⟨15, _⟩ => ⟨S6400000x1, .i32⟩
  | .hbm, ⟨16, _⟩ => ⟨S1024, .f32⟩
  | .hbm, ⟨17, _⟩ => ⟨S_, .f32⟩
  | .hbm, ⟨18, _⟩ => ⟨S6400000, .f32⟩
  | .hbm, ⟨19, _⟩ => ⟨S_, .f32⟩
  | .hbm, ⟨20, _⟩ => ⟨S1024, .f32⟩
  | .hbm, ⟨21, _⟩ => ⟨S6400000x1, .i32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S6400000x1, .i32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .i1⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i32⟩
  | .hbm, ⟨66, _⟩ => ⟨S_, .f32⟩
  | .hbm, ⟨67, _⟩ => ⟨S_, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .i1⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_cst_11 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_12 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_13 : Ref sig .tc := ⟨.hbm, 57, rfl⟩
abbrev main_v36 : Ref sig .tc := ⟨.hbm, 58, rfl⟩
abbrev main_cst_14 : Ref sig .tc := ⟨.hbm, 59, rfl⟩
abbrev main_v37 : Ref sig .tc := ⟨.hbm, 60, rfl⟩
abbrev main_cst_15 : Ref sig .tc := ⟨.hbm, 61, rfl⟩
abbrev main_v38 : Ref sig .tc := ⟨.hbm, 62, rfl⟩
abbrev main_cst_16 : Ref sig .tc := ⟨.hbm, 63, rfl⟩
abbrev main_v39 : Ref sig .tc := ⟨.hbm, 64, rfl⟩
abbrev main_c : Ref sig .tc := ⟨.hbm, 65, rfl⟩
abbrev main_call1_call0_cst : Ref sig .tc := ⟨.hbm, 66, rfl⟩
abbrev main_call1_call0_v0 : Ref sig .tc := ⟨.hbm, 67, rfl⟩
abbrev main_call1_call0_v1 : Ref sig .tc := ⟨.hbm, 68, rfl⟩
abbrev main_call1_call0_cst_0 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_v7 : Ref sig .tc := ⟨.hbm, 75, rfl⟩
abbrev main_call1_call0_cst_1 : Ref sig .tc := ⟨.hbm, 76, rfl⟩
abbrev main_call1_call0_v8 : Ref sig .tc := ⟨.hbm, 77, rfl⟩
abbrev main_call1_call0_cst_2 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_cst_3 : Ref sig .tc := ⟨.hbm, 81, rfl⟩
abbrev main_call1_call0_v11 : Ref sig .tc := ⟨.hbm, 82, rfl⟩
abbrev main_call1_call0_cst_4 : Ref sig .tc := ⟨.hbm, 83, rfl⟩
abbrev main_call1_call0_call0_v0 : Ref sig .tc := ⟨.hbm, 84, rfl⟩
abbrev main_call1_v0 : Ref sig .tc := ⟨.hbm, 85, rfl⟩
abbrev main_v40 : Ref sig .tc := ⟨.hbm, 86, rfl⟩
abbrev main_cst_17 : Ref sig .tc := ⟨.hbm, 87, rfl⟩
abbrev main_v41 : Ref sig .tc := ⟨.hbm, 88, rfl⟩
abbrev main_cst_18 : Ref sig .tc := ⟨.hbm, 89, rfl⟩
abbrev main_v42 : Ref sig .tc := ⟨.hbm, 90, rfl⟩
abbrev main_cst_19 : Ref sig .tc := ⟨.hbm, 91, rfl⟩
abbrev main_v43 : Ref sig .tc := ⟨.hbm, 92, rfl⟩
abbrev main_cst_20 : Ref sig .tc := ⟨.hbm, 93, rfl⟩
abbrev main_v44 : Ref sig .tc := ⟨.hbm, 94, rfl⟩
abbrev main_cst_21 : Ref sig .tc := ⟨.hbm, 95, rfl⟩
abbrev main_v45 : Ref sig .tc := ⟨.hbm, 96, rfl⟩

abbrev nD : Nat := 1
abbrev τ : Topo := Topo.v7x

variable {F : FTy → Type} [FloatOps F]
-- ==== Proof.Rolled.lean ====
module
public import proofs.«01_k».proof.Defs
public import proofs.«01_k».proof.Proof.Gen.KernelIdeal
public import Idealize.ShloMosaic.Lib.SparseCore.Quiescent

/-! The printed vector-subcore body writes each block's fifty steps out one after the other. Here
the two block bodies are stated as recursions over the step, and the printed ones shown equal to them. -/

@[expose] public section

namespace Cert.Proof

open Idealize.ShloMosaic Idealize.SL.Sem
open Cert.KernelIdeal Cert.KernelIdeal.Facts₀ Cert.KernelIdeal.Facts

noncomputable section

variable {F : FTy → Type} [FloatOps F] [Named F] [Facts]

/-- The effects of the vector subcore at grid coordinates `i`. -/
abbrev ScE (F : FTy → Type) [FloatOps F] [Named F] [Facts] (i : grid0.Coords) : Type → Type :=
  TpuEff nD τ sig (Elt F) Λ₀ (.scVector ((i 0).castLE hcore0) ((i 1).castLE hsub0))

/-- The offset of the step that starts `d` elements after the word `b`. -/
def stepOff (b : BitVec 32) (d : Nat) : Fin 1 → Nat := ![(Scalar.indexCast (Scalar.addi b (BitVec.ofNat 32 d))).toNat]

/-- A block of eight hundred elements starting at the word `b` lies in a scratch array of eight thousand. -/
def BlockIn (b : BitVec 32) : Prop := b.toNat + 800 ≤ 8000

theorem stepOff_inb {b : BitVec 32} (hb : BlockIn b) {d : Nat} (hd : d + 16 ≤ 800) :
    ∀ a, stepOff b d a + S16.size a ≤ S8000.size a := by
  intro a
  obtain rfl := Fin.eq_zero a
  unfold BlockIn at hb
  change (b + BitVec.ofNat 32 d).toNat + 16 ≤ 8000
  rw [BitVec.toNat_add, BitVec.toNat_ofNat]
  omega

/-- Sixteen elements of a scratch array, `d` after the word `b`. -/
abbrev stepRect (b : BitVec 32) (hb : BlockIn b) (d : Nat) (hd : d + 16 ≤ 800) : Rect S8000 :=
  Rect.unit (s := S8000) (stepOff b d) S16.size (stepOff_inb hb hd)

variable (i : grid0.Coords) (arg7 arg8 arg9 : Memref sig .scVector .vmem S8000 .f32)
  (arg10 : Memref sig .scVector .vmem S8000 .i32) (arg11 : Memref sig .scVector .vmem S49168 .f32)

/-- Half the mass times the square of the velocity. -/
def keOf (m v : FVec F S16 .f32) : FVec F S16 .f32 :=
  mulf (mulf (broadcast S16 (Scalar.ofBits .f32 0x3F000000#32 : F .f32)) m) (mulf v v)

/-- `k` steps of a block of one segment, from step `t` on: both running sums grow by sixteen elements at a step. -/
def fastFrom (b : BitVec 32) (hb : BlockIn b) : (k t : Nat) → t + k ≤ 50 → FVec F S16 .f32 → FVec F S16 .f32 →
    Prog (ScE F i) (FVec F S16 .f32 × FVec F S16 .f32)
  | 0, _, _, ka, ra => pure (ka, ra)
  | k + 1, t, h, ka, ra =>
    Prog.op (.load arg7 (stepRect b hb (16 * t) (by omega)).toLoadRect (View.loadsAt_vmem h_S16)) fun m =>
    Prog.op (.load arg8 (stepRect b hb (16 * t) (by omega)).toLoadRect (View.loadsAt_vmem h_S16)) fun v =>
    Prog.op (.load arg9 (stepRect b hb (16 * t) (by omega)).toLoadRect (View.loadsAt_vmem h_S16)) fun r =>
    fastFrom b hb k (t + 1) (by omega) (addf ka (keOf m v)) (addf ra r)

/-- Lanes named by the index vector `x`, all inside the accumulator. -/
def InAcc (x : IVec S16 32) : Prop := ∀ a y, ((![x] : Fin 1 → IVec S16 32) a y).toNat < S49168.size a

/-- What a mixed block assumes of an index vector. -/
def ChkSlow (b0 b1 : BitVec 32) (x : IVec S16 32) : Prop := ∀ (_ : ¬(k0_cond2 b0 b1 = 1#1)), InAcc x

instance ChkSlow.dec (b0 b1 : BitVec 32) (x : IVec S16 32) : Decidable (ChkSlow b0 b1 x) :=
  decidable_of_iff' (∀ (_ : ¬(k0_cond2 b0 b1 = 1#1)), ∀ a y, ((![x] : Fin 1 → IVec S16 32) a y).toNat < S49168.size a) (Iff.of_eq rfl)

/-- `k` steps of a mixed block, from step `t` on: every lane's three values are added at its own segment. -/
def slowFrom (lb : IVec S16 32) (one : FVec F S16 .f32) (b : BitVec 32) (hb : BlockIn b) (b0 b1 : BitVec 32) (hn : ¬(k0_cond2 b0 b1 = 1#1)) :
    (k t : Nat) → t + k ≤ 50 → Prog (ScE F i) PUnit
  | 0, _, _ => pure ⟨⟩
  | k + 1, t, h =>
    Prog.op (.load arg10 (stepRect b hb (16 * t) (by omega)).toLoadRect (View.loadsAt_vmem h_S16)) fun (s : Vec F S16 .i32) =>
    Prog.op (.load arg7 (stepRect b hb (16 * t) (by omega)).toLoadRect (View.loadsAt_vmem h_S16)) fun m =>
    Prog.op (.load arg8 (stepRect b hb (16 * t) (by omega)).toLoadRect (View.loadsAt_vmem h_S16)) fun v =>
    Prog.op (.load arg9 (stepRect b hb (16 * t) (by omega)).toLoadRect (View.loadsAt_vmem h_S16)) fun r =>
    Prog.op (.assume (ChkSlow b0 b1 (addi lb s)) (ChkSlow.dec b0 b1 _)) fun h0 =>
    SparseCore.vectorStoreIdx arg11 ![addi lb s] (keOf m v) (fun _ => 1#1) true (h0.down hn) (View.stores_vmem_bits_univ h_S49168 rfl) >>= fun _ =>
    Prog.op (.assume (ChkSlow b0 b1 (addi (addi lb s) (broadcast S16 1024#32))) (ChkSlow.dec b0 b1 _)) fun h1 =>
    SparseCore.vectorStoreIdx arg11 ![addi (addi lb s) (broadcast S16 1024#32)] r (fun _ => 1#1) true (h1.down hn) (View.stores_vmem_bits_univ h_S49168 rfl) >>= fun _ =>
    Prog.op (.assume (ChkSlow b0 b1 (addi (addi lb s) (broadcast S16 2048#32))) (ChkSlow.dec b0 b1 _)) fun h2 =>
    SparseCore.vectorStoreIdx arg11 ![addi (addi lb s) (broadcast S16 2048#32)] one (fun _ => 1#1) true (h2.down hn) (View.stores_vmem_bits_univ h_S49168 rfl) >>= fun _ =>
    slowFrom lb one b hb b0 b1 hn k (t + 1) (by omega)

/-- What a flush assumes of an index vector. -/
def ChkFlush (cur b0 b1 : BitVec 32) (x : IVec S16 32) : Prop := ∀ (_ : k0_cond1 cur b0 b1 = 1#1), InAcc x

instance ChkFlush.dec (cur b0 b1 : BitVec 32) (x : IVec S16 32) : Decidable (ChkFlush cur b0 b1 x) :=
  decidable_of_iff' (∀ (_ : k0_cond1 cur b0 b1 = 1#1), ∀ a y, ((![x] : Fin 1 → IVec S16 32) a y).toNat < S49168.size a) (Iff.of_eq rfl)

/-- The count of a segment, held in lane zero of a vector. -/
def cntVec (ln : IVec S16 32) (nc : F .f32) : FVec F S16 .f32 :=
  select (cmpi .eq ln (broadcast S16 0#32)) (broadcast S16 nc) (broadcast S16 (Scalar.ofBits .f32 0x00000000#32 : F .f32))

/-- What is carried from block to block: the current segment, its two running sums lane by lane, its count. -/
abbrev ScSt (F : FTy → Type) [FloatOps F] : Type := BitVec 32 × FVec F S16 .f32 × FVec F S16 .f32 × F .f32

/-- Whether a block starts a new run: it is mixed, or its segment is another than the current one. -/
def chg (cur b0 b1 : BitVec 32) : BitVec 1 :=
  Scalar.ori (Scalar.xori (Scalar.cmpi .eq b0 b1) 1#1) (Scalar.cmpi .ne b0 cur)

/-- A block, once its first and its last segment are read. -/
def blockRest (lb : IVec S16 32) (zero one : FVec F S16 .f32) (b : BitVec 32) (hb : BlockIn b) (b0 b1 : BitVec 32)
    (st : ScSt F) : Prog (ScE F i) (ScSt F) :=
  if h2 : k0_cond2 b0 b1 = 1#1 then
    fastFrom i arg7 arg8 arg9 b hb 50 0 (by omega) (Scalar.select (chg st.1 b0 b1) zero st.2.1) (Scalar.select (chg st.1 b0 b1) zero st.2.2.1) >>= fun p =>
    .ret (Scalar.select (chg st.1 b0 b1) (Scalar.select (Scalar.cmpi .eq b0 b1) b0 b1) st.1, p.1, p.2,
      Scalar.addf (Scalar.select (chg st.1 b0 b1) (Scalar.ofBits .f32 0x00000000#32) st.2.2.2) (Scalar.ofBits .f32 0x44480000#32))
  else
    slowFrom i arg7 arg8 arg9 arg10 arg11 lb one b hb b0 b1 h2 50 0 (by omega) >>= fun _ =>
    .ret (Scalar.select (chg st.1 b0 b1) (Scalar.select (Scalar.cmpi .eq b0 b1) b0 b1) st.1,
      Scalar.select (chg st.1 b0 b1) zero st.2.1, Scalar.select (chg st.1 b0 b1) zero st.2.2.1,
      Scalar.select (chg st.1 b0 b1) (Scalar.ofBits .f32 0x00000000#32) st.2.2.2)

theorem lastOff_inb {b : BitVec 32} (hb : BlockIn b) :
    ∀ a, (![(Scalar.indexCast (Scalar.subi (Scalar.addi b 800#32) 16#32)).toNat] : Fin 1 → Nat) a + S16.size a ≤ S8000.size a := by
  intro a
  obtain rfl := Fin.eq_zero a
  unfold BlockIn at hb
  change (b + 800#32 - 16#32).toNat + 16 ≤ 8000
  rw [BitVec.toNat_sub, BitVec.toNat_add]
  simp only [BitVec.toNat_ofNat]
  omega

theorem firstOff_inb {b : BitVec 32} (hb : BlockIn b) :
    ∀ a, (![(Scalar.indexCast b).toNat] : Fin 1 → Nat) a + S16.size a ≤ S8000.size a := by
  intro a
  obtain rfl := Fin.eq_zero a
  unfold BlockIn at hb
  change b.toNat + 16 ≤ 8000
  omega

/-- The first element of a vector of sixteen words. -/
def firstOf (s : IVec S16 32) : BitVec 32 := extractAt ![0] (extractStridedSlice S1 ![0] s slices_S16_o0_S1) inpos_S1_p0
/-- The last element of a vector of sixteen words. -/
def lastOf (s : IVec S16 32) : BitVec 32 := extractAt ![0] (extractStridedSlice S1 ![15] s slices_S16_o15_S1) inpos_S1_p0

/-- The three stores that add the current run's sums to the accumulator. -/
def flushStores (lb ln : IVec S16 32) (cur b0 b1 : BitVec 32) (h1 : k0_cond1 cur b0 b1 = 1#1) (ka ra : FVec F S16 .f32) (nc : F .f32) :
    Prog (ScE F i) PUnit :=
    Prog.op (.assume (ChkFlush cur b0 b1 (addi lb (broadcast S16 cur))) (ChkFlush.dec cur b0 b1 _)) fun g0 =>
    SparseCore.vectorStoreIdx arg11 ![addi lb (broadcast S16 cur)] ka (fun _ => 1#1) true (g0.down h1) (View.stores_vmem_bits_univ h_S49168 rfl) >>= fun _ =>
    Prog.op (.assume (ChkFlush cur b0 b1 (addi (addi lb (broadcast S16 cur)) (broadcast S16 1024#32))) (ChkFlush.dec cur b0 b1 _)) fun g1 =>
    SparseCore.vectorStoreIdx arg11 ![addi (addi lb (broadcast S16 cur)) (broadcast S16 1024#32)] ra (fun _ => 1#1) true (g1.down h1) (View.stores_vmem_bits_univ h_S49168 rfl) >>= fun _ =>
    Prog.op (.assume (ChkFlush cur b0 b1 (addi (addi lb (broadcast S16 cur)) (broadcast S16 2048#32))) (ChkFlush.dec cur b0 b1 _)) fun g2 =>
    SparseCore.vectorStoreIdx arg11 ![addi (addi lb (broadcast S16 cur)) (broadcast S16 2048#32)] (cntVec ln nc) (fun _ => 1#1) true (g2.down h1) (View.stores_vmem_bits_univ h_S49168 rfl)

/-- A block of eight hundred elements. -/
def block (ln lb : IVec S16 32) (zero one : FVec F S16 .f32) (b : BitVec 32) (hb : BlockIn b) (st : ScSt F) : Prog (ScE F i) (ScSt F) :=
  Prog.op (.load arg10 (Rect.unit (s := S8000) ![(Scalar.indexCast b).toNat] S16.size (firstOff_inb hb)).toLoadRect (View.loadsAt_vmem h_S16)) fun (s0 : Vec F S16 .i32) =>
  Prog.op (.load arg10 (Rect.unit (s := S8000) ![(Scalar.indexCast (Scalar.subi (Scalar.addi b 800#32) 16#32)).toNat] S16.size (lastOff_inb hb)).toLoadRect (View.loadsAt_vmem h_S16)) fun (s1 : Vec F S16 .i32) =>
  if h1 : k0_cond1 st.1 (firstOf s0) (lastOf s1) = 1#1 then
    flushStores i arg11 lb ln st.1 (firstOf s0) (lastOf s1) h1 st.2.1 st.2.2.1 st.2.2.2 >>= fun _ =>
    blockRest i arg7 arg8 arg9 arg10 arg11 lb zero one b hb (firstOf s0) (lastOf s1) st
  else blockRest i arg7 arg8 arg9 arg10 arg11 lb zero one b hb (firstOf s0) (lastOf s1) st

/-- Where block `k` of the first half starts. -/
abbrev blk0 (k : Nat) : BitVec 32 := Scalar.addi 0#32 (Scalar.muli (Scf.iv 0#32 1#32 k) 800#32)
/-- Where block `k` of the second half starts. -/
abbrev blk1 (k : Nat) : BitVec 32 := Scalar.addi 4000#32 (Scalar.muli (Scf.iv 0#32 1#32 k) 800#32)

theorem blk0_in (k : Fin k0_t3_loop.trips) : BlockIn (blk0 k) := by
  have : ∀ k : Fin k0_t3_loop.trips, BlockIn (blk0 k) := by unfold BlockIn; decide
  exact this k
theorem blk1_in (k : Fin k0_t4_loop.trips) : BlockIn (blk1 k) := by
  have : ∀ k : Fin k0_t4_loop.trips, BlockIn (blk1 k) := by unfold BlockIn; decide
  exact this k

variable (arg2 arg3 arg4 : Memref sig .scVector .hbm S6400000 .f32) (arg5 : Memref sig .scVector .hbm S6400000 .i32)

/-- Four thousand elements of an argument, from offset `o`. -/
abbrev srcOf {e : EltTy} (a : Memref sig .scVector .hbm S6400000 e) (o : Fin 1 → Nat) (ho : ∀ x, o x + S4000.size x ≤ S6400000.size x) :
    Memref sig .scVector .hbm S4000 e := a.slice (Rect.unit (s := S6400000) o S4000.size ho) (fun _ => rfl)
/-- A half of a scratch array. -/
abbrev dstOf {e : EltTy} (a : Memref sig .scVector .vmem S8000 e) (o : Fin 1 → Nat) (ho : ∀ x, o x + S4000.size x ≤ S8000.size x) :
    Memref sig .scVector .vmem S4000 e := a.slice (Rect.unit (s := S8000) o S4000.size ho) (fun _ => rfl)

/-- The four copies of a chunk, started. -/
def startChunk (sem : DmaSems sig S_) (o : Fin 1 → Nat) (ho : ∀ x, o x + S4000.size x ≤ S6400000.size x)
    (q : Fin 1 → Nat) (hq : ∀ x, q x + S4000.size x ≤ S8000.size x) : Prog (ScE F i) PUnit :=
  Prog.op (.enqueueDma (srcOf arg2 o ho) (.here (dstOf arg7 q hq)) (.dma sem.sem) (View.wordExact_bits rfl) (View.wordExact_bits rfl) ⟨Or.inl rfl, trivial⟩) fun _ =>
  Prog.op (.enqueueDma (srcOf arg3 o ho) (.here (dstOf arg8 q hq)) (.dma sem.sem) (View.wordExact_bits rfl) (View.wordExact_bits rfl) ⟨Or.inl rfl, trivial⟩) fun _ =>
  Prog.op (.enqueueDma (srcOf arg4 o ho) (.here (dstOf arg9 q hq)) (.dma sem.sem) (View.wordExact_bits rfl) (View.wordExact_bits rfl) ⟨Or.inl rfl, trivial⟩) fun _ =>
  Prog.op (.enqueueDma (srcOf arg5 o ho) (.here (dstOf arg10 q hq)) (.dma sem.sem) (View.wordExact_bits rfl) (View.wordExact_bits rfl) ⟨Or.inl rfl, trivial⟩) fun _ =>
  .ret ⟨⟩

/-- The four copies of a chunk, awaited. -/
def waitChunk (sem : DmaSems sig S_) (o : Fin 1 → Nat) (ho : ∀ x, o x + S4000.size x ≤ S6400000.size x)
    (q : Fin 1 → Nat) (hq : ∀ x, q x + S4000.size x ≤ S8000.size x) : Prog (ScE F i) PUnit :=
  Prog.op (.waitDma2 sem.sem (srcOf arg2 o ho) (dstOf arg7 q hq) (View.wordExact_bits rfl) (View.wordExact_bits rfl)) fun _ =>
  Prog.op (.waitDma2 sem.sem (srcOf arg3 o ho) (dstOf arg8 q hq) (View.wordExact_bits rfl) (View.wordExact_bits rfl)) fun _ =>
  Prog.op (.waitDma2 sem.sem (srcOf arg4 o ho) (dstOf arg9 q hq) (View.wordExact_bits rfl) (View.wordExact_bits rfl)) fun _ =>
  Prog.op (.waitDma2 sem.sem (srcOf arg5 o ho) (dstOf arg10 q hq) (View.wordExact_bits rfl) (View.wordExact_bits rfl)) fun _ =>
  .ret ⟨⟩

/-- The five blocks of the first half. -/
def half0 (ln lb : IVec S16 32) (zero one : FVec F S16 .f32) (st : ScSt F) : Prog (ScE F i) (ScSt F) :=
  Scf.Loop.for k0_t3_loop k0_t3_ok st fun k st => block i arg7 arg8 arg9 arg10 arg11 ln lb zero one (blk0 k) (blk0_in k) st
/-- The five blocks of the second half. -/
def half1 (ln lb : IVec S16 32) (zero one : FVec F S16 .f32) (st : ScSt F) : Prog (ScE F i) (ScSt F) :=
  Scf.Loop.for k0_t4_loop k0_t4_ok st fun k st => block i arg7 arg8 arg9 arg10 arg11 ln lb zero one (blk1 k) (blk1_in k) st

/-- The last part of a trip: the second half awaited and worked through. -/
def tripRest (sem14 : DmaSems sig S_) (ln lb : IVec S16 32) (zero one : FVec F S16 .f32) (k : Fin k0_t2_loop.trips) (st : ScSt F) : Prog (ScE F i) (ScSt F) :=
  waitChunk i arg7 arg8 arg9 arg10 arg2 arg3 arg4 arg5 sem14 (k0_off3 i k) (k0_off3_inb i k) ![4000] inb_S8000_S4000_4000 >>= fun _ =>
  half1 i arg7 arg8 arg9 arg10 arg11 ln lb zero one st

/-- A trip: the second half's copies are started, the first half awaited and worked through, its next copies started if
there are any, and the second half worked through. -/
def trip (sem13 sem14 : DmaSems sig S_) (ln lb : IVec S16 32) (zero one : FVec F S16 .f32) (k : Fin k0_t2_loop.trips) (st : ScSt F) : Prog (ScE F i) (ScSt F) :=
  startChunk i arg7 arg8 arg9 arg10 arg2 arg3 arg4 arg5 sem14 (k0_off3 i k) (k0_off3_inb i k) ![4000] inb_S8000_S4000_4000 >>= fun _ =>
  waitChunk i arg7 arg8 arg9 arg10 arg2 arg3 arg4 arg5 sem13 (k0_off4 i k) (k0_off4_inb i k) ![0] inb_S8000_S4000_0 >>= fun _ =>
  half0 i arg7 arg8 arg9 arg10 arg11 ln lb zero one st >>= fun st =>
  if h3 : k0_cond3 k = 1#1 then
    startChunk i arg7 arg8 arg9 arg10 arg2 arg3 arg4 arg5 sem13 (k0_off58 i k) (k0_off58_inb i k h3) ![0] inb_S8000_S4000_0 >>= fun _ =>
    tripRest i arg7 arg8 arg9 arg10 arg11 arg2 arg3 arg4 arg5 sem14 ln lb zero one k st
  else tripRest i arg7 arg8 arg9 arg10 arg11 arg2 arg3 arg4 arg5 sem14 ln lb zero one k st

/-- The accumulator set to zero, sixteen elements at a trip. -/
def zeroLoop (zero : FVec F S16 .f32) : Prog (ScE F i) PUnit :=
  Scf.Loop.for k0_t1_loop k0_t1_ok ⟨⟩ fun k _ =>
    Prog.op (.load arg11 (Rect.unit (s := S49168) (k0_off1 k) S16.size (k0_off1_inb k)).toLoadRect (View.loadsAt_vmem h_S16)) fun _ =>
    Prog.op (.store arg11 (Rect.unit (s := S49168) (k0_off1 k) S16.size (k0_off1_inb k)) zero Finset.univ (View.stores_vmem_bits_univ h_S16 rfl) (.inl rfl)) fun _ =>
    .ret ⟨⟩

/-- `n` more lanes of sixteen results added up, from lane `t + 1` on. -/
def redFrom (k : Fin k0_t5_loop.trips) : (n t : Nat) → t + n ≤ 15 → FVec F S16 .f32 → Prog (ScE F i) (FVec F S16 .f32)
  | 0, _, _, acc => .ret acc
  | n + 1, t, h, acc =>
    Prog.op (.load arg11 (Rect.unit (s := S49168) (k0_off113 k (BitVec.ofNat 32 (3073 + 3073 * t))) S16.size
      (k0_off113_inb k ⟨t, by omega⟩)).toLoadRect (View.loadsAt_vmem h_S16)) fun x =>
    redFrom k n (t + 1) (by omega) (addf acc x)

/-- The sixteen lanes of the accumulator added up, sixteen results at a trip. -/
def redLoop (arg12 : Memref sig .scVector .vmem S3072 .f32) : Prog (ScE F i) PUnit :=
  Scf.Loop.for k0_t5_loop k0_t5_ok ⟨⟩ fun k _ =>
    Prog.op (.load arg11 (Rect.unit (s := S49168) (k0_off112 k) S16.size (k0_off112_inb k)).toLoadRect (View.loadsAt_vmem h_S16)) fun (x : Vec F S16 .f32) =>
    redFrom i arg11 k 15 0 (by omega) x >>= fun y =>
    Prog.op (.load arg12 (Rect.unit (s := S3072) (k0_off114 k) S16.size (k0_off114_inb k)).toLoadRect (View.loadsAt_vmem h_S16)) fun _ =>
    Prog.op (.store arg12 (Rect.unit (s := S3072) (k0_off114 k) S16.size (k0_off114_inb k)) y Finset.univ (View.stores_vmem_bits_univ h_S16 rfl) (.inl rfl)) fun _ =>
    .ret ⟨⟩

instance InAcc.dec (x : IVec S16 32) : Decidable (InAcc x) :=
  decidable_of_iff' (∀ a y, ((![x] : Fin 1 → IVec S16 32) a y).toNat < S49168.size a) (Iff.of_eq rfl)

/-- The last run's sums added to the accumulator. -/
def finalFlush (ln lb : IVec S16 32) (st : ScSt F) : Prog (ScE F i) PUnit :=
    Prog.op (.assume (InAcc (addi lb (broadcast S16 st.1))) (InAcc.dec _)) fun g0 =>
    SparseCore.vectorStoreIdx arg11 ![addi lb (broadcast S16 st.1)] st.2.1 (fun _ => 1#1) true g0.down (View.stores_vmem_bits_univ h_S49168 rfl) >>= fun _ =>
    Prog.op (.assume (InAcc (addi (addi lb (broadcast S16 st.1)) (broadcast S16 1024#32))) (InAcc.dec _)) fun g1 =>
    SparseCore.vectorStoreIdx arg11 ![addi (addi lb (broadcast S16 st.1)) (broadcast S16 1024#32)] st.2.2.1 (fun _ => 1#1) true g1.down (View.stores_vmem_bits_univ h_S49168 rfl) >>= fun _ =>
    Prog.op (.assume (InAcc (addi (addi lb (broadcast S16 st.1)) (broadcast S16 2048#32))) (InAcc.dec _)) fun g2 =>
    SparseCore.vectorStoreIdx arg11 ![addi (addi lb (broadcast S16 st.1)) (broadcast S16 2048#32)] (cntVec ln st.2.2.2) (fun _ => 1#1) true g2.down (View.stores_vmem_bits_univ h_S49168 rfl)

/-- The tile's row of the result. -/
abbrev outRow (arg6 : Memref sig .scVector .hbm S32x3072 .f32) : Memref sig .scVector .hbm S3072 .f32 :=
  (arg6.slice (Rect.unit (s := S32x3072) (k0_off115 i) S1x3072.size (k0_off115_inb i)) (fun _ => rfl)).squeeze S3072 squeezes_S1x3072_S3072

/-- The tile's results copied to its row. -/
def copyOut (arg6 : Memref sig .scVector .hbm S32x3072 .f32) (arg12 : Memref sig .scVector .vmem S3072 .f32) (harg12 : arg12.IsWhole)
    (sem : DmaSems sig S_) : Prog (ScE F i) PUnit :=
  Prog.op (.enqueueDma arg12 (.here (outRow i arg6)) (.dma sem.sem) harg12.wordExact ((View.wordExact_bits rfl).reshape _ _) ⟨Or.inl rfl, trivial⟩) fun _ =>
  Prog.op (.waitDma2 sem.sem arg12 (outRow i arg6) harg12.wordExact ((View.wordExact_bits rfl).reshape _ _)) fun _ =>
  .ret ⟨⟩

/-- The lane numbers. -/
def lanes : IVec S16 32 := iota .scVector S16 32 [0] iota_S16_d0_w32_scVector
/-- Where each lane's part of the accumulator starts. -/
def laneBase : IVec S16 32 := muli lanes (broadcast S16 3073#32)
/-- Sixteen zeros. -/
def zeros : FVec F S16 .f32 := broadcast S16 (Scalar.ofBits .f32 0x00000000#32 : F .f32)
/-- Sixteen ones. -/
def ones : FVec F S16 .f32 := broadcast S16 (Scalar.ofBits .f32 0x3F800000#32 : F .f32)

/-- The whole body of a vector subcore. -/
def scBody (arg6 : Memref sig .scVector .hbm S32x3072 .f32) (arg12 : Memref sig .scVector .vmem S3072 .f32) (harg12 : arg12.IsWhole)
    (sem13 sem14 semr : DmaSems sig S_) : Prog (ScE F i) PUnit :=
  zeroLoop i arg11 zeros >>= fun _ =>
  startChunk i arg7 arg8 arg9 arg10 arg2 arg3 arg4 arg5 sem13 (k0_off2 i) (k0_off2_inb i) ![0] inb_S8000_S4000_0 >>= fun _ =>
  (Scf.Loop.for k0_t2_loop k0_t2_ok ((0#32, zeros, zeros, Scalar.ofBits .f32 0x00000000#32) : ScSt F) fun k st =>
    trip i arg7 arg8 arg9 arg10 arg11 arg2 arg3 arg4 arg5 sem13 sem14 lanes laneBase zeros ones k st) >>= fun st =>
  finalFlush i arg11 lanes laneBase st >>= fun _ =>
  redLoop i arg11 arg12 >>= fun _ =>
  copyOut i arg6 arg12 harg12 semr

end
end Cert.Proof
-- ==== Proof.Holds.lean ====
module
public import proofs.«01_k».proof.Defs
public import proofs.«01_k».proof.Proof.Rolled
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

/-! Arrays held by what they read: `Holds` says of the elements of a memref what they hold, and each access of the
vector subcore is stated once over it. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [Facts]

/-- The handshakes' rounds, beside the regions' own, beside the transfers' counters. -/
abbrev UH : Type := URounds (GSem nD τ sig) ℕ
/-- The rounds of the TensorCore region's pipeline. -/
abbrev UP : Type := URounds (GSem nD τ sig) PUnit
abbrev UU : Type := UH × (UP × Counters)

local notation "𝕄" => MT nD τ sig (HIx 1) (Elt F) ℕ UU ℕ

abbrev 𝒱₀ : Variants := Variants.none

/-- The elements `H` of the memref `m` are held outright on the thread `c`, and read as `X` says. -/
def Holds (c : Thread nD τ) {sp : Space} {s : Shape} {e : EltTy} (m : Memref sig c.2.kind sp s e) (H : Finset s.Idx) (X : s.Idx → Elt F e) : sProp 𝕄 :=
  iprop(∃ f, ⌜∀ x ∈ H, m.view.read (Elt F) f x = X x⌝ ∗ m.view.loc c ↦[m.view.setOn H]{fullShare} f)

variable (c : Thread nD τ) {sp : Space} {s : Shape} {e : EltTy} {m : Memref sig c.2.kind sp s e} {H : Finset s.Idx} {X : s.Idx → Elt F e}

instance Holds.storable : BI.Storable (upEmb : UEmb _ 𝕄) (Holds (F := F) c m H X) := by
  unfold Holds; infer_instance

theorem Holds.congr {X' : s.Idx → Elt F e} (h : ∀ x ∈ H, X x = X' x) : (Holds c m H X : sProp 𝕄) ⊢ Holds c m H X' := by
  unfold Holds
  iintro ⟨%f, %hf, Hf⟩
  iexists f
  isplitr
  · ipureintro; exact fun x hx => (hf x hx).trans (h x hx)
  · iexact Hf

variable {cs : CoreSpace} {a : Memref sig c.2.kind cs s e}

/-- A load inside what is held reads what is held. -/
theorem holds_load {α : Type} {r : Rect s} {hl : a.view.LoadsAt r.toLoadRect} {k : (r.shape.Idx → Elt F e) → Prog (TpuEff nD τ sig (Elt F) Λ₀ c.2) α} {Q : α → sProp 𝕄}
    (hr : r.set ⊆ H) :
    (Holds c a H X : sProp 𝕄)
      ⊢ iprop((Holds c a H X -∗ wp frame (wpE (defs₀ (F := F)) 𝒱₀ c none) Set.univ (k fun x => X (r.emb x)) Q)
        -∗ wp frame (wpE (defs₀ (F := F)) 𝒱₀ c none) Set.univ (.op (.load a r.toLoadRect hl) k) Q) := by
  unfold Holds
  iintro ⟨%f, %hf, Hf⟩ Hk
  have hS : a.view.setOn r.toLoadRect.set ⊆ a.view.setOn H := Finset.map_subset_map.mpr hr
  iapply (wp_load (defs := defs₀ (F := F)) 𝒱₀ c none Set.univ (k := k) (hl := hl) hS) $$ Hf
  iintro Hf
  have e : (a.view.readAt (Elt F) r.toLoadRect f) = fun x => X (r.emb x) :=
    funext fun x => hf _ (hr (by rw [← Rect.map_emb_univ]; exact Finset.mem_map_of_mem _ (Finset.mem_univ x)))
  rw [e]
  iapply Hk
  iexists f
  isplitr
  · ipureintro; exact hf
  · iexact Hf

open Classical in
/-- What a rectangle's store leaves. -/
def putRect (X : s.Idx → Elt F e) (r : Rect s) (w : r.shape.Idx → Elt F e) : s.Idx → Elt F e :=
  fun i => if h : ∃ y, r.emb y = i then w h.choose else X i

theorem putRect_emb (r : Rect s) (w : r.shape.Idx → Elt F e) (y : r.shape.Idx) : putRect X r w (r.emb y) = w y := by
  have h : ∃ y', r.emb y' = r.emb y := ⟨y, rfl⟩
  unfold putRect
  rw [dif_pos h, r.emb.injective h.choose_spec]

theorem putRect_of_ne (r : Rect s) (w : r.shape.Idx → Elt F e) {i : s.Idx} (h : ∀ y, r.emb y ≠ i) : putRect X r w i = X i :=
  dif_neg fun ⟨y, hy⟩ => h y hy

/-- What is written through a view's rectangle is read back at it, and the rest is unchanged. -/
theorem read_write_rect (v : View sig c.2.kind sp s e) (f : v.ty.Contents (Elt F)) (r : Rect s) (w : r.shape.Idx → Elt F e) (x : s.Idx) :
    v.read (Elt F) ((v.slice r).write (Elt F) f w Finset.univ) x = putRect (v.read (Elt F) f) r w x := by
  by_cases h : ∃ y, r.emb y = x
  · obtain ⟨y, rfl⟩ := h
    rw [putRect_emb]
    exact congrFun (View.read_write_univ (v := v.slice r) f w) y
  · rw [putRect_of_ne _ _ fun y hy => h ⟨y, hy⟩]
    show cast _ _ = cast _ _
    congr 1
    refine (v.slice r).write_of_not_mem f w _ ?_
    intro hmem
    obtain ⟨y, -, hy⟩ := Finset.mem_map.mp hmem
    exact h ⟨y, v.emb.injective hy⟩

theorem putRect_congr {X' : s.Idx → Elt F e} (r : Rect s) (w : r.shape.Idx → Elt F e) {x : s.Idx} (h : X x = X' x) :
    putRect X r w x = putRect X' r w x := by
  unfold putRect; split
  · rfl
  · exact h

/-- A store inside what is held. -/
theorem holds_store {α : Type} {r : Rect s} {w : r.shape.Idx → Elt F e} {hx : (a.access r).Stores Finset.univ} {hm}
    {k : PUnit → Prog (TpuEff nD τ sig (Elt F) Λ₀ c.2) α} {Q : α → sProp 𝕄} (hr : r.set ⊆ H) :
    (Holds c a H X : sProp 𝕄)
      ⊢ iprop((Holds c a H (putRect X r w) -∗ wp frame (wpE (defs₀ (F := F)) 𝒱₀ c none) Set.univ (k ⟨⟩) Q)
        -∗ wp frame (wpE (defs₀ (F := F)) 𝒱₀ c none) Set.univ (.op (.store a r w Finset.univ hx hm) k) Q) := by
  unfold Holds
  iintro ⟨%f, %hf, Hf⟩ Hk
  have hS : (a.access r).setOn Finset.univ ⊆ a.view.setOn H := by
    rw [View.setOn_univ, View.set_slice]; exact Finset.map_subset_map.mpr hr
  iapply (wp_store (defs := defs₀ (F := F)) 𝒱₀ c none Set.univ (m := a) (r := r) (w := w) (k := k) (hx := hx) (hm := hm) hS) $$ Hf
  iintro Hf
  iapply Hk
  iexists _
  isplitr
  swap
  · iexact Hf
  ipureintro
  intro x hxH
  rw [read_write_rect, putRect_congr _ _ (hf x hxH)]

/-- A scatter with addition into an array held whole. -/
theorem holds_scatter {α : Type} {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ₀ c.2) α} {Q : α → sProp 𝕄} :
    (Holds c base Finset.univ X : sProp 𝕄)
      ⊢ iprop((Holds c base Finset.univ (storeIdx X idxs v mask add h) -∗ wp frame (wpE (defs₀ (F := F)) 𝒱₀ c none) Set.univ (k ⟨⟩) Q)
        -∗ wp frame (wpE (defs₀ (F := F)) 𝒱₀ c none) Set.univ (SparseCore.vectorStoreIdx base idxs v mask add h hs >>= k) Q) := by
  unfold Holds
  iintro ⟨%f, %hf, Hf⟩ Hk
  have hset : (base.access (.whole s)).set = base.view.setOn Finset.univ := by
    rw [View.set_slice, Rect.set_whole]; rfl
  have hemb : ∀ x, (Rect.whole s).emb x = x := fun x => Rect.emb_whole_apply s x
  have hX : (base.access (.whole s)).read (Elt F) f = X := by
    funext x
    rw [← hf x (Finset.mem_univ x), ← congrArg (base.view.read (Elt F) f) (hemb x)]; rfl
  rw [← hset]
  iapply (SparseCore.wp_vectorStoreIdx (defs := defs₀ (F := F)) 𝒱₀ c none Set.univ (k := k) (hs := hs) (h := h)) $$ Hf
  iintro Hf
  iapply Hk
  iexists _
  isplitr
  swap
  · iexact Hf
  ipureintro
  intro x _
  rw [hX, read_write_rect, ← congrArg (putRect _ _ _) (hemb x), putRect_emb]

end Cert.Proof
-- ==== Proof.Spec.lean ====
module
public import proofs.«01_k».proof.Defs
public import proofs.«01_k».proof.Proof.Rolled

/-! What a vector subcore computes, as plain functions of the arrays it reads. -/

@[expose] public section

noncomputable section

namespace Cert.Proof

open Idealize.ShloMosaic Idealize.SL.Sem
open Cert.KernelIdeal Cert.KernelIdeal.Facts₀ Cert.KernelIdeal.Facts

variable {F : FTy → Type} [FloatOps F] [Named F] [Facts]

/-- The accumulator's contents. -/
abbrev Acc (F : FTy → Type) : Type := S49168.Idx → F .f32

/-- Sixteen elements of a scratch array, `d` after the word `b`. -/
def vec16 {e : EltTy} (X : S8000.Idx → Elt F e) (b : BitVec 32) (hb : BlockIn b) (d : Nat) (hd : d + 16 ≤ 800) : Vec F S16 e :=
  fun x => X ((stepRect b hb d hd).emb x)

/-- The running sums after `k` steps of a block of one segment, from step `t` on. -/
def fastVal (X7 X8 X9 : S8000.Idx → F .f32) (b : BitVec 32) (hb : BlockIn b) : (k t : Nat) → t + k ≤ 50 → FVec F S16 .f32 → FVec F S16 .f32 →
    FVec F S16 .f32 × FVec F S16 .f32
  | 0, _, _, ka, ra => (ka, ra)
  | k + 1, t, h, ka, ra =>
    fastVal X7 X8 X9 b hb k (t + 1) (by omega)
      (addf ka (keOf (vec16 (e := .f32) X7 b hb (16 * t) (by omega)) (vec16 (e := .f32) X8 b hb (16 * t) (by omega))))
      (addf ra (vec16 (e := .f32) X9 b hb (16 * t) (by omega)))

instance InAcc.dec' (x : IVec S16 32) : Decidable (InAcc x) := InAcc.dec x

/-- Sixteen values added to the accumulator at the elements `x` names. -/
def scat (A : Acc F) (x : IVec S16 32) (v : FVec F S16 .f32) : Acc F :=
  if h : InAcc x then storeIdx (e := .f32) A ![x] v (fun _ => 1#1) true h else A

theorem scat_of {A : Acc F} {x : IVec S16 32} {v : FVec F S16 .f32} (h : InAcc x) :
    scat A x v = storeIdx (e := .f32) A ![x] v (fun _ => 1#1) true h := dif_pos h

/-- Three values of every lane added at the lane's three places for the segments `s`. -/
def scat3 (lb s : IVec S16 32) (A : Acc F) (u v w : FVec F S16 .f32) : Acc F :=
  scat (scat (scat A (addi lb s) u) (addi (addi lb s) (broadcast S16 1024#32)) v) (addi (addi lb s) (broadcast S16 2048#32)) w

/-- The accumulator after `k` steps of a mixed block, from step `t` on. -/
def slowVal (X7 X8 X9 : S8000.Idx → F .f32) (X10 : S8000.Idx → BitVec 32) (lb : IVec S16 32) (one : FVec F S16 .f32) (b : BitVec 32) (hb : BlockIn b) :
    (k t : Nat) → t + k ≤ 50 → Acc F → Acc F
  | 0, _, _, A => A
  | k + 1, t, h, A =>
    slowVal X7 X8 X9 X10 lb one b hb k (t + 1) (by omega)
      (scat3 lb (vec16 (F := F) (e := .i32) X10 b hb (16 * t) (by omega)) A
        (keOf (vec16 (e := .f32) X7 b hb (16 * t) (by omega)) (vec16 (e := .f32) X8 b hb (16 * t) (by omega)))
        (vec16 (e := .f32) X9 b hb (16 * t) (by omega)) one)

/-- The state after a block's one or mixed body. -/
def restVal (X7 X8 X9 : S8000.Idx → F .f32) (X10 : S8000.Idx → BitVec 32) (lb : IVec S16 32) (zero one : FVec F S16 .f32) (b : BitVec 32) (hb : BlockIn b)
    (b0 b1 : BitVec 32) (st : ScSt F) (A : Acc F) : ScSt F × Acc F :=
  if k0_cond2 b0 b1 = 1#1 then
    ((Scalar.select (chg st.1 b0 b1) (Scalar.select (Scalar.cmpi .eq b0 b1) b0 b1) st.1,
      (fastVal X7 X8 X9 b hb 50 0 (by omega) (Scalar.select (chg st.1 b0 b1) zero st.2.1) (Scalar.select (chg st.1 b0 b1) zero st.2.2.1)).1,
      (fastVal X7 X8 X9 b hb 50 0 (by omega) (Scalar.select (chg st.1 b0 b1) zero st.2.1) (Scalar.select (chg st.1 b0 b1) zero st.2.2.1)).2,
      Scalar.addf (Scalar.select (chg st.1 b0 b1) (Scalar.ofBits .f32 0x00000000#32) st.2.2.2) (Scalar.ofBits .f32 0x44480000#32)), A)
  else
    ((Scalar.select (chg st.1 b0 b1) (Scalar.select (Scalar.cmpi .eq b0 b1) b0 b1) st.1,
      Scalar.select (chg st.1 b0 b1) zero st.2.1, Scalar.select (chg st.1 b0 b1) zero st.2.2.1,
      Scalar.select (chg st.1 b0 b1) (Scalar.ofBits .f32 0x00000000#32) st.2.2.2),
      slowVal X7 X8 X9 X10 lb one b hb 50 0 (by omega) A)

/-- The accumulator with the current run's sums added. -/
def flushVal (lb ln : IVec S16 32) (st : ScSt F) (A : Acc F) : Acc F :=
  scat3 lb (broadcast S16 st.1) A st.2.1 st.2.2.1 (cntVec ln st.2.2.2)

/-- The first segment of a block. -/
def segFirst (X10 : S8000.Idx → BitVec 32) (b : BitVec 32) (hb : BlockIn b) : BitVec 32 :=
  firstOf fun x => X10 ((Rect.unit (s := S8000) ![(Scalar.indexCast b).toNat] S16.size (firstOff_inb hb)).emb x)
/-- The last segment of a block. -/
def segLast (X10 : S8000.Idx → BitVec 32) (b : BitVec 32) (hb : BlockIn b) : BitVec 32 :=
  lastOf fun x => X10 ((Rect.unit (s := S8000) ![(Scalar.indexCast (Scalar.subi (Scalar.addi b 800#32) 16#32)).toNat] S16.size (lastOff_inb hb)).emb x)

/-- The state after a block. -/
def blockVal (X7 X8 X9 : S8000.Idx → F .f32) (X10 : S8000.Idx → BitVec 32) (ln lb : IVec S16 32) (zero one : FVec F S16 .f32) (b : BitVec 32) (hb : BlockIn b)
    (p : ScSt F × Acc F) : ScSt F × Acc F :=
  restVal X7 X8 X9 X10 lb zero one b hb (segFirst X10 b hb) (segLast X10 b hb) p.1
    (if k0_cond1 p.1.1 (segFirst X10 b hb) (segLast X10 b hb) = 1#1 then flushVal lb ln p.1 p.2 else p.2)

/-- A step function run for the first `k` of `n` steps. -/
def upTo {σ : Type} {n : Nat} (f : Fin n → σ → σ) (s : σ) : Nat → σ
  | 0 => s
  | k + 1 => if h : k < n then f ⟨k, h⟩ (upTo f s k) else upTo f s k

theorem upTo_succ {σ : Type} {n : Nat} (f : Fin n → σ → σ) (s : σ) (k : Fin n) : upTo f s (k.val + 1) = f k (upTo f s k.val) := by
  rw [upTo, dif_pos k.isLt]

/-- The state after the first `k` blocks of the first half. -/
def half0Val (X7 X8 X9 : S8000.Idx → F .f32) (X10 : S8000.Idx → BitVec 32) (p : ScSt F × Acc F) (k : Nat) : ScSt F × Acc F :=
  upTo (n := k0_t3_loop.trips) (fun k => blockVal X7 X8 X9 X10 lanes laneBase zeros ones (blk0 k) (blk0_in k)) p k
/-- The state after the first `k` blocks of the second half. -/
def half1Val (X7 X8 X9 : S8000.Idx → F .f32) (X10 : S8000.Idx → BitVec 32) (p : ScSt F × Acc F) (k : Nat) : ScSt F × Acc F :=
  upTo (n := k0_t4_loop.trips) (fun k => blockVal X7 X8 X9 X10 lanes laneBase zeros ones (blk1 k) (blk1_in k)) p k

/-- Element `n` of a long array, as an index. -/
def gix (n : Nat) : S6400000.Idx := fun a => ⟨n % 6400000, by obtain rfl := Fin.eq_zero a; exact Nat.mod_lt _ (by decide)⟩

/-- Eight thousand elements of a long array from `o` on. -/
def win {α : Type} (X : S6400000.Idx → α) (o : Nat) : S8000.Idx → α := fun j => X (gix (o + (j 0).val))

/-- The number of a subcore's part of the arrays. -/
def wid (i : grid0.Coords) : Nat := 2 * (i 1).val + (i 0).val

/-- The state after trip `k` of subcore number `w`. -/
def tripVal (M V R : S6400000.Idx → F .f32) (S : S6400000.Idx → BitVec 32) (w k : Nat) (p : ScSt F × Acc F) : ScSt F × Acc F :=
  half1Val (win M (200000 * w + 8000 * k)) (win V (200000 * w + 8000 * k)) (win R (200000 * w + 8000 * k)) (win S (200000 * w + 8000 * k))
    (half0Val (win M (200000 * w + 8000 * k)) (win V (200000 * w + 8000 * k)) (win R (200000 * w + 8000 * k)) (win S (200000 * w + 8000 * k)) p 5) 5

/-- The state of subcore number `w` before trip `k`. -/
def tripsVal (M V R : S6400000.Idx → F .f32) (S : S6400000.Idx → BitVec 32) (w : Nat) : Nat → ScSt F × Acc F
  | 0 => ((0#32, zeros, zeros, Scalar.ofBits .f32 0x00000000#32), fun _ => Scalar.ofBits .f32 0x00000000#32)
  | k + 1 => tripVal M V R S w k (tripsVal M V R S w k)

/-- The accumulator of subcore number `w` once all is added. -/
def accVal (M V R : S6400000.Idx → F .f32) (S : S6400000.Idx → BitVec 32) (w : Nat) : Acc F :=
  flushVal laneBase lanes (tripsVal M V R S w 25).1 (tripsVal M V R S w 25).2

/-- Element `n` of the accumulator, as an index. -/
def aix (n : Nat) : S49168.Idx := fun a => ⟨n % 49168, by obtain rfl := Fin.eq_zero a; exact Nat.mod_lt _ (by decide)⟩

/-- Result `j` of a subcore: lane zero's element and `t` more. -/
def redAt (A : Acc F) (j : Nat) : Nat → F .f32
  | 0 => A (aix j)
  | t + 1 => FloatOps.addf (redAt A j t) (A (aix (3073 * (t + 1) + j)))

/-- The results of subcore number `w`. -/
def rowVal (M V R : S6400000.Idx → F .f32) (S : S6400000.Idx → BitVec 32) (w : Nat) (j : Nat) : F .f32 := redAt (accVal M V R S w) j 15

/-- The results of all subcores. -/
def partVal (M V R : S6400000.Idx → F .f32) (S : S6400000.Idx → BitVec 32) : S32x3072.Idx → F .f32 :=
  fun x => rowVal M V R S (x 0).val (x 1).val

end Cert.Proof
-- ==== Proof.Blocks.lean ====
module
public import proofs.«01_k».proof.Proof.Holds
public import proofs.«01_k».proof.Proof.Spec

/-! A block of eight hundred elements, run: from the scratch arrays held to the state the plain functions say. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [Facts]

local notation "𝕄" => MT nD τ sig (HIx 1) (Elt F) ℕ UU ℕ

/-- The thread of the vector subcore at grid coordinates `i`. -/
abbrev thr (d : Dev nD) (i : grid0.Coords) : Thread nD τ := V d ((i 0).castLE hcore0) ((i 1).castLE hsub0)

variable (d : Dev nD) (i : grid0.Coords) (arg7 arg8 arg9 : Memref sig .scVector .vmem S8000 .f32)
  (arg10 : Memref sig .scVector .vmem S8000 .i32) (arg11 : Memref sig .scVector .vmem S49168 .f32)
  (H : Finset S8000.Idx) (X7 X8 X9 : S8000.Idx → F .f32) (X10 : S8000.Idx → BitVec 32)

/-- The elements of a block are among `H`. -/
def BlockHeld (b : BitVec 32) (H : Finset S8000.Idx) : Prop := ∀ x : S8000.Idx, b.toNat ≤ (x 0).val → (x 0).val < b.toNat + 800 → x ∈ H

theorem mem_unit_set {o : Fin 1 → Nat} {ho : ∀ a, o a + S16.size a ≤ S8000.size a} {x : S8000.Idx}
    (h : x ∈ (Rect.unit (s := S8000) o S16.size ho).set) : o 0 ≤ (x 0).val ∧ (x 0).val < o 0 + 16 := by
  obtain ⟨j, hj, e⟩ := ((Rect.unit (s := S8000) o S16.size ho).mem_set).mp h 0
  change j < 16 at hj
  change (x 0).val = o 0 + 1 * j at e
  omega

theorem unit_emb_val {o : Fin 1 → Nat} {ho : ∀ a, o a + S16.size a ≤ S8000.size a} (x : S16.Idx) :
    (((Rect.unit (s := S8000) o S16.size ho).emb x) 0).val = o 0 + (x 0).val := by
  change o 0 + 1 * (x 0).val = _
  omega

theorem stepOff_val {b : BitVec 32} (hb : BlockIn b) {t : Nat} (ht : t + 16 ≤ 800) : stepOff b t 0 = b.toNat + t := by
  unfold BlockIn at hb
  change (b + BitVec.ofNat 32 t).toNat = _
  rw [BitVec.toNat_add, BitVec.toNat_ofNat]
  omega

theorem stepRect_sub {b : BitVec 32} {hb : BlockIn b} {H : Finset S8000.Idx} (hH : BlockHeld b H) {t : Nat} (ht : t + 16 ≤ 800) :
    (stepRect b hb t ht).set ⊆ H := by
  intro x hx
  have h := mem_unit_set hx
  rw [stepOff_val hb ht] at h
  exact hH x (by omega) (by omega)

/-- The three float arrays and the segments held over `H`. -/
abbrev Bufs : sProp 𝕄 :=
  iprop(Holds (thr d i) arg7 H X7 ∗ Holds (thr d i) arg8 H X8 ∗ Holds (thr d i) arg9 H X9 ∗ Holds (F := F) (e := .i32) (thr d i) arg10 H X10)

/-- The steps of a block of one segment. -/
theorem wp_fastFrom (b : BitVec 32) (hb : BlockIn b) (hH : BlockHeld b H) (Φ : FVec F S16 .f32 × FVec F S16 .f32 → sProp 𝕄) :
    ∀ (k t : Nat) (h : t + k ≤ 50) (ka ra : FVec F S16 .f32),
    iprop(Bufs d i arg7 arg8 arg9 arg10 H X7 X8 X9 X10 ∗ (Bufs d i arg7 arg8 arg9 arg10 H X7 X8 X9 X10 -∗ Φ (fastVal X7 X8 X9 b hb k t h ka ra)))
      ⊢ wp frame (wpE (defs₀ (F := F)) 𝒱₀ (thr d i) none) Set.univ (fastFrom i arg7 arg8 arg9 b hb k t h ka ra) Φ := by
  intro k
  induction k with
  | zero =>
    intro t h ka ra
    unfold fastFrom fastVal
    rw [wp_pure]
    iintro ⟨H, Hk⟩
    imodintro
    iapply Hk
    iexact H
  | succ k ih =>
    intro t h ka ra
    unfold fastFrom fastVal
    iintro ⟨⟨H7, H8, H9, H10⟩, Hk⟩
    iapply (holds_load (thr d i) (stepRect_sub hH _)) $$ H7
    iintro H7
    iapply (holds_load (thr d i) (stepRect_sub hH _)) $$ H8
    iintro H8
    iapply (holds_load (thr d i) (stepRect_sub hH _)) $$ H9
    iintro H9
    iapply (ih (t + 1) _ _)
    isplitl [H7 H8 H9 H10]
    · isplitl [H7]; · iexact H7
      isplitl [H8]; · iexact H8
      isplitl [H9]; · iexact H9
      iexact H10
    · iexact Hk

/-! ## Where the lanes add -/

theorem lanes_apply (x : S16.Idx) : lanes x = BitVec.ofNat 32 (x 0).val := by
  unfold lanes iota
  simp only [List.foldl_cons, List.foldl_nil, Nat.zero_mul, Nat.zero_add]
theorem laneBase_apply (x : S16.Idx) : laneBase x = BitVec.ofNat 32 (x 0).val * 3073#32 := by
  rw [← lanes_apply]; unfold laneBase; with_unfolding_all rfl

/-- Segments below 1024. -/
def SegOK (s : IVec S16 32) : Prop := ∀ x, (s x).toNat < 1024

theorem addi_base_toNat {s : IVec S16 32} (hs : SegOK s) (x : S16.Idx) : (addi laneBase s x).toNat = 3073 * (x 0).val + (s x).toNat := by
  have h1 : (x 0).val < 16 := (x 0).isLt
  have h2 := hs x
  change (laneBase x + s x).toNat = _
  rw [laneBase_apply, BitVec.toNat_add, BitVec.toNat_mul, BitVec.toNat_ofNat, BitVec.toNat_ofNat]
  omega

theorem addi_base1_toNat {s : IVec S16 32} (hs : SegOK s) (x : S16.Idx) :
    (addi (addi laneBase s) (broadcast S16 1024#32) x).toNat = 3073 * (x 0).val + (1024 + (s x).toNat) := by
  have h1 : (x 0).val < 16 := (x 0).isLt
  have h2 := hs x
  have h3 := addi_base_toNat hs x
  change (addi laneBase s x + 1024#32).toNat = _
  rw [BitVec.toNat_add, h3, BitVec.toNat_ofNat]
  omega

theorem addi_base2_toNat {s : IVec S16 32} (hs : SegOK s) (x : S16.Idx) :
    (addi (addi laneBase s) (broadcast S16 2048#32) x).toNat = 3073 * (x 0).val + (2048 + (s x).toNat) := by
  have h1 : (x 0).val < 16 := (x 0).isLt
  have h2 := hs x
  have h3 := addi_base_toNat hs x
  change (addi laneBase s x + 2048#32).toNat = _
  rw [BitVec.toNat_add, h3, BitVec.toNat_ofNat]
  omega

theorem inAcc_of {x : IVec S16 32} {q : S16.Idx → Nat} (hq : ∀ y, q y < 3072) (h : ∀ y, (x y).toNat = 3073 * (y 0).val + q y) : InAcc x := by
  intro a y
  obtain rfl := Fin.eq_zero a
  have h1 : (y 0).val < 16 := (y 0).isLt
  have h2 := hq y
  change (x y).toNat < 49168
  rw [h y]
  omega

theorem inAcc0 {s : IVec S16 32} (hs : SegOK s) : InAcc (addi laneBase s) :=
  inAcc_of (q := fun x => (s x).toNat) (fun y => by have := hs y; omega) (addi_base_toNat hs)
theorem inAcc1 {s : IVec S16 32} (hs : SegOK s) : InAcc (addi (addi laneBase s) (broadcast S16 1024#32)) :=
  inAcc_of (q := fun x => 1024 + (s x).toNat) (fun y => by have := hs y; omega) (addi_base1_toNat hs)
theorem inAcc2 {s : IVec S16 32} (hs : SegOK s) : InAcc (addi (addi laneBase s) (broadcast S16 2048#32)) :=
  inAcc_of (q := fun x => 2048 + (s x).toNat) (fun y => by have := hs y; omega) (addi_base2_toNat hs)

/-- The accumulator held whole. -/
abbrev AccH (A : Acc F) : sProp 𝕄 := Holds (F := F) (e := .f32) (thr d i) arg11 Finset.univ A

theorem segOK_vec16 {H : Finset S8000.Idx} {X10 : S8000.Idx → BitVec 32} (hs : ∀ x ∈ H, (X10 x).toNat < 1024) {b : BitVec 32} {hb : BlockIn b}
    (hH : BlockHeld b H) {t : Nat} (ht : t + 16 ≤ 800) : SegOK (vec16 (F := F) (e := .i32) X10 b hb t ht) := by
  intro x
  refine hs _ (stepRect_sub (hb := hb) hH ht ?_)
  rw [← Rect.map_emb_univ]
  exact Finset.mem_map_of_mem _ (Finset.mem_univ x)

/-- The steps of a mixed block. -/
theorem wp_slowFrom (one : FVec F S16 .f32) (b : BitVec 32) (hb : BlockIn b) (hH : BlockHeld b H) (hs : ∀ x ∈ H, (X10 x).toNat < 1024)
    (b0 b1 : BitVec 32) (hn : ¬(k0_cond2 b0 b1 = 1#1)) (Φ : PUnit → sProp 𝕄) :
    ∀ (k t : Nat) (h : t + k ≤ 50) (A : Acc F),
    iprop(Bufs d i arg7 arg8 arg9 arg10 H X7 X8 X9 X10 ∗ AccH d i arg11 A
        ∗ (Bufs d i arg7 arg8 arg9 arg10 H X7 X8 X9 X10 -∗ AccH d i arg11 (slowVal X7 X8 X9 X10 laneBase one b hb k t h A) -∗ Φ ⟨⟩))
      ⊢ wp frame (wpE (defs₀ (F := F)) 𝒱₀ (thr d i) none) Set.univ (slowFrom i arg7 arg8 arg9 arg10 arg11 laneBase one b hb b0 b1 hn k t h) Φ := by
  intro k
  induction k with
  | zero =>
    intro t h A
    unfold slowFrom slowVal
    rw [wp_pure]
    iintro ⟨H, HA, Hk⟩
    imodintro
    iapply Hk $$ H HA
  | succ k ih =>
    intro t h A
    have hS := segOK_vec16 (F := F) (hb := hb) hs hH (t := 16 * t) (by omega)
    unfold slowFrom slowVal scat3
    rw [scat_of (inAcc0 hS), scat_of (inAcc1 hS), scat_of (inAcc2 hS)]
    iintro ⟨⟨H7, H8, H9, H10⟩, HA, Hk⟩
    iapply (holds_load (thr d i) (stepRect_sub hH _)) $$ H10
    iintro H10
    iapply (holds_load (thr d i) (stepRect_sub hH _)) $$ H7
    iintro H7
    iapply (holds_load (thr d i) (stepRect_sub hH _)) $$ H8
    iintro H8
    iapply (holds_load (thr d i) (stepRect_sub hH _)) $$ H9
    iintro H9
    iapply (wp_assume 𝒱₀ (thr d i) none Set.univ (fun _ => inAcc0 hS))
    iapply (holds_scatter (thr d i)) $$ HA
    iintro HA
    iapply (wp_assume 𝒱₀ (thr d i) none Set.univ (fun _ => inAcc1 hS))
    iapply (holds_scatter (thr d i)) $$ HA
    iintro HA
    iapply (wp_assume 𝒱₀ (thr d i) none Set.univ (fun _ => inAcc2 hS))
    iapply (holds_scatter (thr d i)) $$ HA
    iintro HA
    iapply (ih (t + 1) _ _)
    isplitl [H7 H8 H9 H10]
    · isplitl [H7]; · iexact H7
      isplitl [H8]; · iexact H8
      isplitl [H9]; · iexact H9
      iexact H10
    isplitl [HA]; · iexact HA
    iexact Hk

/-- A scatter with addition that ends a program. -/
theorem holds_scatter_last {c : Thread nD τ} {s : Shape} {e : EltTy} {X : s.Idx → Elt F e}
    {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ} {Q : PUnit → sProp 𝕄} :
    (Holds c base Finset.univ X : sProp 𝕄)
      ⊢ iprop((Holds c base Finset.univ (storeIdx X idxs v mask add h) -∗ Q ⟨⟩)
        -∗ wp frame (wpE (defs₀ (F := F)) 𝒱₀ c none) Set.univ (SparseCore.vectorStoreIdx base idxs v mask add h hs) Q) := by
  have e : (SparseCore.vectorStoreIdx base idxs v mask add h hs : Prog (TpuEff nD τ sig (Elt F) Λ₀ c.2) PUnit)
      = SparseCore.vectorStoreIdx base idxs v mask add h hs >>= fun _ => pure ⟨⟩ := (bind_pure _).symm
  rw [e]
  iintro HA Hk
  iapply (holds_scatter c) $$ HA
  iintro HA
  rw [wp_pure]
  imodintro
  iapply Hk $$ HA

theorem segOK_const {s : BitVec 32} (h : s.toNat < 1024) : SegOK (broadcast S16 s) := fun _ => h

/-- The stores of a flush. -/
theorem wp_flushStores (b0 b1 : BitVec 32) (st : ScSt F) (hc : st.1.toNat < 1024) (h1 : k0_cond1 st.1 b0 b1 = 1#1) (A : Acc F) (Φ : PUnit → sProp 𝕄) :
    iprop(AccH d i arg11 A ∗ (AccH d i arg11 (flushVal laneBase lanes st A) -∗ Φ ⟨⟩))
      ⊢ wp frame (wpE (defs₀ (F := F)) 𝒱₀ (thr d i) none) Set.univ (flushStores i arg11 laneBase lanes st.1 b0 b1 h1 st.2.1 st.2.2.1 st.2.2.2) Φ := by
  have hS := segOK_const hc
  unfold flushStores flushVal scat3
  rw [scat_of (inAcc0 hS), scat_of (inAcc1 hS), scat_of (inAcc2 hS)]
  iintro ⟨HA, Hk⟩
  iapply (wp_assume 𝒱₀ (thr d i) none Set.univ (fun _ => inAcc0 hS))
  iapply (holds_scatter (thr d i)) $$ HA
  iintro HA
  iapply (wp_assume 𝒱₀ (thr d i) none Set.univ (fun _ => inAcc1 hS))
  iapply (holds_scatter (thr d i)) $$ HA
  iintro HA
  iapply (wp_assume 𝒱₀ (thr d i) none Set.univ (fun _ => inAcc2 hS))
  iapply holds_scatter_last $$ HA
  iexact Hk

/-- The last flush. -/
theorem wp_finalFlush (st : ScSt F) (hc : st.1.toNat < 1024) (A : Acc F) (Φ : PUnit → sProp 𝕄) :
    iprop(AccH d i arg11 A ∗ (AccH d i arg11 (flushVal laneBase lanes st A) -∗ Φ ⟨⟩))
      ⊢ wp frame (wpE (defs₀ (F := F)) 𝒱₀ (thr d i) none) Set.univ (finalFlush i arg11 lanes laneBase st) Φ := by
  have hS := segOK_const hc
  unfold finalFlush flushVal scat3
  rw [scat_of (inAcc0 hS), scat_of (inAcc1 hS), scat_of (inAcc2 hS)]
  iintro ⟨HA, Hk⟩
  iapply (wp_assume 𝒱₀ (thr d i) none Set.univ (inAcc0 hS))
  iapply (holds_scatter (thr d i)) $$ HA
  iintro HA
  iapply (wp_assume 𝒱₀ (thr d i) none Set.univ (inAcc1 hS))
  iapply (holds_scatter (thr d i)) $$ HA
  iintro HA
  iapply (wp_assume 𝒱₀ (thr d i) none Set.univ (inAcc2 hS))
  iapply holds_scatter_last $$ HA
  iexact Hk

/-- The steps of a block, whichever kind it is. -/
theorem wp_blockRest (zero one : FVec F S16 .f32) (b : BitVec 32) (hb : BlockIn b) (hH : BlockHeld b H) (hs : ∀ x ∈ H, (X10 x).toNat < 1024)
    (b0 b1 : BitVec 32) (st : ScSt F) (A : Acc F) (Φ : ScSt F → sProp 𝕄) :
    iprop(Bufs d i arg7 arg8 arg9 arg10 H X7 X8 X9 X10 ∗ AccH d i arg11 A
        ∗ (Bufs d i arg7 arg8 arg9 arg10 H X7 X8 X9 X10 -∗ AccH d i arg11 (restVal X7 X8 X9 X10 laneBase zero one b hb b0 b1 st A).2
            -∗ Φ (restVal X7 X8 X9 X10 laneBase zero one b hb b0 b1 st A).1))
      ⊢ wp frame (wpE (defs₀ (F := F)) 𝒱₀ (thr d i) none) Set.univ (blockRest i arg7 arg8 arg9 arg10 arg11 laneBase zero one b hb b0 b1 st) Φ := by
  unfold blockRest restVal
  split
  · rw [wp_bind]
    iintro ⟨HB, HA, Hk⟩
    iapply (wp_fastFrom d i arg7 arg8 arg9 arg10 H X7 X8 X9 X10 b hb hH)
    isplitl [HB]; · iexact HB
    iintro HB
    rw [wp_ret]
    imodintro
    iapply Hk $$ HB HA
  · rw [wp_bind]
    iintro ⟨HB, HA, Hk⟩
    iapply (wp_slowFrom d i arg7 arg8 arg9 arg10 arg11 H X7 X8 X9 X10 one b hb hH hs)
    isplitl [HB]; · iexact HB
    isplitl [HA]; · iexact HA
    iintro HB HA
    rw [wp_ret]
    imodintro
    iapply Hk $$ HB HA

theorem first_sub {b : BitVec 32} {hb : BlockIn b} (hH : BlockHeld b H) :
    (Rect.unit (s := S8000) ![(Scalar.indexCast b).toNat] S16.size (firstOff_inb hb)).set ⊆ H := by
  intro x hx
  have hx' := mem_unit_set hx
  refine hH x ?_ ?_
  · exact hx'.1
  · have := hx'.2
    change (x 0).val < b.toNat + 16 at this
    omega

theorem last_sub {b : BitVec 32} {hb : BlockIn b} (hH : BlockHeld b H) :
    (Rect.unit (s := S8000) ![(Scalar.indexCast (Scalar.subi (Scalar.addi b 800#32) 16#32)).toNat] S16.size (lastOff_inb hb)).set ⊆ H := by
  intro x hx
  have hx' := mem_unit_set hx
  have e : (b + 800#32 - 16#32).toNat = b.toNat + 784 := by
    unfold BlockIn at hb
    rw [BitVec.toNat_sub, BitVec.toNat_add]
    simp only [BitVec.toNat_ofNat]
    omega
  have h1 : (b + 800#32 - 16#32).toNat ≤ (x 0).val := hx'.1
  have h2 : (x 0).val < (b + 800#32 - 16#32).toNat + 16 := hx'.2
  refine hH x ?_ ?_ <;> omega

/-- A block, once its first and its last segment are read. -/
theorem wp_blockTail (b : BitVec 32) (hb : BlockIn b) (hH : BlockHeld b H) (hs : ∀ x ∈ H, (X10 x).toNat < 1024)
    (zero one : FVec F S16 .f32) (b0 b1 : BitVec 32) (st : ScSt F) (A : Acc F) (hc : st.1.toNat < 1024) (Φ : ScSt F → sProp 𝕄) :
    iprop(Bufs d i arg7 arg8 arg9 arg10 H X7 X8 X9 X10 ∗ AccH d i arg11 A
        ∗ (Bufs d i arg7 arg8 arg9 arg10 H X7 X8 X9 X10
            -∗ AccH d i arg11 (restVal X7 X8 X9 X10 laneBase zero one b hb b0 b1 st (if k0_cond1 st.1 b0 b1 = 1#1 then flushVal laneBase lanes st A else A)).2
            -∗ Φ (restVal X7 X8 X9 X10 laneBase zero one b hb b0 b1 st (if k0_cond1 st.1 b0 b1 = 1#1 then flushVal laneBase lanes st A else A)).1))
      ⊢ wp frame (wpE (defs₀ (F := F)) 𝒱₀ (thr d i) none) Set.univ
        (if h1 : k0_cond1 st.1 b0 b1 = 1#1 then
          flushStores i arg11 laneBase lanes st.1 b0 b1 h1 st.2.1 st.2.2.1 st.2.2.2 >>= fun _ =>
          blockRest i arg7 arg8 arg9 arg10 arg11 laneBase zero one b hb b0 b1 st
        else blockRest i arg7 arg8 arg9 arg10 arg11 laneBase zero one b hb b0 b1 st) Φ := by
  by_cases h1 : k0_cond1 st.1 b0 b1 = 1#1
  · rw [dif_pos h1, if_pos h1, wp_bind]
    iintro ⟨HB, HA, Hk⟩
    iapply (wp_flushStores d i arg11 _ _ st hc)
    isplitl [HA]; · iexact HA
    iintro HA
    iapply (wp_blockRest d i arg7 arg8 arg9 arg10 arg11 H X7 X8 X9 X10 zero one b hb hH hs)
    isplitl [HB]; · iexact HB
    isplitl [HA]; · iexact HA
    iexact Hk
  · rw [dif_neg h1, if_neg h1]
    exact wp_blockRest d i arg7 arg8 arg9 arg10 arg11 H X7 X8 X9 X10 zero one b hb hH hs _ _ st A Φ

/-- A block. -/
theorem wp_block (b : BitVec 32) (hb : BlockIn b) (hH : BlockHeld b H) (hs : ∀ x ∈ H, (X10 x).toNat < 1024)
    (zero one : FVec F S16 .f32) (p : ScSt F × Acc F) (hc : p.1.1.toNat < 1024) (Φ : ScSt F → sProp 𝕄) :
    iprop(Bufs d i arg7 arg8 arg9 arg10 H X7 X8 X9 X10 ∗ AccH d i arg11 p.2
        ∗ (Bufs d i arg7 arg8 arg9 arg10 H X7 X8 X9 X10 -∗ AccH d i arg11 (blockVal X7 X8 X9 X10 lanes laneBase zero one b hb p).2
            -∗ Φ (blockVal X7 X8 X9 X10 lanes laneBase zero one b hb p).1))
      ⊢ wp frame (wpE (defs₀ (F := F)) 𝒱₀ (thr d i) none) Set.univ (block i arg7 arg8 arg9 arg10 arg11 lanes laneBase zero one b hb p.1) Φ := by
  unfold block
  iintro ⟨⟨H7, H8, H9, H10⟩, HA, Hk⟩
  iapply (holds_load (thr d i) (first_sub H (hb := hb) hH)) $$ H10
  iintro H10
  iapply (holds_load (thr d i) (last_sub H (hb := hb) hH)) $$ H10
  iintro H10
  iapply (wp_blockTail d i arg7 arg8 arg9 arg10 arg11 H X7 X8 X9 X10 b hb hH hs zero one _ _ p.1 p.2 hc)
  isplitl [H7 H8 H9 H10]
  · isplitl [H7]; · iexact H7
    isplitl [H8]; · iexact H8
    isplitl [H9]; · iexact H9
    iexact H10
  isplitl [HA]; · iexact HA
  iexact Hk

theorem rest_cur {zero one : FVec F S16 .f32} {b : BitVec 32} {hb : BlockIn b} {b0 b1 : BitVec 32} {st : ScSt F} {A : Acc F} {lb : IVec S16 32} :
    (restVal X7 X8 X9 X10 lb zero one b hb b0 b1 st A).1.1 = Scalar.select (chg st.1 b0 b1) (Scalar.select (Scalar.cmpi .eq b0 b1) b0 b1) st.1 := by
  unfold restVal; split <;> rfl

theorem select_lt {c : BitVec 1} {x y : BitVec 32} (hx : x.toNat < 1024) (hy : y.toNat < 1024) : (Scalar.select c x y).toNat < 1024 := by
  unfold Scalar.select; split <;> assumption

/-- A block leaves a segment below 1024 current. -/
theorem block_cur {b : BitVec 32} {hb : BlockIn b} (hH : BlockHeld b H) (hs : ∀ x ∈ H, (X10 x).toNat < 1024)
    {zero one : FVec F S16 .f32} {p : ScSt F × Acc F} {ln lb : IVec S16 32} (hc : p.1.1.toNat < 1024) :
    (blockVal X7 X8 X9 X10 ln lb zero one b hb p).1.1.toNat < 1024 := by
  have h0 : (segFirst X10 b hb).toNat < 1024 :=
    hs _ (first_sub H (hb := hb) hH (by rw [← Rect.map_emb_univ]; exact Finset.mem_map_of_mem _ (Finset.mem_univ _)))
  have h1 : (segLast X10 b hb).toNat < 1024 :=
    hs _ (last_sub H (hb := hb) hH (by rw [← Rect.map_emb_univ]; exact Finset.mem_map_of_mem _ (Finset.mem_univ _)))
  unfold blockVal
  rw [rest_cur]
  exact select_lt (select_lt h0 h1) hc

end Cert.Proof
-- ==== Proof.Sums.lean ====
module
public import proofs.«01_k».proof.Proof.Blocks
public import Idealize.ShloMosaic.Lib.IdealHost

/-! The accumulator over the extended reals: its column sums, and what one block adds to them. -/

@[expose] public section

noncomputable section

namespace Cert.Proof

open Idealize.ShloMosaic Idealize.SL.Sem
open Cert.KernelIdeal Cert.KernelIdeal.Facts₀ Cert.KernelIdeal.Facts
open Finset (range)

/-! ## Lanes -/

/-- Lane `k`, as an index. -/
abbrev lx (k : Fin 16) : S16.Idx := Shape.ofLane (d := ![16]) k

theorem aix_val (n : ℕ) (h : n < 49168) (a) : (aix n a).val = n := Nat.mod_eq_of_lt h

/-- What a scatter of sixteen lanes, each in its own part, leaves at an element. -/
theorem storeIdx_at (A : Acc Ideal) (x : IVec S16 32) (v : FVec Ideal S16 .f32) (h : InAcc x) (q : Fin 16 → ℕ) (hq : ∀ k, q k < 3072)
    (hx : ∀ k : Fin 16, (x (lx k)).toNat = 3073 * k.val + q k) (k : Fin 16) (j : ℕ) (hj : j < 3072) :
    (storeIdx (F := Ideal) (s := S49168) (e := .f32) A ![x] v (fun _ => 1#1) true h : Acc Ideal) (aix (3073 * k.val + j))
      = (A (aix (3073 * k.val + j)) + if q k = j then v (lx k) else 0 : EReal) := by
  have hk := k.isLt
  have step : ∀ (g : Acc Ideal) (n : Fin 16),
      (if (∀ a, ((aix (3073 * k.val + j) : S49168.Idx) a).val = (idxAt (s := S49168) ![x] h (lx n) a).val)
        then (g (idxAt (s := S49168) ![x] h (lx n)) + v (lx n) : EReal) else g (aix (3073 * k.val + j)))
      = (g (aix (3073 * k.val + j)) + if n = k ∧ q k = j then v (lx k) else 0 : EReal) := by
    intro g n
    have hn := n.isLt
    have hqn := hq n
    have hiff : (∀ a, ((aix (3073 * k.val + j) : S49168.Idx) a).val = (idxAt (s := S49168) ![x] h (lx n) a).val) ↔ n = k ∧ q k = j := by
      constructor
      · intro e
        have e0 : (aix (3073 * k.val + j) 0).val = (x (lx n)).toNat := e 0
        rw [aix_val _ (by omega), hx n] at e0
        have hnk : n = k := Fin.ext (by omega)
        subst hnk
        exact ⟨rfl, by omega⟩
      · rintro ⟨rfl, e⟩ a
        obtain rfl := Fin.eq_zero a
        show _ = (x (lx n)).toNat
        rw [aix_val _ (by omega), hx n, e]
    by_cases hc : n = k ∧ q k = j
    · rw [if_pos (hiff.2 hc), if_pos hc]
      have : idxAt (s := S49168) ![x] h (lx n) = aix (3073 * k.val + j) := funext fun a => Fin.ext ((hiff.2 hc) a).symm
      rw [this, hc.1]
    · rw [if_neg (fun e => hc (hiff.1 e)), if_neg hc, add_zero]
  have key : ∀ (l : List (Fin 16)) (_ : l.Nodup) (g : Acc Ideal),
      (l.foldl (fun (g : Acc Ideal) n => fun j' : S49168.Idx => if (∀ a, (j' a).val = (idxAt (s := S49168) ![x] h (lx n) a).val)
        then (g (idxAt (s := S49168) ![x] h (lx n)) + v (lx n) : EReal) else g j') g) (aix (3073 * k.val + j))
      = (g (aix (3073 * k.val + j)) + if k ∈ l ∧ q k = j then v (lx k) else 0 : EReal) := by
    intro l
    induction l with
    | nil => intro _ g; simp
    | cons n l ih =>
      intro hl g
      rw [List.foldl_cons, ih (List.nodup_cons.1 hl).2]
      simp only []
      rw [step g n, add_assoc]
      congr 1
      have hnl := (List.nodup_cons.1 hl).1
      by_cases hnk : n = k
      · subst hnk
        simp [hnl]
      · have hkn : ¬ k = n := fun e => hnk e.symm
        simp [hnk, hkn]
  have := key (List.finRange 16) (List.nodup_finRange 16) A
  simp only [List.mem_finRange, true_and] at this
  refine Eq.trans ?_ this
  unfold storeIdx
  simp only [if_pos]
  rfl

/-- The sum over the lanes of element `j` of each lane's part. -/
def col (A : Acc Ideal) (j : ℕ) : EReal := ∑ k : Fin 16, A (aix (3073 * k.val + j))

/-- A lane's values at its segment's three places, seen at place `j`. -/
def putc (s : ℕ) (u v w : EReal) (j : ℕ) : EReal := (if s = j then u else 0) + (if 1024 + s = j then v else 0) + (if 2048 + s = j then w else 0)

theorem putc_add (s : ℕ) (u v w u' v' w' : EReal) (j : ℕ) : putc s (u + u') (v + v') (w + w') j = putc s u v w j + putc s u' v' w' j := by
  unfold putc
  by_cases h0 : s = j <;> by_cases h1 : 1024 + s = j <;> by_cases h2 : 2048 + s = j <;> simp [h0, h1, h2] <;> first | omega | abel

theorem putc_zero (s j : ℕ) : putc s 0 0 0 j = 0 := by simp [putc]

theorem putc_sum {ι : Type} (t : Finset ι) (s : ℕ) (u v w : ι → EReal) (j : ℕ) :
    ∑ e ∈ t, putc s (u e) (v e) (w e) j = putc s (∑ e ∈ t, u e) (∑ e ∈ t, v e) (∑ e ∈ t, w e) j := by
  classical
  induction t using Finset.induction_on with
  | empty => simp [putc_zero]
  | insert a t ha ih => rw [Finset.sum_insert ha, Finset.sum_insert ha, Finset.sum_insert ha, Finset.sum_insert ha, ih, putc_add]

theorem scat_col (A : Acc Ideal) (x : IVec S16 32) (v : FVec Ideal S16 .f32) (q : S16.Idx → ℕ) (hq : ∀ y, q y < 3072)
    (hx : ∀ y : S16.Idx, (x y).toNat = 3073 * (y 0).val + q y) (j : ℕ) (hj : j < 3072) :
    col (scat A x v) j = col A j + ∑ k : Fin 16, if q (lx k) = j then v (lx k) else 0 := by
  have h := inAcc_of hq hx
  unfold col
  rw [← Finset.sum_add_distrib, scat_of h]
  exact Finset.sum_congr rfl fun k _ => storeIdx_at A x v h (fun k => q (lx k)) (fun k => hq _) (fun k => hx (lx k)) k j hj

/-- Three scatters add each lane's values at its segment's three places. -/
theorem scat3_col (A : Acc Ideal) {s : IVec S16 32} (hs : SegOK s) (u v w : FVec Ideal S16 .f32) (j : ℕ) (hj : j < 3072) :
    col (scat3 laneBase s A u v w) j = col A j + ∑ k : Fin 16, putc (s (lx k)).toNat (u (lx k)) (v (lx k)) (w (lx k)) j := by
  unfold scat3
  rw [scat_col _ _ _ (fun x => 2048 + (s x).toNat) (fun y => by have := hs y; omega) (addi_base2_toNat hs) j hj,
    scat_col _ _ _ (fun x => 1024 + (s x).toNat) (fun y => by have := hs y; omega) (addi_base1_toNat hs) j hj,
    scat_col _ _ _ (fun x => (s x).toNat) (fun y => by have := hs y; omega) (addi_base_toNat hs) j hj, add_assoc, add_assoc, ← Finset.sum_add_distrib,
    ← Finset.sum_add_distrib]
  congr 1
  refine Finset.sum_congr rfl fun k _ => ?_
  unfold putc
  rw [add_assoc]

/-! ## Elements -/

section
variable (M V R : S6400000.Idx → Ideal .f32) (S : S6400000.Idx → BitVec 32)

/-- The kinetic energy of element `e`. -/
def keAt (e : ℕ) : EReal := (Ideal.ofBits .f32 0x3F000000#32 * M (gix e)) * (V (gix e) * V (gix e))

/-- What element `e` adds at place `j`. -/
def elt (e j : ℕ) : EReal := putc (S (gix e)).toNat (keAt M V e) (R (gix e)) 1 j

theorem vec16_win {e : EltTy} (X : S6400000.Idx → Elt Ideal e) (o : ℕ) (b : BitVec 32) (hb : BlockIn b) (d : ℕ) (hd : d + 16 ≤ 800) (k : Fin 16) :
    vec16 (F := Ideal) (e := e) (win X o) b hb d hd (lx k) = X (gix (o + b.toNat + d + k.val)) := by
  unfold vec16 win
  congr 2
  show o + ((b + BitVec.ofNat 32 d).toNat + 1 * k.val) = _
  unfold BlockIn at hb
  rw [BitVec.toNat_add, BitVec.toNat_ofNat]
  omega

theorem keOf_win (o : ℕ) (b : BitVec 32) (hb : BlockIn b) (d : ℕ) (hd : d + 16 ≤ 800) (k : Fin 16) :
    (keOf (vec16 (F := Ideal) (e := .f32) (win M o) b hb d hd) (vec16 (F := Ideal) (e := .f32) (win V o) b hb d hd) : FVec Ideal S16 .f32) (lx k) = keAt M V (o + b.toNat + d + k.val) := by
  have h : (keOf (vec16 (F := Ideal) (e := .f32) (win M o) b hb d hd) (vec16 (F := Ideal) (e := .f32) (win V o) b hb d hd) : FVec Ideal S16 .f32) (lx k)
      = ((Ideal.ofBits .f32 0x3F000000#32 * vec16 (F := Ideal) (e := .f32) (win M o) b hb d hd (lx k))
        * (vec16 (F := Ideal) (e := .f32) (win V o) b hb d hd (lx k) * vec16 (F := Ideal) (e := .f32) (win V o) b hb d hd (lx k)) : EReal) := rfl
  rw [h, vec16_win (e := .f32) M, vec16_win (e := .f32) V]; rfl

variable (hS : ∀ x, (S x).toNat < 1024)
include hS

/-- A mixed block adds its elements. -/
theorem slow_col (o : ℕ) (b : BitVec 32) (hb : BlockIn b) (j : ℕ) (hj : j < 3072) : ∀ (k t : ℕ) (h : t + k ≤ 50) (A : Acc Ideal),
    col (slowVal (win M o) (win V o) (win R o) (win S o) laneBase ones b hb k t h A) j
      = col A j + ∑ e ∈ range (16 * k), elt M V R S (o + b.toNat + 16 * t + e) j
  | 0, _, _, A => by simp [slowVal]
  | k + 1, t, h, A => by
    rw [slowVal, slow_col o b hb j hj k (t + 1) (by omega), scat3_col _ (s := vec16 (F := Ideal) (e := .i32) (win S o) b hb (16 * t) (by omega)) (fun y => hS _) _ _ _ _ hj, add_assoc,
      show 16 * (k + 1) = 16 + 16 * k by ring, Finset.sum_range_add]
    congr 2
    · rw [Finset.sum_range]
      refine Finset.sum_congr rfl fun l _ => ?_
      rw [vec16_win (e := .i32) S, keOf_win, vec16_win (e := .f32) R]
      unfold elt
      congr 1
      exact Ideal.ofBits_one_f32
    · exact Finset.sum_congr rfl fun e _ => by congr 1; ring

omit hS in
/-- A block of one segment adds its elements lane by lane. -/
theorem fast_lane (o : ℕ) (b : BitVec 32) (hb : BlockIn b) : ∀ (k t : ℕ) (h : t + k ≤ 50) (ka ra : FVec Ideal S16 .f32),
    (∑ l : Fin 16, (fastVal (win M o) (win V o) (win R o) b hb k t h ka ra).1 (lx l) : EReal)
        = (∑ l : Fin 16, ka (lx l)) + ∑ e ∈ range (16 * k), keAt M V (o + b.toNat + 16 * t + e)
      ∧ (∑ l : Fin 16, (fastVal (win M o) (win V o) (win R o) b hb k t h ka ra).2 (lx l) : EReal)
        = (∑ l : Fin 16, ra (lx l)) + ∑ e ∈ range (16 * k), R (gix (o + b.toNat + 16 * t + e))
  | 0, _, _, ka, ra => by simp [fastVal]
  | k + 1, t, h, ka, ra => by
    obtain ⟨h1, h2⟩ := fast_lane o b hb k (t + 1) (by omega)
      (addf ka (keOf (vec16 (F := Ideal) (e := .f32) (win M o) b hb (16 * t) (by omega)) (vec16 (F := Ideal) (e := .f32) (win V o) b hb (16 * t) (by omega))))
      (addf ra (vec16 (F := Ideal) (e := .f32) (win R o) b hb (16 * t) (by omega)))
    rw [fastVal, h1, h2, show 16 * (k + 1) = 16 + 16 * k by ring, Finset.sum_range_add, Finset.sum_range_add, ← add_assoc, ← add_assoc]
    refine ⟨?_, ?_⟩
    · rw [Finset.sum_range (n := 16), ← Finset.sum_add_distrib]
      congr 1
      · refine Finset.sum_congr rfl fun l _ => ?_
        rw [← keOf_win M V o b hb (16 * t) (by omega) l]; rfl
      · exact Finset.sum_congr rfl fun e _ => by congr 1; ring
    · rw [Finset.sum_range (n := 16), ← Finset.sum_add_distrib]
      congr 1
      · refine Finset.sum_congr rfl fun l _ => ?_
        rw [← vec16_win (e := .f32) R o b hb (16 * t) (by omega) l]; rfl
      · exact Finset.sum_congr rfl fun e _ => by congr 2; ring

end

/-! ## The state -/

/-- What a state holds at place `j`, in its accumulator and in its current run. -/
def tot (p : ScSt Ideal × Acc Ideal) (j : ℕ) : EReal :=
  col p.2 j + putc p.1.1.toNat (∑ l : Fin 16, p.1.2.1 (lx l)) (∑ l : Fin 16, p.1.2.2.1 (lx l)) p.1.2.2.2 j

theorem cnt_lane (nc : Ideal .f32) (k : Fin 16) : (cntVec lanes nc : FVec Ideal S16 .f32) (lx k) = (if k = 0 then nc else 0 : EReal) := by
  have h : (cntVec lanes nc : FVec Ideal S16 .f32) (lx k)
      = (if BitVec.ofBool (lanes (lx k) == 0#32) = 1 then nc else Ideal.ofBits .f32 0x00000000#32 : EReal) := rfl
  rw [h, Ideal.ofBits_zero_f32, lanes_apply]
  revert k; intro k h; clear h
  have : ∀ k : Fin 16, (BitVec.ofBool (BitVec.ofNat 32 k.val == 0#32) = 1 ↔ k = 0) := by decide
  exact if_congr (this k) rfl rfl

/-- Adding the current run to the accumulator. -/
theorem flush_col (st : ScSt Ideal) (A : Acc Ideal) (hc : st.1.toNat < 1024) (j : ℕ) (hj : j < 3072) : col (flushVal laneBase lanes st A) j = tot (st, A) j := by
  unfold flushVal tot
  rw [scat3_col _ (s := broadcast S16 st.1) (fun _ => hc) _ _ _ _ hj]
  congr 1
  show ∑ k : Fin 16, putc st.1.toNat (st.2.1 (lx k)) (st.2.2.1 (lx k)) ((cntVec lanes st.2.2.2 : FVec Ideal S16 .f32) (lx k)) j = _
  rw [putc_sum]
  congr 1
  simp only [cnt_lane]
  simp

theorem chg_iff (cur b0 b1 : BitVec 32) : chg cur b0 b1 = 1#1 ↔ ¬ (b0 = b1 ∧ b0 = cur) := by
  have h : chg cur b0 b1 = (BitVec.ofBool (b0 == b1) ^^^ 1#1) ||| BitVec.ofBool (b0 != cur) := rfl
  rw [h]
  by_cases h0 : b0 = b1 <;> by_cases h1 : b0 = cur
  · subst h0 h1; simp
  · subst h0; have : (b0 != cur) = true := by simpa using h1
    simp [h1, this]
  · subst h1; have : (b0 == b1) = false := by simpa using h0
    simp [h0, this]
  · have e : (b0 == b1) = false := by simpa using h0
    have : (b0 != cur) = true := by simpa using h1
    simp [h0, e, this]

theorem cond1_iff (cur b0 b1 : BitVec 32) : k0_cond1 cur b0 b1 = 1#1 ↔ chg cur b0 b1 = 1#1 := by
  have h : k0_cond1 cur b0 b1 = BitVec.ofBool ((chg cur b0 b1).setWidth 32 != 0#32) := rfl
  rw [h]
  generalize chg cur b0 b1 = c
  revert c; decide

theorem cond2_iff (b0 b1 : BitVec 32) : k0_cond2 b0 b1 = 1#1 ↔ b0 = b1 := by
  have h : k0_cond2 b0 b1 = BitVec.ofBool ((BitVec.ofBool (b0 == b1)).setWidth 32 != 0#32) := rfl
  rw [h]
  by_cases h0 : b0 = b1
  · simp [h0]
  · have e : (b0 == b1) = false := by simpa using h0
    rw [e]; simp [h0]

end Cert.Proof

end
-- ==== Proof.Totals.lean ====
module
public import proofs.«01_k».proof.Proof.Sums

/-! What a block, a half, a trip and a whole subcore add to the column sums of the accumulator, when the segments are sorted. -/

@[expose] public section

noncomputable section

namespace Cert.Proof

open Idealize.ShloMosaic Idealize.SL.Sem
open Cert.KernelIdeal Cert.KernelIdeal.Facts₀ Cert.KernelIdeal.Facts
open Finset (range)

theorem firstOf_eq (s : IVec S16 32) : firstOf s = s (lx 0) := by
  unfold firstOf extractAt extractStridedSlice
  congr 1; funext a; obtain rfl := Fin.eq_zero a; rfl
theorem lastOf_eq (s : IVec S16 32) : lastOf s = s (lx 15) := by
  unfold lastOf extractAt extractStridedSlice
  congr 1; funext a; obtain rfl := Fin.eq_zero a; rfl

theorem segFirst_win (S : S6400000.Idx → BitVec 32) (o : ℕ) (b : BitVec 32) (hb : BlockIn b) : segFirst (win S o) b hb = S (gix (o + b.toNat)) := by
  unfold segFirst
  rw [firstOf_eq]
  unfold win
  congr 2
theorem segLast_win (S : S6400000.Idx → BitVec 32) (o : ℕ) (b : BitVec 32) (hb : BlockIn b) : segLast (win S o) b hb = S (gix (o + b.toNat + 799)) := by
  unfold segLast
  rw [lastOf_eq]
  unfold win
  congr 2
  show o + (((b + 800#32) - 16#32).toNat + 1 * 15) = _
  unfold BlockIn at hb
  rw [BitVec.toNat_sub, BitVec.toNat_add, BitVec.toNat_ofNat, BitVec.toNat_ofNat]
  omega

theorem ofBits_800 : Ideal.ofBits .f32 0x44480000#32 = ((800 : ℝ) : EReal) := by
  simp [Ideal.ofBits, Ideal.ieee, -EReal.coe_mul]; norm_num

/-- Eight hundred ones. -/
theorem sum_ones : (∑ _e ∈ range 800, (1 : EReal)) = Ideal.ofBits .f32 0x44480000#32 := by
  rw [ofBits_800, Finset.sum_const, Finset.card_range]
  simp
  first | norm_cast | rfl

/-- The current run once a block's first and last segment are read: a new one where the block starts one. -/
def selSt (b0 b1 : BitVec 32) (st : ScSt Ideal) : ScSt Ideal :=
  (Scalar.select (chg st.1 b0 b1) (Scalar.select (Scalar.cmpi .eq b0 b1) b0 b1) st.1, Scalar.select (chg st.1 b0 b1) zeros st.2.1,
    Scalar.select (chg st.1 b0 b1) zeros st.2.2.1, Scalar.select (chg st.1 b0 b1) (Scalar.ofBits .f32 0x00000000#32) st.2.2.2)

theorem selSt_lt {b0 b1 : BitVec 32} {st : ScSt Ideal} (h0 : b0.toNat < 1024) (h1 : b1.toNat < 1024) (hc : st.1.toNat < 1024) : (selSt b0 b1 st).1.toNat < 1024 := by
  unfold selSt Scalar.select
  dsimp only
  split <;> [split; skip] <;> assumption

theorem selSt_cur {b0 : BitVec 32} {st : ScSt Ideal} : (selSt b0 b0 st).1 = b0 := by
  unfold selSt Scalar.select
  dsimp only
  split
  · split <;> rfl
  · rename_i h
    have := (chg_iff st.1 b0 b0).not.1 h
    simp only [true_and, not_not] at this
    exact this.symm

/-- A block's body from the new current run. -/
theorem rest_eq (X7 X8 X9 : S8000.Idx → Ideal .f32) (X10 : S8000.Idx → BitVec 32) (b : BitVec 32) (hb : BlockIn b) (b0 b1 : BitVec 32) (st : ScSt Ideal) (A : Acc Ideal) :
    restVal X7 X8 X9 X10 laneBase zeros ones b hb b0 b1 st A = if k0_cond2 b0 b1 = 1#1 then
      (((selSt b0 b1 st).1, (fastVal X7 X8 X9 b hb 50 0 (by omega) (selSt b0 b1 st).2.1 (selSt b0 b1 st).2.2.1).1,
        (fastVal X7 X8 X9 b hb 50 0 (by omega) (selSt b0 b1 st).2.1 (selSt b0 b1 st).2.2.1).2,
        ((selSt b0 b1 st).2.2.2 + Ideal.ofBits .f32 0x44480000#32 : EReal)), A)
      else (selSt b0 b1 st, slowVal X7 X8 X9 X10 laneBase ones b hb 50 0 (by omega) A) := rfl

/-- Starting a new run, the old one added to the accumulator, changes no place's total. -/
theorem selSt_tot (b0 b1 : BitVec 32) (st : ScSt Ideal) (A : Acc Ideal) (hc : st.1.toNat < 1024) (j : ℕ) (hj : j < 3072) :
    tot (selSt b0 b1 st, if k0_cond1 st.1 b0 b1 = 1#1 then flushVal laneBase lanes st A else A) j = tot (st, A) j := by
  by_cases h : chg st.1 b0 b1 = 1#1
  · rw [if_pos ((cond1_iff _ _ _).2 h), ← flush_col st A hc j hj]
    unfold tot selSt
    dsimp only
    rw [h]
    have e1 : (Scalar.select 1#1 zeros st.2.1 : FVec Ideal S16 .f32) = zeros := rfl
    have e2 : (Scalar.select 1#1 zeros st.2.2.1 : FVec Ideal S16 .f32) = zeros := rfl
    have e3 : (Scalar.select 1#1 (Scalar.ofBits .f32 0x00000000#32) st.2.2.2 : Ideal .f32) = (0 : EReal) := Ideal.ofBits_zero_f32
    have z0 : ∀ l : Fin 16, (zeros : FVec Ideal S16 .f32) (lx l) = (0 : EReal) := fun _ => Ideal.ofBits_zero_f32
    rw [e1, e2, e3]
    simp only [z0, Finset.sum_const_zero, putc_zero, add_zero]
  · rw [if_neg (fun e => h ((cond1_iff _ _ _).1 e))]
    unfold selSt Scalar.select
    have h' : ¬ chg st.1 b0 b1 = 1 := h
    rw [if_neg h', if_neg h', if_neg h', if_neg h']

section
variable (M V R : S6400000.Idx → Ideal .f32) (S : S6400000.Idx → BitVec 32) (hS : ∀ x, (S x).toNat < 1024)
  (hm : ∀ a b : ℕ, a ≤ b → b < 6400000 → (S (gix a)).toNat ≤ (S (gix b)).toNat)
include hS hm

/-- A block adds its elements. -/
theorem block_tot (o : ℕ) (b : BitVec 32) (hb : BlockIn b) (ho : o + b.toNat + 800 ≤ 6400000) (p : ScSt Ideal × Acc Ideal) (hc : p.1.1.toNat < 1024) :
    (blockVal (win M o) (win V o) (win R o) (win S o) lanes laneBase zeros ones b hb p).1.1.toNat < 1024
      ∧ ∀ j < 3072, tot (blockVal (win M o) (win V o) (win R o) (win S o) lanes laneBase zeros ones b hb p) j
        = tot p j + ∑ e ∈ range 800, elt M V R S (o + b.toNat + e) j := by
  obtain ⟨st, A⟩ := p
  unfold blockVal
  rw [segFirst_win, segLast_win]
  have h0 : (S (gix (o + b.toNat))).toNat < 1024 := hS _
  have h1 : (S (gix (o + b.toNat + 799))).toNat < 1024 := hS _
  generalize hA : (if k0_cond1 st.1 (S (gix (o + b.toNat))) (S (gix (o + b.toNat + 799))) = 1#1 then flushVal laneBase lanes st A else A) = A'
  have ht := fun j hj => selSt_tot (S (gix (o + b.toNat))) (S (gix (o + b.toNat + 799))) st A hc j hj
  rw [hA] at ht
  have hlt := selSt_lt (st := st) h0 h1 hc
  dsimp only
  rw [rest_eq]
  by_cases he : S (gix (o + b.toNat)) = S (gix (o + b.toNat + 799))
  · have hcur : (selSt (S (gix (o + b.toNat))) (S (gix (o + b.toNat + 799))) st).1 = S (gix (o + b.toNat)) := by rw [← he]; exact selSt_cur
    rw [if_pos ((cond2_iff _ _).2 he)]
    revert ht hlt hcur
    generalize selSt (S (gix (o + b.toNat))) (S (gix (o + b.toNat + 799))) st = s'
    intro ht hlt hcur
    refine ⟨hlt, fun j hj => ?_⟩
    rw [← ht j hj]
    have hall : ∀ e ∈ range 800, elt M V R S (o + b.toNat + e) j = putc (S (gix (o + b.toNat))).toNat (keAt M V (o + b.toNat + e)) (R (gix (o + b.toNat + e))) 1 j := by
      intro e hr
      have hr := Finset.mem_range.1 hr
      have a1 := hm (o + b.toNat) (o + b.toNat + e) (by omega) (by omega)
      have a2 := hm (o + b.toNat + e) (o + b.toNat + 799) (by omega) (by omega)
      rw [← he] at a2
      unfold elt
      rw [show (S (gix (o + b.toNat + e))).toNat = (S (gix (o + b.toNat))).toNat by omega]
    rw [Finset.sum_congr rfl hall, putc_sum, sum_ones]
    obtain ⟨f1, f2⟩ := fast_lane M V R o b hb 50 0 (by omega) s'.2.1 s'.2.2.1
    simp only [Nat.mul_zero, Nat.add_zero, Nat.reduceMul] at f1 f2
    unfold tot
    dsimp only
    rw [f1, f2, hcur, add_assoc, ← putc_add]
  · rw [if_neg (fun e => he ((cond2_iff _ _).1 e))]
    refine ⟨hlt, fun j hj => ?_⟩
    rw [← ht j hj]
    unfold tot
    dsimp only
    rw [slow_col M V R S hS o b hb j hj 50 0 (by omega)]
    simp only [Nat.mul_zero, Nat.add_zero, Nat.reduceMul]
    exact add_right_comm _ _ _

omit hS hm in
/-- Every block of a half starts eight hundred after the one before. -/
theorem blk0_toNat : ∀ k : Fin k0_t3_loop.trips, (blk0 k.val).toNat = 800 * k.val := by decide
omit hS hm in
theorem blk1_toNat : ∀ k : Fin k0_t4_loop.trips, (blk1 k.val).toNat = 4000 + 800 * k.val := by decide

/-- The blocks of the first half add their elements. -/
theorem half0_tot (o : ℕ) (ho : o + 4000 ≤ 6400000) (p : ScSt Ideal × Acc Ideal) (hc : p.1.1.toNat < 1024) : ∀ n : ℕ, n ≤ 5 →
    (half0Val (win M o) (win V o) (win R o) (win S o) p n).1.1.toNat < 1024
      ∧ ∀ j < 3072, tot (half0Val (win M o) (win V o) (win R o) (win S o) p n) j = tot p j + ∑ e ∈ range (800 * n), elt M V R S (o + e) j := by
  intro n
  induction n with
  | zero => exact fun _ => ⟨hc, fun j _ => by simp [half0Val, upTo]⟩
  | succ n ih =>
    intro hn
    obtain ⟨c, t⟩ := ih (by omega)
    have hv := blk0_toNat ⟨n, by show n < 5; omega⟩
    have hs : half0Val (win M o) (win V o) (win R o) (win S o) p (n + 1) = _ := upTo_succ _ _ (⟨n, by show n < 5; omega⟩ : Fin k0_t3_loop.trips)
    dsimp only at hv
    obtain ⟨c', t'⟩ := block_tot M V R S hS hm o (blk0 n) (blk0_in ⟨n, by show n < 5; omega⟩) (by rw [hv]; omega) _ c
    rw [hs]
    refine ⟨c', fun j hj => (t' j hj).trans ?_⟩
    rw [t j hj, show 800 * (n + 1) = 800 * n + 800 by ring, Finset.sum_range_add, add_assoc, hv]
    exact congrArg (fun x : EReal => _ + (_ + x)) (Finset.sum_congr rfl fun e _ => by rw [add_assoc])

/-- The blocks of the second half add their elements. -/
theorem half1_tot (o : ℕ) (ho : o + 8000 ≤ 6400000) (p : ScSt Ideal × Acc Ideal) (hc : p.1.1.toNat < 1024) : ∀ n : ℕ, n ≤ 5 →
    (half1Val (win M o) (win V o) (win R o) (win S o) p n).1.1.toNat < 1024
      ∧ ∀ j < 3072, tot (half1Val (win M o) (win V o) (win R o) (win S o) p n) j = tot p j + ∑ e ∈ range (800 * n), elt M V R S (o + (4000 + e)) j := by
  intro n
  induction n with
  | zero => exact fun _ => ⟨hc, fun j _ => by simp [half1Val, upTo]⟩
  | succ n ih =>
    intro hn
    obtain ⟨c, t⟩ := ih (by omega)
    have hv := blk1_toNat ⟨n, by show n < 5; omega⟩
    have hs : half1Val (win M o) (win V o) (win R o) (win S o) p (n + 1) = _ := upTo_succ _ _ (⟨n, by show n < 5; omega⟩ : Fin k0_t4_loop.trips)
    dsimp only at hv
    obtain ⟨c', t'⟩ := block_tot M V R S hS hm o (blk1 n) (blk1_in ⟨n, by show n < 5; omega⟩) (by rw [hv]; omega) _ c
    rw [hs]
    refine ⟨c', fun j hj => (t' j hj).trans ?_⟩
    rw [t j hj, show 800 * (n + 1) = 800 * n + 800 by ring, Finset.sum_range_add, add_assoc, hv]
    exact congrArg (fun x : EReal => _ + (_ + x)) (Finset.sum_congr rfl fun e _ => by rw [add_assoc, add_assoc])

/-- A subcore's trips add their elements. -/
theorem trips_tot (w : ℕ) (hw : w < 32) : ∀ n : ℕ, n ≤ 25 →
    (tripsVal M V R S w n).1.1.toNat < 1024
      ∧ ∀ j < 3072, tot (tripsVal M V R S w n) j = ∑ e ∈ range (8000 * n), elt M V R S (200000 * w + e) j := by
  intro n
  induction n with
  | zero =>
    intro _
    refine ⟨by show (0#32).toNat < 1024; decide, fun j _ => ?_⟩
    have z : (Scalar.ofBits .f32 0x00000000#32 : Ideal .f32) = (0 : EReal) := Ideal.ofBits_zero_f32
    have z0 : ∀ l : Fin 16, (zeros : FVec Ideal S16 .f32) (lx l) = (0 : EReal) := fun _ => Ideal.ofBits_zero_f32
    unfold tripsVal tot col
    dsimp only
    simp only [z0, z, Finset.sum_const_zero, putc_zero, add_zero, Nat.mul_zero, Finset.range_zero, Finset.sum_empty]
  | succ n ih =>
    intro hn
    obtain ⟨c, t⟩ := ih (by omega)
    obtain ⟨c0, t0⟩ := half0_tot M V R S hS hm (200000 * w + 8000 * n) (by omega) _ c 5 le_rfl
    obtain ⟨c1, t1⟩ := half1_tot M V R S hS hm (200000 * w + 8000 * n) (by omega) _ c0 5 le_rfl
    rw [tripsVal, tripVal]
    refine ⟨c1, fun j hj => (t1 j hj).trans ?_⟩
    rw [t0 j hj, t j hj, show 8000 * (n + 1) = 8000 * n + (800 * 5 + 800 * 5) by ring, Finset.sum_range_add, Finset.sum_range_add, add_assoc]
    exact congrArg₂ (fun x y : EReal => _ + (x + y)) (Finset.sum_congr rfl fun e _ => by rw [add_assoc])
      (Finset.sum_congr rfl fun e _ => by rw [add_assoc, show 800 * 5 + e = 4000 + e by rfl])

omit hS hm in
/-- A subcore's reduction sums a column. -/
theorem redAt_col (A : Acc Ideal) (j : ℕ) : (redAt A j 15 : EReal) = col A j := by
  have h : ∀ t : ℕ, (redAt A j t : EReal) = ∑ k ∈ range (t + 1), A (aix (3073 * k + j)) := by
    intro t
    induction t with
    | zero => simp [redAt]
    | succ t ih => rw [Finset.sum_range_succ, ← ih]; rfl
  rw [h 15]
  unfold col
  rw [Finset.sum_range]

/-- A subcore's result is the sum of its elements. -/
theorem row_tot (w : ℕ) (hw : w < 32) (j : ℕ) (hj : j < 3072) : (rowVal M V R S w j : EReal) = ∑ e ∈ range 200000, elt M V R S (200000 * w + e) j := by
  obtain ⟨c, t⟩ := trips_tot M V R S hS hm w hw 25 le_rfl
  unfold rowVal accVal
  rw [redAt_col, flush_col _ _ c j hj]
  exact t j hj

/-- All subcores' results are the sum of all elements. -/
theorem all_tot (j : ℕ) (hj : j < 3072) : ∀ n : ℕ, n ≤ 32 → (∑ w ∈ range n, (rowVal M V R S w j : EReal)) = ∑ e ∈ range (200000 * n), elt M V R S e j
  | 0, _ => by simp
  | n + 1, hn => by
    rw [Finset.sum_range_succ, all_tot j hj n (by omega), row_tot M V R S hS hm n (by omega) j hj, Nat.mul_succ, Finset.sum_range_add]

end

end Cert.Proof

end
-- ==== Proof.Chunks.lean ====
module
public import proofs.«01_k».proof.Proof.Blocks

/-! The copies of a chunk: started together on one semaphore, awaited together. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [Facts]

local notation "𝕄" => MT nD τ sig (HIx 1) (Elt F) ℕ UU ℕ

/-- Four thousand elements of a scratch array, from `q`. -/
def rng (q : Nat) : Finset S8000.Idx := Finset.univ.filter fun x => q ≤ (x 0).val ∧ (x 0).val < q + 4000

theorem mem_rng {q : Nat} {x : S8000.Idx} : x ∈ rng q ↔ q ≤ (x 0).val ∧ (x 0).val < q + 4000 := by
  unfold rng; simp only [Finset.mem_filter, Finset.mem_univ, true_and]

theorem half_set {q : Fin 1 → Nat} {hq : ∀ x, q x + S4000.size x ≤ S8000.size x} : (Rect.unit (s := S8000) q S4000.size hq).set = rng (q 0) := by
  ext x
  rw [mem_rng, (Rect.unit (s := S8000) q S4000.size hq).mem_set]
  constructor
  · intro h
    obtain ⟨j, hj, e⟩ := h 0
    change j < 4000 at hj
    change (x 0).val = q 0 + 1 * j at e
    omega
  · intro ⟨h1, h2⟩ a
    obtain rfl := Fin.eq_zero a
    refine ⟨(x 0).val - q 0, ?_, ?_⟩
    · change (x 0).val - q 0 < 4000; omega
    · change (x 0).val = q 0 + 1 * ((x 0).val - q 0); omega

variable (c : Thread nD τ) {e : EltTy}

/-- The units a copy of four thousand words credits. -/
abbrev chunkN : Nat := sig.dmaCredit .scVector (Kind.scVector.table .vmem) cc0_scratch0.idx S4000 .f32

variable (d : Dev nD) (i : grid0.Coords)

/-- What a copy delivers: the half of the scratch array with the argument's elements, and the argument's share back. -/
def Landed (arg : Memref sig .scVector .vmem S8000 e) (a : Memref sig .scVector .hbm S6400000 e) (sh : PosShare TreeShare) (fs : Buf (Elt F) (a.view.loc (thr d i)))
    (X : S6400000.Idx → Elt F e) (base : Nat) (o : Fin 1 → Nat) (ho : ∀ x, o x + S4000.size x ≤ S6400000.size x) (q : Nat) : sProp 𝕄 :=
  iprop(Holds (F := F) (thr d i) arg (rng q) (win X base) ∗ ((srcOf a o ho).view.loc (thr d i) ↦[(srcOf a o ho).view.set]{sh} fs))

instance (arg : Memref sig .scVector .vmem S8000 e) (a : Memref sig .scVector .hbm S6400000 e) (sh : PosShare TreeShare) (fs : Buf (Elt F) (a.view.loc (thr d i)))
    (X : S6400000.Idx → Elt F e) (base : Nat) (o : Fin 1 → Nat) (ho : ∀ x, o x + S4000.size x ≤ S6400000.size x) (q : Nat) :
    BI.Storable (upEmb : UEmb _ 𝕄) (Landed d i arg a sh fs X base o ho q) := by
  unfold Landed; infer_instance

theorem landed (arg : Memref sig .scVector .vmem S8000 e) (a : Memref sig .scVector .hbm S6400000 e) (sh : PosShare TreeShare) (fs : Buf (Elt F) (a.view.loc (thr d i)))
    (X : S6400000.Idx → Elt F e) (hX : ∀ x, a.view.read (Elt F) fs x = X x) (base : Nat) (o : Fin 1 → Nat) (ho : ∀ x, o x + S4000.size x ≤ S6400000.size x)
    (q : Fin 1 → Nat) (hq : ∀ x, q x + S4000.size x ≤ S8000.size x) (hb : o 0 = base + q 0) (fd : Buf (Elt F) (arg.view.loc (thr d i))) :
    iprop(((dstOf arg q hq).view.loc (thr d i) ↦[arg.view.setOn (rng (q 0))]{fullShare}
        ((dstOf arg q hq).view.write (Elt F) fd (ReadAs.same.apply ((srcOf a o ho).view.read (Elt F) fs)) Finset.univ))
      ∗ ((srcOf a o ho).view.loc (thr d i) ↦[(srcOf a o ho).view.set]{sh} fs)) ⊢ (Landed d i arg a sh fs X base o ho (q 0) : sProp 𝕄) := by
  unfold Landed Holds
  iintro ⟨Hd, Hs⟩
  isplitl [Hd]
  · iexists _
    isplitr
    swap
    · iexact Hd
    ipureintro
    intro x hx
    rw [← half_set (hq := hq), ← Rect.map_emb_univ] at hx
    obtain ⟨y, -, rfl⟩ := Finset.mem_map.mp hx
    refine (View.read_slice_write_emb _ _ _ (Finset.mem_univ y)).trans ?_
    refine (hX _).trans ?_
    unfold win
    congr 1
    funext z
    obtain rfl := Fin.eq_zero z
    apply Fin.ext
    have h1 : o 0 + 4000 ≤ 6400000 := ho 0
    have h2 : (y 0).val < 4000 := (y 0).isLt
    change o 0 + 1 * (y 0).val = (base + (q 0 + 1 * (y 0).val)) % 6400000
    rw [Nat.mod_eq_of_lt (by omega)]
    omega
  · iexact Hs

/-- One copy of a chunk, started as the next of its batch. -/
theorem wp_copy {arg : Memref sig .scVector .vmem S8000 e} {a : Memref sig .scVector .hbm S6400000 e} {sh : PosShare TreeShare} {fs : Buf (Elt F) (a.view.loc (thr d i))}
    {X : S6400000.Idx → Elt F e} (hX : ∀ x, a.view.read (Elt F) fs x = X x) {base : Nat} {o : Fin 1 → Nat} {ho : ∀ x, o x + S4000.size x ≤ S6400000.size x}
    {q : Fin 1 → Nat} {hq : ∀ x, q x + S4000.size x ≤ S8000.size x} (hb : o 0 = base + q 0) {X0 : S8000.Idx → Elt F e}
    {sem : DmaSem sig} {hw1 hw2 hw3} {k : PUnit → Prog (TpuEff nD τ sig (Elt F) Λ₀ (thr d i).2) PUnit} {Q : PUnit → sProp 𝕄}
    {D : Fin 4 → sProp 𝕄} {j : Nat} (hj : j < 4) (hN : (dstOf arg q hq).view.amount (.dma sem) = chunkN)
    (hD : (Landed d i arg a sh fs X base o ho (q 0) : sProp 𝕄) ⊢ D ⟨j, hj⟩) :
    iprop(Holds (F := F) (thr d i) arg (rng (q 0)) X0 ∗ (a.view.loc (thr d i) ↦[a.view.set]{sh} fs)
        ∗ Transfers.Batch countersEmb (thr d i) (.dma sem) (none : HIx 1) chunkN D j 0)
      ⊢ iprop((iprop(Transfers.Batch countersEmb (thr d i) (.dma sem) (none : HIx 1) chunkN D (j + 1) 0
              ∗ (a.view.loc (thr d i) ↦[a.view.set \ (srcOf a o ho).view.set]{sh} fs))
            -∗ wp frame (wpE (defs₀ (F := F)) 𝒱₀ (thr d i) none) Set.univ (k ⟨⟩) Q)
        -∗ wp frame (wpE (defs₀ (F := F)) 𝒱₀ (thr d i) none) Set.univ
            (.op (.enqueueDma (srcOf a o ho) (.here (dstOf arg q hq)) (.dma sem) hw1 hw2 hw3) k) Q) := by
  unfold Holds
  iintro ⟨⟨%fd, -, Hd⟩, Hs, HB⟩ Hk
  have hsub : (srcOf a o ho).view.set ⊆ a.view.set := View.set_slice_subset _ _
  ihave Hs' := (pointsTo_split_subset hsub).1 $$ Hs
  icases Hs' with ⟨Hs, Hrest⟩
  have hSd : (dstOf arg q hq).view.set ⊆ arg.view.setOn (rng (q 0)) := by
    rw [View.set_slice, half_set]; exact subset_rfl
  iapply (Transfers.wp_dmaBatch countersEmb 𝒱₀ (thr d i) none (none : HIx 1) chunkN hN hSd hj (Nat.zero_le _)
    ((landed d i arg a sh fs X hX base o ho q hq hb fd).trans hD)) $$ [Hs Hd HB]
  · isplitl [Hs]; · iexact Hs
    isplitl [Hd]; · iexact Hd
    iexact HB
  iintro HB
  iapply Hk
  isplitl [HB]; · iexact HB
  iexact Hrest

section Chunk

variable (arg7 arg8 arg9 : Memref sig .scVector .vmem S8000 .f32) (arg10 : Memref sig .scVector .vmem S8000 .i32)
  (arg2 arg3 arg4 : Memref sig .scVector .hbm S6400000 .f32) (arg5 : Memref sig .scVector .hbm S6400000 .i32)
  (f2 : Buf (Elt F) (arg2.view.loc (thr d i))) (f3 : Buf (Elt F) (arg3.view.loc (thr d i))) (f4 : Buf (Elt F) (arg4.view.loc (thr d i)))
  (f5 : Buf (Elt F) (arg5.view.loc (thr d i)))
  (M V R : S6400000.Idx → F .f32) (S : S6400000.Idx → BitVec 32)

/-- A read share of each of the four arguments. -/
def Toks (sh : PosShare TreeShare) : sProp 𝕄 :=
  iprop((arg2.view.loc (thr d i) ↦[arg2.view.set]{sh} f2) ∗ (arg3.view.loc (thr d i) ↦[arg3.view.set]{sh} f3)
    ∗ (arg4.view.loc (thr d i) ↦[arg4.view.set]{sh} f4) ∗ (arg5.view.loc (thr d i) ↦[arg5.view.set]{sh} f5))

/-- What the four copies of a chunk deliver. -/
def DFam (sh : PosShare TreeShare) (base : Nat) (o : Fin 1 → Nat) (ho : ∀ x, o x + S4000.size x ≤ S6400000.size x) (q : Nat) (j : Fin 4) : sProp 𝕄 :=
  match j with
  | 0 => Landed (F := F) (e := .f32) d i arg7 arg2 sh f2 M base o ho q
  | 1 => Landed (F := F) (e := .f32) d i arg8 arg3 sh f3 V base o ho q
  | 2 => Landed (F := F) (e := .f32) d i arg9 arg4 sh f4 R base o ho q
  | 3 => Landed (F := F) (e := .i32) d i arg10 arg5 sh f5 S base o ho q

instance (sh : PosShare TreeShare) (base : Nat) (o : Fin 1 → Nat) (ho : ∀ x, o x + S4000.size x ≤ S6400000.size x) (q : Nat) (j : Fin 4) :
    BI.Storable (upEmb : UEmb _ 𝕄) (DFam d i arg7 arg8 arg9 arg10 arg2 arg3 arg4 arg5 f2 f3 f4 f5 M V R S sh base o ho q j) := by
  unfold DFam; split <;> infer_instance

/-- A chunk on its way: its batch of copies, and what is left of the shares they read from. -/
def Flying (sem : DmaSem sig) (sh : PosShare TreeShare) (base : Nat) (o : Fin 1 → Nat) (ho : ∀ x, o x + S4000.size x ≤ S6400000.size x) (q : Nat) : sProp 𝕄 :=
  iprop(Transfers.Batch countersEmb (thr d i) (.dma sem) (none : HIx 1) chunkN
      (DFam d i arg7 arg8 arg9 arg10 arg2 arg3 arg4 arg5 f2 f3 f4 f5 M V R S sh base o ho q) 4 0
    ∗ (arg2.view.loc (thr d i) ↦[arg2.view.set \ (srcOf arg2 o ho).view.set]{sh} f2)
    ∗ (arg3.view.loc (thr d i) ↦[arg3.view.set \ (srcOf arg3 o ho).view.set]{sh} f3)
    ∗ (arg4.view.loc (thr d i) ↦[arg4.view.set \ (srcOf arg4 o ho).view.set]{sh} f4)
    ∗ (arg5.view.loc (thr d i) ↦[arg5.view.set \ (srcOf arg5 o ho).view.set]{sh} f5))

/-- A thread's owing, with waits recorded beyond `W` only at the index that is always allowed. -/
def Ow (c : Thread nD τ) (O : CellTallies nD τ sig (HIx 1)) (W : Waits sig (HIx 1)) : sProp 𝕄 :=
  iprop(∃ W', ⌜∀ p ∈ W', p ∈ W ∨ p.2 = none⌝ ∗ owes c O W')

theorem wp_startChunk (hM : ∀ x, arg2.view.read (Elt F) f2 x = M x) (hV : ∀ x, arg3.view.read (Elt F) f3 x = V x) (hR : ∀ x, arg4.view.read (Elt F) f4 x = R x)
    (hS : ∀ x, arg5.view.read (Elt F) f5 x = S x) (sem : DmaSems sig S_) (sh : PosShare TreeShare) (base : Nat)
    (o : Fin 1 → Nat) (ho : ∀ x, o x + S4000.size x ≤ S6400000.size x) (q : Fin 1 → Nat) (hq : ∀ x, q x + S4000.size x ≤ S8000.size x)
    (hb : o 0 = base + q 0) (X7 X8 X9 : S8000.Idx → F .f32) (X10 : S8000.Idx → BitVec 32) (Φ : PUnit → sProp 𝕄) :
    iprop(Bufs d i arg7 arg8 arg9 arg10 (rng (q 0)) X7 X8 X9 X10 ∗ Toks d i arg2 arg3 arg4 arg5 f2 f3 f4 f5 sh ∗ semVal (thr d i, .dma sem.sem) 0
        ∗ (Flying d i arg7 arg8 arg9 arg10 arg2 arg3 arg4 arg5 f2 f3 f4 f5 M V R S sem.sem sh base o ho (q 0) -∗ Φ ⟨⟩))
      ⊢ wp frame (wpE (defs₀ (F := F)) 𝒱₀ (thr d i) none) Set.univ (startChunk i arg7 arg8 arg9 arg10 arg2 arg3 arg4 arg5 sem o ho q hq) Φ := by
  unfold startChunk Toks Flying
  iintro ⟨⟨H7, H8, H9, H10⟩, ⟨H2, H3, H4, H5⟩, Hsem, Hk⟩
  imod (Transfers.batch_alloc' countersEmb (c := thr d i) (none : HIx 1) chunkN
    (DFam d i arg7 arg8 arg9 arg10 arg2 arg3 arg4 arg5 f2 f3 f4 f5 M V R S sh base o ho (q 0)) (E := Set.univ)) $$ Hsem with HB
  iapply (wp_copy d i hM hb (j := 0) (D := DFam d i arg7 arg8 arg9 arg10 arg2 arg3 arg4 arg5 f2 f3 f4 f5 M V R S sh base o ho (q 0)) (by decide) rfl .rfl) $$ [H7 H2 HB]
  · isplitl [H7]; · iexact H7
    isplitl [H2]; · iexact H2
    iexact HB
  iintro ⟨HB, H2⟩
  iapply (wp_copy d i hV hb (j := 1) (D := DFam d i arg7 arg8 arg9 arg10 arg2 arg3 arg4 arg5 f2 f3 f4 f5 M V R S sh base o ho (q 0)) (by decide) rfl .rfl) $$ [H8 H3 HB]
  · isplitl [H8]; · iexact H8
    isplitl [H3]; · iexact H3
    iexact HB
  iintro ⟨HB, H3⟩
  iapply (wp_copy d i hR hb (j := 2) (D := DFam d i arg7 arg8 arg9 arg10 arg2 arg3 arg4 arg5 f2 f3 f4 f5 M V R S sh base o ho (q 0)) (by decide) rfl .rfl) $$ [H9 H4 HB]
  · isplitl [H9]; · iexact H9
    isplitl [H4]; · iexact H4
    iexact HB
  iintro ⟨HB, H4⟩
  iapply (wp_copy d i hS hb (j := 3) (D := DFam d i arg7 arg8 arg9 arg10 arg2 arg3 arg4 arg5 f2 f3 f4 f5 M V R S sh base o ho (q 0)) (by decide) rfl .rfl) $$ [H10 H5 HB]
  · isplitl [H10]; · iexact H10
    isplitl [H5]; · iexact H5
    iexact HB
  iintro ⟨HB, H5⟩
  rw [wp_ret]
  imodintro
  iapply Hk
  isplitl [HB]; · iexact HB
  isplitl [H2]; · iexact H2
  isplitl [H3]; · iexact H3
  isplitl [H4]; · iexact H4
  iexact H5

theorem DFam_all (sh : PosShare TreeShare) (base : Nat) (o : Fin 1 → Nat) (ho : ∀ x, o x + S4000.size x ≤ S6400000.size x) (q : Nat) :
    (BI.bigSep Finset.univ (DFam d i arg7 arg8 arg9 arg10 arg2 arg3 arg4 arg5 f2 f3 f4 f5 M V R S sh base o ho q) : sProp 𝕄)
      = iprop(Landed (F := F) (e := .f32) d i arg7 arg2 sh f2 M base o ho q ∗ Landed (F := F) (e := .f32) d i arg8 arg3 sh f3 V base o ho q
        ∗ Landed (F := F) (e := .f32) d i arg9 arg4 sh f4 R base o ho q ∗ Landed (F := F) (e := .i32) d i arg10 arg5 sh f5 S base o ho q) := by
  rw [Transfers.bigSep_pending_zero, Transfers.bigSep_pending_step _ 0 (by decide), Transfers.bigSep_pending_step _ 1 (by decide),
    Transfers.bigSep_pending_step _ 2 (by decide), Transfers.bigSep_pending_last _ 3 (by decide) rfl]
  rfl

theorem share_back {e : EltTy} {a : Memref sig .scVector .hbm S6400000 e} {sh : PosShare TreeShare} {fs : Buf (Elt F) (a.view.loc (thr d i))}
    {o : Fin 1 → Nat} {ho : ∀ x, o x + S4000.size x ≤ S6400000.size x} :
    iprop(((srcOf a o ho).view.loc (thr d i) ↦[(srcOf a o ho).view.set]{sh} fs) ∗ (a.view.loc (thr d i) ↦[a.view.set \ (srcOf a o ho).view.set]{sh} fs))
      ⊢ (a.view.loc (thr d i) ↦[a.view.set]{sh} fs : sProp 𝕄) :=
  (pointsTo_split_subset (View.set_slice_subset _ _)).2

theorem wp_waitChunk (sem : DmaSems sig S_) (sh : PosShare TreeShare) (base : Nat)
    (o : Fin 1 → Nat) (ho : ∀ x, o x + S4000.size x ≤ S6400000.size x) (q : Fin 1 → Nat) (hq : ∀ x, q x + S4000.size x ≤ S8000.size x)
    (O : CellTallies nD τ sig (HIx 1)) (W : Waits sig (HIx 1)) (Φ : PUnit → sProp 𝕄) :
    iprop(Flying d i arg7 arg8 arg9 arg10 arg2 arg3 arg4 arg5 f2 f3 f4 f5 M V R S sem.sem sh base o ho (q 0)
        ∗ Transfers.MayWaits (thr d i) (none : HIx 1) O ∗ Ow (thr d i) O W
        ∗ (Bufs d i arg7 arg8 arg9 arg10 (rng (q 0)) (win M base) (win V base) (win R base) (win S base)
            -∗ Toks d i arg2 arg3 arg4 arg5 f2 f3 f4 f5 sh -∗ semVal (thr d i, .dma sem.sem) 0 -∗ Ow (thr d i) O W -∗ Φ ⟨⟩))
      ⊢ wp frame (wpE (defs₀ (F := F)) 𝒱₀ (thr d i) none) Set.univ (waitChunk i arg7 arg8 arg9 arg10 arg2 arg3 arg4 arg5 sem o ho q hq) Φ := by
  have hN0 : 0 < chunkN := by decide
  have hu0 : 0 + chunkN < chunkN * 4 := by omega
  have hu1 : 0 + chunkN + chunkN < chunkN * 4 := by omega
  have hu2 : 0 + chunkN + chunkN + chunkN < chunkN * 4 := by omega
  have hu3 : 0 + chunkN + chunkN + chunkN + chunkN = chunkN * 4 := by omega
  unfold waitChunk Toks Flying Ow
  iintro ⟨⟨HB, H2, H3, H4, H5⟩, #Hmw, ⟨%W', %hW', HO⟩, Hk⟩
  iapply (Transfers.wp_waitBatchO countersEmb 𝒱₀ (thr d i) none (none : HIx 1) (N := chunkN) rfl hu0) $$ [HB HO]
  · isplitl [HB]; · iexact HB
    isplitl [HO]; · iexact HO
    iapply (Transfers.MayWaits.elim (.dma sem.sem)) $$ Hmw
  iintro ⟨HB, HO⟩
  iapply (Transfers.wp_waitBatchO countersEmb 𝒱₀ (thr d i) none (none : HIx 1) (N := chunkN) rfl hu1) $$ [HB HO]
  · isplitl [HB]; · iexact HB
    isplitl [HO]; · iexact HO
    iapply (Transfers.MayWaits.elim (.dma sem.sem)) $$ Hmw
  iintro ⟨HB, HO⟩
  iapply (Transfers.wp_waitBatchO countersEmb 𝒱₀ (thr d i) none (none : HIx 1) (N := chunkN) rfl hu2) $$ [HB HO]
  · isplitl [HB]; · iexact HB
    isplitl [HO]; · iexact HO
    iapply (Transfers.MayWaits.elim (.dma sem.sem)) $$ Hmw
  iintro ⟨HB, HO⟩
  iapply (Transfers.wp_waitBatchLastO countersEmb 𝒱₀ (thr d i) none (none : HIx 1) (N := chunkN) rfl hN0 hu3) $$ [HB HO]
  · isplitl [HB]; · iexact HB
    isplitl [HO]; · iexact HO
    iapply (Transfers.MayWaits.elim (.dma sem.sem)) $$ Hmw
  rw [DFam_all]
  unfold Landed
  iintro ⟨⟨⟨H7, G2⟩, ⟨H8, G3⟩, ⟨H9, G4⟩, H10, G5⟩, Hsem, HO⟩
  rw [wp_ret]
  imodintro
  iapply Hk $$ [H7 H8 H9 H10] [H2 G2 H3 G3 H4 G4 H5 G5] Hsem [HO]
  · isplitl [H7]; · iexact H7
    isplitl [H8]; · iexact H8
    isplitl [H9]; · iexact H9
    iexact H10
  · isplitl [H2 G2]
    · iapply (share_back d i); isplitl [G2] <;> iassumption
    isplitl [H3 G3]
    · iapply (share_back d i); isplitl [G3] <;> iassumption
    isplitl [H4 G4]
    · iapply (share_back d i); isplitl [G4] <;> iassumption
    iapply (share_back d i); isplitl [G5] <;> iassumption
  · iexists _
    isplitr
    swap
    · iexact HO
    ipureintro
    intro p hp
    simp only [Finset.mem_insert] at hp
    rcases hp with rfl | rfl | rfl | rfl | hp
    · exact .inr rfl
    · exact .inr rfl
    · exact .inr rfl
    · exact .inr rfl
    · exact hW' p hp

end Chunk

end Cert.Proof
-- ==== Proof.Trips.lean ====
module
public import proofs.«01_k».proof.Proof.Chunks

/-! The trips of a vector subcore: two halves of a scratch array, one worked through while the other is filled. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [Facts]

local notation "𝕄" => MT nD τ sig (HIx 1) (Elt F) ℕ UU ℕ

/-! ## Offsets in closed form -/

theorem i0_lt (i : grid0.Coords) : (i 0).val < 2 := (i 0).isLt
theorem i1_lt (i : grid0.Coords) : (i 1).val < 16 := (i 1).isLt
theorem wid_lt (i : grid0.Coords) : wid i < 32 := by have := i0_lt i; have := i1_lt i; unfold wid; omega

theorem trips2 : k0_t2_loop.trips = 25 := by decide
theorem trips3 : k0_t3_loop.trips = 5 := by decide
theorem trips4 : k0_t4_loop.trips = 5 := by decide

/-- Where the two halves of trip `k` start. -/
def offA (i : grid0.Coords) (k : Nat) : Fin 1 → Nat := ![200000 * wid i + 8000 * k]

theorem offA_in (i : grid0.Coords) {k : Nat} (hk : k < 25) : ∀ x, offA i k x + S4000.size x ≤ S6400000.size x := by
  intro x
  obtain rfl := Fin.eq_zero x
  have := wid_lt i
  change 200000 * wid i + 8000 * k + 4000 ≤ 6400000
  omega

theorem off2_eq (i : grid0.Coords) : k0_off2 i = offA i 0 := by
  have h0 := i0_lt i; have h1 := i1_lt i
  unfold offA wid
  simp only [k0_off2, Scalar.addi, Scalar.muli, IntOp.addi, IntOp.muli, Scf.iv, ← BitVec.ofNat_mul, ← BitVec.ofNat_add]
  rw [BitVec.toNat_ofNat, Nat.mod_eq_of_lt (by omega)]
  congr 1
  omega

theorem off4_eq (i : grid0.Coords) (k : Fin k0_t2_loop.trips) : k0_off4 i k = offA i k.val := by
  have h0 := i0_lt i; have h1 := i1_lt i
  have hk : k.val < 25 := lt_of_lt_of_eq k.isLt trips2
  unfold offA wid
  simp only [k0_off4, Scalar.addi, Scalar.muli, IntOp.addi, IntOp.muli, Scf.iv, ← BitVec.ofNat_mul, ← BitVec.ofNat_add]
  rw [BitVec.toNat_ofNat, Nat.mod_eq_of_lt (by omega)]
  congr 1
  omega

theorem off58_eq (i : grid0.Coords) (k : Fin k0_t2_loop.trips) : k0_off58 i k = offA i (k.val + 1) := by
  have h0 := i0_lt i; have h1 := i1_lt i
  have hk : k.val < 25 := lt_of_lt_of_eq k.isLt trips2
  unfold offA wid
  simp only [k0_off58, Scalar.addi, Scalar.muli, IntOp.addi, IntOp.muli, Scf.iv, ← BitVec.ofNat_mul, ← BitVec.ofNat_add]
  rw [BitVec.toNat_ofNat, Nat.mod_eq_of_lt (by omega)]
  congr 1
  omega

theorem off3_val (i : grid0.Coords) (k : Fin k0_t2_loop.trips) : k0_off3 i k 0 = 200000 * wid i + 8000 * k.val + 4000 := by
  have h0 := i0_lt i; have h1 := i1_lt i
  have hk : k.val < 25 := lt_of_lt_of_eq k.isLt trips2
  unfold wid
  simp only [k0_off3, Scalar.addi, Scalar.muli, IntOp.addi, IntOp.muli, Scf.iv, ← BitVec.ofNat_mul, ← BitVec.ofNat_add, Matrix.cons_val_zero]
  rw [BitVec.toNat_ofNat, Nat.mod_eq_of_lt (by omega)]
  omega

theorem cond3_iff (k : Fin k0_t2_loop.trips) : k0_cond3 k = 1#1 ↔ k.val + 1 < 25 := by
  have : ∀ k : Fin k0_t2_loop.trips, k0_cond3 k = 1#1 ↔ k.val + 1 < 25 := by decide
  exact this k

/-! ## The blocks of a half -/

variable (d : Dev nD) (i : grid0.Coords) (arg7 arg8 arg9 : Memref sig .scVector .vmem S8000 .f32)
  (arg10 : Memref sig .scVector .vmem S8000 .i32) (arg11 : Memref sig .scVector .vmem S49168 .f32)
  (X7 X8 X9 : S8000.Idx → F .f32) (X10 : S8000.Idx → BitVec 32)

theorem blk0_val (k : Fin k0_t3_loop.trips) : (blk0 k).toNat + 800 ≤ 4000 := by
  have : ∀ k : Fin k0_t3_loop.trips, (blk0 k).toNat + 800 ≤ 4000 := by decide
  exact this k
theorem blk1_val (k : Fin k0_t4_loop.trips) : 4000 ≤ (blk1 k).toNat ∧ (blk1 k).toNat + 800 ≤ 8000 := by
  have : ∀ k : Fin k0_t4_loop.trips, 4000 ≤ (blk1 k).toNat ∧ (blk1 k).toNat + 800 ≤ 8000 := by decide
  exact this k
theorem blk0_held (k : Fin k0_t3_loop.trips) : BlockHeld (blk0 k) (rng 0) := fun x h1 h2 => by
  have := blk0_val k
  rw [mem_rng]; omega
theorem blk1_held (k : Fin k0_t4_loop.trips) : BlockHeld (blk1 k) (rng 4000) := fun x h1 h2 => by
  have := blk1_val k
  rw [mem_rng]; omega

theorem half0_cur (hs : ∀ x ∈ rng 0, (X10 x).toNat < 1024) (p : ScSt F × Acc F) (hc : p.1.1.toNat < 1024) : ∀ k, (half0Val X7 X8 X9 X10 p k).1.1.toNat < 1024
  | 0 => hc
  | k + 1 => by
    unfold half0Val
    rw [upTo]
    split
    · exact block_cur _ _ _ _ _ (blk0_held _) hs (half0_cur hs p hc k)
    · exact half0_cur hs p hc k

theorem half1_cur (hs : ∀ x ∈ rng 4000, (X10 x).toNat < 1024) (p : ScSt F × Acc F) (hc : p.1.1.toNat < 1024) : ∀ k, (half1Val X7 X8 X9 X10 p k).1.1.toNat < 1024
  | 0 => hc
  | k + 1 => by
    unfold half1Val
    rw [upTo]
    split
    · exact block_cur _ _ _ _ _ (blk1_held _) hs (half1_cur hs p hc k)
    · exact half1_cur hs p hc k

/-- The first half worked through. -/
theorem wp_half0 (hs : ∀ x ∈ rng 0, (X10 x).toNat < 1024) (p : ScSt F × Acc F) (hc : p.1.1.toNat < 1024) (Φ : ScSt F → sProp 𝕄) :
    iprop(Bufs d i arg7 arg8 arg9 arg10 (rng 0) X7 X8 X9 X10 ∗ AccH d i arg11 p.2
        ∗ (Bufs d i arg7 arg8 arg9 arg10 (rng 0) X7 X8 X9 X10 -∗ AccH d i arg11 (half0Val X7 X8 X9 X10 p 5).2 -∗ Φ (half0Val X7 X8 X9 X10 p 5).1))
      ⊢ wp frame (wpE (defs₀ (F := F)) 𝒱₀ (thr d i) none) Set.univ (half0 i arg7 arg8 arg9 arg10 arg11 lanes laneBase zeros ones p.1) Φ := by
  unfold half0
  refine BIBase.Entails.trans ?_ (Scf.wp_for frame (wpE (defs₀ (F := F)) 𝒱₀ (thr d i) none) Set.univ _ _ _ _ _ _
    (fun k acc => iprop(⌜acc = (half0Val X7 X8 X9 X10 p k).1⌝ ∗ Bufs d i arg7 arg8 arg9 arg10 (rng 0) X7 X8 X9 X10
      ∗ AccH d i arg11 (half0Val X7 X8 X9 X10 p k).2)) ?hbody)
  case hbody =>
    intro k acc
    iintro ⟨%he, HB, HA⟩
    subst he
    iapply (wp_block d i arg7 arg8 arg9 arg10 arg11 (rng 0) X7 X8 X9 X10 (blk0 k) (blk0_in k) (blk0_held k) hs zeros ones (half0Val X7 X8 X9 X10 p k)
      (half0_cur _ _ _ _ hs p hc k))
    isplitl [HB]; · iexact HB
    isplitl [HA]; · iexact HA
    have e : half0Val X7 X8 X9 X10 p (k.val + 1) = blockVal X7 X8 X9 X10 lanes laneBase zeros ones (blk0 k) (blk0_in k) (half0Val X7 X8 X9 X10 p k) :=
      upTo_succ (fun k => blockVal X7 X8 X9 X10 lanes laneBase zeros ones (blk0 k) (blk0_in k)) p k
    rw [e]
    iintro HB HA
    isplitr; · ipureintro; rfl
    isplitl [HB] <;> iassumption
  rw [show Scf.trips k0_t3_loop.lb k0_t3_loop.ub k0_t3_loop.st = 5 from trips3]
  iintro ⟨HB, HA, Hk⟩
  isplitl [HB HA]
  · isplitr; · ipureintro; rfl
    isplitl [HB]; · iexact HB
    iexact HA
  iintro %acc ⟨%he, HB, HA⟩
  subst he
  iapply Hk $$ HB HA

/-- The second half worked through. -/
theorem wp_half1 (hs : ∀ x ∈ rng 4000, (X10 x).toNat < 1024) (p : ScSt F × Acc F) (hc : p.1.1.toNat < 1024) (Φ : ScSt F → sProp 𝕄) :
    iprop(Bufs d i arg7 arg8 arg9 arg10 (rng 4000) X7 X8 X9 X10 ∗ AccH d i arg11 p.2
        ∗ (Bufs d i arg7 arg8 arg9 arg10 (rng 4000) X7 X8 X9 X10 -∗ AccH d i arg11 (half1Val X7 X8 X9 X10 p 5).2 -∗ Φ (half1Val X7 X8 X9 X10 p 5).1))
      ⊢ wp frame (wpE (defs₀ (F := F)) 𝒱₀ (thr d i) none) Set.univ (half1 i arg7 arg8 arg9 arg10 arg11 lanes laneBase zeros ones p.1) Φ := by
  unfold half1
  refine BIBase.Entails.trans ?_ (Scf.wp_for frame (wpE (defs₀ (F := F)) 𝒱₀ (thr d i) none) Set.univ _ _ _ _ _ _
    (fun k acc => iprop(⌜acc = (half1Val X7 X8 X9 X10 p k).1⌝ ∗ Bufs d i arg7 arg8 arg9 arg10 (rng 4000) X7 X8 X9 X10
      ∗ AccH d i arg11 (half1Val X7 X8 X9 X10 p k).2)) ?hbody)
  case hbody =>
    intro k acc
    iintro ⟨%he, HB, HA⟩
    subst he
    iapply (wp_block d i arg7 arg8 arg9 arg10 arg11 (rng 4000) X7 X8 X9 X10 (blk1 k) (blk1_in k) (blk1_held k) hs zeros ones (half1Val X7 X8 X9 X10 p k)
      (half1_cur _ _ _ _ hs p hc k))
    isplitl [HB]; · iexact HB
    isplitl [HA]; · iexact HA
    have e : half1Val X7 X8 X9 X10 p (k.val + 1) = blockVal X7 X8 X9 X10 lanes laneBase zeros ones (blk1 k) (blk1_in k) (half1Val X7 X8 X9 X10 p k) :=
      upTo_succ (fun k => blockVal X7 X8 X9 X10 lanes laneBase zeros ones (blk1 k) (blk1_in k)) p k
    rw [e]
    iintro HB HA
    isplitr; · ipureintro; rfl
    isplitl [HB] <;> iassumption
  rw [show Scf.trips k0_t4_loop.lb k0_t4_loop.ub k0_t4_loop.st = 5 from trips4]
  iintro ⟨HB, HA, Hk⟩
  isplitl [HB HA]
  · isplitr; · ipureintro; rfl
    isplitl [HB]; · iexact HB
    iexact HA
  iintro %acc ⟨%he, HB, HA⟩
  subst he
  iapply Hk $$ HB HA

end Cert.Proof
-- ==== Proof.Loop.lean ====
module
public import proofs.«01_k».proof.Proof.Trips

/-! The loop over the trips of a vector subcore. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [Facts]

local notation "𝕄" => MT nD τ sig (HIx 1) (Elt F) ℕ UU ℕ

variable (d : Dev nD) (i : grid0.Coords) (arg7 arg8 arg9 : Memref sig .scVector .vmem S8000 .f32)
  (arg10 : Memref sig .scVector .vmem S8000 .i32) (arg11 : Memref sig .scVector .vmem S49168 .f32)
  (arg2 arg3 arg4 : Memref sig .scVector .hbm S6400000 .f32) (arg5 : Memref sig .scVector .hbm S6400000 .i32)
  (f2 : Buf (Elt F) (arg2.view.loc (thr d i))) (f3 : Buf (Elt F) (arg3.view.loc (thr d i))) (f4 : Buf (Elt F) (arg4.view.loc (thr d i)))
  (f5 : Buf (Elt F) (arg5.view.loc (thr d i)))
  (M V R : S6400000.Idx → F .f32) (S : S6400000.Idx → BitVec 32)

theorem tripsVal_cur (hs : ∀ x, (S x).toNat < 1024) (w : Nat) : ∀ k, (tripsVal M V R S w k).1.1.toNat < 1024
  | 0 => by show (0#32 : BitVec 32).toNat < 1024; decide
  | k + 1 => half1_cur _ _ _ _ (fun x _ => hs _) _ (half0_cur _ _ _ _ (fun x _ => hs _) _ (tripsVal_cur hs w k) 5) 5

/-- The scratch arrays' elements `H`, whatever they hold. -/
def BufsAny (H : Finset S8000.Idx) : sProp 𝕄 := iprop(∃ X7 X8 X9 X10, Bufs (F := F) d i arg7 arg8 arg9 arg10 H X7 X8 X9 X10)

/-- The first half before trip `k`: on its way while there are trips left, free after the last. -/
def LoPart (sem13 : DmaSems sig S_) (sh0 : PosShare TreeShare) (k : Nat) : sProp 𝕄 :=
  if h : k < 25 then
    Flying d i arg7 arg8 arg9 arg10 arg2 arg3 arg4 arg5 f2 f3 f4 f5 M V R S sem13.sem sh0 (200000 * wid i + 8000 * k) (offA i k) (offA_in i h) 0
  else iprop(BufsAny d i arg7 arg8 arg9 arg10 (rng 0) ∗ Toks d i arg2 arg3 arg4 arg5 f2 f3 f4 f5 sh0 ∗ semVal (thr d i, .dma sem13.sem) 0)

theorem flying_congr (sem : DmaSem sig) (sh : PosShare TreeShare) (base : Nat) {o o' : Fin 1 → Nat} (e : o = o')
    (ho : ∀ x, o x + S4000.size x ≤ S6400000.size x) (ho' : ∀ x, o' x + S4000.size x ≤ S6400000.size x) (q : Nat) :
    Flying (F := F) d i arg7 arg8 arg9 arg10 arg2 arg3 arg4 arg5 f2 f3 f4 f5 M V R S sem sh base o ho q
      = Flying d i arg7 arg8 arg9 arg10 arg2 arg3 arg4 arg5 f2 f3 f4 f5 M V R S sem sh base o' ho' q := by
  subst e; rfl

/-- The last part of a trip. -/
theorem wp_tripRest (hs : ∀ x, (S x).toNat < 1024) (sem14 : DmaSems sig S_) (sh1 : PosShare TreeShare) (k : Fin k0_t2_loop.trips)
    (O : CellTallies nD τ sig (HIx 1)) (W : Waits sig (HIx 1)) (p : ScSt F × Acc F) (hc : p.1.1.toNat < 1024) (Φ : ScSt F → sProp 𝕄) :
    iprop(Flying d i arg7 arg8 arg9 arg10 arg2 arg3 arg4 arg5 f2 f3 f4 f5 M V R S sem14.sem sh1 (200000 * wid i + 8000 * k.val) (k0_off3 i k) (k0_off3_inb i k) 4000
        ∗ Transfers.MayWaits (thr d i) (none : HIx 1) O ∗ Ow (thr d i) O W ∗ AccH d i arg11 p.2
        ∗ (BufsAny d i arg7 arg8 arg9 arg10 (rng 4000) -∗ Toks d i arg2 arg3 arg4 arg5 f2 f3 f4 f5 sh1 -∗ semVal (thr d i, .dma sem14.sem) 0 -∗ Ow (thr d i) O W
            -∗ AccH d i arg11 (half1Val (win M (200000 * wid i + 8000 * k.val)) (win V (200000 * wid i + 8000 * k.val)) (win R (200000 * wid i + 8000 * k.val)) (win S (200000 * wid i + 8000 * k.val)) p 5).2
            -∗ Φ (half1Val (win M (200000 * wid i + 8000 * k.val)) (win V (200000 * wid i + 8000 * k.val)) (win R (200000 * wid i + 8000 * k.val)) (win S (200000 * wid i + 8000 * k.val)) p 5).1))
      ⊢ wp frame (wpE (defs₀ (F := F)) 𝒱₀ (thr d i) none) Set.univ
          (tripRest i arg7 arg8 arg9 arg10 arg11 arg2 arg3 arg4 arg5 sem14 lanes laneBase zeros ones k p.1) Φ := by
  unfold tripRest BufsAny
  rw [wp_bind]
  iintro ⟨HF, #Hmw, HO, HA, Hk⟩
  iapply (wp_waitChunk d i arg7 arg8 arg9 arg10 arg2 arg3 arg4 arg5 f2 f3 f4 f5 M V R S sem14 sh1 (200000 * wid i + 8000 * k.val) (k0_off3 i k) (k0_off3_inb i k) ![4000] inb_S8000_S4000_4000 O W)
  isplitl [HF]; · iexact HF
  isplitr; · iexact Hmw
  isplitl [HO]; · iexact HO
  iintro HB HT Hsem HO
  iapply (wp_half1 d i arg7 arg8 arg9 arg10 arg11 (win M (200000 * wid i + 8000 * k.val)) (win V (200000 * wid i + 8000 * k.val))
    (win R (200000 * wid i + 8000 * k.val)) (win S (200000 * wid i + 8000 * k.val)) (fun x _ => hs _) p hc)
  isplitl [HB]; · iexact HB
  isplitl [HA]; · iexact HA
  iintro HB HA
  iapply Hk $$ [HB] HT Hsem HO HA
  iexists _, _, _, _
  iexact HB

/-- What a vector subcore holds between trips. -/
def TripInv (sem13 sem14 : DmaSems sig S_) (sh0 sh1 : PosShare TreeShare) (O : CellTallies nD τ sig (HIx 1)) (W : Waits sig (HIx 1)) (k : Nat) : sProp 𝕄 :=
  iprop(AccH d i arg11 (tripsVal M V R S (wid i) k).2 ∗ LoPart d i arg7 arg8 arg9 arg10 arg2 arg3 arg4 arg5 f2 f3 f4 f5 M V R S sem13 sh0 k
    ∗ BufsAny d i arg7 arg8 arg9 arg10 (rng 4000) ∗ Toks d i arg2 arg3 arg4 arg5 f2 f3 f4 f5 sh1 ∗ semVal (thr d i, .dma sem14.sem) 0
    ∗ Transfers.MayWaits (thr d i) (none : HIx 1) O ∗ Ow (thr d i) O W)

section Sums

variable (hM : ∀ x, arg2.view.read (Elt F) f2 x = M x) (hV : ∀ x, arg3.view.read (Elt F) f3 x = V x) (hR : ∀ x, arg4.view.read (Elt F) f4 x = R x)
  (hS : ∀ x, arg5.view.read (Elt F) f5 x = S x) (hs : ∀ x, (S x).toNat < 1024)

include hM hV hR hS hs

/-- A trip. -/
theorem wp_trip (sem13 sem14 : DmaSems sig S_) (sh0 sh1 : PosShare TreeShare) (k : Fin k0_t2_loop.trips)
    (O : CellTallies nD τ sig (HIx 1)) (W : Waits sig (HIx 1)) :
    TripInv d i arg7 arg8 arg9 arg10 arg11 arg2 arg3 arg4 arg5 f2 f3 f4 f5 M V R S sem13 sem14 sh0 sh1 O W k.val
      ⊢ wp frame (wpE (defs₀ (F := F)) 𝒱₀ (thr d i) none) Set.univ
          (trip i arg7 arg8 arg9 arg10 arg11 arg2 arg3 arg4 arg5 sem13 sem14 lanes laneBase zeros ones k (tripsVal M V R S (wid i) k.val).1)
          fun acc => iprop(⌜acc = (tripsVal M V R S (wid i) (k.val + 1)).1⌝
            ∗ TripInv d i arg7 arg8 arg9 arg10 arg11 arg2 arg3 arg4 arg5 f2 f3 f4 f5 M V R S sem13 sem14 sh0 sh1 O W (k.val + 1)) := by
  have hk : k.val < 25 := lt_of_lt_of_eq k.isLt trips2
  have hcur := tripsVal_cur M V R S hs (wid i) k.val
  unfold trip TripInv LoPart
  rw [dif_pos hk, ← flying_congr d i arg7 arg8 arg9 arg10 arg2 arg3 arg4 arg5 f2 f3 f4 f5 M V R S _ _ _ (off4_eq i k) (k0_off4_inb i k)]
  rw [wp_bind]
  iintro ⟨HA, HL, HB1, HT1, Hs14, #Hmw, HO⟩
  ihave HB1' := (show (BufsAny (F := F) d i arg7 arg8 arg9 arg10 (rng 4000) : sProp 𝕄) ⊢ iprop(∃ X7 X8 X9 X10, Bufs (F := F) d i arg7 arg8 arg9 arg10 (rng 4000) X7 X8 X9 X10) from .rfl) $$ HB1
  icases HB1' with ⟨%Y7, %Y8, %Y9, %Y10, HB1⟩
  iapply (wp_startChunk d i arg7 arg8 arg9 arg10 arg2 arg3 arg4 arg5 f2 f3 f4 f5 M V R S hM hV hR hS sem14 sh1 (200000 * wid i + 8000 * k.val)
    (k0_off3 i k) (k0_off3_inb i k) ![4000] inb_S8000_S4000_4000 (off3_val i k) Y7 Y8 Y9 Y10)
  isplitl [HB1]; · iexact HB1
  isplitl [HT1]; · iexact HT1
  isplitl [Hs14]; · iexact Hs14
  iintro HF1
  rw [wp_bind]
  iapply (wp_waitChunk d i arg7 arg8 arg9 arg10 arg2 arg3 arg4 arg5 f2 f3 f4 f5 M V R S sem13 sh0 (200000 * wid i + 8000 * k.val)
    (k0_off4 i k) (k0_off4_inb i k) ![0] inb_S8000_S4000_0 O W)
  isplitl [HL]; · iexact HL
  isplitr; · iexact Hmw
  isplitl [HO]; · iexact HO
  iintro HB0 HT0 Hs13 HO
  rw [wp_bind]
  iapply (wp_half0 d i arg7 arg8 arg9 arg10 arg11 (win M (200000 * wid i + 8000 * k.val)) (win V (200000 * wid i + 8000 * k.val))
    (win R (200000 * wid i + 8000 * k.val)) (win S (200000 * wid i + 8000 * k.val)) (fun x _ => hs _) (tripsVal M V R S (wid i) k.val) hcur)
  isplitl [HB0]; · iexact HB0
  isplitl [HA]; · iexact HA
  iintro HB0 HA
  have hc2 := half0_cur (win M (200000 * wid i + 8000 * k.val)) (win V (200000 * wid i + 8000 * k.val)) (win R (200000 * wid i + 8000 * k.val))
    (win S (200000 * wid i + 8000 * k.val)) (fun x _ => hs _) (tripsVal M V R S (wid i) k.val) hcur 5
  by_cases h3 : k0_cond3 k = 1#1
  · have hk1 := (cond3_iff k).mp h3
    rw [dif_pos h3, wp_bind, dif_pos hk1,
      ← flying_congr d i arg7 arg8 arg9 arg10 arg2 arg3 arg4 arg5 f2 f3 f4 f5 M V R S _ _ _ (off58_eq i k) (k0_off58_inb i k h3)]
    have hb : k0_off58 i k 0 = 200000 * wid i + 8000 * (k.val + 1) + (![0] : Fin 1 → Nat) 0 := by rw [off58_eq]; rfl
    iapply (wp_startChunk d i arg7 arg8 arg9 arg10 arg2 arg3 arg4 arg5 f2 f3 f4 f5 M V R S hM hV hR hS sem13 sh0 (200000 * wid i + 8000 * (k.val + 1))
      (k0_off58 i k) (k0_off58_inb i k h3) ![0] inb_S8000_S4000_0 hb _ _ _ _)
    isplitl [HB0]; · iexact HB0
    isplitl [HT0]; · iexact HT0
    isplitl [Hs13]; · iexact Hs13
    iintro HF0
    iapply (wp_tripRest d i arg7 arg8 arg9 arg10 arg11 arg2 arg3 arg4 arg5 f2 f3 f4 f5 M V R S hs sem14 sh1 k O W _ hc2)
    isplitl [HF1]; · iexact HF1
    isplitr; · iexact Hmw
    isplitl [HO]; · iexact HO
    isplitl [HA]; · iexact HA
    iintro HB1 HT1 Hs14 HO HA
    isplitr; · ipureintro; rfl
    isplitl [HA]; · iexact HA
    isplitl [HF0]; · iexact HF0
    isplitl [HB1]; · iexact HB1
    isplitl [HT1]; · iexact HT1
    isplitl [Hs14]; · iexact Hs14
    isplitr; · iexact Hmw
    iexact HO
  · have hk1 : ¬ k.val + 1 < 25 := fun h => h3 ((cond3_iff k).mpr h)
    rw [dif_neg h3, dif_neg hk1]
    iapply (wp_tripRest d i arg7 arg8 arg9 arg10 arg11 arg2 arg3 arg4 arg5 f2 f3 f4 f5 M V R S hs sem14 sh1 k O W _ hc2)
    isplitl [HF1]; · iexact HF1
    isplitr; · iexact Hmw
    isplitl [HO]; · iexact HO
    isplitl [HA]; · iexact HA
    iintro HB1 HT1 Hs14 HO HA
    isplitr; · ipureintro; rfl
    isplitl [HA]; · iexact HA
    isplitl [HB0 HT0 Hs13]
    · isplitl [HB0]
      · iapply (show iprop(∃ X7 X8 X9 X10, Bufs (F := F) d i arg7 arg8 arg9 arg10 (rng 0) X7 X8 X9 X10) ⊢ (BufsAny (F := F) d i arg7 arg8 arg9 arg10 (rng 0) : sProp 𝕄) from .rfl)
        iexists _, _, _, _
        iexact HB0
      isplitl [HT0] <;> iassumption
    isplitl [HB1]; · iexact HB1
    isplitl [HT1]; · iexact HT1
    isplitl [Hs14]; · iexact Hs14
    isplitr; · iexact Hmw
    iexact HO

/-- All trips. -/
theorem wp_trips (sem13 sem14 : DmaSems sig S_) (sh0 sh1 : PosShare TreeShare) (O : CellTallies nD τ sig (HIx 1)) (W : Waits sig (HIx 1)) (Φ : ScSt F → sProp 𝕄) :
    iprop(TripInv d i arg7 arg8 arg9 arg10 arg11 arg2 arg3 arg4 arg5 f2 f3 f4 f5 M V R S sem13 sem14 sh0 sh1 O W 0
        ∗ (TripInv d i arg7 arg8 arg9 arg10 arg11 arg2 arg3 arg4 arg5 f2 f3 f4 f5 M V R S sem13 sem14 sh0 sh1 O W 25 -∗ Φ (tripsVal M V R S (wid i) 25).1))
      ⊢ wp frame (wpE (defs₀ (F := F)) 𝒱₀ (thr d i) none) Set.univ
          (Scf.Loop.for k0_t2_loop k0_t2_ok ((0#32, zeros, zeros, Scalar.ofBits .f32 0x00000000#32) : ScSt F) fun k st =>
            trip i arg7 arg8 arg9 arg10 arg11 arg2 arg3 arg4 arg5 sem13 sem14 lanes laneBase zeros ones k st) Φ := by
  refine BIBase.Entails.trans ?_ (Scf.wp_for frame (wpE (defs₀ (F := F)) 𝒱₀ (thr d i) none) Set.univ _ _ _ _ _ _
    (fun k acc => iprop(⌜acc = (tripsVal M V R S (wid i) k).1⌝
      ∗ TripInv d i arg7 arg8 arg9 arg10 arg11 arg2 arg3 arg4 arg5 f2 f3 f4 f5 M V R S sem13 sem14 sh0 sh1 O W k)) ?hbody)
  case hbody =>
    intro k acc
    iintro ⟨%he, HI⟩
    subst he
    iapply (wp_trip d i arg7 arg8 arg9 arg10 arg11 arg2 arg3 arg4 arg5 f2 f3 f4 f5 M V R S hM hV hR hS hs sem13 sem14 sh0 sh1 k O W) $$ HI
  rw [show Scf.trips k0_t2_loop.lb k0_t2_loop.ub k0_t2_loop.st = 25 from trips2]
  iintro ⟨HI, Hk⟩
  isplitl [HI]
  · isplitr; · ipureintro; rfl
    iexact HI
  iintro %acc ⟨%he, HI⟩
  subst he
  iapply Hk $$ HI

end Sums

end Cert.Proof
-- ==== Proof.Ends.lean ====
module
public import proofs.«01_k».proof.Proof.Loop

/-! The ends of the body of a vector subcore: the accumulator cleared, its lanes added up, the results copied out. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [Facts]

local notation "𝕄" => MT nD τ sig (HIx 1) (Elt F) ℕ UU ℕ

theorem trips1 : k0_t1_loop.trips = 3073 := by decide
theorem trips5 : k0_t5_loop.trips = 192 := by decide

theorem off1_val (k : Fin k0_t1_loop.trips) : k0_off1 k 0 = 16 * k.val := by
  have hk : k.val < 3073 := lt_of_lt_of_eq k.isLt trips1
  simp only [k0_off1, Scalar.addi, Scalar.muli, IntOp.addi, IntOp.muli, Scf.iv, ← BitVec.ofNat_mul, ← BitVec.ofNat_add, Matrix.cons_val_zero, Scalar.indexCast]
  rw [BitVec.toNat_ofNat, Nat.mod_eq_of_lt (by omega)]
  omega

theorem off112_val (k : Fin k0_t5_loop.trips) : k0_off112 k 0 = 16 * k.val := by
  have hk : k.val < 192 := lt_of_lt_of_eq k.isLt trips5
  simp only [k0_off112, Scalar.addi, Scalar.muli, IntOp.addi, IntOp.muli, Scf.iv, ← BitVec.ofNat_mul, ← BitVec.ofNat_add, Matrix.cons_val_zero, Scalar.indexCast]
  rw [BitVec.toNat_ofNat, Nat.mod_eq_of_lt (by omega)]
  omega

theorem off113_val (k : Fin k0_t5_loop.trips) {t : Nat} (ht : t < 15) : k0_off113 k (BitVec.ofNat 32 (3073 + 3073 * t)) 0 = 3073 * (t + 1) + 16 * k.val := by
  have hk : k.val < 192 := lt_of_lt_of_eq k.isLt trips5
  simp only [k0_off113, Scalar.addi, Scalar.muli, IntOp.addi, IntOp.muli, Scf.iv, ← BitVec.ofNat_mul, ← BitVec.ofNat_add, Matrix.cons_val_zero, Scalar.indexCast]
  rw [BitVec.toNat_ofNat, Nat.mod_eq_of_lt (by omega)]
  omega

theorem off114_val (k : Fin k0_t5_loop.trips) : k0_off114 k 0 = 16 * k.val := by
  have hk : k.val < 192 := lt_of_lt_of_eq k.isLt trips5
  simp only [k0_off114, Scalar.addi, Scalar.muli, IntOp.addi, IntOp.muli, Scf.iv, ← BitVec.ofNat_mul, ← BitVec.ofNat_add, Matrix.cons_val_zero, Scalar.indexCast]
  rw [BitVec.toNat_ofNat, Nat.mod_eq_of_lt (by omega)]
  omega

theorem off115_eq (i : grid0.Coords) : k0_off115 i = ![wid i, 0] := by
  have h0 := i0_lt i; have h1 := i1_lt i
  unfold wid
  simp only [k0_off115, Scalar.addi, Scalar.muli, IntOp.addi, IntOp.muli, Scf.iv, ← BitVec.ofNat_mul, ← BitVec.ofNat_add, Scalar.indexCast]
  rw [BitVec.toNat_ofNat, Nat.mod_eq_of_lt (by omega)]
  congr 1
  omega

/-- What sixteen stored elements change. -/
theorem putRect_16 {α : EltTy} {s : Shape} (hs : s.rank = 1) {X : s.Idx → Elt F α} {o : Fin s.rank → Nat} {n : Fin s.rank → Nat} {ho : ∀ a, o a + n a ≤ s.size a}
    {w : (Rect.unit (s := s) o n ho).shape.Idx → Elt F α} {Z : s.Idx → Elt F α} (P : s.Idx → Prop)
    (hX : ∀ x, P x → (∀ a, ¬ (o a ≤ (x a).val ∧ (x a).val < o a + n a)) → X x = Z x)
    (hw : ∀ y, w y = Z ((Rect.unit (s := s) o n ho).emb y)) (x : s.Idx) (hP : P x) :
    putRect X (Rect.unit (s := s) o n ho) w x = Z x := by
  by_cases h : ∃ y, (Rect.unit (s := s) o n ho).emb y = x
  · obtain ⟨y, rfl⟩ := h
    rw [putRect_emb, hw]
  · rw [putRect_of_ne _ _ fun y hy => h ⟨y, hy⟩]
    refine hX x hP fun a ha => h ⟨fun b => ⟨(x b).val - o b, ?_⟩, ?_⟩
    · have hb : b = a := Fin.ext (by have h1 : b.val < s.rank := b.isLt; have h2 := a.isLt; omega)
      subst hb
      change (x b).val - o b < n b
      omega
    · funext b
      have hb : b = a := Fin.ext (by have h1 : b.val < s.rank := b.isLt; have h2 := a.isLt; omega)
      subst hb
      apply Fin.ext
      change o b + 1 * ((x b).val - o b) = (x b).val
      omega

variable (d : Dev nD) (i : grid0.Coords) (arg11 : Memref sig .scVector .vmem S49168 .f32)
  (arg12 : Memref sig .scVector .vmem S3072 .f32) (arg6 : Memref sig .scVector .hbm S32x3072 .f32)

/-- The accumulator cleared. -/
theorem wp_zeroLoop (A : Acc F) (Φ : PUnit → sProp 𝕄) :
    iprop(AccH d i arg11 A ∗ (AccH d i arg11 (fun _ => Scalar.ofBits .f32 0x00000000#32) -∗ Φ ⟨⟩))
      ⊢ wp frame (wpE (defs₀ (F := F)) 𝒱₀ (thr d i) none) Set.univ (zeroLoop i arg11 zeros) Φ := by
  unfold zeroLoop
  refine BIBase.Entails.trans ?_ (Scf.wp_for frame (wpE (defs₀ (F := F)) 𝒱₀ (thr d i) none) Set.univ _ _ _ _ _ _
    (fun k _ => iprop(∃ X : Acc F, ⌜∀ x, (x 0).val < 16 * k → X x = Scalar.ofBits .f32 0x00000000#32⌝ ∗ AccH d i arg11 X)) ?hbody)
  case hbody =>
    intro k acc
    iintro ⟨%X, %hX, HA⟩
    iapply (holds_load (thr d i) (Finset.subset_univ _)) $$ HA
    iintro HA
    iapply (holds_store (thr d i) (Finset.subset_univ _)) $$ HA
    iintro HA
    rw [wp_ret]
    imodintro
    iexists _
    isplitr
    swap
    · iexact HA
    ipureintro
    intro x hx
    refine putRect_16 (F := F) (α := .f32) (Z := fun _ => Scalar.ofBits .f32 0x00000000#32) rfl (fun x => (x 0).val < 16 * (k.val + 1)) ?_ (fun y => rfl) x hx
    intro x hx ha
    have ha0 := ha 0
    rw [off1_val] at ha0
    refine hX x ?_
    change ¬ (16 * k.val ≤ (x 0).val ∧ (x 0).val < 16 * k.val + 16) at ha0
    omega
  rw [show Scf.trips k0_t1_loop.lb k0_t1_loop.ub k0_t1_loop.st = 3073 from trips1]
  iintro ⟨HA, Hk⟩
  isplitl [HA]
  · iexists A
    isplitr
    · ipureintro; intro x hx; omega
    iexact HA
  iintro %acc ⟨%X, %hX, HA⟩
  iapply Hk
  iapply (Holds.congr (F := F) (e := .f32) (thr d i) (X := X) (fun x _ => hX x (by have h := (x 0).isLt; change (x 0).val < 49168 at h; omega))) $$ HA

theorem wp_redFrom (A : Acc F) (k : Fin k0_t5_loop.trips) (n t : Nat) (h : t + n ≤ 15) (acc : FVec F S16 .f32)
    (hacc : acc = fun y => redAt A (16 * k.val + (y 0).val) t) (Φ : FVec F S16 .f32 → sProp 𝕄) :
    iprop(AccH d i arg11 A ∗ (AccH d i arg11 A -∗ Φ (fun y => redAt A (16 * k.val + (y 0).val) (t + n))))
      ⊢ wp frame (wpE (defs₀ (F := F)) 𝒱₀ (thr d i) none) Set.univ (redFrom i arg11 k n t h acc) Φ := by
  induction n generalizing t acc with
  | zero =>
    subst hacc
    iintro ⟨HA, Hk⟩
    unfold redFrom
    rw [wp_ret]
    imodintro
    iapply Hk $$ HA
  | succ n ih =>
    unfold redFrom
    iintro ⟨HA, Hk⟩
    iapply (holds_load (thr d i) (Finset.subset_univ _)) $$ HA
    iintro HA
    have e : (addf (F := F) (φ := .f32) acc
        (fun y => A ((Rect.unit (s := S49168) (k0_off113 k (BitVec.ofNat 32 (3073 + 3073 * t))) S16.size (k0_off113_inb k ⟨t, by omega⟩)).emb y)))
        = fun y => redAt A (16 * k.val + (y 0).val) (t + 1) := by
      subst hacc
      funext y
      change FloatOps.addf (F := F) (φ := .f32) _ _ = _
      rw [redAt]
      congr 1
      refine congrArg A ?_
      funext a
      obtain rfl := Fin.eq_zero a
      apply Fin.ext
      have hk : k.val < 192 := lt_of_lt_of_eq k.isLt trips5
      have hy : (y 0).val < 16 := (y 0).isLt
      change k0_off113 k (BitVec.ofNat 32 (3073 + 3073 * t)) 0 + 1 * (y 0).val = (3073 * (t + 1) + (16 * k.val + (y 0).val)) % 49168
      rw [off113_val k (by omega), Nat.mod_eq_of_lt (by omega)]
      omega
    rw [show t + (n + 1) = t + 1 + n from by omega]
    iapply (ih (t + 1) (by omega) _ e)
    isplitl [HA]; · iexact HA
    iexact Hk

/-- The lanes of the accumulator added up. -/
theorem wp_redLoop (A : Acc F) (Y : S3072.Idx → F .f32) (Φ : PUnit → sProp 𝕄) :
    iprop(AccH d i arg11 A ∗ Holds (F := F) (e := .f32) (thr d i) arg12 Finset.univ Y
        ∗ (AccH d i arg11 A -∗ Holds (F := F) (e := .f32) (thr d i) arg12 Finset.univ (fun x => redAt A (x 0).val 15) -∗ Φ ⟨⟩))
      ⊢ wp frame (wpE (defs₀ (F := F)) 𝒱₀ (thr d i) none) Set.univ (redLoop i arg11 arg12) Φ := by
  unfold redLoop
  refine BIBase.Entails.trans ?_ (Scf.wp_for frame (wpE (defs₀ (F := F)) 𝒱₀ (thr d i) none) Set.univ _ _ _ _ _ _
    (fun k _ => iprop(AccH d i arg11 A ∗ ∃ Y : S3072.Idx → F .f32, ⌜∀ x, (x 0).val < 16 * k → Y x = redAt A (x 0).val 15⌝
      ∗ Holds (F := F) (e := .f32) (thr d i) arg12 Finset.univ Y)) ?hbody)
  case hbody =>
    intro k acc
    have hk : k.val < 192 := lt_of_lt_of_eq k.isLt trips5
    iintro ⟨HA, %Y, %hY, HY⟩
    iapply (holds_load (thr d i) (Finset.subset_univ _)) $$ HA
    iintro HA
    have e : (fun y => A ((Rect.unit (s := S49168) (k0_off112 k) S16.size (k0_off112_inb k)).emb y))
        = fun y : S16.Idx => redAt A (16 * k.val + (y 0).val) 0 := by
      funext y
      rw [redAt]
      congr 1
      funext a
      obtain rfl := Fin.eq_zero a
      apply Fin.ext
      have hy : (y 0).val < 16 := (y 0).isLt
      change k0_off112 k 0 + 1 * (y 0).val = (16 * k.val + (y 0).val) % 49168
      rw [off112_val k, Nat.mod_eq_of_lt (by omega), Nat.one_mul]
    rw [wp_bind]
    iapply (wp_redFrom d i arg11 A k 15 0 _ _ e)
    isplitl [HA]; · iexact HA
    iintro HA
    iapply (holds_load (thr d i) (Finset.subset_univ _)) $$ HY
    iintro HY
    iapply (holds_store (thr d i) (Finset.subset_univ _)) $$ HY
    iintro HY
    rw [wp_ret]
    imodintro
    isplitl [HA]; · iexact HA
    iexists _
    isplitr
    swap
    · iexact HY
    ipureintro
    intro x hx
    refine putRect_16 (F := F) (α := .f32) (Z := fun x => redAt A (x 0).val 15) rfl (fun x => (x 0).val < 16 * (k.val + 1)) ?_ ?_ x hx
    · intro x hx ha
      have ha0 := ha 0
      rw [off114_val] at ha0
      refine hY x ?_
      change ¬ (16 * k.val ≤ (x 0).val ∧ (x 0).val < 16 * k.val + 16) at ha0
      omega
    · intro y
      change redAt A (16 * k.val + (y 0).val) 15 = redAt A (k0_off114 k 0 + 1 * (y 0).val) 15
      rw [off114_val, Nat.one_mul]
  rw [show Scf.trips k0_t5_loop.lb k0_t5_loop.ub k0_t5_loop.st = 192 from trips5]
  iintro ⟨HA, HY, Hk⟩
  isplitl [HA HY]
  · isplitl [HA]; · iexact HA
    iexists Y
    isplitr
    · ipureintro; intro x hx; omega
    iexact HY
  iintro %acc ⟨HA, %Y, %hY, HY⟩
  iapply Hk $$ HA
  iapply (Holds.congr (F := F) (e := .f32) (thr d i) (X := Y) (fun x _ => hY x (by have h := (x 0).isLt; change (x 0).val < 3072 at h; omega))) $$ HY

/-- The results copied out. -/
theorem wp_copyOut (harg12 : arg12.IsWhole) (sem : DmaSems sig S_) (Y Y0 : S3072.Idx → F .f32)
    (O : CellTallies nD τ sig (HIx 1)) (W : Waits sig (HIx 1)) (Φ : PUnit → sProp 𝕄) :
    iprop(Holds (F := F) (e := .f32) (thr d i) arg12 Finset.univ Y ∗ Holds (F := F) (e := .f32) (thr d i) (outRow i arg6) Finset.univ Y0
        ∗ semVal (thr d i, .dma sem.sem) 0 ∗ Transfers.MayWaits (thr d i) (none : HIx 1) O ∗ Ow (thr d i) O W
        ∗ (Holds (F := F) (e := .f32) (thr d i) arg12 Finset.univ Y -∗ Holds (F := F) (e := .f32) (thr d i) (outRow i arg6) Finset.univ Y
          -∗ semVal (thr d i, .dma sem.sem) 0 -∗ Ow (thr d i) O W -∗ Φ ⟨⟩))
      ⊢ wp frame (wpE (defs₀ (F := F)) 𝒱₀ (thr d i) none) Set.univ (copyOut i arg6 arg12 harg12 sem) Φ := by
  unfold copyOut Holds Ow
  simp only [View.setOn_univ]
  iintro ⟨⟨%fs, %hs, Hs⟩, ⟨%fd, -, Hd⟩, Hsem, #Hmw, ⟨%W', %hW', HO⟩, Hk⟩
  iapply (Transfers.wp_dmaLocal countersEmb 𝒱₀ (thr d i) none (none : HIx 1) _ rfl (View.dmaCredit_pos _ (by decide)) subset_rfl) $$ [Hs Hd Hsem]
  · isplitl [Hs]; · iexact Hs
    isplitl [Hd]; · iexact Hd
    iexact Hsem
  iintro HF
  iapply (Transfers.wp_waitLocalO countersEmb 𝒱₀ (thr d i) none (none : HIx 1) rfl) $$ [HF HO]
  · isplitl [HF]; · iexact HF
    isplitl [HO]; · iexact HO
    iapply (Transfers.MayWaits.elim (.dma sem.sem)) $$ Hmw
  iintro ⟨⟨Hd, Hs⟩, Hsem, HO⟩
  rw [wp_ret]
  imodintro
  iapply Hk $$ [Hs] [Hd] Hsem [HO]
  · iexists fs
    isplitr
    · ipureintro; exact hs
    iexact Hs
  · iexists _
    isplitr
    swap
    · iexact Hd
    ipureintro
    intro x _
    rw [View.read_write_univ]
    exact hs x (Finset.mem_univ _)
  · iexists _
    isplitr
    swap
    · iexact HO
    ipureintro
    intro p hp
    rcases Finset.mem_insert.mp hp with rfl | hp
    · exact .inr rfl
    · exact hW' p hp

end Cert.Proof
-- ==== Proof.RolledEq.lean ====
module
public import proofs.«01_k».proof.Proof.Rolled
/-! The printed body of the vector subcore is the recursion of Rolled.lean. -/

@[expose] public section
namespace Cert.Proof
open Idealize.ShloMosaic Idealize.SL.Sem
open Cert.KernelIdeal Cert.KernelIdeal.Facts₀ Cert.KernelIdeal.Facts
noncomputable section
variable {F : FTy → Type} [FloatOps F] [Named F] [Facts]

/-- A choice followed by a continuation is the choice of the two continued. -/
theorem dite_bind' {E : Type → Type} {α β : Type} {c : Prop} [Decidable c] (t : c → Prog E α) (e : ¬c → Prog E α) (k : α → Prog E β) :
    (dite c t e >>= k) = dite c (fun h => t h >>= k) (fun h => e h >>= k) := by split <;> rfl

set_option maxHeartbeats 4000000
set_option maxRecDepth 100000
/-- The printed body, step for step. -/
theorem sc_body_eq (i : grid0.Coords) (arg2 : Memref sig .scVector .hbm S6400000 .f32) (harg2 : arg2.IsWhole) (arg3 : Memref sig .scVector .hbm S6400000 .f32) (harg3 : arg3.IsWhole) (arg4 : Memref sig .scVector .hbm S6400000 .f32) (harg4 : arg4.IsWhole) (arg5 : Memref sig .scVector .hbm S6400000 .i32) (harg5 : arg5.IsWhole) (arg6 : Memref sig .scVector .hbm S32x3072 .f32) (harg6 : arg6.IsWhole) (arg7 : Memref sig .scVector .vmem S8000 .f32) (harg7 : arg7.IsWhole) (arg8 : Memref sig .scVector .vmem S8000 .f32) (harg8 : arg8.IsWhole) (arg9 : Memref sig .scVector .vmem S8000 .f32) (harg9 : arg9.IsWhole) (arg10 : Memref sig .scVector .vmem S8000 .i32) (harg10 : arg10.IsWhole) (arg11 : Memref sig .scVector .vmem S49168 .f32) (harg11 : arg11.IsWhole) (arg12 : Memref sig .scVector .vmem S3072 .f32) (harg12 : arg12.IsWhole) (arg13 arg14 v43_r0 : DmaSems sig S_) :
   cc0__sc_body (F := F) i arg2 harg2 arg3 harg3 arg4 harg4 arg5 harg5 arg6 harg6 arg7 harg7 arg8 harg8 arg9 harg9 arg10 harg10 arg11 harg11 arg12 harg12 arg13 arg14 v43_r0 = scBody i arg7 arg8 arg9 arg10 arg11 arg2 arg3 arg4 arg5 arg6 arg12 harg12 arg13 arg14 v43_r0 := by
  simp only [cc0__sc_body, k0_part74, k0_part71, k0_part72, k0_part73, scBody, zeroLoop, startChunk, finalFlush, copyOut, redLoop,
    Prog.bind_lift, Prog.bind_op, Prog.bind_ret, Prog.pure_eq_ret, bind_assoc, dite_bind']
  refine congrArg₂ Bind.bind rfl (funext fun _ => ?_)
  iterate 4 refine congrArg (Prog.op _) (funext fun _ => ?_)
  refine congrArg₂ Bind.bind ?_ (funext fun st => ?_)
  · refine congrArg (Scf.Loop.for k0_t2_loop k0_t2_ok _) (funext fun k => funext fun st => ?_)
    simp only [trip, tripRest, startChunk, waitChunk, half0, half1, Prog.bind_lift, Prog.bind_op, Prog.bind_ret, Prog.pure_eq_ret, bind_assoc, dite_bind']
    iterate 8 refine congrArg (Prog.op _) (funext fun _ => ?_)
    refine congrArg₂ Bind.bind ?_ (funext fun st => ?_)
    · refine congrArg (Scf.Loop.for k0_t3_loop k0_t3_ok _) (funext fun k => funext fun st => ?_)
      refine congrArg (Prog.op _) (funext fun _ => congrArg (Prog.op _) (funext fun _ => ?_))
      refine dite_congr rfl (fun h1 => ?_) (fun h1 => ?_)
      · iterate 9 refine congrArg (Prog.op _) (funext fun _ => ?_)
        refine dite_congr rfl (fun h2 => ?_) (fun h2 => ?_)
        · iterate 150 refine congrArg (Prog.op _) (funext fun _ => ?_)
          rfl
        · iterate 650 refine congrArg (Prog.op _) (funext fun _ => ?_)
          rfl
      · refine dite_congr rfl (fun h2 => ?_) (fun h2 => ?_)
        · iterate 150 refine congrArg (Prog.op _) (funext fun _ => ?_)
          rfl
        · iterate 650 refine congrArg (Prog.op _) (funext fun _ => ?_)
          rfl
    · refine dite_congr rfl (fun h1 => ?_) (fun h1 => ?_)
      · iterate 8 refine congrArg (Prog.op _) (funext fun _ => ?_)
        refine Eq.trans (congrArg₂ Bind.bind ?_ (funext fun _ => rfl)) (Prog.bind_pure _)
        refine congrArg (Scf.Loop.for k0_t4_loop k0_t4_ok _) (funext fun k => funext fun st => ?_)
        refine congrArg (Prog.op _) (funext fun _ => congrArg (Prog.op _) (funext fun _ => ?_))
        refine dite_congr rfl (fun h1 => ?_) (fun h1 => ?_)
        · iterate 9 refine congrArg (Prog.op _) (funext fun _ => ?_)
          refine dite_congr rfl (fun h2 => ?_) (fun h2 => ?_)
          · iterate 150 refine congrArg (Prog.op _) (funext fun _ => ?_)
            rfl
          · iterate 650 refine congrArg (Prog.op _) (funext fun _ => ?_)
            rfl
        · refine dite_congr rfl (fun h2 => ?_) (fun h2 => ?_)
          · iterate 150 refine congrArg (Prog.op _) (funext fun _ => ?_)
            rfl
          · iterate 650 refine congrArg (Prog.op _) (funext fun _ => ?_)
            rfl
      · iterate 4 refine congrArg (Prog.op _) (funext fun _ => ?_)
        refine Eq.trans (congrArg₂ Bind.bind ?_ (funext fun _ => rfl)) (Prog.bind_pure _)
        refine congrArg (Scf.Loop.for k0_t4_loop k0_t4_ok _) (funext fun k => funext fun st => ?_)
        refine congrArg (Prog.op _) (funext fun _ => congrArg (Prog.op _) (funext fun _ => ?_))
        refine dite_congr rfl (fun h1 => ?_) (fun h1 => ?_)
        · iterate 9 refine congrArg (Prog.op _) (funext fun _ => ?_)
          refine dite_congr rfl (fun h2 => ?_) (fun h2 => ?_)
          · iterate 150 refine congrArg (Prog.op _) (funext fun _ => ?_)
            rfl
          · iterate 650 refine congrArg (Prog.op _) (funext fun _ => ?_)
            rfl
        · refine dite_congr rfl (fun h2 => ?_) (fun h2 => ?_)
          · iterate 150 refine congrArg (Prog.op _) (funext fun _ => ?_)
            rfl
          · iterate 650 refine congrArg (Prog.op _) (funext fun _ => ?_)
            rfl
  · iterate 9 refine congrArg (Prog.op _) (funext fun _ => ?_)
    refine (congrArg₂ Bind.bind (?_ : Scf.Loop.for k0_t5_loop k0_t5_ok _ _ = Scf.Loop.for k0_t5_loop k0_t5_ok _ _) rfl : Bind.bind (Scf.Loop.for k0_t5_loop k0_t5_ok _ _) _ = Bind.bind (Scf.Loop.for k0_t5_loop k0_t5_ok _ _) _)
    refine congrArg (Scf.Loop.for k0_t5_loop k0_t5_ok _) (funext fun k => funext fun st => ?_)
    iterate 18 refine congrArg (Prog.op _) (funext fun _ => ?_)
    rfl

end
end Cert.Proof
-- ==== Proof.Tile.lean ====
module
public import proofs.«01_k».proof.Proof.Ends
public import proofs.«01_k».proof.Proof.RolledEq

/-! The whole body of a vector subcore. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [Facts]

local notation "𝕄" => MT nD τ sig (HIx 1) (Elt F) ℕ UU ℕ

/-! ## Arrays opened and closed, halved and joined -/

section Open

variable (c : Thread nD τ) {sp : Space} {s : Shape} {e : EltTy} {a : Memref sig c.2.kind sp s e}

/-- An array held whole is held as what it reads. -/
theorem holds_open (ha : a.view.set = Finset.univ) : iprop(∃ f, a.view.loc c ↦{fullShare} f) ⊢ (iprop(∃ X, Holds (F := F) c a Finset.univ X) : sProp 𝕄) := by
  unfold Holds
  simp only [View.setOn_univ, ha]
  iintro ⟨%f, Hf⟩
  iexists a.view.read (Elt F) f
  iexists f
  isplitr
  · ipureintro; exact fun x _ => rfl
  · iexact Hf

theorem holds_close (ha : a.view.set = Finset.univ) (X : s.Idx → Elt F e) : Holds (F := F) c a Finset.univ X ⊢ (iprop(∃ f, a.view.loc c ↦{fullShare} f) : sProp 𝕄) := by
  unfold Holds
  simp only [View.setOn_univ, ha]
  iintro ⟨%f, -, Hf⟩
  iexists f
  iexact Hf

theorem holds_split {I J : Finset s.Idx} (h : Disjoint I J) (X : s.Idx → Elt F e) :
    Holds (F := F) c a (I ∪ J) X ⊢ (iprop(Holds (F := F) c a I X ∗ Holds (F := F) c a J X) : sProp 𝕄) := by
  have hd : Disjoint (a.view.setOn I) (a.view.setOn J) := (Finset.disjoint_map _).mpr h
  have hu : a.view.setOn (I ∪ J) = a.view.setOn I ∪ a.view.setOn J := Finset.map_union _ _
  unfold Holds
  rw [hu]
  iintro ⟨%f, %hf, Hf⟩
  ihave Hf' := (pointsTo_union hd).1 $$ Hf
  icases Hf' with ⟨H1, H2⟩
  isplitl [H1]
  · iexists f
    isplitr
    · ipureintro; exact fun x hx => hf x (Finset.mem_union_left _ hx)
    · iexact H1
  · iexists f
    isplitr
    · ipureintro; exact fun x hx => hf x (Finset.mem_union_right _ hx)
    · iexact H2

theorem holds_join {I J : Finset s.Idx} (h : Disjoint I J) (X Y : s.Idx → Elt F e) :
    iprop(Holds (F := F) c a I X ∗ Holds (F := F) c a J Y) ⊢ (iprop(∃ Z, Holds (F := F) c a (I ∪ J) Z) : sProp 𝕄) := by
  have hd : Disjoint (a.view.setOn I) (a.view.setOn J) := (Finset.disjoint_map _).mpr h
  have hu : a.view.setOn (I ∪ J) = a.view.setOn I ∪ a.view.setOn J := Finset.map_union _ _
  unfold Holds
  rw [hu]
  iintro ⟨⟨%f, -, Hf⟩, ⟨%g, -, Hg⟩⟩
  ihave H := (pointsTo_join (ℓ := a.view.loc c) (I := a.view.setOn I) (J := a.view.setOn J) hd) $$ [Hf Hg]
  · isplitl [Hf] <;> iassumption
  iexists _
  iexists _
  isplitr
  swap
  · iexact H
  · ipureintro; exact fun x _ => rfl

end Open

theorem rng_disjoint : Disjoint (rng 0) (rng 4000) := by
  rw [Finset.disjoint_left]
  intro x h1 h2
  rw [mem_rng] at h1 h2
  omega

theorem rng_union : rng 0 ∪ rng 4000 = Finset.univ := by
  ext x
  have h : (x 0).val < 8000 := (x 0).isLt
  simp only [Finset.mem_union, mem_rng, Finset.mem_univ, iff_true]
  omega

/-! ## The body -/

variable (d : Dev nD) (i : grid0.Coords) (arg7 arg8 arg9 : Memref sig .scVector .vmem S8000 .f32)
  (arg10 : Memref sig .scVector .vmem S8000 .i32) (arg11 : Memref sig .scVector .vmem S49168 .f32)
  (arg2 arg3 arg4 : Memref sig .scVector .hbm S6400000 .f32) (arg5 : Memref sig .scVector .hbm S6400000 .i32)
  (arg6 : Memref sig .scVector .hbm S32x3072 .f32) (arg12 : Memref sig .scVector .vmem S3072 .f32)
  (f2 : Buf (Elt F) (arg2.view.loc (thr d i))) (f3 : Buf (Elt F) (arg3.view.loc (thr d i))) (f4 : Buf (Elt F) (arg4.view.loc (thr d i)))
  (f5 : Buf (Elt F) (arg5.view.loc (thr d i)))
  (M V R : S6400000.Idx → F .f32) (S : S6400000.Idx → BitVec 32)

/-- The scratch arrays of a vector subcore, whatever they hold. -/
def Scratch : sProp 𝕄 :=
  iprop((∃ X, Holds (F := F) (e := .f32) (thr d i) arg7 Finset.univ X) ∗ (∃ X, Holds (F := F) (e := .f32) (thr d i) arg8 Finset.univ X)
    ∗ (∃ X, Holds (F := F) (e := .f32) (thr d i) arg9 Finset.univ X) ∗ (∃ X, Holds (F := F) (e := .i32) (thr d i) arg10 Finset.univ X)
    ∗ (∃ X, Holds (F := F) (e := .f32) (thr d i) arg11 Finset.univ X) ∗ (∃ X, Holds (F := F) (e := .f32) (thr d i) arg12 Finset.univ X))

theorem scratch_split : Scratch (F := F) d i arg7 arg8 arg9 arg10 arg11 arg12
    ⊢ iprop(BufsAny (F := F) d i arg7 arg8 arg9 arg10 (rng 0) ∗ BufsAny (F := F) d i arg7 arg8 arg9 arg10 (rng 4000)
      ∗ (∃ X, Holds (F := F) (e := .f32) (thr d i) arg11 Finset.univ X) ∗ (∃ X, Holds (F := F) (e := .f32) (thr d i) arg12 Finset.univ X)) := by
  unfold Scratch BufsAny Bufs
  rw [← rng_union]
  iintro ⟨⟨%X7, H7⟩, ⟨%X8, H8⟩, ⟨%X9, H9⟩, ⟨%X10, H10⟩, H11, H12⟩
  ihave G := (holds_split (thr d i) rng_disjoint _) $$ H7
  icases G with ⟨A7, B7⟩
  ihave G := (holds_split (thr d i) rng_disjoint _) $$ H8
  icases G with ⟨A8, B8⟩
  ihave G := (holds_split (thr d i) rng_disjoint _) $$ H9
  icases G with ⟨A9, B9⟩
  ihave G := (holds_split (thr d i) rng_disjoint _) $$ H10
  icases G with ⟨A10, B10⟩
  isplitl [A7 A8 A9 A10]
  · iexists X7, X8, X9, X10
    isplitl [A7]; · iexact A7
    isplitl [A8]; · iexact A8
    isplitl [A9]; · iexact A9
    iexact A10
  isplitl [B7 B8 B9 B10]
  · iexists X7, X8, X9, X10
    isplitl [B7]; · iexact B7
    isplitl [B8]; · iexact B8
    isplitl [B9]; · iexact B9
    iexact B10
  isplitl [H11]; · iexact H11
  iexact H12

theorem scratch_join : iprop(BufsAny (F := F) d i arg7 arg8 arg9 arg10 (rng 0) ∗ BufsAny (F := F) d i arg7 arg8 arg9 arg10 (rng 4000)
      ∗ (∃ X, Holds (F := F) (e := .f32) (thr d i) arg11 Finset.univ X) ∗ (∃ X, Holds (F := F) (e := .f32) (thr d i) arg12 Finset.univ X))
    ⊢ Scratch (F := F) d i arg7 arg8 arg9 arg10 arg11 arg12 := by
  unfold Scratch BufsAny Bufs
  rw [← rng_union]
  iintro ⟨⟨%X7, %X8, %X9, %X10, A7, A8, A9, A10⟩, ⟨%Y7, %Y8, %Y9, %Y10, B7, B8, B9, B10⟩, H11, H12⟩
  isplitl [A7 B7]
  · iapply (holds_join (thr d i) rng_disjoint X7 Y7); isplitl [A7] <;> iassumption
  isplitl [A8 B8]
  · iapply (holds_join (thr d i) rng_disjoint X8 Y8); isplitl [A8] <;> iassumption
  isplitl [A9 B9]
  · iapply (holds_join (thr d i) rng_disjoint X9 Y9); isplitl [A9] <;> iassumption
  isplitl [A10 B10]
  · iapply (holds_join (thr d i) rng_disjoint X10 Y10); isplitl [A10] <;> iassumption
  isplitl [H11]; · iexact H11
  iexact H12

/-- The body of a vector subcore: its row of the result is left at the sums of its part of the arrays. -/
theorem wp_scBody (hM : ∀ x, arg2.view.read (Elt F) f2 x = M x) (hV : ∀ x, arg3.view.read (Elt F) f3 x = V x) (hR : ∀ x, arg4.view.read (Elt F) f4 x = R x)
    (hS : ∀ x, arg5.view.read (Elt F) f5 x = S x) (hs : ∀ x, (S x).toNat < 1024) (harg12 : arg12.IsWhole)
    (sem13 sem14 semr : DmaSems sig S_) (sh0 sh1 : PosShare TreeShare) (O : CellTallies nD τ sig (HIx 1)) (W : Waits sig (HIx 1)) (Φ : PUnit → sProp 𝕄) :
    iprop(Scratch (F := F) d i arg7 arg8 arg9 arg10 arg11 arg12 ∗ Toks d i arg2 arg3 arg4 arg5 f2 f3 f4 f5 sh0 ∗ Toks d i arg2 arg3 arg4 arg5 f2 f3 f4 f5 sh1
        ∗ (∃ Y, Holds (F := F) (e := .f32) (thr d i) (outRow i arg6) Finset.univ Y)
        ∗ semVal (thr d i, .dma sem13.sem) 0 ∗ semVal (thr d i, .dma sem14.sem) 0 ∗ semVal (thr d i, .dma semr.sem) 0
        ∗ Transfers.MayWaits (thr d i) (none : HIx 1) O ∗ Ow (thr d i) O W
        ∗ (Scratch (F := F) d i arg7 arg8 arg9 arg10 arg11 arg12 -∗ Toks d i arg2 arg3 arg4 arg5 f2 f3 f4 f5 sh0 -∗ Toks d i arg2 arg3 arg4 arg5 f2 f3 f4 f5 sh1
          -∗ Holds (F := F) (e := .f32) (thr d i) (outRow i arg6) Finset.univ (fun x => rowVal M V R S (wid i) (x 0).val)
          -∗ semVal (thr d i, .dma sem13.sem) 0 -∗ semVal (thr d i, .dma sem14.sem) 0 -∗ semVal (thr d i, .dma semr.sem) 0
          -∗ Ow (thr d i) O W -∗ Φ ⟨⟩))
      ⊢ wp frame (wpE (defs₀ (F := F)) 𝒱₀ (thr d i) none) Set.univ
          (scBody i arg7 arg8 arg9 arg10 arg11 arg2 arg3 arg4 arg5 arg6 arg12 harg12 sem13 sem14 semr) Φ := by
  unfold scBody
  rw [wp_bind]
  iintro ⟨HSc, HT0, HT1, ⟨%Y0, HR⟩, Hs13, Hs14, Hsr, #Hmw, HO, Hk⟩
  ihave HSc' := (scratch_split d i arg7 arg8 arg9 arg10 arg11 arg12) $$ HSc
  icases HSc' with ⟨HB0, HB1, ⟨%A0, HA⟩, ⟨%Y, HY⟩⟩
  ihave HB0' := (show (BufsAny (F := F) d i arg7 arg8 arg9 arg10 (rng 0) : sProp 𝕄) ⊢ iprop(∃ X7 X8 X9 X10, Bufs (F := F) d i arg7 arg8 arg9 arg10 (rng 0) X7 X8 X9 X10) from .rfl) $$ HB0
  icases HB0' with ⟨%Y7, %Y8, %Y9, %Y10, HB0⟩
  iapply (wp_zeroLoop d i arg11 A0)
  isplitl [HA]; · iexact HA
  iintro HA
  rw [wp_bind]
  iapply (wp_startChunk d i arg7 arg8 arg9 arg10 arg2 arg3 arg4 arg5 f2 f3 f4 f5 M V R S hM hV hR hS sem13 sh0 (200000 * wid i + 8000 * 0)
    (k0_off2 i) (k0_off2_inb i) ![0] inb_S8000_S4000_0 (by rw [off2_eq]; rfl) Y7 Y8 Y9 Y10)
  isplitl [HB0]; · iexact HB0
  isplitl [HT0]; · iexact HT0
  isplitl [Hs13]; · iexact Hs13
  iintro HF
  rw [wp_bind]
  have e0 : LoPart (F := F) d i arg7 arg8 arg9 arg10 arg2 arg3 arg4 arg5 f2 f3 f4 f5 M V R S sem13 sh0 0
      = Flying d i arg7 arg8 arg9 arg10 arg2 arg3 arg4 arg5 f2 f3 f4 f5 M V R S sem13.sem sh0 (200000 * wid i + 8000 * 0) (k0_off2 i) (k0_off2_inb i) 0 := by
    unfold LoPart
    rw [dif_pos (by decide), ← flying_congr d i arg7 arg8 arg9 arg10 arg2 arg3 arg4 arg5 f2 f3 f4 f5 M V R S _ _ _ (off2_eq i) (k0_off2_inb i)]
  have e25 : LoPart (F := F) d i arg7 arg8 arg9 arg10 arg2 arg3 arg4 arg5 f2 f3 f4 f5 M V R S sem13 sh0 25
      = iprop(BufsAny d i arg7 arg8 arg9 arg10 (rng 0) ∗ Toks d i arg2 arg3 arg4 arg5 f2 f3 f4 f5 sh0 ∗ semVal (thr d i, .dma sem13.sem) 0) := by
    unfold LoPart
    rw [dif_neg (by decide)]
  iapply (wp_trips d i arg7 arg8 arg9 arg10 arg11 arg2 arg3 arg4 arg5 f2 f3 f4 f5 M V R S hM hV hR hS hs sem13 sem14 sh0 sh1 O W)
  unfold TripInv
  rw [e0, e25]
  isplitl [HA HF HB1 HT1 Hs14 HO]
  · isplitl [HA]; · iexact HA
    isplitl [HF]; · iexact HF
    isplitl [HB1]; · iexact HB1
    isplitl [HT1]; · iexact HT1
    isplitl [Hs14]; · iexact Hs14
    isplitr; · iexact Hmw
    iexact HO
  iintro ⟨HA, ⟨HB0, HT0, Hs13⟩, HB1, HT1, Hs14, -, HO⟩
  rw [wp_bind]
  iapply (wp_finalFlush d i arg11 (tripsVal M V R S (wid i) 25).1 (tripsVal_cur M V R S hs (wid i) 25) (tripsVal M V R S (wid i) 25).2)
  isplitl [HA]; · iexact HA
  iintro HA
  rw [wp_bind]
  iapply (wp_redLoop d i arg11 arg12 (accVal M V R S (wid i)) Y)
  isplitl [HA]; · iexact HA
  isplitl [HY]; · iexact HY
  iintro HA HY
  iapply (wp_copyOut d i arg12 arg6 harg12 semr (fun x => rowVal M V R S (wid i) (x 0).val) Y0 O W)
  isplitl [HY]; · iexact HY
  isplitl [HR]; · iexact HR
  isplitl [Hsr]; · iexact Hsr
  isplitr; · iexact Hmw
  isplitl [HO]; · iexact HO
  iintro HY HR Hsr HO
  iapply Hk $$ [HB0 HB1 HA HY] HT0 HT1 HR Hs13 Hs14 Hsr HO
  iapply (scratch_join d i arg7 arg8 arg9 arg10 arg11 arg12)
  isplitl [HB0]; · iexact HB0
  isplitl [HB1]; · iexact HB1
  isplitl [HA]
  · iexists _; iexact HA
  · iexists _; iexact HY

end Cert.Proof
-- ==== Proof.Launch.lean ====
module
public import proofs.«01_k».proof.Proof.Tile
public import proofs.«01_k».proof.Proof.Gen.KernelIdeal.Launch

/-! The SparseCore call: what it hands each vector subcore, and each vector subcore's run. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The labels under the SparseCore layer. -/
abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev EH : Emb UH 𝕄 := embL
/-- The region's rounds. -/
abbrev EP : Emb UP 𝕄 := (Emb.inl : Emb UP (UP × Counters)).trans (embR (A := UH) (B := UP × Counters))

instance EP_landsIn : (EP (F := F)).LandsIn (upEmb : UEmb _ 𝕄) := by unfold EP; infer_instance

/-! ## The arrays of the call -/

variable (m : (ℓ : Loc nD τ sig) → Buf (Elt F) ℓ)

/-- An array of the program on a device. -/
abbrev aLoc (d : Dev nD) (b : Ref sig .tc) : Loc nD τ sig := (SparseCore.T d).loc b

abbrev valM (d : Dev nD) : S6400000.Idx → F .f32 := m (aLoc d main_arg1)
abbrev valV (d : Dev nD) : S6400000.Idx → F .f32 := m (aLoc d main_arg2)
abbrev valR (d : Dev nD) : S6400000.Idx → F .f32 := m (aLoc d main_arg3)
abbrev valS (d : Dev nD) : S6400000.Idx → BitVec 32 := m (aLoc d main_arg4)

/-- What the call leaves in its result. -/
def partBuf (d : Dev nD) : Buf (Elt F) (aLoc d main_v0) := partVal (valM m d) (valV m d) (valR m d) (valS m d)

/-- The segment numbers are in range. -/
def InRange : Prop := ∀ (d : Dev nD) (x : S6400000.Idx), (valS m d x).toNat < 1024

/-- The grid point of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The read share of one half of one vector subcore. -/
def shareOf (L : grid0.Coords) (b : Fin 2) : PosShare TreeShare :=
  Transfers.dealOf (Transfers.dealOf (Transfers.dealOf fullShare (Finset.univ : Finset (Fin 2)) (L 0)) (Finset.univ : Finset (Fin 16)) (L 1)) (Finset.univ : Finset (Fin 2)) b

/-- The row of the result a vector subcore writes. -/
def rowSet (L : grid0.Coords) : Finset S32x3072.Idx := Finset.univ.filter fun x => (x 0).val = wid L

/-- The four arguments at one share. -/
def Args (d : Dev nD) (q : PosShare TreeShare) : sProp 𝕄 :=
  iprop((aLoc d main_arg1 ↦{q} m (aLoc d main_arg1)) ∗ (aLoc d main_arg2 ↦{q} m (aLoc d main_arg2))
    ∗ (aLoc d main_arg3 ↦{q} m (aLoc d main_arg3)) ∗ (aLoc d main_arg4 ↦{q} m (aLoc d main_arg4)))

/-- What a vector subcore is handed. -/
def goV (d : Dev nD) (L : grid0.Coords) : sProp 𝕄 :=
  iprop(Args m d (shareOf L 0) ∗ Args m d (shareOf L 1) ∗ aLoc d main_v0 ↦[rowSet L]{fullShare} m (aLoc d main_v0))
/-- What it hands back. -/
def tdV (d : Dev nD) (L : grid0.Coords) : sProp 𝕄 :=
  iprop(Args m d (shareOf L 0) ∗ Args m d (shareOf L 1) ∗ aLoc d main_v0 ↦[rowSet L]{fullShare} partBuf m d)

instance goV_storable (d : Dev nD) (L : grid0.Coords) : BI.Storable (upEmb : UEmb _ 𝕄) (goV m d L) := by
  unfold goV Args; infer_instance
instance tdV_storable (d : Dev nD) (L : grid0.Coords) : BI.Storable (upEmb : UEmb _ 𝕄) (tdV m d L) := by
  unfold tdV Args; infer_instance

/-- What the handshakes carry. -/
def P : (K (F := F)).Pay (nD := nD) (Val := Elt F) (Name := ℕ) (U := UU) where
  st := fun q d c => match q with | 0 => bigSep (Finset.univ : Finset (Fin 16)) fun i => goV m d (coordsV c i)
  dn := fun q d c => match q with | 0 => bigSep (Finset.univ : Finset (Fin 16)) fun i => tdV m d (coordsV c i)
  go := fun q d c i => match q with | 0 => goV m d (coordsV c i)
  td := fun q d c i => match q with | 0 => tdV m d (coordsV c i)
  x := fun _ _ => iprop(emp)

theorem rows_storable (Φ : Fin 16 → sProp 𝕄) (h : ∀ i, BI.Storable (upEmb : UEmb _ 𝕄) (Φ i)) :
    BI.Storable (upEmb : UEmb _ 𝕄) (bigSep (Finset.univ : Finset (Fin 16)) Φ) := by
  haveI := h
  infer_instance

instance P_storable : (P (F := F) m).IsStorable where
  st q d c := match q with
    | 0 => rows_storable _ fun i => goV_storable m d (coordsV c i)
  dn q d c := match q with
    | 0 => rows_storable _ fun i => tdV_storable m d (coordsV c i)
  go q d c i := match q with
    | 0 => (inferInstance : BI.Storable (upEmb : UEmb _ 𝕄) (goV m d (coordsV c i)))
  td q d c i := match q with
    | 0 => (inferInstance : BI.Storable (upEmb : UEmb _ 𝕄) (tdV m d (coordsV c i)))

/-! ## The row a vector subcore writes -/

section Row

variable (d : Dev nD) (L : grid0.Coords)

abbrev outV : Memref sig .scVector .hbm S32x3072 .f32 := Memref.whole main_v0_scv

/-- Where an element of the row lies. -/
theorem outRow_emb (x : S3072.Idx) : ((outRow L outV).view.emb x 0).val = wid L ∧ ((outRow L outV).view.emb x 1).val = (x 0).val := by
  have h : Shape.reshapeEquiv (s := S1x3072) (s' := S3072) squeezes_S1x3072_S3072.numel_eq x = Fin.cons ⟨0, Nat.one_pos⟩ x :=
    Shape.reshapeEquiv_cons_one (n := 1) (d := ![3072]) _ x
  have e : (outRow L outV).view.emb x = (Rect.unit (s := S32x3072) (k0_off115 L) S1x3072.size (k0_off115_inb L)).emb
      (Shape.reshapeEquiv (s := S1x3072) (s' := S3072) squeezes_S1x3072_S3072.numel_eq x) := rfl
  rw [e, h]
  have h0 : k0_off115 L 0 = wid L := by rw [off115_eq]; rfl
  have h1 : k0_off115 L 1 = 0 := by rw [off115_eq]; rfl
  constructor
  · show k0_off115 L 0 + 1 * 0 = wid L
    rw [h0]
    omega
  · show k0_off115 L 1 + 1 * (x 0).val = (x 0).val
    rw [h1]
    omega

theorem outRow_set : (outRow L outV).view.set = rowSet L := by
  ext y
  unfold View.set rowSet
  simp only [Finset.mem_map, Finset.mem_univ, true_and, Finset.mem_filter]
  constructor
  · rintro ⟨x, rfl⟩
    exact (outRow_emb L x).1
  · intro h
    refine ⟨(Fin.cons (⟨(y 1).val, (y 1).isLt⟩ : Fin 3072) (fun a => a.elim0) : S3072.Idx), ?_⟩
    funext a
    match a with
    | 0 => exact Fin.ext ((outRow_emb L _).1.trans h.symm)
    | 1 => exact Fin.ext (outRow_emb L _).2

theorem row_open (f : Buf (Elt F) (aLoc d main_v0)) :
    (aLoc d main_v0 ↦[rowSet L]{fullShare} f : sProp 𝕄) ⊢ iprop(∃ Y, Holds (F := F) (e := .f32) (thr d L) (outRow L outV) Finset.univ Y) := by
  unfold Holds
  simp only [View.setOn_univ]
  rw [outRow_set]
  iintro Hf
  iexists (outRow L outV).view.read (Elt F) f
  iexists f
  isplitr
  · ipureintro; exact fun x _ => rfl
  · iexact Hf

theorem row_close :
    Holds (F := F) (e := .f32) (thr d L) (outRow L outV) Finset.univ (fun x => rowVal (valM m d) (valV m d) (valR m d) (valS m d) (wid L) (x 0).val)
      ⊢ (aLoc d main_v0 ↦[rowSet L]{fullShare} partBuf m d : sProp 𝕄) := by
  unfold Holds
  simp only [View.setOn_univ]
  rw [outRow_set]
  iintro ⟨%f, %hf, Hf⟩
  have hc : (aLoc d main_v0 ↦[rowSet L]{fullShare} f : sProp 𝕄) ⊢ (aLoc d main_v0 ↦[rowSet L]{fullShare} partBuf m d : sProp 𝕄) := by
    refine .of_eq (pointsTo_congr fun y hy => ?_)
    have hy' : y ∈ (outRow L outV).view.set := by rw [outRow_set]; exact hy
    obtain ⟨x, -, rfl⟩ := Finset.mem_map.mp hy'
    have h := hf x (Finset.mem_univ x)
    rw [View.read_apply] at h
    have h2 : partBuf m d ((outRow L outV).view.emb x) = rowVal (valM m d) (valV m d) (valR m d) (valS m d) (wid L) (x 0).val := by
      unfold partBuf partVal
      rw [(outRow_emb L x).1, (outRow_emb L x).2]
    rw [h2, ← h]
    exact (cast_eq _ _).symm
  iapply hc
  iexact Hf

end Row

end Cert.Proof
-- ==== Proof.FinBody.lean ====
module
public import proofs.«01_k».proof.Proof.Launch

/-! The TensorCore kernel that reads the partial sums: what it computes, and its run. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What it computes -/

section Val

variable (P : FVec F S1024 .f32) (A : FVec F S32x3072 .f32)

/-- The partial sums of the vector subcores added up. -/
def colSum : FVec F S3072 .f32 :=
  multiReduction .add [0] S3072 (shapeCast S32x3072 A shapeCasts_S32x3072_S32x3072) 0x00000000#32 reduces_S32x3072_S3072 (.inl rfl) rfl
/-- Kinetic energy, radius and number of stars of each segment. -/
def segKe : FVec F S1024 .f32 := extractStridedSlice S1024 ![0] (colSum A) slices_S3072_o0_S1024
def segR : FVec F S1024 .f32 := extractStridedSlice S1024 ![1024] (colSum A) slices_S3072_o1024_S1024
def segN : FVec F S1024 .f32 := extractStridedSlice S1024 ![2048] (colSum A) slices_S3072_o2048_S1024
/-- The predicted mass. -/
def mass : FVec F S1024 .f32 := exp (mulf P (broadcast S1024 (Named.named κ "ln_10" 0x40135D8E#32)))
/-- The mean radius, zero where a segment is empty. -/
def meanR : FVec F S1024 .f32 :=
  select (cmpf .ogt (segN A) (broadcast S1024 (Scalar.ofBits .f32 0x00000000#32)))
    (divf (segR A) (maximumf (segN A) (broadcast S1024 (Scalar.ofBits .f32 0x3F800000#32)))) (broadcast S1024 (Scalar.ofBits .f32 0x00000000#32))
/-- The potential energy. -/
def segPe : FVec F S1024 .f32 :=
  divf (mulf (mulf (broadcast S1024 (Scalar.ofBits .f32 0x3193D0CB#32)) (mass P)) (mass P))
    (maximumf (meanR A) (broadcast S1024 (Scalar.ofBits .f32 0x358637BD#32)))
/-- The virial ratio. -/
def ratio : FVec F S1024 .f32 :=
  divf (mulf (broadcast S1024 (Scalar.ofBits .f32 0x40000000#32)) (segKe A)) (maximumf (segPe P A) (broadcast S1024 (Scalar.ofBits .f32 0x2EDBE6FF#32)))
/-- The sum of the elements. -/
def total (x : FVec F S1024 .f32) : F .f32 :=
  extractAt ![0, 0] (shapeCast S1x1 (multiReduction .add [1] S1 (shapeCast S1x1024 x shapeCasts_S1024_S1x1024) 0x00000000#32 reduces_S1x1024_S1 (.inl rfl) rfl)
    shapeCasts_S1_S1x1) inpos_S1x1_p0_0
/-- Their mean. -/
def mean (x : FVec F S1024 .f32) : F .f32 := Scalar.divf (total x) (Scalar.ofBits .f32 0x44800000#32)
def sq (x : FVec F S1024 .f32) : FVec F S1024 .f32 := mulf x x
/-- The six results. -/
def res : Fin 6 → F .f32
  | 0 => mean (sq (subf (ratio P A) (broadcast S1024 (Scalar.ofBits .f32 0x3F800000#32))))
  | 1 => mean (sq (subf (ratio P A) (broadcast S1024 (Scalar.ofBits .f32 0x3F800000#32))))
  | 2 => mean (ratio P A)
  | 3 => Scalar.sqrt (Scalar.divf (total (sq (subf (ratio P A) (broadcast S1024 (mean (ratio P A)))))) (Scalar.ofBits .f32 0x447FC000#32))
  | 4 => mean (segKe A)
  | 5 => mean (segPe P A)

end Val

/-! ## Its run -/

/-- A rectangle that is all of an array leaves the indices alone. -/
theorem unit_emb {s : Shape} (o : Fin s.rank → Nat) (h : ∀ a, o a + s.size a ≤ s.size a) (x : s.Idx) :
    (Rect.unit (s := s) o s.size h).emb x = x := by
  funext a
  refine Fin.ext ?_
  have := h a
  show o a + 1 * (x a).val = (x a).val
  omega

theorem putRect_unit {s : Shape} {e : EltTy} (X : s.Idx → Elt F e) (o : Fin s.rank → Nat) (h : ∀ a, o a + s.size a ≤ s.size a)
    (w : s.Idx → Elt F e) (x : s.Idx) : putRect X (Rect.unit (s := s) o s.size h) w x = w x := by
  conv_lhs => rw [← unit_emb o h x]
  exact putRect_emb _ _ _

variable (d : Dev nD) (M0 : Memref sig .tc .vmem S1024 .f32) (M1 : Memref sig .tc .vmem S32x3072 .f32) (M2 M3 M4 M5 M6 M7 : Memref sig .tc .smem S1x1 .f32)

/-- A one-element array loaded and then stored to. -/
theorem wp_put {α : Type} (M : Memref sig .tc .smem S1x1 .f32) (Y : S1x1.Idx → F .f32) (w : F .f32) (k : PUnit → Prog (TpuEff nD τ sig (Elt F) Λ₀ .tc) α) (Φ : α → sProp 𝕄) :
    iprop(Holds (F := F) (e := .f32) (T d) M Finset.univ Y
        ∗ (Holds (F := F) (e := .f32) (T d) M Finset.univ (fun _ => w) -∗ wp frame (wpE (defs₀ (F := F)) 𝒱₀ (T d) none) Set.univ (k ⟨⟩) Φ))
      ⊢ wp frame (wpE (defs₀ (F := F)) 𝒱₀ (T d) none) Set.univ
          (smemLoad M (Rect.unit (s := S1x1) ![0, 0] S1x1.size inb_S1x1_S1x1_0_0) numel1_S1x1 rfl >>= fun _ =>
            .op (.store M (Rect.unit (s := S1x1) ![0, 0] S1x1.size inb_S1x1_S1x1_0_0) (fun _ => w) Finset.univ (View.stores_smem_one rfl numel1_S1x1) (.inl rfl)) k) Φ := by
  iintro ⟨HM, Hk⟩
  unfold smemLoad smemLoadElt
  simp only [Prog.bind_op, Prog.bind_ret]
  iapply (holds_load (F := F) (T d) (a := M) (H := Finset.univ) (X := Y) (Finset.subset_univ _)) $$ HM
  iintro HM
  iapply (holds_store (F := F) (T d) (a := M) (H := Finset.univ) (X := Y) (Finset.subset_univ _)) $$ HM
  iintro HM
  ihave HM' := (Holds.congr (F := F) (e := .f32) (T d) (X' := fun _ => w) fun x _ => putRect_unit (F := F) (e := .f32) Y _ _ _ x) $$ HM
  iapply Hk
  iexact HM'

theorem wp_fin (h0 : M0.IsWhole) (h1 : M1.IsWhole) (h2 : M2.IsWhole) (h3 : M3.IsWhole) (h4 : M4.IsWhole) (h5 : M5.IsWhole) (h6 : M6.IsWhole) (h7 : M7.IsWhole)
    (X0 : S1024.Idx → F .f32) (X1 : S32x3072.Idx → F .f32) (Y2 Y3 Y4 Y5 Y6 Y7 : S1x1.Idx → F .f32) (Φ : PUnit → sProp 𝕄) :
    iprop(Holds (F := F) (e := .f32) (T d) M0 Finset.univ X0 ∗ Holds (F := F) (e := .f32) (T d) M1 Finset.univ X1
        ∗ Holds (F := F) (e := .f32) (T d) M2 Finset.univ Y2 ∗ Holds (F := F) (e := .f32) (T d) M3 Finset.univ Y3
        ∗ Holds (F := F) (e := .f32) (T d) M4 Finset.univ Y4 ∗ Holds (F := F) (e := .f32) (T d) M5 Finset.univ Y5
        ∗ Holds (F := F) (e := .f32) (T d) M6 Finset.univ Y6 ∗ Holds (F := F) (e := .f32) (T d) M7 Finset.univ Y7
        ∗ (Holds (F := F) (e := .f32) (T d) M0 Finset.univ X0 -∗ Holds (F := F) (e := .f32) (T d) M1 Finset.univ X1
          -∗ Holds (F := F) (e := .f32) (T d) M2 Finset.univ (fun _ => res X0 X1 0) -∗ Holds (F := F) (e := .f32) (T d) M3 Finset.univ (fun _ => res X0 X1 1)
          -∗ Holds (F := F) (e := .f32) (T d) M4 Finset.univ (fun _ => res X0 X1 2) -∗ Holds (F := F) (e := .f32) (T d) M5 Finset.univ (fun _ => res X0 X1 3)
          -∗ Holds (F := F) (e := .f32) (T d) M6 Finset.univ (fun _ => res X0 X1 4) -∗ Holds (F := F) (e := .f32) (T d) M7 Finset.univ (fun _ => res X0 X1 5)
          -∗ Φ ⟨⟩))
      ⊢ wp frame (wpE (defs₀ (F := F)) 𝒱₀ (T d) none) Set.univ (cc1__fin_body M0 h0 M1 h1 M2 h2 M3 h3 M4 h4 M5 h5 M6 h6 M7 h7) Φ := by
  unfold cc1__fin_body k1_part1
  simp only [Prog.lift, Prog.bind_op, Prog.bind_ret, Prog.pure_eq_ret]
  iintro ⟨H0, H1, H2, H3, H4, H5, H6, H7, Hk⟩
  iapply (holds_load (F := F) (T d) (a := M1) (H := Finset.univ) (X := X1) (Finset.subset_univ _)) $$ H1
  iintro H1
  iapply (holds_load (F := F) (T d) (a := M0) (H := Finset.univ) (X := X0) (Finset.subset_univ _)) $$ H0
  iintro H0
  have e1 : (fun x => X1 ((Rect.unit (s := S32x3072) ![0, 0] S32x3072.size inb_S32x3072_S32x3072_0_0).emb x)) = X1 :=
    funext fun x => congrArg X1 (unit_emb _ _ x)
  have e0 : (fun x => X0 ((Rect.unit (s := S1024) ![0] S1024.size inb_S1024_S1024_0).emb x)) = X0 :=
    funext fun x => congrArg X0 (unit_emb _ _ x)
  rw [e0, e1]
  iapply (wp_put d M2 Y2 (res X0 X1 0))
  isplitl [H2]; · iexact H2
  iintro H2
  iapply (wp_put d M3 Y3 (res X0 X1 1))
  isplitl [H3]; · iexact H3
  iintro H3
  iapply (wp_put d M4 Y4 (res X0 X1 2))
  isplitl [H4]; · iexact H4
  iintro H4
  iapply (wp_put d M5 Y5 (res X0 X1 3))
  isplitl [H5]; · iexact H5
  iintro H5
  iapply (wp_put d M6 Y6 (res X0 X1 4))
  isplitl [H6]; · iexact H6
  iintro H6
  iapply (wp_put d M7 Y7 (res X0 X1 5))
  isplitl [H7]; · iexact H7
  iintro H7
  rw [wp_ret]
  imodintro
  iapply Hk $$ H0 H1 H2 H3 H4 H5 H6 H7

end Cert.Proof
-- ==== Proof.Segs.lean ====
module
public import proofs.«01_k».proof.Proof.Totals
public import proofs.«01_k».proof.Proof.FinBody
public import proofs.«01_k».proof.Proof.Gen.ReferenceIdeal.Run
public import Idealize.ShloMosaic.Lib.ValueIdxRank1
public import Idealize.ShloMosaic.Lib.Routing.OpsPair

/-! The three segment sums: the sums over the subcores' results are the reference's scattered sums. -/

@[expose] public section

noncomputable section

namespace Cert.Proof

open Idealize.ShloMosaic Idealize.SL.Sem
open Finset (range)

section Kern
open Cert.KernelIdeal Cert.KernelIdeal.Facts₀ Cert.KernelIdeal.Facts

/-! ## The kernel's -/

theorem gix_self (k : S6400000.Idx) : gix (k 0).val = k := by
  funext a
  obtain rfl := Fin.eq_zero a
  exact Fin.ext (Nat.mod_eq_of_lt (k 0).isLt)

/-- A sum over a long array's indices is a sum over their numbers. -/
theorem sum_long (f : S6400000.Idx → EReal) : (∑ k : S6400000.Idx, f k) = ∑ e ∈ range 6400000, f (gix e) := by
  rw [Finset.sum_range]
  exact Fintype.sum_equiv (ValueIdx.idxEquiv1 (n := 6400000)) _ _ fun k => congrArg f (gix_self k).symm

section
variable (M V R : S6400000.Idx → Ideal .f32) (S : S6400000.Idx → BitVec 32)
variable (hS : ∀ x, (S x).toNat < 1024) (hm : ∀ a b : ℕ, a ≤ b → b < 6400000 → (S (gix a)).toNat ≤ (S (gix b)).toNat)
include hS hm

/-- A column of the subcores' results added up is that column's sum over all stars. -/
theorem colSum_at (j : S3072.Idx) : (colSum (F := Ideal) (partVal M V R S) j : EReal) = ∑ e ∈ range 6400000, elt M V R S e (j 0).val := by
  unfold colSum
  refine (Ideal.multiReduction_add_single _ _ _ _ _ j).trans ?_
  refine Eq.trans ?_ ((Finset.sum_range fun w => (rowVal M V R S w (j 0).val : EReal)).symm.trans (all_tot M V R S hS hm (j 0).val (j 0).isLt 32 le_rfl))
  refine Finset.sum_congr rfl fun k _ => ?_
  unfold shapeCast
  rw [Shape.reshapeEquiv_self]
  rfl

/-- The kinetic energies, -/
theorem segKe_at (i : S1024.Idx) : (segKe (F := Ideal) (partVal M V R S) i : EReal) = ∑ e ∈ range 6400000, if (S (gix e)).toNat = (i 0).val then keAt M V e else 0 := by
  have hi : (i 0).val < 1024 := (i 0).isLt
  refine (colSum_at M V R S hS hm _).trans (Finset.sum_congr rfl fun e _ => ?_)
  have h := hS (gix e)
  show elt M V R S e (0 + (i 0).val) = _
  unfold elt putc
  rw [zero_add, if_neg (show ¬ 1024 + (S (gix e)).toNat = (i 0).val by omega), if_neg (show ¬ 2048 + (S (gix e)).toNat = (i 0).val by omega), add_zero, add_zero]
/-- the radii -/
theorem segR_at (i : S1024.Idx) : (segR (F := Ideal) (partVal M V R S) i : EReal) = ∑ e ∈ range 6400000, if (S (gix e)).toNat = (i 0).val then R (gix e) else 0 := by
  have hi : (i 0).val < 1024 := (i 0).isLt
  refine (colSum_at M V R S hS hm _).trans (Finset.sum_congr rfl fun e _ => ?_)
  have h := hS (gix e)
  show elt M V R S e (1024 + (i 0).val) = _
  unfold elt putc
  rw [if_neg (show ¬ (S (gix e)).toNat = 1024 + (i 0).val by omega), if_neg (show ¬ 2048 + (S (gix e)).toNat = 1024 + (i 0).val by omega), zero_add, add_zero]
  exact if_congr (by omega) rfl rfl
/-- and the numbers of stars of the segments, each as a sum over all stars. -/
theorem segN_at (i : S1024.Idx) : (segN (F := Ideal) (partVal M V R S) i : EReal) = ∑ e ∈ range 6400000, if (S (gix e)).toNat = (i 0).val then 1 else 0 := by
  have hi : (i 0).val < 1024 := (i 0).isLt
  refine (colSum_at M V R S hS hm _).trans (Finset.sum_congr rfl fun e _ => ?_)
  have h := hS (gix e)
  show elt M V R S e (2048 + (i 0).val) = _
  unfold elt putc
  rw [if_neg (show ¬ (S (gix e)).toNat = 2048 + (i 0).val by omega), if_neg (show ¬ 1024 + (S (gix e)).toNat = 2048 + (i 0).val by omega), zero_add, zero_add]
  exact if_congr (by omega) rfl rfl

end

end Kern

/-! ## The reference's -/

/-- A scattered sum at an element. -/
theorem scatterAdd_at {s si su : Shape} (d : ScatterDims s si su) (x : FVec Ideal s .f32) (idx : IVec si 32) (u : FVec Ideal su .f32) (i : s.Idx) :
    (Host.scatterAdd d x idx u i : EReal) = x i + ∑ j ∈ Finset.univ.filter (fun j => d.resultIdx? j idx = some i), (u j : EReal) := rfl

namespace Ref
open Cert.ReferenceIdeal Cert.ReferenceIdeal.Facts₀ Cert.ReferenceIdeal.Facts

/-- One number at every segment. -/
def bc (b : BitVec 32) : FVec Ideal S1024 .f32 := broadcastInDim S1024 ![] bcast_S_S1024 (constant S_ .f32 b)
/-- One number at every star. -/
def bcLong (b : BitVec 32) : FVec Ideal S6400000 .f32 := broadcastInDim S6400000 ![] bcast_S_S6400000 (constant S_ .f32 b)
/-- The stars' values added up by segment. -/
def seg (S : IVec S6400000 32) (u : FVec Ideal S6400000 .f32) : FVec Ideal S1024 .f32 :=
  Host.scatterAdd scatter_S1024_S6400000x1_S6400000_n_0_0_1 (bc 0x00000000#32) (broadcastInDim S6400000x1 ![0] bcast_S6400000_S6400000x1_0 S) u

/-- A star's value goes to the segment its word names. -/
theorem lands (S : IVec S6400000 32) (k : S6400000.Idx) (hk : (S k).toNat < 1024) (i : S1024.Idx) :
    scatter_S1024_S6400000x1_S6400000_n_0_0_1.resultIdx? k (broadcastInDim S6400000x1 ![0] bcast_S6400000_S6400000x1_0 S) = some i ↔ (S k).toNat = (i 0).val := by
  have hm : (0 : Fin 1) ∈ scatter_S1024_S6400000x1_S6400000_n_0_0_1.scatterDimsToOperandDims := List.mem_singleton.2 rfl
  have hwin : scatter_S1024_S6400000x1_S6400000_n_0_0_1.window k 0 = 0 := by
    unfold ScatterDims.window
    rw [dif_neg fun h => (of_decide_eq_true (List.mem_filter.1 h).2) (List.mem_singleton.2 rfl)]
  have hstart : scatter_S1024_S6400000x1_S6400000_n_0_0_1.start k (broadcastInDim S6400000x1 ![0] bcast_S6400000_S6400000x1_0 S) 0 = (S k).toInt := by
    unfold ScatterDims.start
    rw [dif_pos hm]
    unfold broadcastInDim
    congr 2
    funext a
    obtain rfl := Fin.eq_zero a
    rfl
  have hint : (S k).toInt = ((S k).toNat : ℤ) := BitVec.toInt_eq_toNat_of_lt (by omega)
  rw [Routing.resultIdx?_eq_some]
  constructor
  · intro h
    have := h 0
    rw [hstart, hwin, hint] at this
    have e : ((S k).toNat : ℤ) = ((i 0).val : ℤ) := by simpa using this
    exact_mod_cast e
  · intro h a
    obtain rfl := Fin.eq_zero a
    rw [hstart, hwin, hint, h]
    simp

/-- So a segment's sum is the sum over the stars whose word names it. -/
theorem seg_at (S : IVec S6400000 32) (hS : ∀ x, (S x).toNat < 1024) (u : FVec Ideal S6400000 .f32) (i : S1024.Idx) :
    (seg S u i : EReal) = ∑ e ∈ range 6400000, if (S (gix e)).toNat = (i 0).val then (u (gix e) : EReal) else 0 := by
  unfold seg
  rw [scatterAdd_at]
  rw [show (bc 0x00000000#32 i : EReal) = 0 from Ideal.ofBits_zero_f32]
  rw [zero_add, Finset.sum_filter, sum_long]
  exact Finset.sum_congr rfl fun e _ => if_congr (lands S _ (hS _) i) rfl rfl

end Ref

section
open Cert.KernelIdeal (S6400000)
variable (M V R : S6400000.Idx → Ideal .f32) (S : S6400000.Idx → BitVec 32)
variable (hS : ∀ x, (S x).toNat < 1024) (hm : ∀ a b : ℕ, a ≤ b → b < 6400000 → (S (gix a)).toNat ≤ (S (gix b)).toNat)
include hS hm

/-- The kinetic energies, -/
theorem segKe_eq : segKe (F := Ideal) (partVal M V R S) = Ref.seg S (mulf (mulf (Ref.bcLong 0x3F000000#32) M) (mulf V V)) := by
  have key : ∀ e, ((mulf (mulf (Ref.bcLong 0x3F000000#32) M) (mulf V V) : FVec Ideal S6400000 .f32) (gix e) : EReal) = keAt M V e := fun e => rfl
  funext i
  rw [segKe_at M V R S hS hm i, Ref.seg_at S hS _ i]
  exact Finset.sum_congr rfl fun e _ => if_congr Iff.rfl (key e).symm rfl
/-- the radii -/
theorem segR_eq : segR (F := Ideal) (partVal M V R S) = Ref.seg S R :=
  funext fun i => (segR_at M V R S hS hm i).trans (Eq.trans (Finset.sum_congr rfl fun _ _ => if_congr Iff.rfl rfl rfl) (Ref.seg_at S hS _ i).symm)
/-- and the numbers of stars are the reference's. -/
theorem segN_eq : segN (F := Ideal) (partVal M V R S) = Ref.seg S (Ref.bcLong 0x3F800000#32) := by
  funext i
  refine (segN_at M V R S hS hm i).trans (Eq.trans (Finset.sum_congr rfl fun e _ => ?_) (Ref.seg_at S hS _ i).symm)
  exact if_congr Iff.rfl Ideal.ofBits_one_f32.symm rfl

end

end Cert.Proof

end
-- ==== Proof.Region.lean ====
module
public import proofs.«01_k».proof.Proof.FinBody
public import proofs.«01_k».proof.Proof.Gen.KernelIdeal.Points
public import Idealize.ShloMosaic.Lib.Pipeline.RegionsLoop
public import Idealize.ShloMosaic.Lib.Pipeline.ValueKit.Geometry

/-! The TensorCore region: entered from every array at a valuation, left at the valuation updated at the region's six results. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)
open Idealize.ShloMosaic.TcCoe
open Cert.KernelIdeal.Gen (t1_0 fin_N1 N_1 bigSep_W1 st1_0 st1_1 st1_2 st1_3 st1_4 st1_5 st1_6 st1_7 launch1 cellOf_inj flush1_2 flush1_3 flush1_4 flush1_5 flush1_6 flush1_7)

variable {F : FTy → Type} [FloatOps F] [Named F]

local notation "𝕄" => MT nD τ sig (HIx 1) (Elt F) ℕ UU ℕ

/-- What is owned whole at contents is held at them. -/
theorem owns_holds (c : Thread nD τ) {sp : Space} {s : Shape} {e : EltTy} (M : Memref sig c.2.kind sp s e) (X : s.Idx → Elt F e) :
    (owns c M fullShare X : sProp 𝕄) ⊢ Holds (F := F) c M Finset.univ X := by
  unfold owns Holds
  rw [View.setOn_univ]
  iintro ⟨%f, %hf, Hf⟩
  iexists f
  isplitr
  · ipureintro; exact fun x _ => congrFun hf x
  · iexact Hf

theorem holds_owns (c : Thread nD τ) {sp : Space} {s : Shape} {e : EltTy} (M : Memref sig c.2.kind sp s e) (X : s.Idx → Elt F e) :
    Holds (F := F) c M Finset.univ X ⊢ (owns c M fullShare X : sProp 𝕄) := by
  unfold owns Holds
  rw [View.setOn_univ]
  iintro ⟨%f, %hf, Hf⟩
  iexists f
  isplitr
  · ipureintro; exact funext fun x => hf x (Finset.mem_univ x)
  · iexact Hf

variable (V : (c : Dev nD) → (b : Ref sig .tc) → Buf (Elt F) ((c : Thread nD τ).loc b))

/-- The blocks the region fetches. -/
abbrev stg0 (c : Dev nD) : S1024.Idx → F .f32 := ((cfg1.win 0).blk t1_0).view.read (Elt F) (V c main_arg0)
abbrev stg1 (c : Dev nD) : S32x3072.Idx → F .f32 := ((cfg1.win 1).blk t1_0).view.read (Elt F) (V c main_v0)

/-- The scoped buffers no window stages. -/
abbrev Φc (c : Dev nD) : sProp 𝕄 := Pipeline.scopedRest (Ix := HIx 1) (Name := ℕ) (U := UU) (Lvl := ℕ) (Val := Elt F) spec1 c

/-- The waits recorded before the region. -/
def recs (c : Dev nD) : Set (SemLoc sig × HIx 1) := {p | (K (F := F)).lev ((c : Thread nD τ), p.1) p.2 ≤ 8}

/-- The region's proof data from a valuation. -/
def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => fun _ => res (stg0 V c) (stg1 V c) 0
    | ⟨3, _⟩ => fun _ => res (stg0 V c) (stg1 V c) 1
    | ⟨4, _⟩ => fun _ => res (stg0 V c) (stg1 V c) 2
    | ⟨5, _⟩ => fun _ => res (stg0 V c) (stg1 V c) 3
    | ⟨6, _⟩ => fun _ => res (stg0 V c) (stg1 V c) 4
    | ⟨7, _⟩ => fun _ => res (stg0 V c) (stg1 V c) 5
  Φ _ := Φc c
  q _ := fullShare
  owed _ := 0
  recorded _ := recs (F := F) c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before0 (c : Dev nD) (d : (cfg1.win 0).block.Idx → Elt F (cfg1.win 0).elt) : (dat V c).before 0 t1_0 d = stg0 V c := by
  unfold Dat.before; rw [if_pos (by decide)]; rfl
theorem before1 (c : Dev nD) (d : (cfg1.win 1).block.Idx → Elt F (cfg1.win 1).elt) : (dat V c).before 1 t1_0 d = stg1 V c := by
  unfold Dat.before; rw [if_pos (by decide)]; rfl

theorem body_obligation (c : Dev nD) : BodyObligation (dat V c) (defs₀ (F := F)) 𝒱₀ (none : HIx 1) Set.univ := fun t => by
  obtain rfl := fin_N1 t
  rw [bigSep_W1, bigSep_W1]
  rw [show (dat V c).Φ t1_0.castSucc = Φc c from rfl, show (dat V c).Φ t1_0.succ = Φc c from rfl,
    show (dat V c).owesAt none t1_0.succ = (dat V c).owesAt none t1_0.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before0, before1]
  ihave H0 := (owns_holds (T c) _ _) $$ H0
  ihave H1 := (owns_holds (T c) _ _) $$ H1
  ihave H2 := (owns_holds (T c) _ _) $$ H2
  ihave H3 := (owns_holds (T c) _ _) $$ H3
  ihave H4 := (owns_holds (T c) _ _) $$ H4
  ihave H5 := (owns_holds (T c) _ _) $$ H5
  ihave H6 := (owns_holds (T c) _ _) $$ H6
  ihave H7 := (owns_holds (T c) _ _) $$ H7
  iapply (wp_fin c (st1_0 t1_0) (st1_1 t1_0) (st1_2 t1_0) (st1_3 t1_0) (st1_4 t1_0) (st1_5 t1_0) (st1_6 t1_0) (st1_7 t1_0)
    (hstage1_0 0) (hstage1_1 0) (hstage1_2 0) (hstage1_3 0) (hstage1_4 0) (hstage1_5 0) (hstage1_6 0) (hstage1_7 0)
    (stg0 V c) (stg1 V c) _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro H0 H1 H2 H3 H4 H5 H6 H7
  isplitl [HΦ]; · iexact HΦ
  isplitl [Howes]; · iexact Howes
  isplitl [H0]; · iapply (holds_owns (T c) (st1_0 t1_0) (stg0 V c)); iexact H0
  isplitl [H1]; · iapply (holds_owns (T c) (st1_1 t1_0) (stg1 V c)); iexact H1
  isplitl [H2]; · iapply (holds_owns (T c) (st1_2 t1_0) _); iexact H2
  isplitl [H3]; · iapply (holds_owns (T c) (st1_3 t1_0) _); iexact H3
  isplitl [H4]; · iapply (holds_owns (T c) (st1_4 t1_0) _); iexact H4
  isplitl [H5]; · iapply (holds_owns (T c) (st1_5 t1_0) _); iexact H5
  isplitl [H6]; · iapply (holds_owns (T c) (st1_6 t1_0) _); iexact H6
  iapply (holds_owns (T c) (st1_7 t1_0) _); iexact H7

/-! ## The region -/

theorem stg0_eq (c : Dev nD) : stg0 V c = V c main_arg0 := by
  funext x
  show V c main_arg0 (((cfg1.win 0).blk t1_0).view.emb x) = V c main_arg0 x
  congr 1
  funext a
  refine Fin.ext ?_
  match a with
  | 0 => show 0 * 1024 + 1 * (x 0).val = (x 0).val; omega

theorem stg1_eq (c : Dev nD) : stg1 V c = V c main_v0 := by
  funext x
  show V c main_v0 (((cfg1.win 1).blk t1_0).view.emb x) = V c main_v0 x
  congr 1
  funext a
  refine Fin.ext ?_
  match a with
  | 0 => show 0 * 32 + 1 * (x 0).val = (x 0).val; omega
  | 1 => show 0 * 3072 + 1 * (x 1).val = (x 1).val; omega

/-- The six arrays after the region. -/
theorem arrAt2 (c : Dev nD) : (dat V c).arrAt 2 cfg1.N = fun _ => res (V c main_arg0) (V c main_v0) 0 := by
  rw [← stg0_eq V c, ← stg1_eq V c]
  exact Dat.arrAt_eq_of_after_last (dat V c) 2 t1_0 (by decide) _ fun j => cast_eq _ _
theorem arrAt3 (c : Dev nD) : (dat V c).arrAt 3 cfg1.N = fun _ => res (V c main_arg0) (V c main_v0) 1 := by
  rw [← stg0_eq V c, ← stg1_eq V c]
  exact Dat.arrAt_eq_of_after_last (dat V c) 3 t1_0 (by decide) _ fun j => cast_eq _ _
theorem arrAt4 (c : Dev nD) : (dat V c).arrAt 4 cfg1.N = fun _ => res (V c main_arg0) (V c main_v0) 2 := by
  rw [← stg0_eq V c, ← stg1_eq V c]
  exact Dat.arrAt_eq_of_after_last (dat V c) 4 t1_0 (by decide) _ fun j => cast_eq _ _
theorem arrAt5 (c : Dev nD) : (dat V c).arrAt 5 cfg1.N = fun _ => res (V c main_arg0) (V c main_v0) 3 := by
  rw [← stg0_eq V c, ← stg1_eq V c]
  exact Dat.arrAt_eq_of_after_last (dat V c) 5 t1_0 (by decide) _ fun j => cast_eq _ _
theorem arrAt6 (c : Dev nD) : (dat V c).arrAt 6 cfg1.N = fun _ => res (V c main_arg0) (V c main_v0) 4 := by
  rw [← stg0_eq V c, ← stg1_eq V c]
  exact Dat.arrAt_eq_of_after_last (dat V c) 6 t1_0 (by decide) _ fun j => cast_eq _ _
theorem arrAt7 (c : Dev nD) : (dat V c).arrAt 7 cfg1.N = fun _ => res (V c main_arg0) (V c main_v0) 5 := by
  rw [← stg0_eq V c, ← stg1_eq V c]
  exact Dat.arrAt_eq_of_after_last (dat V c) 7 t1_0 (by decide) _ fun j => cast_eq _ _

/-- What the TensorCore's thread has recorded and owes, outside the region. -/
def Idle (c : Dev nD) : sProp 𝕄 :=
  iprop(∃ W, ⌜∀ p ∈ W, (K (F := F)).lev ((c : Thread nD τ), p.1) p.2 ≤ 8⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The region, from every array at `V` to every array at `Vp`. -/
def reg (h2 : ∀ c, Vp c main_v1_0 = fun _ => res (V c main_arg0) (V c main_v0) 0) (h3 : ∀ c, Vp c main_v1_1 = fun _ => res (V c main_arg0) (V c main_v0) 1)
    (h4 : ∀ c, Vp c main_v1_2 = fun _ => res (V c main_arg0) (V c main_v0) 2) (h5 : ∀ c, Vp c main_v1_3 = fun _ => res (V c main_arg0) (V c main_v0) 3)
    (h6 : ∀ c, Vp c main_v1_4 = fun _ => res (V c main_arg0) (V c main_v0) 4) (h7 : ∀ c, Vp c main_v1_5 = fun _ => res (V c main_arg0) (V c main_v0) 5)
    (hne : ∀ c (b : Ref sig .tc), b ∉ ([main_v1_0, main_v1_1, main_v1_2, main_v1_3, main_v1_4, main_v1_5] : List (Ref sig .tc)) → Vp c b = V c b) :
    Pipeline.RegionSeg (pcfgs (F := F)) adm (pdats V adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ Idle c)
  post c := iprop(unscopedBufs c (Vp c) ∗ Idle c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    unfold Idle
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hne c main_arg0 (by decide)).symm
        · exact ((pdats V adm 0 c).arrAt_in 1 rfl _).trans (hne c main_v0 (by decide)).symm
        · exact (arrAt2 V c).trans (h2 c).symm
        · exact (arrAt3 V c).trans (h3 c).symm
        · exact (arrAt4 V c).trans (h4 c).symm
        · exact (arrAt5 V c).trans (h5 c).symm
        · exact (arrAt6 V c).trans (h6 c).symm
        · exact (arrAt7 V c).trans (h7 c).symm)
      (fun b hb => hne c b fun h => hb (by
        simp only [List.mem_cons, List.not_mem_nil, _root_.or_false] at h
        rcases h with rfl | rfl | rfl | rfl | rfl | rfl
        · exact Finset.mem_image.mpr ⟨2, Finset.mem_univ _, rfl⟩
        · exact Finset.mem_image.mpr ⟨3, Finset.mem_univ _, rfl⟩
        · exact Finset.mem_image.mpr ⟨4, Finset.mem_univ _, rfl⟩
        · exact Finset.mem_image.mpr ⟨5, Finset.mem_univ _, rfl⟩
        · exact Finset.mem_image.mpr ⟨6, Finset.mem_univ _, rfl⟩
        · exact Finset.mem_image.mpr ⟨7, Finset.mem_univ _, rfl⟩))
    unfold Idle
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof
-- ==== Proof.Task.lean ====
module
public import proofs.«01_k».proof.Proof.Launch

/-! Each vector subcore's run, as the launch asks for it. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

section Own

variable (d : Dev nD) (L : grid0.Coords)

/-- A semaphore of the subcore, as a cell. -/
abbrev cellOf' (s : DmaSems sig S_) : GSem nD τ sig := (thr d L, .dma s.sem)

theorem ownSems0_thr :
    (ownSems0 (thr d L) : sProp 𝕄)
      = iprop(semVal (cellOf' d L cc0_scratch6) 0 ∗ semVal (cellOf' d L cc0_scratch7) 0 ∗ semVal (cellOf' d L cc0_scoped0) 0
          ∗ bigSep ((((ownCells (thr d L)).erase (cellOf' d L cc0_scratch6)).erase (cellOf' d L cc0_scratch7)).erase (cellOf' d L cc0_scoped0))
              fun g => semVal g 0) := by
  unfold SparseCore.Cfg.ownSems0
  rw [SparseCore.bigSep_erase' ((mem_ownCells (g := cellOf' d L cc0_scratch6)).mpr ⟨rfl, by
      show (SemLoc.dma cc0_scratch6.sem : SemLoc sig).isScoped .scVector = true; decide⟩),
    SparseCore.bigSep_erase' (Finset.mem_erase.mpr ⟨by simp [cellOf']; decide, (mem_ownCells (g := cellOf' d L cc0_scratch7)).mpr ⟨rfl, by
      show (SemLoc.dma cc0_scratch7.sem : SemLoc sig).isScoped .scVector = true; decide⟩⟩),
    SparseCore.bigSep_erase' (Finset.mem_erase.mpr ⟨by simp [cellOf']; decide, Finset.mem_erase.mpr ⟨by simp [cellOf']; decide,
      (mem_ownCells (g := cellOf' d L cc0_scoped0)).mpr ⟨rfl, by show (SemLoc.dma cc0_scoped0.sem : SemLoc sig).isScoped .scVector = true; decide⟩⟩⟩)]

/-- The processor of the subcore. -/
abbrev procV : Proc τ := Proc.scVector ((L 0).castLE hcore0) ((L 1).castLE hsub0)

theorem scr_mem (b : Ref sig .scVector) (h : ((procV L).devRef b).owner = .proc (procV L)) : (procV L).devRef b ∈ ownRefs (τ := τ) (procV L) :=
  SparseCore.Cfg.mem_ownRefs_of_owner (p := procV L) h

theorem scr_ne {a b : Ref sig .scVector} (h : a ≠ b) : (procV L).devRef a ≠ (procV L).devRef b :=
  fun e => absurd (Proc.devRef_injective _ e) h

theorem ownBufs_thr :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ bigSep (((((((ownRefs (τ := τ) (procV L)).erase ((procV L).devRef cc0_scratch0)).erase ((procV L).devRef cc0_scratch1)).erase
              ((procV L).devRef cc0_scratch2)).erase ((procV L).devRef cc0_scratch3)).erase ((procV L).devRef cc0_scratch4)).erase ((procV L).devRef cc0_scratch5))
              fun b => iprop(∃ f, ((d, b) : Loc nD τ sig) ↦{fullShare} f)) := by
  unfold SparseCore.Cfg.ownBufs
  refine (SparseCore.bigSep_erase' (scr_mem L cc0_scratch0 rfl)).trans ?_
  rw [SparseCore.bigSep_erase' (Finset.mem_erase.mpr ⟨scr_ne L (show (cc0_scratch1 : Ref sig .scVector) ≠ cc0_scratch0 by decide), scr_mem L cc0_scratch1 rfl⟩),
    SparseCore.bigSep_erase' (Finset.mem_erase.mpr ⟨scr_ne L (show (cc0_scratch2 : Ref sig .scVector) ≠ cc0_scratch1 by decide),
      Finset.mem_erase.mpr ⟨scr_ne L (show (cc0_scratch2 : Ref sig .scVector) ≠ cc0_scratch0 by decide), scr_mem L cc0_scratch2 rfl⟩⟩),
    SparseCore.bigSep_erase' (Finset.mem_erase.mpr ⟨scr_ne L (show (cc0_scratch3 : Ref sig .scVector) ≠ cc0_scratch2 by decide),
      Finset.mem_erase.mpr ⟨scr_ne L (show (cc0_scratch3 : Ref sig .scVector) ≠ cc0_scratch1 by decide),
      Finset.mem_erase.mpr ⟨scr_ne L (show (cc0_scratch3 : Ref sig .scVector) ≠ cc0_scratch0 by decide), scr_mem L cc0_scratch3 rfl⟩⟩⟩),
    SparseCore.bigSep_erase' (Finset.mem_erase.mpr ⟨scr_ne L (show (cc0_scratch4 : Ref sig .scVector) ≠ cc0_scratch3 by decide),
      Finset.mem_erase.mpr ⟨scr_ne L (show (cc0_scratch4 : Ref sig .scVector) ≠ cc0_scratch2 by decide),
      Finset.mem_erase.mpr ⟨scr_ne L (show (cc0_scratch4 : Ref sig .scVector) ≠ cc0_scratch1 by decide),
      Finset.mem_erase.mpr ⟨scr_ne L (show (cc0_scratch4 : Ref sig .scVector) ≠ cc0_scratch0 by decide), scr_mem L cc0_scratch4 rfl⟩⟩⟩⟩),
    SparseCore.bigSep_erase' (Finset.mem_erase.mpr ⟨scr_ne L (show (cc0_scratch5 : Ref sig .scVector) ≠ cc0_scratch4 by decide),
      Finset.mem_erase.mpr ⟨scr_ne L (show (cc0_scratch5 : Ref sig .scVector) ≠ cc0_scratch3 by decide),
      Finset.mem_erase.mpr ⟨scr_ne L (show (cc0_scratch5 : Ref sig .scVector) ≠ cc0_scratch2 by decide),
      Finset.mem_erase.mpr ⟨scr_ne L (show (cc0_scratch5 : Ref sig .scVector) ≠ cc0_scratch1 by decide),
      Finset.mem_erase.mpr ⟨scr_ne L (show (cc0_scratch5 : Ref sig .scVector) ≠ cc0_scratch0 by decide), scr_mem L cc0_scratch5 rfl⟩⟩⟩⟩⟩)]

end Own

section Task

variable (d : Dev nD) (L : grid0.Coords)

abbrev aV1 : Memref sig .scVector .hbm S6400000 .f32 := Memref.whole main_arg1_scv
abbrev aV2 : Memref sig .scVector .hbm S6400000 .f32 := Memref.whole main_arg2_scv
abbrev aV3 : Memref sig .scVector .hbm S6400000 .f32 := Memref.whole main_arg3_scv
abbrev aV4 : Memref sig .scVector .hbm S6400000 .i32 := Memref.whole main_arg4_scv
abbrev sV0 : Memref sig .scVector .vmem S8000 .f32 := Memref.whole cc0_scratch0
abbrev sV1 : Memref sig .scVector .vmem S8000 .f32 := Memref.whole cc0_scratch1
abbrev sV2 : Memref sig .scVector .vmem S8000 .f32 := Memref.whole cc0_scratch2
abbrev sV3 : Memref sig .scVector .vmem S8000 .i32 := Memref.whole cc0_scratch3
abbrev sV4 : Memref sig .scVector .vmem S49168 .f32 := Memref.whole cc0_scratch4
abbrev sV5 : Memref sig .scVector .vmem S3072 .f32 := Memref.whole cc0_scratch5

theorem args_toks (q : PosShare TreeShare) :
    Args m d q = Toks d L aV1 aV2 aV3 aV4 (m (aLoc d main_arg1)) (m (aLoc d main_arg2)) (m (aLoc d main_arg3)) (m (aLoc d main_arg4)) q := by
  unfold Args Toks
  simp only [Memref.view_whole, View.set_whole]

theorem scratch_of :
    iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f))
      ⊢ Scratch (F := F) d L sV0 sV1 sV2 sV3 sV4 sV5 := by
  unfold Scratch
  iintro ⟨H0, H1, H2, H3, H4, H5⟩
  isplitl [H0]
  · iapply (holds_open (F := F) (a := sV0) (thr d L) (by simp only [Memref.view_whole, View.set_whole])); iexact H0
  isplitl [H1]
  · iapply (holds_open (F := F) (a := sV1) (thr d L) (by simp only [Memref.view_whole, View.set_whole])); iexact H1
  isplitl [H2]
  · iapply (holds_open (F := F) (a := sV2) (thr d L) (by simp only [Memref.view_whole, View.set_whole])); iexact H2
  isplitl [H3]
  · iapply (holds_open (F := F) (a := sV3) (thr d L) (by simp only [Memref.view_whole, View.set_whole])); iexact H3
  isplitl [H4]
  · iapply (holds_open (F := F) (a := sV4) (thr d L) (by simp only [Memref.view_whole, View.set_whole])); iexact H4
  · iapply (holds_open (F := F) (a := sV5) (thr d L) (by simp only [Memref.view_whole, View.set_whole])); iexact H5

theorem of_scratch :
    Scratch (F := F) d L sV0 sV1 sV2 sV3 sV4 sV5 ⊢
    iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)) := by
  unfold Scratch
  iintro ⟨⟨%X0, H0⟩, ⟨%X1, H1⟩, ⟨%X2, H2⟩, ⟨%X3, H3⟩, ⟨%X4, H4⟩, ⟨%X5, H5⟩⟩
  isplitl [H0]
  · iapply (holds_close (F := F) (a := sV0) (thr d L) (by simp only [Memref.view_whole, View.set_whole]) X0); iexact H0
  isplitl [H1]
  · iapply (holds_close (F := F) (a := sV1) (thr d L) (by simp only [Memref.view_whole, View.set_whole]) X1); iexact H1
  isplitl [H2]
  · iapply (holds_close (F := F) (a := sV2) (thr d L) (by simp only [Memref.view_whole, View.set_whole]) X2); iexact H2
  isplitl [H3]
  · iapply (holds_close (F := F) (a := sV3) (thr d L) (by simp only [Memref.view_whole, View.set_whole]) X3); iexact H3
  isplitl [H4]
  · iapply (holds_close (F := F) (a := sV4) (thr d L) (by simp only [Memref.view_whole, View.set_whole]) X4); iexact H4
  · iapply (holds_close (F := F) (a := sV5) (thr d L) (by simp only [Memref.view_whole, View.set_whole]) X5); iexact H5

/-- A vector subcore's task, from what it is handed to what it hands back. -/
theorem tile_body (hF : (K (F := F)).Facts) (hpre : InRange m) (O : CellTallies nD τ sig (HIx 1)) (W : Waits sig (HIx 1)) (hO : ∀ g, O g none = 0) :
    iprop(levAts (K (F := F)).L (K (F := F)).lev ∗ emp ∗ goV m d L ∗ scopedBufs (thr d L) ∗ scopedSems0 (thr d L) ∗ owes (thr d L) O W)
      ⊢ wp frame (wpE (defs₀ (F := F)) 𝒱₀ (thr d L) none) Set.univ
          (cc0__sc_body L aV1 (Memref.isWhole_whole _) aV2 (Memref.isWhole_whole _) aV3 (Memref.isWhole_whole _) aV4 (Memref.isWhole_whole _)
            outV (Memref.isWhole_whole _) sV0 (Memref.isWhole_whole _) sV1 (Memref.isWhole_whole _) sV2 (Memref.isWhole_whole _)
            sV3 (Memref.isWhole_whole _) sV4 (Memref.isWhole_whole _) sV5 (Memref.isWhole_whole _) cc0_scratch6 cc0_scratch7 cc0_scoped0)
          fun _ => iprop(tdV m d L ∗ scopedBufs (thr d L) ∗ scopedSems0 (thr d L)
            ∗ ∃ W', ⌜∀ p ∈ W', p ∈ W ∨ p.2 = none⌝ ∗ owes (thr d L) O W') := by
  rw [sc_body_eq, (K (F := F)).scopedBufs_V hF d ((L 0).castLE hcore0) ((L 1).castLE hsub0),
    SparseCore.Cfg.scopedSems0_V (Val := Elt F) d ((L 0).castLE hcore0) ((L 1).castLE hsub0), ownSems0_thr, ownBufs_thr]
  unfold goV tdV
  rw [args_toks m d L, args_toks m d L]
  iintro ⟨#Hlv, -, ⟨HT0, HT1, Hrow⟩, ⟨Hb0, Hb1, Hb2, Hb3, Hb4, Hb5, Hbufs⟩, ⟨Hs6, Hs7, Hs8, Hsems⟩, HO⟩
  ihave Hmw := ((K (F := F)).mayWaits_none (thr := thr d L) hO) $$ Hlv
  ihave HSc := (scratch_of d L) $$ [Hb0 Hb1 Hb2 Hb3 Hb4 Hb5]
  · isplitl [Hb0]; · iexact Hb0
    isplitl [Hb1]; · iexact Hb1
    isplitl [Hb2]; · iexact Hb2
    isplitl [Hb3]; · iexact Hb3
    isplitl [Hb4]; · iexact Hb4
    iexact Hb5
  ihave HR := (row_open d L _) $$ Hrow
  iapply (wp_scBody d L sV0 sV1 sV2 sV3 sV4 aV1 aV2 aV3 aV4 outV sV5 (m (aLoc d main_arg1)) (m (aLoc d main_arg2)) (m (aLoc d main_arg3)) (m (aLoc d main_arg4))
    (valM m d) (valV m d) (valR m d) (valS m d) (fun _ => rfl) (fun _ => rfl) (fun _ => rfl) (fun _ => rfl) (hpre d) (Memref.isWhole_whole _)
    cc0_scratch6 cc0_scratch7 cc0_scoped0 (shareOf L 0) (shareOf L 1) O W)
  isplitl [HSc]; · iexact HSc
  isplitl [HT0]; · iexact HT0
  isplitl [HT1]; · iexact HT1
  isplitl [HR]; · iexact HR
  isplitl [Hs6]; · iexact Hs6
  isplitl [Hs7]; · iexact Hs7
  isplitl [Hs8]; · iexact Hs8
  isplitl [Hmw]; · iexact Hmw
  isplitl [HO]
  · unfold Ow
    iexists W
    isplitr
    · ipureintro; exact fun p hp => .inl hp
    · iexact HO
  iintro HSc HT0 HT1 HR Hs6 Hs7 Hs8 HO
  ihave Hrow := (row_close m d L) $$ HR
  ihave Hb := (of_scratch d L) $$ HSc
  icases Hb with ⟨Hb0, Hb1, Hb2, Hb3, Hb4, Hb5⟩
  isplitl [HT0 HT1 Hrow]
  · isplitl [HT0]; · iexact HT0
    isplitl [HT1]; · iexact HT1
    iexact Hrow
  isplitl [Hb0 Hb1 Hb2 Hb3 Hb4 Hb5 Hbufs]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hbufs
  isplitl [Hs6 Hs7 Hs8 Hsems]
  · isplitl [Hs6]; · iexact Hs6
    isplitl [Hs7]; · iexact Hs7
    isplitl [Hs8]; · iexact Hs8
    iexact Hsems
  iapply (show (Ow (F := F) (thr d L) O W : sProp 𝕄) ⊢ iprop(∃ W', ⌜∀ p ∈ W', p ∈ W ∨ p.2 = none⌝ ∗ owes (thr d L) O W') from .rfl)
  iexact HO

end Task

/-! ## The launch theorem's obligations -/

theorem defs₀_vector (c : Fin τ.nSC) (s : Fin τ.nSub) :
    defs₀ (F := F) (.scVector c s) 0 ()
      = SparseCore.onTile hcore0 hsub0 (fun c s => cc0__sc_body (coordsV c s) aV1 (Memref.isWhole_whole _) aV2 (Memref.isWhole_whole _) aV3 (Memref.isWhole_whole _) aV4 (Memref.isWhole_whole _)
            outV (Memref.isWhole_whole _) sV0 (Memref.isWhole_whole _) sV1 (Memref.isWhole_whole _) sV2 (Memref.isWhole_whole _)
            sV3 (Memref.isWhole_whole _) sV4 (Memref.isWhole_whole _) sV5 (Memref.isWhole_whole _) cc0_scratch6 cc0_scratch7 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hF : (K (F := F)).Facts) (hpre : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

theorem vecSplit : (K (F := F)).VecSplit' (P m) 0 := by
  intro d c
  show iprop(bigSep (Finset.univ : Finset (Fin 16)) fun i => goV m d (coordsV c i)) ⊢ |={Set.univ}=> iprop(
      (bigSep (Finset.univ : Finset (Fin 16)) fun i => goV m d (coordsV c i))
      ∗ ((bigSep (Finset.univ : Finset (Fin 16)) fun i => tdV m d (coordsV c i)) -∗ (bigSep (Finset.univ : Finset (Fin 16)) fun i => tdV m d (coordsV c i))))
  iintro H
  imodintro
  isplitl [H]; · iexact H
  iintro H
  iexact H

end Cert.Proof
-- ==== Proof.Main.lean ====
module
public import proofs.«01_k».proof.Proof.Region
public import proofs.«01_k».proof.Proof.Task
public import Idealize.ShloMosaic.Lib.SparseCore.Quiescent
public import Idealize.ShloMosaic.Lib.StableHlo.Run

/-! The whole program: the SparseCore call, the TensorCore region and the six reshapes, run from any launch memory. -/

@[expose] public section

noncomputable section

namespace Cert.Proof

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)
open Idealize.ShloMosaic.TcCoe
open Idealize.ShloMosaic.StableHlo (held held_sub_split held_congr wp_hlo_within)
open Idealize.ShloMosaic.Pipeline (ucRefs unscopedBufs_held sub_ucRefs)
open Cert.KernelIdeal.Gen (t1_0 fin_N1 N_1 bigSep_W1 st1_0 st1_1 st1_2 st1_3 st1_4 st1_5 st1_6 st1_7 launch1 cellOf_inj flush1_2 flush1_3 flush1_4 flush1_5 flush1_6 flush1_7)

variable {F : FTy → Type} [FloatOps F] [Named F]

local notation "𝕄" => MT nD τ sig (HIx 1) (Elt F) ℕ UU ℕ

variable (m : (ℓ : Loc nD τ sig) → Buf (Elt F) ℓ)

/-! ## The arrays dealt out to the vector subcores -/

/-- The four arguments at a share are the four arguments at that share's deal among a set. -/
theorem Args_deal (d : Dev nD) {ι : Type} [LinearOrder ι] (s : Finset ι) (hs : s.Nonempty) (q : PosShare TreeShare) :
    (Args m d q : sProp 𝕄) = bigSep s fun i => Args m d (Transfers.dealOf q s i) := by
  unfold Args
  rw [bigSep_sep', bigSep_sep', bigSep_sep', ← Transfers.pointsTo_deal s hs, ← Transfers.pointsTo_deal s hs, ← Transfers.pointsTo_deal s hs, ← Transfers.pointsTo_deal s hs]

theorem assoc3 (A B C : sProp 𝕄) : iprop(A ∗ B ∗ C) = iprop((A ∗ B) ∗ C) := (equiv_iff.mp (show _ ∧ _ from ⟨(Laws.sep_assoc (P := A) (Q := B) (R := C)).1, (Laws.sep_assoc (P := A) (Q := B) (R := C)).2⟩)).symm

theorem bigSep_two (Φ : Fin 2 → sProp 𝕄) : (bigSep (Finset.univ : Finset (Fin 2)) Φ) = iprop(Φ 0 ∗ Φ 1) := by
  rw [show (Finset.univ : Finset (Fin 2)) = {0, 1} by decide, SparseCore.bigSep_insert' (by decide), bigSep_singleton]

/-- The four arguments whole are two halves for every vector subcore. -/
theorem Args_tiles (d : Dev nD) : (Args m d fullShare : sProp 𝕄) = bigSep (Finset.univ : Finset (Fin 2)) fun c => bigSep (Finset.univ : Finset (Fin 16)) fun i =>
    iprop(Args m d (shareOf (coordsV c i) 0) ∗ Args m d (shareOf (coordsV c i) 1)) := by
  rw [Args_deal m d (Finset.univ : Finset (Fin 2)) ⟨0, Finset.mem_univ _⟩]
  refine bigSep_congr fun c _ => ?_
  rw [Args_deal m d (Finset.univ : Finset (Fin 16)) ⟨0, Finset.mem_univ _⟩]
  refine bigSep_congr fun i _ => ?_
  rw [Args_deal m d (Finset.univ : Finset (Fin 2)) ⟨0, Finset.mem_univ _⟩, bigSep_two]
  rfl

theorem wid_coordsV (c : Fin 2) (i : Fin 16) : wid (coordsV c i) = 2 * i.val + c.val := rfl

/-- The result whole is one row for every vector subcore. -/
theorem rows_tiles (d : Dev nD) (f : Buf (Elt F) (aLoc d main_v0)) : ((aLoc d main_v0 ↦{fullShare} f) : sProp 𝕄)
    = bigSep (Finset.univ : Finset (Fin 2)) fun c => bigSep (Finset.univ : Finset (Fin 16)) fun i => aLoc d main_v0 ↦[rowSet (coordsV c i)]{fullShare} f := by
  have hin : ∀ c : Fin 2, (bigSep (Finset.univ : Finset (Fin 16)) fun i => aLoc d main_v0 ↦[rowSet (coordsV c i)]{fullShare} f : sProp 𝕄)
      = aLoc d main_v0 ↦[(Finset.univ : Finset (Fin 16)).biUnion fun i => rowSet (coordsV c i)]{fullShare} f := fun c => by
    rw [pointsTo_biUnion]
    intro i _ j _ hij
    rw [Finset.disjoint_left]
    intro x hx hy
    have h1 := (Finset.mem_filter.mp hx).2
    have h2 := (Finset.mem_filter.mp hy).2
    rw [wid_coordsV] at h1 h2
    exact hij (Fin.ext (by omega))
  simp only [hin]
  have hU : (Finset.univ : Finset (Fin 2)).biUnion (fun c => (Finset.univ : Finset (Fin 16)).biUnion fun i => rowSet (coordsV c i)) = Finset.univ := by
    refine Finset.eq_univ_iff_forall.mpr fun x => ?_
    have hx : (x 0).val < 32 := (x 0).isLt
    refine Finset.mem_biUnion.mpr ⟨⟨(x 0).val % 2, by omega⟩, Finset.mem_univ _, Finset.mem_biUnion.mpr ⟨⟨(x 0).val / 2, by omega⟩, Finset.mem_univ _, ?_⟩⟩
    refine Finset.mem_filter.mpr ⟨Finset.mem_univ _, ?_⟩
    rw [wid_coordsV]
    show (x 0).val = 2 * ((x 0).val / 2) + (x 0).val % 2
    omega
  rw [← pointsTo_biUnion, hU]
  · intro c _ c' _ hc
    rw [Finset.disjoint_left]
    intro x hx hy
    obtain ⟨i, -, hi⟩ := Finset.mem_biUnion.mp hx
    obtain ⟨j, -, hj⟩ := Finset.mem_biUnion.mp hy
    have h1 := (Finset.mem_filter.mp hi).2
    have h2 := (Finset.mem_filter.mp hj).2
    rw [wid_coordsV] at h1 h2
    exact hc (Fin.ext (by omega))

/-- What the call takes. -/
theorem st_eq (d : Dev nD) : (bigSep Finset.univ fun c : Fin ((K (F := F)).nCore 0) => (P m).st 0 d c)
    = iprop(Args m d fullShare ∗ aLoc d main_v0 ↦{fullShare} m (aLoc d main_v0)) := by
  rw [Args_tiles, rows_tiles, ← bigSep_sep']
  show (bigSep (Finset.univ : Finset (Fin 2)) fun c => bigSep (Finset.univ : Finset (Fin 16)) fun i => goV m d (coordsV c i)) = _
  refine bigSep_congr fun c _ => ?_
  rw [← bigSep_sep']
  refine bigSep_congr fun i _ => ?_
  unfold goV
  exact assoc3 _ _ _
/-- What it hands back. -/
theorem dn_eq (d : Dev nD) : (bigSep Finset.univ fun c : Fin ((K (F := F)).nCore 0) => (P m).dn 0 d c)
    = iprop(Args m d fullShare ∗ aLoc d main_v0 ↦{fullShare} partBuf m d) := by
  rw [Args_tiles, rows_tiles, ← bigSep_sep']
  show (bigSep (Finset.univ : Finset (Fin 2)) fun c => bigSep (Finset.univ : Finset (Fin 16)) fun i => tdV m d (coordsV c i)) = _
  refine bigSep_congr fun c _ => ?_
  rw [← bigSep_sep']
  refine bigSep_congr fun i _ => ?_
  unfold tdV
  exact assoc3 _ _ _

/-! ## The arrays at a valuation -/

/-- The contents at launch. -/
def V0 (d : Dev nD) : Valuation τ sig (Elt F) := fun b => m (d, b)
/-- After the SparseCore call. -/
def V1 (d : Dev nD) : Valuation τ sig (Elt F) := Function.update (V0 m d) (Proc.devRef .tc main_v0) (partBuf m d)
/-- The program's results as the region leaves them. -/
def resV (d : Dev nD) (k : Fin 6) : F .f32 := res (m (aLoc d main_arg0)) (partBuf m d) k
/-- After the TensorCore region. -/
def V2 (d : Dev nD) : Valuation τ sig (Elt F) :=
  Function.update (Function.update (Function.update (Function.update (Function.update (Function.update (V1 m d)
    (Proc.devRef .tc main_v1_0) fun _ => resV m d 0) (Proc.devRef .tc main_v1_1) fun _ => resV m d 1) (Proc.devRef .tc main_v1_2) fun _ => resV m d 2)
    (Proc.devRef .tc main_v1_3) fun _ => resV m d 3) (Proc.devRef .tc main_v1_4) fun _ => resV m d 4) (Proc.devRef .tc main_v1_5) fun _ => resV m d 5

/-- The six reshapes. -/
abbrev ops : List (HloOp τ sig (Elt F)) :=
  [StableHlo.reshape main_v1_0 main_v2 (rfl : (.f32 : EltTy) = .f32) shapeCasts_S1x1_S_,
   StableHlo.reshape main_v1_1 main_v3 (rfl : (.f32 : EltTy) = .f32) shapeCasts_S1x1_S_,
   StableHlo.reshape main_v1_2 main_v4 (rfl : (.f32 : EltTy) = .f32) shapeCasts_S1x1_S_,
   StableHlo.reshape main_v1_3 main_v5 (rfl : (.f32 : EltTy) = .f32) shapeCasts_S1x1_S_,
   StableHlo.reshape main_v1_4 main_v6 (rfl : (.f32 : EltTy) = .f32) shapeCasts_S1x1_S_,
   StableHlo.reshape main_v1_5 main_v7 (rfl : (.f32 : EltTy) = .f32) shapeCasts_S1x1_S_]

/-- At the end. -/
def V3 (d : Dev nD) : Valuation τ sig (Elt F) := StableHlo.after ops (V2 m d)

/-- The five arrays the SparseCore call touches. -/
abbrev T5 : Finset (DevRef τ sig) := {Proc.devRef .tc main_arg1, Proc.devRef .tc main_arg2, Proc.devRef .tc main_arg3, Proc.devRef .tc main_arg4, Proc.devRef .tc main_v0}

theorem T5_sub : T5 ⊆ ucRefs τ sig := by decide

theorem held_T5 (d : Dev nD) (W : Valuation τ sig (Elt F)) : (held (T d) T5 W : sProp 𝕄)
    = iprop((aLoc d main_arg1 ↦{fullShare} W (Proc.devRef .tc main_arg1)) ∗ (aLoc d main_arg2 ↦{fullShare} W (Proc.devRef .tc main_arg2))
      ∗ (aLoc d main_arg3 ↦{fullShare} W (Proc.devRef .tc main_arg3)) ∗ (aLoc d main_arg4 ↦{fullShare} W (Proc.devRef .tc main_arg4))
      ∗ aLoc d main_v0 ↦{fullShare} W (Proc.devRef .tc main_v0)) := by
  unfold held T5
  rw [SparseCore.bigSep_insert' (by decide), SparseCore.bigSep_insert' (by decide), SparseCore.bigSep_insert' (by decide), SparseCore.bigSep_insert' (by decide), bigSep_singleton]

/-- The launch's arrays are what the call takes and the rest. -/
theorem held_V0 (d : Dev nD) : (held (T d) (ucRefs τ sig) (V0 m d) : sProp 𝕄)
    ⊢ iprop((Args m d fullShare ∗ aLoc d main_v0 ↦{fullShare} m (aLoc d main_v0)) ∗ held (T d) (ucRefs τ sig \ T5) (V0 m d)) := by
  rw [held_sub_split _ T5_sub, held_T5]
  unfold Args V0
  iintro ⟨⟨H1, H2, H3, H4, H5⟩, HR⟩
  isplitr [HR]
  · isplitr [H5]
    · isplitl [H1]; · iexact H1
      isplitl [H2]; · iexact H2
      isplitl [H3] <;> iassumption
    iexact H5
  iexact HR
/-- What the call hands back and the rest are the arrays after it. -/
theorem held_V1 (d : Dev nD) : iprop((Args m d fullShare ∗ aLoc d main_v0 ↦{fullShare} partBuf m d) ∗ held (T d) (ucRefs τ sig \ T5) (V0 m d))
    ⊢ (held (T d) (ucRefs τ sig) (V1 m d) : sProp 𝕄) := by
  have hr : (held (T d) (ucRefs τ sig \ T5) (V0 m d) : sProp 𝕄) = held (T d) (ucRefs τ sig \ T5) (V1 m d) :=
    held_congr _ fun b hb => (Function.update_of_ne (fun h => (Finset.mem_sdiff.mp hb).2 (by rw [h]; decide)) _ _).symm
  have h0 : V1 m d (Proc.devRef .tc main_v0) = partBuf m d := Function.update_self _ _ _
  have h1 : V1 m d (Proc.devRef .tc main_arg1) = m (aLoc d main_arg1) := Function.update_of_ne (by decide) _ _
  have h2 : V1 m d (Proc.devRef .tc main_arg2) = m (aLoc d main_arg2) := Function.update_of_ne (by decide) _ _
  have h3 : V1 m d (Proc.devRef .tc main_arg3) = m (aLoc d main_arg3) := Function.update_of_ne (by decide) _ _
  have h4 : V1 m d (Proc.devRef .tc main_arg4) = m (aLoc d main_arg4) := Function.update_of_ne (by decide) _ _
  rw [held_sub_split _ T5_sub (V1 m d), held_T5, hr, h0, h1, h2, h3, h4]
  unfold Args
  iintro ⟨⟨⟨H1, H2, H3, H4⟩, H5⟩, HR⟩
  isplitr [HR]
  · isplitl [H1]; · iexact H1
    isplitl [H2]; · iexact H2
    isplitl [H3]; · iexact H3
    isplitl [H4] <;> iassumption
  iexact HR

/-! ## The region from the arrays after the call -/

abbrev adm : (p : Fin 1) → (pcfgs (F := F) p).Adm := fun p => (cfgs p).toPCfg_adm

abbrev V1r (c : Dev nD) (b : Ref sig .tc) : Buf (Elt F) ((c : Thread nD τ).loc b) := V1 m c (Proc.devRef .tc b)
abbrev V2r (c : Dev nD) (b : Ref sig .tc) : Buf (Elt F) ((c : Thread nD τ).loc b) := V2 m c (Proc.devRef .tc b)

theorem V1_arg0 (d : Dev nD) : V1r m d main_arg0 = m (aLoc d main_arg0) := Function.update_of_ne (by decide) _ _
theorem V1_v0 (d : Dev nD) : V1r m d main_v0 = partBuf m d := Function.update_self _ _ _

theorem V2_ne (d : Dev nD) (b : Ref sig .tc) (h : b ∉ ([main_v1_0, main_v1_1, main_v1_2, main_v1_3, main_v1_4, main_v1_5] : List (Ref sig .tc))) :
    V2r m d b = V1r m d b := by
  simp only [List.mem_cons, List.not_mem_nil, _root_.or_false, not_or] at h
  obtain ⟨h0, h1, h2, h3, h4, h5⟩ := h
  unfold V2r V2
  rw [Function.update_of_ne (StableHlo.devRef_ne_of_ne h5), Function.update_of_ne (StableHlo.devRef_ne_of_ne h4), Function.update_of_ne (StableHlo.devRef_ne_of_ne h3),
    Function.update_of_ne (StableHlo.devRef_ne_of_ne h2), Function.update_of_ne (StableHlo.devRef_ne_of_ne h1), Function.update_of_ne (StableHlo.devRef_ne_of_ne h0)]

theorem V2_5 (d : Dev nD) : V2r m d main_v1_5 = fun _ => resV m d 5 := Function.update_self _ _ _
theorem V2_4 (d : Dev nD) : V2r m d main_v1_4 = fun _ => resV m d 4 := by
  unfold V2r V2
  rw [Function.update_of_ne (by decide)]
  exact Function.update_self _ _ _
theorem V2_3 (d : Dev nD) : V2r m d main_v1_3 = fun _ => resV m d 3 := by
  unfold V2r V2
  rw [Function.update_of_ne (by decide), Function.update_of_ne (by decide)]
  exact Function.update_self _ _ _
theorem V2_2 (d : Dev nD) : V2r m d main_v1_2 = fun _ => resV m d 2 := by
  unfold V2r V2
  rw [Function.update_of_ne (by decide), Function.update_of_ne (by decide), Function.update_of_ne (by decide)]
  exact Function.update_self _ _ _
theorem V2_1 (d : Dev nD) : V2r m d main_v1_1 = fun _ => resV m d 1 := by
  unfold V2r V2
  rw [Function.update_of_ne (by decide), Function.update_of_ne (by decide), Function.update_of_ne (by decide), Function.update_of_ne (by decide)]
  exact Function.update_self _ _ _
theorem V2_0 (d : Dev nD) : V2r m d main_v1_0 = fun _ => resV m d 0 := by
  unfold V2r V2
  rw [Function.update_of_ne (by decide), Function.update_of_ne (by decide), Function.update_of_ne (by decide), Function.update_of_ne (by decide), Function.update_of_ne (by decide)]
  exact Function.update_self _ _ _

theorem V1_res (d : Dev nD) (k : Fin 6) : (fun _ => resV m d k : S1x1.Idx → F .f32) = fun _ => res (V1r m d main_arg0) (V1r m d main_v0) k := by
  rw [V1_arg0, V1_v0]
  rfl

/-- The region's record at the program's valuations. -/
def regR : Pipeline.RegionSeg (pcfgs (F := F)) adm (pdats (V1r m) adm) (none : HIx 1) defs₀ 𝒱₀ (K (F := F)).L (K (F := F)).lev 0 :=
  reg (V1r m) adm (V2r m) (fun c => (V2_0 m c).trans (V1_res m c 0)) (fun c => (V2_1 m c).trans (V1_res m c 1)) (fun c => (V2_2 m c).trans (V1_res m c 2))
    (fun c => (V2_3 m c).trans (V1_res m c 3)) (fun c => (V2_4 m c).trans (V1_res m c 4)) (fun c => (V2_5 m c).trans (V1_res m c 5)) (fun c b h => V2_ne m c b h)

/-- What the launch deals the region. -/
def Gr (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

variable [∀ e, Nonempty (Elt F e)]

/-- The region's step of the program. -/
theorem wp_region (κ : GSem nD τ sig → ℕ) (d : Dev nD) (Q : PUnit → sProp 𝕄) :
    iprop((K (F := F)).ctx EH (P m) κ ∗ (boundary (T d) ∗ held (T d) (ucRefs τ sig) (V1 m d) ∗ Idle d) ∗ Gr d
        ∗ ((boundary (T d) ∗ held (T d) (ucRefs τ sig) (V2 m d) ∗ Idle d) -∗ Q ⟨⟩))
      ⊢ wp frame (wpE ((K (F := F)).defs (D (F := F))) 𝒱 (T d) none) Set.univ (Prog.lift (.customCall (SparseCore.inner (Pipeline.entry 0)) ())) Q := by
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) from rfl]
  refine BI.Entails.trans ?_ ((K (F := F)).wp_liftProg (D (F := F)) 𝒱 (T d) Set.univ none (.op (.customCall (Pipeline.entry 0) ()) .ret) Q)
  refine BI.Entails.trans ?_ (Pipeline.RegionSeg.wp (pcfgs (F := F)) adm (pdats (V1r m) adm) (none : HIx 1) cellOf_inj (EP (F := F)) defs₀ 𝒱₀ (K (F := F)).L (K (F := F)).lev
    (regR m) d none (fun u h => nomatch h) .ret Q)
  have hpre : (regR m).pre d = iprop(unscopedBufs d (V1r m d) ∗ Idle d) := rfl
  have hpost : (regR m).post d = iprop(unscopedBufs d (V2r m d) ∗ Idle d) := rfl
  rw [hpre, hpost, unscopedBufs_held d (V1 m d), unscopedBufs_held d (V2 m d)]
  unfold Gr
  show (_ : sProp 𝕄) ⊢ _
  iintro ⟨Hctx, ⟨Hb, Hh, HI⟩, ⟨Hg, Ht⟩, HQ⟩
  isplitl [HQ]
  · iintro H
    rw [wp_ret]
    imodintro
    iapply HQ
    iexact H
  isplitl [Hb]; · iexact Hb
  isplitl [Hh HI]
  · isplitl [Hh] <;> iassumption
  isplitl [Hctx]
  · iapply ((K (F := F)).ctx_levAts κ)
    iexact Hctx
  isplitl [Hg] <;> iassumption

/-! ## The launch -/

def u₀ : UU := (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gr d)
        ∗ bigSep Finset.univ fun thr : Thread nD τ => bigSep Finset.univ fun q : Fin 1 => (P m).x q thr) := by
  unfold u₀
  have hg : (bigSep Finset.univ fun d : Dev nD => bigSep Finset.univ fun p : Fin 1 => (Pipeline.cellsGhost cfgs (EP (F := F)) p d : sProp 𝕄))
      ⊢ bigSep Finset.univ fun d : Dev nD => Pipeline.cellsGhost (Pipeline.pin (pcfgs (F := F)) adm) (EP (F := F)) 0 d :=
    bigSep_mono fun d _ => bigSep_elim (Φ := fun p : Fin 1 => (Pipeline.cellsGhost cfgs (EP (F := F)) p d : sProp 𝕄)) (Finset.mem_univ (0 : Fin 1))
  have ht : (bigSep Finset.univ fun d : Dev nD => bigSep Finset.univ fun p : Fin 1 => (Pipeline.toksInit cfgs (EP (F := F)) p d : sProp 𝕄))
      ⊢ bigSep Finset.univ fun d : Dev nD => Pipeline.toksInit (Pipeline.pin (pcfgs (F := F)) adm) (EP (F := F)) 0 d :=
    bigSep_mono fun d _ => bigSep_elim (Φ := fun p : Fin 1 => (Pipeline.toksInit cfgs (EP (F := F)) p d : sProp 𝕄)) (Finset.mem_univ (0 : Fin 1))
  iintro Hu
  ihave H := (ownU_pair _ _) $$ Hu
  icases H with ⟨HH, HP⟩
  ihave H2 := (own_pair_emb (embR (A := UH) (B := UP × Counters)) _ _) $$ HP
  icases H2 with ⟨HP, -⟩
  imod (Pipeline.fund_ghost cfgs (EP (F := F)) cellOf_inj) $$ HP with ⟨Hg, Ht⟩
  imodintro
  isplitl [HH]; · iexact HH
  isplitl [Hg Ht]
  · unfold Gr
    rw [bigSep_sep']
    isplitl [Hg]
    · iapply hg $$ Hg
    · iapply ht $$ Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

/-- At the end every array is held at its final contents. -/
def FIN (d : Dev nD) : sProp 𝕄 := held (T d) (ucRefs τ sig) (V3 m d)

theorem ops_sub : ∀ op ∈ (ops : List (HloOp τ sig (Elt F))), op.bufs ⊆ ucRefs τ sig := by
  intro op h
  simp only [List.mem_cons, List.not_mem_nil, _root_.or_false] at h
  rcases h with rfl | rfl | rfl | rfl | rfl | rfl <;> exact sub_ucRefs _ (StableHlo.reshape_bufs_sub ..)

theorem ops_fresh : ∀ op ∈ (ops : List (HloOp τ sig (Elt F))), op.fresh = ∅ := by
  intro op h
  simp only [List.mem_cons, List.not_mem_nil, _root_.or_false] at h
  rcases h with rfl | rfl | rfl | rfl | rfl | rfl <;> rfl

theorem main_eq (d : Dev nD) : main (F := F) d = ((K (F := F)).run d 0 >>= fun _ =>
    (Prog.lift (.customCall (SparseCore.inner (Pipeline.entry 0)) ()) : Prog (TpuEff nD τ sig (Elt F) (SparseCore.Sig (ΛP (F := F)) 1) .tc) PUnit) >>= fun _ =>
      (StableHlo.seq ops >>= fun u => pure u)) := rfl

/-- What the TensorCore's thread owes after the call comes out of its state, and goes back. -/
theorem tcSt_idle (d : Dev nD) : ((K (F := F)).tcSt EH d 1 : sProp 𝕄) ⊢ iprop(Idle d ∗ (Idle d -∗ (K (F := F)).tcSt EH d 1)) := by
  unfold SparseCore.Cfg.tcSt Idle
  have h0 : (K (F := F)).Otc d 1 = 0 := by
    unfold SparseCore.Cfg.Otc
    refine Finset.sum_eq_zero fun q _ => if_neg ?_
    have := q.isLt
    omega
  rw [h0]
  iintro ⟨⟨%W, %hW, HO⟩, HR⟩
  isplitl [HO]
  · iexists W
    isplitr; · ipureintro; exact hW
    iexact HO
  iintro ⟨%W', %hW', HO⟩
  isplitl [HO]
  · iexists W'
    isplitr; · ipureintro; exact hW'
    iexact HO
  iexact HR

variable (ρ : Dev nD → PrngReg)

theorem hmain (κ : GSem nD τ sig → ℕ) (d : Dev nD) :
    iprop((K (F := F)).ctx EH (P m) κ ∗ (K (F := F)).tcSt EH d 0 ∗ (K (F := F)).tcRes m ρ d ∗ Gr d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have h0 : (unscopedBufs d (fun b => m ((SparseCore.T d : Thread nD τ).loc b)) : sProp 𝕄) = held (SparseCore.T d : Thread nD τ) (ucRefs τ sig) (V0 m d) := by
    rw [← unscopedBufs_held]
    rfl
  rw [h0, main_eq]
  iintro ⟨#Hctx, Hst, ⟨Hb, Hh, Hts, -⟩, HG⟩
  ihave Hh := (held_V0 m d) $$ Hh
  icases Hh with ⟨HA, HR⟩
  rw [wp_bind]
  iapply ((K (F := F)).wp_run (D (F := F)) 𝒱 (EH := EH) (P := P m) κ d 0)
  isplitr; · iexact Hctx
  isplitl [Hst]; · iexact Hst
  isplitl [HA]
  · rw [st_eq]
    iexact HA
  iintro ⟨Hst, Hdn⟩
  ihave Hdn := (Entails.of_eq (dn_eq m d)) $$ Hdn
  ihave Hh := (held_V1 m d) $$ [Hdn HR]
  · isplitl [Hdn] <;> iassumption
  ihave Hst := (show ((K (F := F)).tcSt EH d ((0 : Fin 1).val + 1) : sProp 𝕄) ⊢ iprop(Idle d ∗ (Idle d -∗ (K (F := F)).tcSt EH d 1)) from tcSt_idle d) $$ Hst
  icases Hst with ⟨HI, Hst⟩
  rw [wp_bind]
  iapply (wp_region m κ d)
  isplitr; · iexact Hctx
  isplitl [Hb Hh HI]
  · isplitl [Hb]; · iexact Hb
    isplitl [Hh] <;> iassumption
  isplitl [HG]; · iexact HG
  iintro ⟨Hb, Hh, HI⟩
  ihave Hst := Hst $$ HI
  iapply (StableHlo.wp_seq 𝒱 none Set.univ d (ucRefs τ sig) (fun u => pure u) ops ops_sub ops_fresh (V2 m d)) $$ [Hb Hh]
  · isplitl [Hb] <;> iassumption
  iintro ⟨Hb, Hh⟩
  rw [wp_pure]; imodintro
  isplitl [Hst]; · iexact Hst
  isplitl [Hh]; · unfold FIN V3; iexact Hh
  isplitl [Hb] <;> iassumption

/-! ## The final state -/

def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-- From any launch memory with zero counters whose segment numbers are in range, every execution ends with every array at
its final contents and every counter at zero. -/
theorem run_all (hin : InRange m) : θ_run (defs (F := F)) (threads (F := F)) ⟨m, fun _ => 0, ρ⟩ fun r =>
    (∀ d, ∀ b ∈ ucRefs τ sig, r.2.mem (d, b) = V3 m d b) ∧ r.2.sem = fun _ => 0 :=
  SparseCore.Cfg.θ_run_sc_quiescent (K := K (F := F)) (D := D) (𝒱 := 𝒱) (EH := EH) (P := P m) (A := ∅) kfacts v₀
    (fun q hq => match q with | 0 => nomatch hq) (fun q _ => match q with | 0 => tileObl m kfacts hin)
    (fun q _ => match q with | 0 => SparseCore.Cfg.VecSplit.of_plain (vecSplit m))
    m ρ main Gr (FIN m) (u₀ (F := F)) (sep_elim_left.trans (hu₀ m)) (hmain m ρ) (fq m) (hfin m) _ (fun _ h hz => ⟨h, hz⟩)

end Cert.Proof
-- ==== Proof.Post.lean ====
module
public import proofs.«01_k».proof.Proof.Main
public import proofs.«01_k».proof.Proof.Gen.Pre_in_range
public import proofs.«01_k».proof.Proof.Gen.Pre_sorted_in_range
public import proofs.«01_k».proof.Proof.Gen.ReferenceIdeal.Run
public import proofs.«01_k».proof.Defs
public import Idealize.ShloMosaic.Lib.ReduceAll
public import Idealize.ShloMosaic.Lib.Affine

/-! What the run leaves at the named arrays, and what the two preconditions say of the segment words. -/

@[expose] public section

noncomputable section

namespace Cert.Proof

open Cert.KernelIdeal Cert.KernelIdeal.Facts₀ Cert.KernelIdeal.Facts
open Idealize.ShloMosaic
open Idealize.SL Idealize.SL.Sem
open Idealize.ShloMosaic.TcCoe
open Idealize.ShloMosaic.Pipeline (ucRefs)

section Values

variable {F : FTy → Type} [FloatOps F] [Named F]
variable (m : (ℓ : Loc nD τ sig) → Buf (Elt F) ℓ)

/-! ## The arrays at the end -/

/-- An argument is at the end what it was at the start. -/
theorem V3_arg (d : Dev nD) (b : Ref sig .tc)
    (h3 : b ≠ main_v2 ∧ b ≠ main_v3 ∧ b ≠ main_v4 ∧ b ≠ main_v5 ∧ b ≠ main_v6 ∧ b ≠ main_v7)
    (h2 : b ∉ ([main_v1_0, main_v1_1, main_v1_2, main_v1_3, main_v1_4, main_v1_5] : List (Ref sig .tc))) (h1 : b ≠ main_v0) :
    V3 m d (Proc.devRef .tc b) = m (d, Proc.devRef .tc b) := by
  obtain ⟨a2, a3, a4, a5, a6, a7⟩ := h3
  unfold V3
  simp only [StableHlo.after_cons, StableHlo.after_nil]
  rw [StableHlo.reshape_result_ne _ _ _ _ _ _ _ a7, StableHlo.reshape_result_ne _ _ _ _ _ _ _ a6, StableHlo.reshape_result_ne _ _ _ _ _ _ _ a5,
    StableHlo.reshape_result_ne _ _ _ _ _ _ _ a4, StableHlo.reshape_result_ne _ _ _ _ _ _ _ a3, StableHlo.reshape_result_ne _ _ _ _ _ _ _ a2]
  refine (V2_ne m d b h2).trans ?_
  show V1 m d (Proc.devRef .tc b) = _
  unfold V1 V0
  exact Function.update_of_ne (StableHlo.devRef_ne_of_ne h1) _ _

/-- The first result. -/
theorem V3_0 (d : Dev nD) : V3 m d (Proc.devRef .tc main_v2) = fun _ => resV m d 0 := by
  unfold V3; after_results_simp
  have h : V2 m d (Proc.devRef .tc main_v1_0) = fun _ => resV m d 0 := V2_0 m d
  rw [h]; rfl
theorem V3_1 (d : Dev nD) : V3 m d (Proc.devRef .tc main_v3) = fun _ => resV m d 1 := by
  unfold V3; after_results_simp
  have h : V2 m d (Proc.devRef .tc main_v1_1) = fun _ => resV m d 1 := V2_1 m d
  rw [h]; rfl
theorem V3_2 (d : Dev nD) : V3 m d (Proc.devRef .tc main_v4) = fun _ => resV m d 2 := by
  unfold V3; after_results_simp
  have h : V2 m d (Proc.devRef .tc main_v1_2) = fun _ => resV m d 2 := V2_2 m d
  rw [h]; rfl
theorem V3_3 (d : Dev nD) : V3 m d (Proc.devRef .tc main_v5) = fun _ => resV m d 3 := by
  unfold V3; after_results_simp
  have h : V2 m d (Proc.devRef .tc main_v1_3) = fun _ => resV m d 3 := V2_3 m d
  rw [h]; rfl
theorem V3_4 (d : Dev nD) : V3 m d (Proc.devRef .tc main_v6) = fun _ => resV m d 4 := by
  unfold V3; after_results_simp
  have h : V2 m d (Proc.devRef .tc main_v1_4) = fun _ => resV m d 4 := V2_4 m d
  rw [h]; rfl
theorem V3_5 (d : Dev nD) : V3 m d (Proc.devRef .tc main_v7) = fun _ => resV m d 5 := by
  unfold V3; after_results_simp
  have h : V2 m d (Proc.devRef .tc main_v1_5) = fun _ => resV m d 5 := V2_5 m d
  rw [h]; rfl

end Values

/-! ## The preconditions -/

/-- A word between 0 and 1024 as signed is below 1024 as a natural number. -/
theorem key_lt {b : BitVec 32} (h0 : (0#32).toInt ≤ b.toInt) (h1 : b.toInt < (1024#32).toInt) : b.toNat < 1024 := by
  simp only [BitVec.toInt_eq_toNat_cond, BitVec.toNat_ofNat, Nat.reducePow, Nat.reduceMod] at h0 h1
  have := b.isLt
  split at h0 <;> split at h1 <;> omega

instance : Subsingleton Cert.Pre_in_range.S_.Idx := ⟨fun a b => funext fun i => i.elim0⟩
instance : Subsingleton Cert.Pre_sorted_in_range.S_.Idx := ⟨fun a b => funext fun i => i.elim0⟩

section Pre
variable {F : FTy → Type} [FloatOps F]

/-- What `in_range` being one says: every segment word is below 1024. -/
theorem range_of_pre (a0 : FVec F Cert.Pre_in_range.S1024 .f32) (a1 a2 a3 : FVec F Cert.Pre_in_range.S6400000 .f32) (a4 : IVec Cert.Pre_in_range.S6400000 32)
    (j : Cert.Pre_in_range.S_.Idx) (h : Cert.Pre_in_range.fn a0 a1 a2 a3 a4 j = 1#1) (x) : (a4 x).toNat < 1024 := by
  have h := Host.reduce_andi_all _ _ _ _ j h x
  obtain ⟨h0, h1⟩ := IntOp.andi_eq_one.1 h
  exact key_lt (IntOp.cmpi_sge.1 h0) (IntOp.cmpi_slt.1 h1)

/-- What `sorted_in_range` being one says: every segment word is below 1024, -/
theorem range_of_sorted (a0 : FVec F Cert.Pre_sorted_in_range.S1024 .f32) (a1 a2 a3 : FVec F Cert.Pre_sorted_in_range.S6400000 .f32) (a4 : IVec Cert.Pre_sorted_in_range.S6400000 32)
    (j : Cert.Pre_sorted_in_range.S_.Idx) (h : Cert.Pre_sorted_in_range.fn a0 a1 a2 a3 a4 j = 1#1) (x) : (a4 x).toNat < 1024 := by
  have h := Host.reduce_andi_all _ _ _ _ j (IntOp.andi_eq_one.1 h).1 x
  obtain ⟨h0, h1⟩ := IntOp.andi_eq_one.1 h
  exact key_lt (IntOp.cmpi_sge.1 h0) (IntOp.cmpi_slt.1 h1)

/-- An element of the array less its last, as an index. -/
def six (n : ℕ) : Cert.Pre_sorted_in_range.S6399999.Idx := fun a => ⟨n % 6399999, by obtain rfl := Fin.eq_zero a; exact Nat.mod_lt _ (by decide)⟩

/-- and no segment word is above the next one. -/
theorem step_of_sorted (a0 : FVec F Cert.Pre_sorted_in_range.S1024 .f32) (a1 a2 a3 : FVec F Cert.Pre_sorted_in_range.S6400000 .f32) (a4 : IVec Cert.Pre_sorted_in_range.S6400000 32)
    (j : Cert.Pre_sorted_in_range.S_.Idx) (h : Cert.Pre_sorted_in_range.fn a0 a1 a2 a3 a4 j = 1#1) (n : ℕ) (hn : n + 1 < 6400000) :
    (a4 (gix n)).toNat ≤ (a4 (gix (n + 1))).toNat := by
  have hs := Host.reduce_andi_all _ _ _ _ j (IntOp.andi_eq_one.1 h).2 (six n)
  have hs := IntOp.cmpi_sle.1 hs
  have r0 := range_of_sorted a0 a1 a2 a3 a4 j h (gix n)
  have r1 := range_of_sorted a0 a1 a2 a3 a4 j h (gix (n + 1))
  have e0 : extractStridedSlice Cert.Pre_sorted_in_range.S6399999 ![0] a4 Cert.Pre_sorted_in_range.Facts.slices_S6400000_S6399999_0 (six n) = a4 (gix n) := by
    unfold extractStridedSlice; congr 1; funext i; apply Fin.ext; obtain rfl := Fin.eq_zero i
    show 0 + n % 6399999 = n % 6400000
    omega
  have e1 : extractStridedSlice Cert.Pre_sorted_in_range.S6399999 ![1] a4 Cert.Pre_sorted_in_range.Facts.slices_S6400000_S6399999_1 (six n) = a4 (gix (n + 1)) := by
    unfold extractStridedSlice; congr 1; funext i; apply Fin.ext; obtain rfl := Fin.eq_zero i
    show 1 + n % 6399999 = (n + 1) % 6400000
    omega
  dsimp only at hs
  rw [e0, e1] at hs
  rw [BitVec.toInt_eq_toNat_of_lt (by omega), BitVec.toInt_eq_toNat_of_lt (by omega)] at hs
  exact_mod_cast hs

end Pre

end Cert.Proof

end
-- ==== Proof.Same.lean ====
module
public import proofs.«01_k».proof.Defs
public import proofs.«01_k».proof.Proof.Gen.KernelIdeal
public import proofs.«01_k».proof.Proof.Gen.Kernel

/-! The two kernels are one program at machine words. -/

@[expose] public section

noncomputable section

namespace Cert.Proof

open Idealize.ShloMosaic
open Idealize.SL Idealize.SL.Sem
open Idealize.ShloMosaic.TcCoe

/-- At machine words a named constant is the word written for it: what the kernel that names nothing computes with. -/
instance namedBits : Named Bits := ⟨fun _ _ {_} b => Scalar.ofBits _ b⟩

set_option maxHeartbeats 0 in
/-- The SparseCore body, -/
theorem sc_same : @Cert.Kernel.cc0__sc_body Bits _ _ = @Cert.KernelIdeal.cc0__sc_body Bits _ _ := rfl
set_option maxHeartbeats 0 in
/-- the TensorCore body, -/
theorem fin_same : @Cert.Kernel.cc1__fin_body Bits _ _ = @Cert.KernelIdeal.cc1__fin_body Bits _ _ _ := rfl

set_option maxHeartbeats 0 in
/-- the kernels' body table, -/
theorem defs0_same : Cert.Kernel.defs₀ (F := Bits) = Cert.KernelIdeal.defs₀ (F := Bits) := by
  funext pr l a
  match pr, l, a with
  | .scVector c s, ⟨0, _⟩, _ => rfl
  | .scVector c s, ⟨1, _⟩, _ => rfl
  | .scScalar c, ⟨0, _⟩, _ => rfl
  | .scScalar c, ⟨1, _⟩, _ => rfl
  | .tc, ⟨0, _⟩, _ => rfl
  | .tc, ⟨1, _⟩, (t, s) => rfl

set_option maxHeartbeats 0 in
/-- the program's body table -/
theorem defs_same : Cert.Kernel.defs (F := Bits) = Cert.KernelIdeal.defs (F := Bits) :=
  congrArg (fun D => (Cert.KernelIdeal.sc (F := Bits)).defs (Pipeline.defs Cert.KernelIdeal.pcfgs D)) defs0_same

set_option maxHeartbeats 0 in
/-- and its threads are those of the kernel that names the constant, read at machine words. -/
theorem threads_same : Cert.Kernel.threads (F := Bits) = Cert.KernelIdeal.threads (F := Bits) := rfl

end Cert.Proof

end
-- ==== Proof.Frames.lean ====
module
public import proofs.«01_k».proof.Proof.Post
public import proofs.«01_k».proof.Proof.Gen.Kernel
public import proofs.«01_k».proof.Proof.Same

/-! The frames of the three programs and the named constant. -/

@[expose] public section

noncomputable section

namespace Cert.Proof

open Idealize.ShloMosaic
open Idealize.SL Idealize.SL.Sem
open Idealize.ShloMosaic.TcCoe

section
open Cert.KernelIdeal
variable {F : FTy → Type} [FloatOps F] [Named F]

/-- The kernel leaves its arguments as they were, every counter at zero, and its six results. -/
theorem run_args (m : (ℓ : Loc nD τ sig) → Buf (Elt F) ℓ) (g : Dev nD → PrngReg) (hin : InRange m) :
    θ_run (defs (F := F)) (threads (F := F)) ⟨m, fun _ => 0, g⟩ fun r =>
      (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ (r.2.mem ((c.tc : Thread nD τ).loc main_v2) = (fun _ => resV m c 0)
        ∧ r.2.mem ((c.tc : Thread nD τ).loc main_v3) = (fun _ => resV m c 1)
        ∧ r.2.mem ((c.tc : Thread nD τ).loc main_v4) = (fun _ => resV m c 2)
        ∧ r.2.mem ((c.tc : Thread nD τ).loc main_v5) = (fun _ => resV m c 3)
        ∧ r.2.mem ((c.tc : Thread nD τ).loc main_v6) = (fun _ => resV m c 4)
        ∧ r.2.mem ((c.tc : Thread nD τ).loc main_v7) = (fun _ => resV m c 5))) ∧ r.2.sem = fun _ => 0 := by
  refine (θ_run _ _ _).mono (fun r h => ⟨fun c => ⟨⟨?_, ?_, ?_, ?_, ?_⟩, ?_, ?_, ?_, ?_, ?_, ?_⟩, h.2⟩) (run_all m g hin)
  · exact (h.1 c _ (show Proc.devRef .tc main_arg0 ∈ Pipeline.ucRefs τ sig by decide)).trans (V3_arg m c main_arg0 (by decide) (by decide) (by decide))
  · exact (h.1 c _ (show Proc.devRef .tc main_arg1 ∈ Pipeline.ucRefs τ sig by decide)).trans (V3_arg m c main_arg1 (by decide) (by decide) (by decide))
  · exact (h.1 c _ (show Proc.devRef .tc main_arg2 ∈ Pipeline.ucRefs τ sig by decide)).trans (V3_arg m c main_arg2 (by decide) (by decide) (by decide))
  · exact (h.1 c _ (show Proc.devRef .tc main_arg3 ∈ Pipeline.ucRefs τ sig by decide)).trans (V3_arg m c main_arg3 (by decide) (by decide) (by decide))
  · exact (h.1 c _ (show Proc.devRef .tc main_arg4 ∈ Pipeline.ucRefs τ sig by decide)).trans (V3_arg m c main_arg4 (by decide) (by decide) (by decide))
  · exact (h.1 c _ (show Proc.devRef .tc main_v2 ∈ Pipeline.ucRefs τ sig by decide)).trans (V3_0 m c)
  · exact (h.1 c _ (show Proc.devRef .tc main_v3 ∈ Pipeline.ucRefs τ sig by decide)).trans (V3_1 m c)
  · exact (h.1 c _ (show Proc.devRef .tc main_v4 ∈ Pipeline.ucRefs τ sig by decide)).trans (V3_2 m c)
  · exact (h.1 c _ (show Proc.devRef .tc main_v5 ∈ Pipeline.ucRefs τ sig by decide)).trans (V3_3 m c)
  · exact (h.1 c _ (show Proc.devRef .tc main_v6 ∈ Pipeline.ucRefs τ sig by decide)).trans (V3_4 m c)
  · exact (h.1 c _ (show Proc.devRef .tc main_v7 ∈ Pipeline.ucRefs τ sig by decide)).trans (V3_5 m c)

end

/-- The range precondition puts the segment words in range. -/
theorem inRange_ideal (m : (ℓ : Loc Cert.KernelIdeal.nD Cert.KernelIdeal.τ Cert.KernelIdeal.sig) → Buf (Elt Ideal) ℓ) (h : Cert.Pre_KernelIdeal m) : InRange m :=
  fun d x => range_of_pre _ _ _ _ _ (fun i => i.elim0) (congrFun (h d) _) x
/-- The sorted precondition puts the segment words in range. -/
theorem inRange_sorted (m : (ℓ : Loc Cert.KernelIdeal.nD Cert.KernelIdeal.τ Cert.KernelIdeal.sig) → Buf (Elt Ideal) ℓ) (h : Cert.Pre_KernelIdeal_sorted_in_range m) : InRange m :=
  fun d x => range_of_sorted _ _ _ _ _ (fun i => i.elim0) (congrFun (h d) _) x

/-- The kernel over the reals, under the range, -/
theorem frame_ideal : Cert.quiescent_KernelIdeal := fun m g h =>
  (θ_run _ _ _).mono (fun _ r => ⟨fun c => (r.1 c).1, r.2⟩) (run_args m g (inRange_ideal m h))
/-- and under the sorted range. -/
theorem frame_sorted : Cert.quiescent_KernelIdeal_pre_sorted_in_range := fun m g h =>
  (θ_run _ _ _).mono (fun _ r => ⟨fun c => (r.1 c).1, r.2⟩) (run_args m g (inRange_sorted m h))

/-- The reference, from any memory, -/
theorem frame_ref : Cert.quiescent_ReferenceIdeal := fun m g _ =>
  (θ_run _ _ _).mono (fun r h => ⟨fun c => (h c).2.2.2.2.2.2, sem_eq_zero_of_no_sems (by decide) r.2⟩) (Cert.ReferenceIdeal.Value.run m g)
/-- and under the sorted range. -/
theorem frame_ref_sorted : Cert.quiescent_ReferenceIdeal_pre_sorted_in_range := fun m g _ => frame_ref m g trivial

/-- The range precondition puts the segment words in range. -/
theorem inRange_bits (m : (ℓ : Loc Cert.Kernel.nD Cert.Kernel.τ Cert.Kernel.sig) → Buf (Elt Bits) ℓ) (h : Cert.Pre_Kernel m) : InRange (F := Bits) m :=
  fun d x => range_of_pre _ _ _ _ _ (fun i => i.elim0) (congrFun (h d) _) x

/-- The kernel over machine words, under the range. -/
theorem frame_bits : Cert.quiescent_Kernel := fun m g h => by
  rw [defs_same, threads_same]
  exact (θ_run (Cert.KernelIdeal.defs (F := Bits)) _ _).mono (fun _ r => ⟨fun c => (r.1 c).1, r.2⟩) (run_args (F := Bits) m g (inRange_bits m h))

/-- The word for the logarithm of ten is named by its value. -/
theorem names : Cert.preserves_Kernel_KernelIdeal :=
  IdealRules.named_const.statement Cert.KernelIdeal.κ "ln_10" .f32 0x40135D8E#32 ((Real.log 10 : ℝ) : EReal) rfl

end Cert.Proof

end
-- ==== Proof.Values.lean ====
module
public import proofs.«01_k».proof.Proof.Segs
public import proofs.«01_k».proof.Proof.Frames

/-! The six results: what the kernel computes from the segment sums is what the reference computes from them. -/

@[expose] public section

noncomputable section

namespace Cert.Proof

open Idealize.ShloMosaic Idealize.SL Idealize.SL.Sem
open Idealize.ShloMosaic.TcCoe

/-! ## Numbers -/

theorem ofBits_ten : Ideal.ofBits .f32 0x41200000#32 = ((10 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_1023 : Ideal.ofBits .f32 0x447FC000#32 = ((1023 : ℝ) : EReal) := by
  simp [Ideal.ofBits, Ideal.ieee, -EReal.coe_mul]; norm_num

/-- A power of ten is an exponential. -/
theorem pow_ten (x : EReal) : Ideal.pow ((10 : ℝ) : EReal) x = Ideal.exp (x * ((Real.log 10 : ℝ) : EReal)) := by
  have hl : (0 : ℝ) < Real.log 10 := Real.log_pos (by norm_num)
  induction x using EReal.rec with
  | bot =>
    rw [EReal.bot_mul_coe_of_pos hl]
    show (if (10 : ℝ) < 0 then (⊥ : EReal) else if (1 : ℝ) < 10 then 0 else if (10 : ℝ) = 1 then 1 else ⊤) = 0
    norm_num
  | top =>
    rw [EReal.top_mul_coe_of_pos hl]
    show (if (10 : ℝ) < 0 then (⊥ : EReal) else if (1 : ℝ) < 10 then ⊤ else if (10 : ℝ) = 1 then 1 else 0) = ⊤
    norm_num
  | coe r =>
    rw [← EReal.coe_mul]
    show ((Real.rpow 10 r : ℝ) : EReal) = ((Real.exp (r * Real.log 10) : ℝ) : EReal)
    rw [mul_comm r]
    exact congrArg _ (Real.rpow_def_of_pos (by norm_num) r)

/-! ## What the reference computes from the segment sums -/

namespace Ref
open Cert.ReferenceIdeal Cert.ReferenceIdeal.Facts₀ Cert.ReferenceIdeal.Facts

/-- The sum of the segments' values. -/
def sum (x : FVec Ideal S1024 .f32) : FVec Ideal S_ .f32 := Host.reduceAdd x (constant S_ .f32 0x00000000#32) reducesTo_S1024_S_d0 h_S_
/-- Their mean. -/
def mean (x : FVec Ideal S1024 .f32) : FVec Ideal S_ .f32 := Host.divf (sum x) (constant S_ .f32 0x44800000#32)
/-- The predicted mass. -/
def mass (P : FVec Ideal S1024 .f32) : FVec Ideal S1024 .f32 := Host.powf (bc 0x41200000#32) P
/-- The potential energy. -/
def pe (P R N : FVec Ideal S1024 .f32) : FVec Ideal S1024 .f32 :=
  Host.divf (mulf (bc 0x3193D0CB#32) (mulf (mass P) (mass P)))
    (maximumf (select (cmpf .ogt N (bc 0x00000000#32)) (Host.divf R (maximumf N (bc 0x3F800000#32))) (bc 0x00000000#32)) (bc 0x358637BD#32))
/-- The virial ratio. -/
def ratio (K E : FVec Ideal S1024 .f32) : FVec Ideal S1024 .f32 := Host.divf (mulf (bc 0x40000000#32) K) (maximumf E (bc 0x2EDBE6FF#32))
/-- The mean squared distance from one. -/
def loss (x : FVec Ideal S1024 .f32) : FVec Ideal S_ .f32 := mean (mulf (subf x (bc 0x3F800000#32)) (subf x (bc 0x3F800000#32)))
/-- The mean at every segment. -/
def meanAll (x : FVec Ideal S1024 .f32) : FVec Ideal S1024 .f32 :=
  broadcastInDim S1024 ![0] bcast_S1_S1024_0 (Host.divf (broadcastInDim S1 ![] bcast_S_S1 (sum x)) (broadcastInDim S1 ![] bcast_S_S1 (constant S_ .f32 0x44800000#32)))
/-- One less than the number of segments. -/
def lessOne : FVec Ideal S_ .f32 := subf (constant S_ .f32 0x44800000#32) (sitofp .f32 (constantI S_ 32 1#32))
/-- The standard deviation. -/
def std (x : FVec Ideal S1024 .f32) : FVec Ideal S_ .f32 :=
  Host.sqrt (select (cmpf .ogt lessOne (constant S_ .f32 0x00000000#32))
    (Host.divf (sum (mulf (subf x (meanAll x)) (subf x (meanAll x)))) lessOne) (id (constant S_ .f32 0x7FC00000#32)))

/-- The sum, as a sum. -/
theorem sum_at (x : FVec Ideal S1024 .f32) (j : S_.Idx) : (sum x j : EReal) = ∑ i : S1024.Idx, (x i : EReal) := by
  unfold sum
  refine (Ideal.hostReduceAdd_total _ (fun b => b.elim0) x (Ideal.ofBits .f32 0x00000000#32) j).trans ?_
  rw [Ideal.ofBits_zero_f32, zero_add]

theorem lessOne_at (j : S_.Idx) : (lessOne j : EReal) = ((1023 : ℝ) : EReal) := by
  show Ideal.ofBits .f32 0x44800000#32 - (((1#32 : BitVec 32).toInt : ℝ) : EReal) = _
  rw [ofBits_1024, ← EReal.coe_sub]
  norm_num

end Ref

/-! ## The kernel computes the same -/

section
open Cert.KernelIdeal Cert.KernelIdeal.Facts₀ Cert.KernelIdeal.Facts

/-- The kernel's sum, as a sum. -/
theorem total_at (x : FVec Ideal S1024 .f32) : (total (F := Ideal) x : EReal) = ∑ i : S1024.Idx, (x i : EReal) := by
  unfold total
  refine (Ideal.multiReduction_add_total (shapeCast S1x1024 x shapeCasts_S1024_S1x1024) 0x00000000#32 reduces_S1x1024_S1 (fun b => by obtain rfl := Fin.eq_zero b; rfl) (.inl rfl) rfl _).trans ?_
  unfold shapeCast
  exact Equiv.sum_comp (Shape.reshapeEquiv _) fun i => (x i : EReal)

/-- The means agree, -/
theorem mean_eq (x : FVec Ideal S1024 .f32) : Ref.mean x = fun _ => mean (F := Ideal) x := by
  funext j
  show Ideal.div (Ref.sum x j) (Ideal.ofBits .f32 0x44800000#32) = Ideal.div (total (F := Ideal) x) (Ideal.ofBits .f32 0x44800000#32)
  rw [Ref.sum_at, total_at]
/-- also where they are spread over the segments, -/
theorem meanAll_eq (x : FVec Ideal S1024 .f32) : Ref.meanAll x = broadcast S1024 (mean (F := Ideal) x) := by
  funext i
  show Ideal.div (Ref.sum x _) (Ideal.ofBits .f32 0x44800000#32) = Ideal.div (total (F := Ideal) x) (Ideal.ofBits .f32 0x44800000#32)
  rw [Ref.sum_at, total_at]
/-- the mean squared distances from one, -/
theorem loss_eq (x : FVec Ideal S1024 .f32) : Ref.loss x = fun _ => mean (F := Ideal) (sq (subf x (broadcast S1024 (Scalar.ofBits .f32 0x3F800000#32)))) :=
  mean_eq _
/-- the standard deviations, -/
theorem std_eq (x : FVec Ideal S1024 .f32) : Ref.std x = fun _ => Scalar.sqrt (F := Ideal)
    (Scalar.divf (total (sq (subf x (broadcast S1024 (mean x))))) (Scalar.ofBits .f32 0x447FC000#32)) := by
  funext j
  unfold Ref.std
  rw [meanAll_eq]
  have hc : cmpf (F := Ideal) .ogt Ref.lessOne (constant Cert.ReferenceIdeal.S_ .f32 0x00000000#32) j = 1#1 := by
    show Ideal.cmp .ogt (Ref.lessOne j) (Ideal.ofBits .f32 0x00000000#32) = 1#1
    rw [Ref.lessOne_at, Ideal.ofBits_zero_f32]
    have : (0 : EReal) < ((1023 : ℝ) : EReal) := by exact_mod_cast (by norm_num : (0 : ℝ) < 1023)
    simp [Ideal.cmp, this]
  show Ideal.sqrt (if cmpf (F := Ideal) .ogt Ref.lessOne (constant Cert.ReferenceIdeal.S_ .f32 0x00000000#32) j = 1#1 then
    Ideal.div (Ref.sum (sq (subf x (broadcast S1024 (mean x)))) j) (Ref.lessOne j) else _) = Ideal.sqrt (Ideal.div (total (F := Ideal) (sq (subf x (broadcast S1024 (mean x))))) (Ideal.ofBits .f32 0x447FC000#32))
  rw [if_pos hc, Ref.lessOne_at, ofBits_1023, Ref.sum_at, total_at]

/-- the predicted masses, -/
theorem mass_eq (P : FVec Ideal S1024 .f32) : mass (F := Ideal) P = Ref.mass P := by
  funext i
  show Ideal.exp (P i * ((Real.log 10 : ℝ) : EReal)) = Ideal.pow (Ideal.ofBits .f32 0x41200000#32) (P i)
  rw [ofBits_ten, pow_ten]

section
variable (P : FVec Ideal S1024 .f32) (A : FVec Ideal S32x3072 .f32)
/-- the potential energies -/
theorem segPe_eq : segPe (F := Ideal) P A = Ref.pe P (segR A) (segN A) := by
  unfold segPe
  rw [mass_eq]
  funext i
  show Ideal.div ((Ideal.ofBits .f32 0x3193D0CB#32 * Ref.mass P i) * Ref.mass P i) _ = Ideal.div (Ideal.ofBits .f32 0x3193D0CB#32 * (Ref.mass P i * Ref.mass P i)) _
  rw [mul_assoc]
  rfl
/-- and the virial ratios. -/
theorem ratio_eq : ratio (F := Ideal) P A = Ref.ratio (segKe A) (Ref.pe P (segR A) (segN A)) := by
  unfold ratio
  rw [segPe_eq]
  rfl
end

end

end Cert.Proof

end
-- ==== Proof.Algebra.lean ====
module
public import proofs.«01_k».proof.Proof.Values

/-! The value claim: over the reals, on sorted segment words in range, the kernel's six results are the reference's. -/

@[expose] public section

noncomputable section

namespace Cert.Proof

open Idealize.ShloMosaic Idealize.SL Idealize.SL.Sem
open Idealize.ShloMosaic.TcCoe

/-- Where no word is above the next, no word is above a later one. -/
theorem mono_of_step (S : Cert.KernelIdeal.S6400000.Idx → BitVec 32) (h : ∀ n : ℕ, n + 1 < 6400000 → (S (gix n)).toNat ≤ (S (gix (n + 1))).toNat)
    (a b : ℕ) (hab : a ≤ b) (hb : b < 6400000) : (S (gix a)).toNat ≤ (S (gix b)).toNat := by
  induction b, hab using Nat.le_induction with
  | base => exact le_rfl
  | succ n _ ih => exact (ih (by omega)).trans (h n hb)

section
variable (P : FVec Ideal Cert.KernelIdeal.S1024 .f32) (M V R : Cert.KernelIdeal.S6400000.Idx → Ideal .f32) (S : Cert.KernelIdeal.S6400000.Idx → BitVec 32)

/-- The reference's kinetic energies, -/
def refKe : FVec Ideal Cert.KernelIdeal.S1024 .f32 := Ref.seg S (mulf (mulf (Ref.bcLong 0x3F000000#32) M) (mulf V V))
/-- potential energies -/
def refPe : FVec Ideal Cert.KernelIdeal.S1024 .f32 := Ref.pe P (Ref.seg S R) (Ref.seg S (Ref.bcLong 0x3F800000#32))
/-- and virial ratios. -/
def refRatio : FVec Ideal Cert.KernelIdeal.S1024 .f32 := Ref.ratio (refKe M V S) (refPe P R S)

variable (hS : ∀ x, (S x).toNat < 1024) (hm : ∀ a b : ℕ, a ≤ b → b < 6400000 → (S (gix a)).toNat ≤ (S (gix b)).toNat)
include hS hm

theorem ke_eq : segKe (F := Ideal) (partVal M V R S) = refKe M V S := segKe_eq M V R S hS hm
theorem pe_eq : segPe (F := Ideal) P (partVal M V R S) = refPe P R S := by
  rw [segPe_eq, segR_eq M V R S hS hm, segN_eq M V R S hS hm]; rfl
theorem ra_eq : ratio (F := Ideal) P (partVal M V R S) = refRatio P M V R S := by
  rw [ratio_eq, segKe_eq M V R S hS hm, segR_eq M V R S hS hm, segN_eq M V R S hS hm]; rfl

/-- The mean squared distance of the ratios from one, -/
theorem res01 : Ref.loss (refRatio P M V R S) = fun _ => res (F := Ideal) P (partVal M V R S) 0 := by
  rw [loss_eq, ← ra_eq P M V R S hS hm]; rfl
/-- the ratios' mean -/
theorem res2 : Ref.mean (refRatio P M V R S) = fun _ => res (F := Ideal) P (partVal M V R S) 2 := by
  rw [mean_eq, ← ra_eq P M V R S hS hm]; rfl
/-- and deviation, -/
theorem res3 : Ref.std (refRatio P M V R S) = fun _ => res (F := Ideal) P (partVal M V R S) 3 := by
  rw [std_eq, ← ra_eq P M V R S hS hm]; rfl
/-- the mean kinetic -/
theorem res4 : Ref.mean (refKe M V S) = fun _ => res (F := Ideal) P (partVal M V R S) 4 := by
  rw [mean_eq, ← ke_eq M V R S hS hm]; rfl
/-- and potential energy. -/
theorem res5 : Ref.mean (refPe P R S) = fun _ => res (F := Ideal) P (partVal M V R S) 5 := by
  rw [mean_eq, ← pe_eq P M V R S hS hm]; rfl

end

/-! ## The reference's run -/

section
open Cert.ReferenceIdeal
variable (m : (ℓ : Loc nD τ sig) → Buf (Elt Ideal) ℓ) (c : Dev nD)

/-- The five arguments as values. -/
def argP : FVec Ideal Cert.KernelIdeal.S1024 .f32 := m ((c.tc : Thread nD τ).loc main_arg0)
def argM : Cert.KernelIdeal.S6400000.Idx → Ideal .f32 := m ((c.tc : Thread nD τ).loc main_arg1)
def argV : Cert.KernelIdeal.S6400000.Idx → Ideal .f32 := m ((c.tc : Thread nD τ).loc main_arg2)
def argR : Cert.KernelIdeal.S6400000.Idx → Ideal .f32 := m ((c.tc : Thread nD τ).loc main_arg3)
def argS : Cert.KernelIdeal.S6400000.Idx → BitVec 32 := m ((c.tc : Thread nD τ).loc main_arg4)

theorem ref37 : Value.res_main_v37 m c = Ref.loss (refRatio (argP m c) (argM m c) (argV m c) (argR m c) (argS m c)) := rfl
/-- One times a number is the number. -/
theorem ref45 : Value.res_main_v45 m c = Ref.loss (refRatio (argP m c) (argM m c) (argV m c) (argR m c) (argS m c)) := by
  funext j
  show Ideal.ofBits .f32 0x3F800000#32 * (Ref.loss (refRatio (argP m c) (argM m c) (argV m c) (argR m c) (argS m c)) j : EReal) = _
  rw [Ideal.ofBits_one_f32, one_mul]
theorem ref40 : Value.res_main_v40 m c = Ref.std (refRatio (argP m c) (argM m c) (argV m c) (argR m c) (argS m c)) := rfl

/-- The reference's run, with its results named. -/
theorem ref_run (g : Dev nD → PrngReg) :
    θ_run (defs (F := Ideal)) (onTc (τ := τ) (main (F := Ideal))) ⟨m, fun _ => 0, g⟩ fun r => ∀ c : Dev nD,
      r.2.mem ((c.tc : Thread nD τ).loc main_v45) = Ref.loss (refRatio (argP m c) (argM m c) (argV m c) (argR m c) (argS m c))
      ∧ r.2.mem ((c.tc : Thread nD τ).loc main_v37) = Ref.loss (refRatio (argP m c) (argM m c) (argV m c) (argR m c) (argS m c))
      ∧ r.2.mem ((c.tc : Thread nD τ).loc main_v39) = Ref.mean (refRatio (argP m c) (argM m c) (argV m c) (argR m c) (argS m c))
      ∧ r.2.mem ((c.tc : Thread nD τ).loc main_v40) = Ref.std (refRatio (argP m c) (argM m c) (argV m c) (argR m c) (argS m c))
      ∧ r.2.mem ((c.tc : Thread nD τ).loc main_v42) = Ref.mean (refKe (argM m c) (argV m c) (argS m c))
      ∧ r.2.mem ((c.tc : Thread nD τ).loc main_v44) = Ref.mean (refPe (argP m c) (argR m c) (argS m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (ref45 m c), (h c).2.1.trans (ref37 m c), (h c).2.2.1.trans rfl, (h c).2.2.2.1.trans (ref40 m c),
    (h c).2.2.2.2.1.trans rfl, (h c).2.2.2.2.2.1.trans rfl, (h c).2.2.2.2.2.2⟩) (Value.run m g)

end

/-- The kernel's results are the reference's. -/
theorem algebraic : Cert.algebraic_KernelIdeal_ReferenceIdeal_pre_sorted_in_range := by
  intro m g m' g' hpre hargs
  refine ⟨fun c _ => resV m c 0, fun c _ => resV m c 1, fun c _ => resV m c 2, fun c _ => resV m c 3, fun c _ => resV m c 4, fun c _ => resV m c 5,
    (θ_run _ _ _).mono (fun r h c => ?_) (run_args m g (inRange_sorted m hpre)), (θ_run _ _ _).mono (fun r h c => ?_) (ref_run m' g')⟩
  · obtain ⟨ha, h0, h1, h2, h3, h4, h5⟩ := h.1 c
    exact ⟨h0, h1, h2, h3, h4, h5, ha⟩
  · obtain ⟨e0, e1, e2, e3, e4⟩ := hargs c
    obtain ⟨h0, h1, h2, h3, h4, h5, ha⟩ := h c
    have eP : argP m' c = m (aLoc c Cert.KernelIdeal.main_arg0) := e0
    have eM : argM m' c = valM m c := e1
    have eV : argV m' c = valV m c := e2
    have eR : argR m' c = valR m c := e3
    have eS : argS m' c = valS m c := e4
    have hS : ∀ x, (argS m' c x).toNat < 1024 := fun x => by
      rw [eS]; exact range_of_sorted _ _ _ _ _ (fun i => i.elim0) (congrFun (hpre c) _) x
    have hm := mono_of_step (argS m' c) fun n hn => by
      rw [eS]; exact step_of_sorted _ _ _ _ _ (fun i => i.elim0) (congrFun (hpre c) _) n hn
    have hr : ∀ k, res (F := Ideal) (argP m' c) (partVal (argM m' c) (argV m' c) (argR m' c) (argS m' c)) k = resV m c k := fun k => by
      rw [eP, eM, eV, eR, eS]; rfl
    refine ⟨h0.trans ?_, h1.trans ?_, h2.trans ?_, h3.trans ?_, h4.trans ?_, h5.trans ?_, ha⟩
    · rw [res01 _ _ _ _ _ hS hm]; exact funext fun _ => hr 0
    · rw [res01 _ _ _ _ _ hS hm]; exact funext fun _ => hr 1
    · rw [res2 _ _ _ _ _ hS hm]; exact funext fun _ => hr 2
    · rw [res3 _ _ _ _ _ hS hm]; exact funext fun _ => hr 3
    · rw [res4 (argP m' c) _ _ (argR m' c) _ hS hm]; exact funext fun _ => hr 4
    · rw [res5 _ (argM m' c) (argV m' c) _ _ hS hm]; exact funext fun _ => hr 5

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_sorted_in_range
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Every claim: the frames, the named constant, and the equality of the six results. -/
theorem claim : Cert.Claim := ⟨Cert.Kernel.Gen.facts, Cert.KernelIdeal.Gen.facts, Cert.ReferenceIdeal.Gen.facts, Cert.Pre_in_range.Gen.facts, Cert.Pre_sorted_in_range.Gen.facts,
  frame_bits, frame_ideal, frame_sorted, frame_ref, frame_ref_sorted, names, algebraic⟩

end Cert.Proof

end
